-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_End (m : (ℓ : Loc Cert.End.nD Cert.End.τ Cert.End.sig) → Buf (Elt Bits) ℓ) : Prop :=
  True

def Pre_EndIdeal (m : (ℓ : Loc Cert.EndIdeal.nD Cert.EndIdeal.τ Cert.EndIdeal.sig) → Buf (Elt Ideal) ℓ) : Prop :=
  True

def Pre_EndRefIdeal (m : (ℓ : Loc Cert.EndRefIdeal.nD Cert.EndRefIdeal.τ Cert.EndRefIdeal.sig) → Buf (Elt Ideal) ℓ) : Prop :=
  True

def Pre_EndS (m : (ℓ : Loc Cert.EndS.nD Cert.EndS.τ Cert.EndS.sig) → Buf (Elt Bits) ℓ) : Prop :=
  True

def Pre_EndSIdeal (m : (ℓ : Loc Cert.EndSIdeal.nD Cert.EndSIdeal.τ Cert.EndSIdeal.sig) → Buf (Elt Ideal) ℓ) : Prop :=
  True

def Pre_EndSRefIdeal (m : (ℓ : Loc Cert.EndSRefIdeal.nD Cert.EndSRefIdeal.τ Cert.EndSRefIdeal.sig) → Buf (Elt Ideal) ℓ) : Prop :=
  True

def Pre_GateS (m : (ℓ : Loc Cert.GateS.nD Cert.GateS.τ Cert.GateS.sig) → Buf (Elt Bits) ℓ) : Prop :=
  True

def Pre_GateSIdeal (m : (ℓ : Loc Cert.GateSIdeal.nD Cert.GateSIdeal.τ Cert.GateSIdeal.sig) → Buf (Elt Ideal) ℓ) : Prop :=
  True

def Pre_GateSRefIdeal (m : (ℓ : Loc Cert.GateSRefIdeal.nD Cert.GateSRefIdeal.τ Cert.GateSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5))
      ∧ r.2.sem = fun _ => 0)

def quiescent_End [hEnd : Cert.End.Facts] : Prop :=
  ∀ (m : (ℓ : Loc Cert.End.nD Cert.End.τ Cert.End.sig) → Buf (Elt Bits) ℓ) (g : Dev Cert.End.nD → PrngReg), Pre_End m →
    θ_run (Cert.End.defs (F := Bits)) (onTc (τ := Cert.End.τ) (Cert.End.main (F := Bits))) ⟨m, fun _ => 0, g⟩ (fun r => (∀ c : Dev Cert.End.nD,
      r.2.mem ((c.tc : Thread Cert.End.nD Cert.End.τ).loc Cert.End.main_arg0) = m ((c.tc : Thread Cert.End.nD Cert.End.τ).loc Cert.End.main_arg0)
      ∧ r.2.mem ((c.tc : Thread Cert.End.nD Cert.End.τ).loc Cert.End.main_arg1) = m ((c.tc : Thread Cert.End.nD Cert.End.τ).loc Cert.End.main_arg1)
      ∧ r.2.mem ((c.tc : Thread Cert.End.nD Cert.End.τ).loc Cert.End.main_arg2) = m ((c.tc : Thread Cert.End.nD Cert.End.τ).loc Cert.End.main_arg2)
      ∧ r.2.mem ((c.tc : Thread Cert.End.nD Cert.End.τ).loc Cert.End.main_arg3) = m ((c.tc : Thread Cert.End.nD Cert.End.τ).loc Cert.End.main_arg3))
      ∧ r.2.sem = fun _ => 0)

def quiescent_EndIdeal [hEndIdeal : Cert.EndIdeal.Facts] : Prop :=
  ∀ (m : (ℓ : Loc Cert.EndIdeal.nD Cert.EndIdeal.τ Cert.EndIdeal.sig) → Buf (Elt Ideal) ℓ) (g : Dev Cert.EndIdeal.nD → PrngReg), Pre_EndIdeal m →
    θ_run (Cert.EndIdeal.defs (F := Ideal)) (onTc (τ := Cert.EndIdeal.τ) (Cert.EndIdeal.main (F := Ideal))) ⟨m, fun _ => 0, g⟩ (fun r => (∀ c : Dev Cert.EndIdeal.nD,
      r.2.mem ((c.tc : Thread Cert.EndIdeal.nD Cert.EndIdeal.τ).loc Cert.EndIdeal.main_arg0) = m ((c.tc : Thread Cert.EndIdeal.nD Cert.EndIdeal.τ).loc Cert.EndIdeal.main_arg0)
      ∧ r.2.mem ((c.tc : Thread Cert.EndIdeal.nD Cert.EndIdeal.τ).loc Cert.EndIdeal.main_arg1) = m ((c.tc : Thread Cert.EndIdeal.nD Cert.EndIdeal.τ).loc Cert.EndIdeal.main_arg1)
      ∧ r.2.mem ((c.tc : Thread Cert.EndIdeal.nD Cert.EndIdeal.τ).loc Cert.EndIdeal.main_arg2) = m ((c.tc : Thread Cert.EndIdeal.nD Cert.EndIdeal.τ).loc Cert.EndIdeal.main_arg2)
      ∧ r.2.mem ((c.tc : Thread Cert.EndIdeal.nD Cert.EndIdeal.τ).loc Cert.EndIdeal.main_arg3) = m ((c.tc : Thread Cert.EndIdeal.nD Cert.EndIdeal.τ).loc Cert.EndIdeal.main_arg3))
      ∧ r.2.sem = fun _ => 0)

def quiescent_EndRefIdeal [hEndRefIdeal : Cert.EndRefIdeal.Facts] : Prop :=
  ∀ (m : (ℓ : Loc Cert.EndRefIdeal.nD Cert.EndRefIdeal.τ Cert.EndRefIdeal.sig) → Buf (Elt Ideal) ℓ) (g : Dev Cert.EndRefIdeal.nD → PrngReg), Pre_EndRefIdeal m →
    θ_run (Cert.EndRefIdeal.defs (F := Ideal)) (onTc (τ := Cert.EndRefIdeal.τ) (Cert.EndRefIdeal.main (F := Ideal))) ⟨m, fun _ => 0, g⟩ (fun r => (∀ c : Dev Cert.EndRefIdeal.nD,
      r.2.mem ((c.tc : Thread Cert.EndRefIdeal.nD Cert.EndRefIdeal.τ).loc Cert.EndRefIdeal.main_arg0) = m ((c.tc : Thread Cert.EndRefIdeal.nD Cert.EndRefIdeal.τ).loc Cert.EndRefIdeal.main_arg0)
      ∧ r.2.mem ((c.tc : Thread Cert.EndRefIdeal.nD Cert.EndRefIdeal.τ).loc Cert.EndRefIdeal.main_arg1) = m ((c.tc : Thread Cert.EndRefIdeal.nD Cert.EndRefIdeal.τ).loc Cert.EndRefIdeal.main_arg1)
      ∧ r.2.mem ((c.tc : Thread Cert.EndRefIdeal.nD Cert.EndRefIdeal.τ).loc Cert.EndRefIdeal.main_arg2) = m ((c.tc : Thread Cert.EndRefIdeal.nD Cert.EndRefIdeal.τ).loc Cert.EndRefIdeal.main_arg2)
      ∧ r.2.mem ((c.tc : Thread Cert.EndRefIdeal.nD Cert.EndRefIdeal.τ).loc Cert.EndRefIdeal.main_arg3) = m ((c.tc : Thread Cert.EndRefIdeal.nD Cert.EndRefIdeal.τ).loc Cert.EndRefIdeal.main_arg3))
      ∧ r.2.sem = fun _ => 0)

def quiescent_EndS [hEndS : Cert.EndS.Facts] : Prop :=
  ∀ (m : (ℓ : Loc Cert.EndS.nD Cert.EndS.τ Cert.EndS.sig) → Buf (Elt Bits) ℓ) (g : Dev Cert.EndS.nD → PrngReg), Pre_EndS m →
    θ_run (Cert.EndS.defs (F := Bits)) (onTc (τ := Cert.EndS.τ) (Cert.EndS.main (F := Bits))) ⟨m, fun _ => 0, g⟩ (fun r => (∀ c : Dev Cert.EndS.nD,
      r.2.mem ((c.tc : Thread Cert.EndS.nD Cert.EndS.τ).loc Cert.EndS.main_arg0) = m ((c.tc : Thread Cert.EndS.nD Cert.EndS.τ).loc Cert.EndS.main_arg0)
      ∧ r.2.mem ((c.tc : Thread Cert.EndS.nD Cert.EndS.τ).loc Cert.EndS.main_arg1) = m ((c.tc : Thread Cert.EndS.nD Cert.EndS.τ).loc Cert.EndS.main_arg1)
      ∧ r.2.mem ((c.tc : Thread Cert.EndS.nD Cert.EndS.τ).loc Cert.EndS.main_arg2) = m ((c.tc : Thread Cert.EndS.nD Cert.EndS.τ).loc Cert.EndS.main_arg2)
      ∧ r.2.mem ((c.tc : Thread Cert.EndS.nD Cert.EndS.τ).loc Cert.EndS.main_arg3) = m ((c.tc : Thread Cert.EndS.nD Cert.EndS.τ).loc Cert.EndS.main_arg3))
      ∧ r.2.sem = fun _ => 0)

def quiescent_EndSIdeal [hEndSIdeal : Cert.EndSIdeal.Facts] : Prop :=
  ∀ (m : (ℓ : Loc Cert.EndSIdeal.nD Cert.EndSIdeal.τ Cert.EndSIdeal.sig) → Buf (Elt Ideal) ℓ) (g : Dev Cert.EndSIdeal.nD → PrngReg), Pre_EndSIdeal m →
    θ_run (Cert.EndSIdeal.defs (F := Ideal)) (onTc (τ := Cert.EndSIdeal.τ) (Cert.EndSIdeal.main (F := Ideal))) ⟨m, fun _ => 0, g⟩ (fun r => (∀ c : Dev Cert.EndSIdeal.nD,
      r.2.mem ((c.tc : Thread Cert.EndSIdeal.nD Cert.EndSIdeal.τ).loc Cert.EndSIdeal.main_arg0) = m ((c.tc : Thread Cert.EndSIdeal.nD Cert.EndSIdeal.τ).loc Cert.EndSIdeal.main_arg0)
      ∧ r.2.mem ((c.tc : Thread Cert.EndSIdeal.nD Cert.EndSIdeal.τ).loc Cert.EndSIdeal.main_arg1) = m ((c.tc : Thread Cert.EndSIdeal.nD Cert.EndSIdeal.τ).loc Cert.EndSIdeal.main_arg1)
      ∧ r.2.mem ((c.tc : Thread Cert.EndSIdeal.nD Cert.EndSIdeal.τ).loc Cert.EndSIdeal.main_arg2) = m ((c.tc : Thread Cert.EndSIdeal.nD Cert.EndSIdeal.τ).loc Cert.EndSIdeal.main_arg2)
      ∧ r.2.mem ((c.tc : Thread Cert.EndSIdeal.nD Cert.EndSIdeal.τ).loc Cert.EndSIdeal.main_arg3) = m ((c.tc : Thread Cert.EndSIdeal.nD Cert.EndSIdeal.τ).loc Cert.EndSIdeal.main_arg3))
      ∧ r.2.sem = fun _ => 0)

def quiescent_EndSRefIdeal [hEndSRefIdeal : Cert.EndSRefIdeal.Facts] : Prop :=
  ∀ (m : (ℓ : Loc Cert.EndSRefIdeal.nD Cert.EndSRefIdeal.τ Cert.EndSRefIdeal.sig) → Buf (Elt Ideal) ℓ) (g : Dev Cert.EndSRefIdeal.nD → PrngReg), Pre_EndSRefIdeal m →
    θ_run (Cert.EndSRefIdeal.defs (F := Ideal)) (onTc (τ := Cert.EndSRefIdeal.τ) (Cert.EndSRefIdeal.main (F := Ideal))) ⟨m, fun _ => 0, g⟩ (fun r => (∀ c : Dev Cert.EndSRefIdeal.nD,
      r.2.mem ((c.tc : Thread Cert.EndSRefIdeal.nD Cert.EndSRefIdeal.τ).loc Cert.EndSRefIdeal.main_arg0) = m ((c.tc : Thread Cert.EndSRefIdeal.nD Cert.EndSRefIdeal.τ).loc Cert.EndSRefIdeal.main_arg0)
      ∧ r.2.mem ((c.tc : Thread Cert.EndSRefIdeal.nD Cert.EndSRefIdeal.τ).loc Cert.EndSRefIdeal.main_arg1) = m ((c.tc : Thread Cert.EndSRefIdeal.nD Cert.EndSRefIdeal.τ).loc Cert.EndSRefIdeal.main_arg1)
      ∧ r.2.mem ((c.tc : Thread Cert.EndSRefIdeal.nD Cert.EndSRefIdeal.τ).loc Cert.EndSRefIdeal.main_arg2) = m ((c.tc : Thread Cert.EndSRefIdeal.nD Cert.EndSRefIdeal.τ).loc Cert.EndSRefIdeal.main_arg2)
      ∧ r.2.mem ((c.tc : Thread Cert.EndSRefIdeal.nD Cert.EndSRefIdeal.τ).loc Cert.EndSRefIdeal.main_arg3) = m ((c.tc : Thread Cert.EndSRefIdeal.nD Cert.EndSRefIdeal.τ).loc Cert.EndSRefIdeal.main_arg3))
      ∧ r.2.sem = fun _ => 0)

def quiescent_GateS [hGateS : Cert.GateS.Facts] : Prop :=
  ∀ (m : (ℓ : Loc Cert.GateS.nD Cert.GateS.τ Cert.GateS.sig) → Buf (Elt Bits) ℓ) (g : Dev Cert.GateS.nD → PrngReg), Pre_GateS m →
    θ_run (Cert.GateS.defs (F := Bits)) (onTc (τ := Cert.GateS.τ) (Cert.GateS.main (F := Bits))) ⟨m, fun _ => 0, g⟩ (fun r => (∀ c : Dev Cert.GateS.nD,
      r.2.mem ((c.tc : Thread Cert.GateS.nD Cert.GateS.τ).loc Cert.GateS.main_arg0) = m ((c.tc : Thread Cert.GateS.nD Cert.GateS.τ).loc Cert.GateS.main_arg0)
      ∧ r.2.mem ((c.tc : Thread Cert.GateS.nD Cert.GateS.τ).loc Cert.GateS.main_arg1) = m ((c.tc : Thread Cert.GateS.nD Cert.GateS.τ).loc Cert.GateS.main_arg1)
      ∧ r.2.mem ((c.tc : Thread Cert.GateS.nD Cert.GateS.τ).loc Cert.GateS.main_arg2) = m ((c.tc : Thread Cert.GateS.nD Cert.GateS.τ).loc Cert.GateS.main_arg2)
      ∧ r.2.mem ((c.tc : Thread Cert.GateS.nD Cert.GateS.τ).loc Cert.GateS.main_arg3) = m ((c.tc : Thread Cert.GateS.nD Cert.GateS.τ).loc Cert.GateS.main_arg3)
      ∧ r.2.mem ((c.tc : Thread Cert.GateS.nD Cert.GateS.τ).loc Cert.GateS.main_arg4) = m ((c.tc : Thread Cert.GateS.nD Cert.GateS.τ).loc Cert.GateS.main_arg4)
      ∧ r.2.mem ((c.tc : Thread Cert.GateS.nD Cert.GateS.τ).loc Cert.GateS.main_arg5) = m ((c.tc : Thread Cert.GateS.nD Cert.GateS.τ).loc Cert.GateS.main_arg5)
      ∧ r.2.mem ((c.tc : Thread Cert.GateS.nD Cert.GateS.τ).loc Cert.GateS.main_arg6) = m ((c.tc : Thread Cert.GateS.nD Cert.GateS.τ).loc Cert.GateS.main_arg6))
      ∧ r.2.sem = fun _ => 0)

def quiescent_GateSIdeal [hGateSIdeal : Cert.GateSIdeal.Facts] : Prop :=
  ∀ (m : (ℓ : Loc Cert.GateSIdeal.nD Cert.GateSIdeal.τ Cert.GateSIdeal.sig) → Buf (Elt Ideal) ℓ) (g : Dev Cert.GateSIdeal.nD → PrngReg), Pre_GateSIdeal m →
    θ_run (Cert.GateSIdeal.defs (F := Ideal)) (onTc (τ := Cert.GateSIdeal.τ) (Cert.GateSIdeal.main (F := Ideal))) ⟨m, fun _ => 0, g⟩ (fun r => (∀ c : Dev Cert.GateSIdeal.nD,
      r.2.mem ((c.tc : Thread Cert.GateSIdeal.nD Cert.GateSIdeal.τ).loc Cert.GateSIdeal.main_arg0) = m ((c.tc : Thread Cert.GateSIdeal.nD Cert.GateSIdeal.τ).loc Cert.GateSIdeal.main_arg0)
      ∧ r.2.mem ((c.tc : Thread Cert.GateSIdeal.nD Cert.GateSIdeal.τ).loc Cert.GateSIdeal.main_arg1) = m ((c.tc : Thread Cert.GateSIdeal.nD Cert.GateSIdeal.τ).loc Cert.GateSIdeal.main_arg1)
      ∧ r.2.mem ((c.tc : Thread Cert.GateSIdeal.nD Cert.GateSIdeal.τ).loc Cert.GateSIdeal.main_arg2) = m ((c.tc : Thread Cert.GateSIdeal.nD Cert.GateSIdeal.τ).loc Cert.GateSIdeal.main_arg2)
      ∧ r.2.mem ((c.tc : Thread Cert.GateSIdeal.nD Cert.GateSIdeal.τ).loc Cert.GateSIdeal.main_arg3) = m ((c.tc : Thread Cert.GateSIdeal.nD Cert.GateSIdeal.τ).loc Cert.GateSIdeal.main_arg3)
      ∧ r.2.mem ((c.tc : Thread Cert.GateSIdeal.nD Cert.GateSIdeal.τ).loc Cert.GateSIdeal.main_arg4) = m ((c.tc : Thread Cert.GateSIdeal.nD Cert.GateSIdeal.τ).loc Cert.GateSIdeal.main_arg4)
      ∧ r.2.mem ((c.tc : Thread Cert.GateSIdeal.nD Cert.GateSIdeal.τ).loc Cert.GateSIdeal.main_arg5) = m ((c.tc : Thread Cert.GateSIdeal.nD Cert.GateSIdeal.τ).loc Cert.GateSIdeal.main_arg5)
      ∧ r.2.mem ((c.tc : Thread Cert.GateSIdeal.nD Cert.GateSIdeal.τ).loc Cert.GateSIdeal.main_arg6) = m ((c.tc : Thread Cert.GateSIdeal.nD Cert.GateSIdeal.τ).loc Cert.GateSIdeal.main_arg6))
      ∧ r.2.sem = fun _ => 0)

def quiescent_GateSRefIdeal [hGateSRefIdeal : Cert.GateSRefIdeal.Facts] : Prop :=
  ∀ (m : (ℓ : Loc Cert.GateSRefIdeal.nD Cert.GateSRefIdeal.τ Cert.GateSRefIdeal.sig) → Buf (Elt Ideal) ℓ) (g : Dev Cert.GateSRefIdeal.nD → PrngReg), Pre_GateSRefIdeal m →
    θ_run (Cert.GateSRefIdeal.defs (F := Ideal)) (onTc (τ := Cert.GateSRefIdeal.τ) (Cert.GateSRefIdeal.main (F := Ideal))) ⟨m, fun _ => 0, g⟩ (fun r => (∀ c : Dev Cert.GateSRefIdeal.nD,
      r.2.mem ((c.tc : Thread Cert.GateSRefIdeal.nD Cert.GateSRefIdeal.τ).loc Cert.GateSRefIdeal.main_arg0) = m ((c.tc : Thread Cert.GateSRefIdeal.nD Cert.GateSRefIdeal.τ).loc Cert.GateSRefIdeal.main_arg0)
      ∧ r.2.mem ((c.tc : Thread Cert.GateSRefIdeal.nD Cert.GateSRefIdeal.τ).loc Cert.GateSRefIdeal.main_arg1) = m ((c.tc : Thread Cert.GateSRefIdeal.nD Cert.GateSRefIdeal.τ).loc Cert.GateSRefIdeal.main_arg1)
      ∧ r.2.mem ((c.tc : Thread Cert.GateSRefIdeal.nD Cert.GateSRefIdeal.τ).loc Cert.GateSRefIdeal.main_arg2) = m ((c.tc : Thread Cert.GateSRefIdeal.nD Cert.GateSRefIdeal.τ).loc Cert.GateSRefIdeal.main_arg2)
      ∧ r.2.mem ((c.tc : Thread Cert.GateSRefIdeal.nD Cert.GateSRefIdeal.τ).loc Cert.GateSRefIdeal.main_arg3) = m ((c.tc : Thread Cert.GateSRefIdeal.nD Cert.GateSRefIdeal.τ).loc Cert.GateSRefIdeal.main_arg3)
      ∧ r.2.mem ((c.tc : Thread Cert.GateSRefIdeal.nD Cert.GateSRefIdeal.τ).loc Cert.GateSRefIdeal.main_arg4) = m ((c.tc : Thread Cert.GateSRefIdeal.nD Cert.GateSRefIdeal.τ).loc Cert.GateSRefIdeal.main_arg4)
      ∧ r.2.mem ((c.tc : Thread Cert.GateSRefIdeal.nD Cert.GateSRefIdeal.τ).loc Cert.GateSRefIdeal.main_arg5) = m ((c.tc : Thread Cert.GateSRefIdeal.nD Cert.GateSRefIdeal.τ).loc Cert.GateSRefIdeal.main_arg5)
      ∧ r.2.mem ((c.tc : Thread Cert.GateSRefIdeal.nD Cert.GateSRefIdeal.τ).loc Cert.GateSRefIdeal.main_arg6) = m ((c.tc : Thread Cert.GateSRefIdeal.nD Cert.GateSRefIdeal.τ).loc Cert.GateSRefIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "q_scale" .f32 0x3E0293EE#32 (((11863283 / 134217728) * (Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)) →
    ∃ (v0 : (c : Dev Cert.PromptIdeal.nD) → Buf (Elt Ideal) ((c.tc : Thread Cert.PromptIdeal.nD Cert.PromptIdeal.τ).loc Cert.PromptIdeal.main_v12_0)) (v1 : (c : Dev Cert.PromptIdeal.nD) → Buf (Elt Ideal) ((c.tc : Thread Cert.PromptIdeal.nD Cert.PromptIdeal.τ).loc Cert.PromptIdeal.main_v12_1)) (v2 : (c : Dev Cert.PromptIdeal.nD) → Buf (Elt Ideal) ((c.tc : Thread Cert.PromptIdeal.nD Cert.PromptIdeal.τ).loc Cert.PromptIdeal.main_v12_2)) (v3 : (c : Dev Cert.PromptIdeal.nD) → Buf (Elt Ideal) ((c.tc : Thread Cert.PromptIdeal.nD Cert.PromptIdeal.τ).loc Cert.PromptIdeal.main_v12_3)) (v4 : (c : Dev Cert.PromptIdeal.nD) → Buf (Elt Ideal) ((c.tc : Thread Cert.PromptIdeal.nD Cert.PromptIdeal.τ).loc Cert.PromptIdeal.main_v12_4)) (v5 : (c : Dev Cert.PromptIdeal.nD) → Buf (Elt Ideal) ((c.tc : Thread Cert.PromptIdeal.nD Cert.PromptIdeal.τ).loc Cert.PromptIdeal.main_v12_5)) (v6 : (c : Dev Cert.PromptIdeal.nD) → Buf (Elt Ideal) ((c.tc : Thread Cert.PromptIdeal.nD Cert.PromptIdeal.τ).loc Cert.PromptIdeal.main_v18)) (v7 : (c : Dev Cert.PromptIdeal.nD) → Buf (Elt Ideal) ((c.tc : Thread Cert.PromptIdeal.nD Cert.PromptIdeal.τ).loc Cert.PromptIdeal.main_v19)) (v8 : (c : Dev Cert.PromptIdeal.nD) → Buf (Elt Ideal) ((c.tc : Thread Cert.PromptIdeal.nD Cert.PromptIdeal.τ).loc Cert.PromptIdeal.main_v20)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v12_0) = v0 c
          ∧ r.2.mem ((c.tc : Thread Cert.PromptIdeal.nD Cert.PromptIdeal.τ).loc Cert.PromptIdeal.main_v12_1) = v1 c
          ∧ r.2.mem ((c.tc : Thread Cert.PromptIdeal.nD Cert.PromptIdeal.τ).loc Cert.PromptIdeal.main_v12_2) = v2 c
          ∧ r.2.mem ((c.tc : Thread Cert.PromptIdeal.nD Cert.PromptIdeal.τ).loc Cert.PromptIdeal.main_v12_3) = v3 c
          ∧ r.2.mem ((c.tc : Thread Cert.PromptIdeal.nD Cert.PromptIdeal.τ).loc Cert.PromptIdeal.main_v12_4) = v4 c
          ∧ r.2.mem ((c.tc : Thread Cert.PromptIdeal.nD Cert.PromptIdeal.τ).loc Cert.PromptIdeal.main_v12_5) = v5 c
          ∧ r.2.mem ((c.tc : Thread Cert.PromptIdeal.nD Cert.PromptIdeal.τ).loc Cert.PromptIdeal.main_v18) = v6 c
          ∧ r.2.mem ((c.tc : Thread Cert.PromptIdeal.nD Cert.PromptIdeal.τ).loc Cert.PromptIdeal.main_v19) = v7 c
          ∧ r.2.mem ((c.tc : Thread Cert.PromptIdeal.nD Cert.PromptIdeal.τ).loc Cert.PromptIdeal.main_v20) = v8 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v13) = v0 c
          ∧ r.2.mem ((c.tc : Thread Cert.PromptRefIdeal.nD Cert.PromptRefIdeal.τ).loc Cert.PromptRefIdeal.main_v11) = v1 c
          ∧ r.2.mem ((c.tc : Thread Cert.PromptRefIdeal.nD Cert.PromptRefIdeal.τ).loc Cert.PromptRefIdeal.main_v12) = v2 c
          ∧ r.2.mem ((c.tc : Thread Cert.PromptRefIdeal.nD Cert.PromptRefIdeal.τ).loc Cert.PromptRefIdeal.main_v15) = v3 c
          ∧ r.2.mem ((c.tc : Thread Cert.PromptRefIdeal.nD Cert.PromptRefIdeal.τ).loc Cert.PromptRefIdeal.main_v22) = v4 c
          ∧ r.2.mem ((c.tc : Thread Cert.PromptRefIdeal.nD Cert.PromptRefIdeal.τ).loc Cert.PromptRefIdeal.main_v25) = v5 c
          ∧ r.2.mem ((c.tc : Thread Cert.PromptRefIdeal.nD Cert.PromptRefIdeal.τ).loc Cert.PromptRefIdeal.main_v16) = v6 c
          ∧ r.2.mem ((c.tc : Thread Cert.PromptRefIdeal.nD Cert.PromptRefIdeal.τ).loc Cert.PromptRefIdeal.main_v17) = v7 c
          ∧ r.2.mem ((c.tc : Thread Cert.PromptRefIdeal.nD Cert.PromptRefIdeal.τ).loc Cert.PromptRefIdeal.main_v21) = v8 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)) →
    ∃ (v0 : (c : Dev Cert.SampleIdeal.nD) → Buf (Elt Ideal) ((c.tc : Thread Cert.SampleIdeal.nD Cert.SampleIdeal.τ).loc Cert.SampleIdeal.main_v12_0)) (v1 : (c : Dev Cert.SampleIdeal.nD) → Buf (Elt Ideal) ((c.tc : Thread Cert.SampleIdeal.nD Cert.SampleIdeal.τ).loc Cert.SampleIdeal.main_v12_1)) (v2 : (c : Dev Cert.SampleIdeal.nD) → Buf (Elt Ideal) ((c.tc : Thread Cert.SampleIdeal.nD Cert.SampleIdeal.τ).loc Cert.SampleIdeal.main_v12_2)) (v3 : (c : Dev Cert.SampleIdeal.nD) → Buf (Elt Ideal) ((c.tc : Thread Cert.SampleIdeal.nD Cert.SampleIdeal.τ).loc Cert.SampleIdeal.main_v12_3)) (v4 : (c : Dev Cert.SampleIdeal.nD) → Buf (Elt Ideal) ((c.tc : Thread Cert.SampleIdeal.nD Cert.SampleIdeal.τ).loc Cert.SampleIdeal.main_v12_4)) (v5 : (c : Dev Cert.SampleIdeal.nD) → Buf (Elt Ideal) ((c.tc : Thread Cert.SampleIdeal.nD Cert.SampleIdeal.τ).loc Cert.SampleIdeal.main_v18)) (v6 : (c : Dev Cert.SampleIdeal.nD) → Buf (Elt Ideal) ((c.tc : Thread Cert.SampleIdeal.nD Cert.SampleIdeal.τ).loc Cert.SampleIdeal.main_v19)) (v7 : (c : Dev Cert.SampleIdeal.nD) → Buf (Elt Ideal) ((c.tc : Thread Cert.SampleIdeal.nD Cert.SampleIdeal.τ).loc Cert.SampleIdeal.main_v20)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v12_0) = v0 c
          ∧ r.2.mem ((c.tc : Thread Cert.SampleIdeal.nD Cert.SampleIdeal.τ).loc Cert.SampleIdeal.main_v12_1) = v1 c
          ∧ r.2.mem ((c.tc : Thread Cert.SampleIdeal.nD Cert.SampleIdeal.τ).loc Cert.SampleIdeal.main_v12_2) = v2 c
          ∧ r.2.mem ((c.tc : Thread Cert.SampleIdeal.nD Cert.SampleIdeal.τ).loc Cert.SampleIdeal.main_v12_3) = v3 c
          ∧ r.2.mem ((c.tc : Thread Cert.SampleIdeal.nD Cert.SampleIdeal.τ).loc Cert.SampleIdeal.main_v12_4) = v4 c
          ∧ r.2.mem ((c.tc : Thread Cert.SampleIdeal.nD Cert.SampleIdeal.τ).loc Cert.SampleIdeal.main_v18) = v5 c
          ∧ r.2.mem ((c.tc : Thread Cert.SampleIdeal.nD Cert.SampleIdeal.τ).loc Cert.SampleIdeal.main_v19) = v6 c
          ∧ r.2.mem ((c.tc : Thread Cert.SampleIdeal.nD Cert.SampleIdeal.τ).loc Cert.SampleIdeal.main_v20) = v7 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v13) = v0 c
          ∧ r.2.mem ((c.tc : Thread Cert.SampleRefIdeal.nD Cert.SampleRefIdeal.τ).loc Cert.SampleRefIdeal.main_v11) = v1 c
          ∧ r.2.mem ((c.tc : Thread Cert.SampleRefIdeal.nD Cert.SampleRefIdeal.τ).loc Cert.SampleRefIdeal.main_v12) = v2 c
          ∧ r.2.mem ((c.tc : Thread Cert.SampleRefIdeal.nD Cert.SampleRefIdeal.τ).loc Cert.SampleRefIdeal.main_v15) = v3 c
          ∧ r.2.mem ((c.tc : Thread Cert.SampleRefIdeal.nD Cert.SampleRefIdeal.τ).loc Cert.SampleRefIdeal.main_v22) = v4 c
          ∧ r.2.mem ((c.tc : Thread Cert.SampleRefIdeal.nD Cert.SampleRefIdeal.τ).loc Cert.SampleRefIdeal.main_v16) = v5 c
          ∧ r.2.mem ((c.tc : Thread Cert.SampleRefIdeal.nD Cert.SampleRefIdeal.τ).loc Cert.SampleRefIdeal.main_v17) = v6 c
          ∧ r.2.mem ((c.tc : Thread Cert.SampleRefIdeal.nD Cert.SampleRefIdeal.τ).loc Cert.SampleRefIdeal.main_v21) = v7 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v9_0)) (v1 : (c : Dev Cert.MixIdeal.nD) → Buf (Elt Ideal) ((c.tc : Thread Cert.MixIdeal.nD Cert.MixIdeal.τ).loc Cert.MixIdeal.main_v9_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9_0) = v0 c
          ∧ r.2.mem ((c.tc : Thread Cert.MixIdeal.nD Cert.MixIdeal.τ).loc Cert.MixIdeal.main_v9_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v34) = v0 c
          ∧ r.2.mem ((c.tc : Thread Cert.MixRefIdeal.nD Cert.MixRefIdeal.τ).loc Cert.MixRefIdeal.main_v36) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)) →
    ∃ (v0 : (c : Dev Cert.MixSIdeal.nD) → Buf (Elt Ideal) ((c.tc : Thread Cert.MixSIdeal.nD Cert.MixSIdeal.τ).loc Cert.MixSIdeal.main_v9_0)) (v1 : (c : Dev Cert.MixSIdeal.nD) → Buf (Elt Ideal) ((c.tc : Thread Cert.MixSIdeal.nD Cert.MixSIdeal.τ).loc Cert.MixSIdeal.main_v9_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v9_0) = v0 c
          ∧ r.2.mem ((c.tc : Thread Cert.MixSIdeal.nD Cert.MixSIdeal.τ).loc Cert.MixSIdeal.main_v9_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v34) = v0 c
          ∧ r.2.mem ((c.tc : Thread Cert.MixSRefIdeal.nD Cert.MixSRefIdeal.τ).loc Cert.MixSRefIdeal.main_v36) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5))

def preserves_End_EndIdeal : Prop :=
  True

def algebraic_EndIdeal_EndRefIdeal [hEndIdeal : Cert.EndIdeal.Facts] [hEndRefIdeal : Cert.EndRefIdeal.Facts] : Prop :=
  ∀ (m : (ℓ : Loc Cert.EndIdeal.nD Cert.EndIdeal.τ Cert.EndIdeal.sig) → Buf (Elt Ideal) ℓ) (g : Dev Cert.EndIdeal.nD → PrngReg)
    (m' : (ℓ : Loc Cert.EndRefIdeal.nD Cert.EndRefIdeal.τ Cert.EndRefIdeal.sig) → Buf (Elt Ideal) ℓ) (g' : Dev Cert.EndRefIdeal.nD → PrngReg), Pre_EndIdeal m →
    (∀ c : Dev Cert.EndIdeal.nD,
      m' ((c.tc : Thread Cert.EndRefIdeal.nD Cert.EndRefIdeal.τ).loc Cert.EndRefIdeal.main_arg0) = m ((c.tc : Thread Cert.EndIdeal.nD Cert.EndIdeal.τ).loc Cert.EndIdeal.main_arg0)
      ∧ m' ((c.tc : Thread Cert.EndRefIdeal.nD Cert.EndRefIdeal.τ).loc Cert.EndRefIdeal.main_arg1) = m ((c.tc : Thread Cert.EndIdeal.nD Cert.EndIdeal.τ).loc Cert.EndIdeal.main_arg1)
      ∧ m' ((c.tc : Thread Cert.EndRefIdeal.nD Cert.EndRefIdeal.τ).loc Cert.EndRefIdeal.main_arg2) = m ((c.tc : Thread Cert.EndIdeal.nD Cert.EndIdeal.τ).loc Cert.EndIdeal.main_arg2)
      ∧ m' ((c.tc : Thread Cert.EndRefIdeal.nD Cert.EndRefIdeal.τ).loc Cert.EndRefIdeal.main_arg3) = m ((c.tc : Thread Cert.EndIdeal.nD Cert.EndIdeal.τ).loc Cert.EndIdeal.main_arg3)) →
    ∃ (v0 : (c : Dev Cert.EndIdeal.nD) → Buf (Elt Ideal) ((c.tc : Thread Cert.EndIdeal.nD Cert.EndIdeal.τ).loc Cert.EndIdeal.main_v5)),
      θ_run (Cert.EndIdeal.defs (F := Ideal)) (onTc (τ := Cert.EndIdeal.τ) (Cert.EndIdeal.main (F := Ideal))) ⟨m, fun _ => 0, g⟩ (fun r => ∀ c : Dev Cert.EndIdeal.nD,
          r.2.mem ((c.tc : Thread Cert.EndIdeal.nD Cert.EndIdeal.τ).loc Cert.EndIdeal.main_v5) = v0 c
          ∧ r.2.mem ((c.tc : Thread Cert.EndIdeal.nD Cert.EndIdeal.τ).loc Cert.EndIdeal.main_arg0) = m ((c.tc : Thread Cert.EndIdeal.nD Cert.EndIdeal.τ).loc Cert.EndIdeal.main_arg0)
          ∧ r.2.mem ((c.tc : Thread Cert.EndIdeal.nD Cert.EndIdeal.τ).loc Cert.EndIdeal.main_arg1) = m ((c.tc : Thread Cert.EndIdeal.nD Cert.EndIdeal.τ).loc Cert.EndIdeal.main_arg1)
          ∧ r.2.mem ((c.tc : Thread Cert.EndIdeal.nD Cert.EndIdeal.τ).loc Cert.EndIdeal.main_arg2) = m ((c.tc : Thread Cert.EndIdeal.nD Cert.EndIdeal.τ).loc Cert.EndIdeal.main_arg2)
          ∧ r.2.mem ((c.tc : Thread Cert.EndIdeal.nD Cert.EndIdeal.τ).loc Cert.EndIdeal.main_arg3) = m ((c.tc : Thread Cert.EndIdeal.nD Cert.EndIdeal.τ).loc Cert.EndIdeal.main_arg3))
      ∧ θ_run (Cert.EndRefIdeal.defs (F := Ideal)) (onTc (τ := Cert.EndRefIdeal.τ) (Cert.EndRefIdeal.main (F := Ideal))) ⟨m', fun _ => 0, g'⟩ (fun r => ∀ c : Dev Cert.EndRefIdeal.nD,
          r.2.mem ((c.tc : Thread Cert.EndRefIdeal.nD Cert.EndRefIdeal.τ).loc Cert.EndRefIdeal.main_v30) = v0 c
          ∧ r.2.mem ((c.tc : Thread Cert.EndRefIdeal.nD Cert.EndRefIdeal.τ).loc Cert.EndRefIdeal.main_arg0) = m' ((c.tc : Thread Cert.EndRefIdeal.nD Cert.EndRefIdeal.τ).loc Cert.EndRefIdeal.main_arg0)
          ∧ r.2.mem ((c.tc : Thread Cert.EndRefIdeal.nD Cert.EndRefIdeal.τ).loc Cert.EndRefIdeal.main_arg1) = m' ((c.tc : Thread Cert.EndRefIdeal.nD Cert.EndRefIdeal.τ).loc Cert.EndRefIdeal.main_arg1)
          ∧ r.2.mem ((c.tc : Thread Cert.EndRefIdeal.nD Cert.EndRefIdeal.τ).loc Cert.EndRefIdeal.main_arg2) = m' ((c.tc : Thread Cert.EndRefIdeal.nD Cert.EndRefIdeal.τ).loc Cert.EndRefIdeal.main_arg2)
          ∧ r.2.mem ((c.tc : Thread Cert.EndRefIdeal.nD Cert.EndRefIdeal.τ).loc Cert.EndRefIdeal.main_arg3) = m' ((c.tc : Thread Cert.EndRefIdeal.nD Cert.EndRefIdeal.τ).loc Cert.EndRefIdeal.main_arg3))

def preserves_EndS_EndSIdeal : Prop :=
  True

def algebraic_EndSIdeal_EndSRefIdeal [hEndSIdeal : Cert.EndSIdeal.Facts] [hEndSRefIdeal : Cert.EndSRefIdeal.Facts] : Prop :=
  ∀ (m : (ℓ : Loc Cert.EndSIdeal.nD Cert.EndSIdeal.τ Cert.EndSIdeal.sig) → Buf (Elt Ideal) ℓ) (g : Dev Cert.EndSIdeal.nD → PrngReg)
    (m' : (ℓ : Loc Cert.EndSRefIdeal.nD Cert.EndSRefIdeal.τ Cert.EndSRefIdeal.sig) → Buf (Elt Ideal) ℓ) (g' : Dev Cert.EndSRefIdeal.nD → PrngReg), Pre_EndSIdeal m →
    (∀ c : Dev Cert.EndSIdeal.nD,
      m' ((c.tc : Thread Cert.EndSRefIdeal.nD Cert.EndSRefIdeal.τ).loc Cert.EndSRefIdeal.main_arg0) = m ((c.tc : Thread Cert.EndSIdeal.nD Cert.EndSIdeal.τ).loc Cert.EndSIdeal.main_arg0)
      ∧ m' ((c.tc : Thread Cert.EndSRefIdeal.nD Cert.EndSRefIdeal.τ).loc Cert.EndSRefIdeal.main_arg1) = m ((c.tc : Thread Cert.EndSIdeal.nD Cert.EndSIdeal.τ).loc Cert.EndSIdeal.main_arg1)
      ∧ m' ((c.tc : Thread Cert.EndSRefIdeal.nD Cert.EndSRefIdeal.τ).loc Cert.EndSRefIdeal.main_arg2) = m ((c.tc : Thread Cert.EndSIdeal.nD Cert.EndSIdeal.τ).loc Cert.EndSIdeal.main_arg2)
      ∧ m' ((c.tc : Thread Cert.EndSRefIdeal.nD Cert.EndSRefIdeal.τ).loc Cert.EndSRefIdeal.main_arg3) = m ((c.tc : Thread Cert.EndSIdeal.nD Cert.EndSIdeal.τ).loc Cert.EndSIdeal.main_arg3)) →
    ∃ (v0 : (c : Dev Cert.EndSIdeal.nD) → Buf (Elt Ideal) ((c.tc : Thread Cert.EndSIdeal.nD Cert.EndSIdeal.τ).loc Cert.EndSIdeal.main_v5)),
      θ_run (Cert.EndSIdeal.defs (F := Ideal)) (onTc (τ := Cert.EndSIdeal.τ) (Cert.EndSIdeal.main (F := Ideal))) ⟨m, fun _ => 0, g⟩ (fun r => ∀ c : Dev Cert.EndSIdeal.nD,
          r.2.mem ((c.tc : Thread Cert.EndSIdeal.nD Cert.EndSIdeal.τ).loc Cert.EndSIdeal.main_v5) = v0 c
          ∧ r.2.mem ((c.tc : Thread Cert.EndSIdeal.nD Cert.EndSIdeal.τ).loc Cert.EndSIdeal.main_arg0) = m ((c.tc : Thread Cert.EndSIdeal.nD Cert.EndSIdeal.τ).loc Cert.EndSIdeal.main_arg0)
          ∧ r.2.mem ((c.tc : Thread Cert.EndSIdeal.nD Cert.EndSIdeal.τ).loc Cert.EndSIdeal.main_arg1) = m ((c.tc : Thread Cert.EndSIdeal.nD Cert.EndSIdeal.τ).loc Cert.EndSIdeal.main_arg1)
          ∧ r.2.mem ((c.tc : Thread Cert.EndSIdeal.nD Cert.EndSIdeal.τ).loc Cert.EndSIdeal.main_arg2) = m ((c.tc : Thread Cert.EndSIdeal.nD Cert.EndSIdeal.τ).loc Cert.EndSIdeal.main_arg2)
          ∧ r.2.mem ((c.tc : Thread Cert.EndSIdeal.nD Cert.EndSIdeal.τ).loc Cert.EndSIdeal.main_arg3) = m ((c.tc : Thread Cert.EndSIdeal.nD Cert.EndSIdeal.τ).loc Cert.EndSIdeal.main_arg3))
      ∧ θ_run (Cert.EndSRefIdeal.defs (F := Ideal)) (onTc (τ := Cert.EndSRefIdeal.τ) (Cert.EndSRefIdeal.main (F := Ideal))) ⟨m', fun _ => 0, g'⟩ (fun r => ∀ c : Dev Cert.EndSRefIdeal.nD,
          r.2.mem ((c.tc : Thread Cert.EndSRefIdeal.nD Cert.EndSRefIdeal.τ).loc Cert.EndSRefIdeal.main_v30) = v0 c
          ∧ r.2.mem ((c.tc : Thread Cert.EndSRefIdeal.nD Cert.EndSRefIdeal.τ).loc Cert.EndSRefIdeal.main_arg0) = m' ((c.tc : Thread Cert.EndSRefIdeal.nD Cert.EndSRefIdeal.τ).loc Cert.EndSRefIdeal.main_arg0)
          ∧ r.2.mem ((c.tc : Thread Cert.EndSRefIdeal.nD Cert.EndSRefIdeal.τ).loc Cert.EndSRefIdeal.main_arg1) = m' ((c.tc : Thread Cert.EndSRefIdeal.nD Cert.EndSRefIdeal.τ).loc Cert.EndSRefIdeal.main_arg1)
          ∧ r.2.mem ((c.tc : Thread Cert.EndSRefIdeal.nD Cert.EndSRefIdeal.τ).loc Cert.EndSRefIdeal.main_arg2) = m' ((c.tc : Thread Cert.EndSRefIdeal.nD Cert.EndSRefIdeal.τ).loc Cert.EndSRefIdeal.main_arg2)
          ∧ r.2.mem ((c.tc : Thread Cert.EndSRefIdeal.nD Cert.EndSRefIdeal.τ).loc Cert.EndSRefIdeal.main_arg3) = m' ((c.tc : Thread Cert.EndSRefIdeal.nD Cert.EndSRefIdeal.τ).loc Cert.EndSRefIdeal.main_arg3))

def preserves_GateS_GateSIdeal : Prop :=
  True

def algebraic_GateSIdeal_GateSRefIdeal [hGateSIdeal : Cert.GateSIdeal.Facts] [hGateSRefIdeal : Cert.GateSRefIdeal.Facts] : Prop :=
  ∀ (m : (ℓ : Loc Cert.GateSIdeal.nD Cert.GateSIdeal.τ Cert.GateSIdeal.sig) → Buf (Elt Ideal) ℓ) (g : Dev Cert.GateSIdeal.nD → PrngReg)
    (m' : (ℓ : Loc Cert.GateSRefIdeal.nD Cert.GateSRefIdeal.τ Cert.GateSRefIdeal.sig) → Buf (Elt Ideal) ℓ) (g' : Dev Cert.GateSRefIdeal.nD → PrngReg), Pre_GateSIdeal m →
    (∀ c : Dev Cert.GateSIdeal.nD,
      m' ((c.tc : Thread Cert.GateSRefIdeal.nD Cert.GateSRefIdeal.τ).loc Cert.GateSRefIdeal.main_arg0) = m ((c.tc : Thread Cert.GateSIdeal.nD Cert.GateSIdeal.τ).loc Cert.GateSIdeal.main_arg0)
      ∧ m' ((c.tc : Thread Cert.GateSRefIdeal.nD Cert.GateSRefIdeal.τ).loc Cert.GateSRefIdeal.main_arg1) = m ((c.tc : Thread Cert.GateSIdeal.nD Cert.GateSIdeal.τ).loc Cert.GateSIdeal.main_arg1)
      ∧ m' ((c.tc : Thread Cert.GateSRefIdeal.nD Cert.GateSRefIdeal.τ).loc Cert.GateSRefIdeal.main_arg2) = m ((c.tc : Thread Cert.GateSIdeal.nD Cert.GateSIdeal.τ).loc Cert.GateSIdeal.main_arg2)
      ∧ m' ((c.tc : Thread Cert.GateSRefIdeal.nD Cert.GateSRefIdeal.τ).loc Cert.GateSRefIdeal.main_arg3) = m ((c.tc : Thread Cert.GateSIdeal.nD Cert.GateSIdeal.τ).loc Cert.GateSIdeal.main_arg3)
      ∧ m' ((c.tc : Thread Cert.GateSRefIdeal.nD Cert.GateSRefIdeal.τ).loc Cert.GateSRefIdeal.main_arg4) = m ((c.tc : Thread Cert.GateSIdeal.nD Cert.GateSIdeal.τ).loc Cert.GateSIdeal.main_arg4)
      ∧ m' ((c.tc : Thread Cert.GateSRefIdeal.nD Cert.GateSRefIdeal.τ).loc Cert.GateSRefIdeal.main_arg5) = m ((c.tc : Thread Cert.GateSIdeal.nD Cert.GateSIdeal.τ).loc Cert.GateSIdeal.main_arg5)
      ∧ m' ((c.tc : Thread Cert.GateSRefIdeal.nD Cert.GateSRefIdeal.τ).loc Cert.GateSRefIdeal.main_arg6) = m ((c.tc : Thread Cert.GateSIdeal.nD Cert.GateSIdeal.τ).loc Cert.GateSIdeal.main_arg6)) →
    ∃ (v0 : (c : Dev Cert.GateSIdeal.nD) → Buf (Elt Ideal) ((c.tc : Thread Cert.GateSIdeal.nD Cert.GateSIdeal.τ).loc Cert.GateSIdeal.main_v17)),
      θ_run (Cert.GateSIdeal.defs (F := Ideal)) (onTc (τ := Cert.GateSIdeal.τ) (Cert.GateSIdeal.main (F := Ideal))) ⟨m, fun _ => 0, g⟩ (fun r => ∀ c : Dev Cert.GateSIdeal.nD,
          r.2.mem ((c.tc : Thread Cert.GateSIdeal.nD Cert.GateSIdeal.τ).loc Cert.GateSIdeal.main_v17) = v0 c
          ∧ r.2.mem ((c.tc : Thread Cert.GateSIdeal.nD Cert.GateSIdeal.τ).loc Cert.GateSIdeal.main_arg0) = m ((c.tc : Thread Cert.GateSIdeal.nD Cert.GateSIdeal.τ).loc Cert.GateSIdeal.main_arg0)
          ∧ r.2.mem ((c.tc : Thread Cert.GateSIdeal.nD Cert.GateSIdeal.τ).loc Cert.GateSIdeal.main_arg1) = m ((c.tc : Thread Cert.GateSIdeal.nD Cert.GateSIdeal.τ).loc Cert.GateSIdeal.main_arg1)
          ∧ r.2.mem ((c.tc : Thread Cert.GateSIdeal.nD Cert.GateSIdeal.τ).loc Cert.GateSIdeal.main_arg2) = m ((c.tc : Thread Cert.GateSIdeal.nD Cert.GateSIdeal.τ).loc Cert.GateSIdeal.main_arg2)
          ∧ r.2.mem ((c.tc : Thread Cert.GateSIdeal.nD Cert.GateSIdeal.τ).loc Cert.GateSIdeal.main_arg3) = m ((c.tc : Thread Cert.GateSIdeal.nD Cert.GateSIdeal.τ).loc Cert.GateSIdeal.main_arg3)
          ∧ r.2.mem ((c.tc : Thread Cert.GateSIdeal.nD Cert.GateSIdeal.τ).loc Cert.GateSIdeal.main_arg4) = m ((c.tc : Thread Cert.GateSIdeal.nD Cert.GateSIdeal.τ).loc Cert.GateSIdeal.main_arg4)
          ∧ r.2.mem ((c.tc : Thread Cert.GateSIdeal.nD Cert.GateSIdeal.τ).loc Cert.GateSIdeal.main_arg5) = m ((c.tc : Thread Cert.GateSIdeal.nD Cert.GateSIdeal.τ).loc Cert.GateSIdeal.main_arg5)
          ∧ r.2.mem ((c.tc : Thread Cert.GateSIdeal.nD Cert.GateSIdeal.τ).loc Cert.GateSIdeal.main_arg6) = m ((c.tc : Thread Cert.GateSIdeal.nD Cert.GateSIdeal.τ).loc Cert.GateSIdeal.main_arg6))
      ∧ θ_run (Cert.GateSRefIdeal.defs (F := Ideal)) (onTc (τ := Cert.GateSRefIdeal.τ) (Cert.GateSRefIdeal.main (F := Ideal))) ⟨m', fun _ => 0, g'⟩ (fun r => ∀ c : Dev Cert.GateSRefIdeal.nD,
          r.2.mem ((c.tc : Thread Cert.GateSRefIdeal.nD Cert.GateSRefIdeal.τ).loc Cert.GateSRefIdeal.main_v7) = v0 c
          ∧ r.2.mem ((c.tc : Thread Cert.GateSRefIdeal.nD Cert.GateSRefIdeal.τ).loc Cert.GateSRefIdeal.main_arg0) = m' ((c.tc : Thread Cert.GateSRefIdeal.nD Cert.GateSRefIdeal.τ).loc Cert.GateSRefIdeal.main_arg0)
          ∧ r.2.mem ((c.tc : Thread Cert.GateSRefIdeal.nD Cert.GateSRefIdeal.τ).loc Cert.GateSRefIdeal.main_arg1) = m' ((c.tc : Thread Cert.GateSRefIdeal.nD Cert.GateSRefIdeal.τ).loc Cert.GateSRefIdeal.main_arg1)
          ∧ r.2.mem ((c.tc : Thread Cert.GateSRefIdeal.nD Cert.GateSRefIdeal.τ).loc Cert.GateSRefIdeal.main_arg2) = m' ((c.tc : Thread Cert.GateSRefIdeal.nD Cert.GateSRefIdeal.τ).loc Cert.GateSRefIdeal.main_arg2)
          ∧ r.2.mem ((c.tc : Thread Cert.GateSRefIdeal.nD Cert.GateSRefIdeal.τ).loc Cert.GateSRefIdeal.main_arg3) = m' ((c.tc : Thread Cert.GateSRefIdeal.nD Cert.GateSRefIdeal.τ).loc Cert.GateSRefIdeal.main_arg3)
          ∧ r.2.mem ((c.tc : Thread Cert.GateSRefIdeal.nD Cert.GateSRefIdeal.τ).loc Cert.GateSRefIdeal.main_arg4) = m' ((c.tc : Thread Cert.GateSRefIdeal.nD Cert.GateSRefIdeal.τ).loc Cert.GateSRefIdeal.main_arg4)
          ∧ r.2.mem ((c.tc : Thread Cert.GateSRefIdeal.nD Cert.GateSRefIdeal.τ).loc Cert.GateSRefIdeal.main_arg5) = m' ((c.tc : Thread Cert.GateSRefIdeal.nD Cert.GateSRefIdeal.τ).loc Cert.GateSRefIdeal.main_arg5)
          ∧ r.2.mem ((c.tc : Thread Cert.GateSRefIdeal.nD Cert.GateSRefIdeal.τ).loc Cert.GateSRefIdeal.main_arg6) = m' ((c.tc : Thread Cert.GateSRefIdeal.nD Cert.GateSRefIdeal.τ).loc Cert.GateSRefIdeal.main_arg6))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hMix : Cert.Mix.Facts) (hMixIdeal : Cert.MixIdeal.Facts) (hMixRefIdeal : Cert.MixRefIdeal.Facts) (hMixS : Cert.MixS.Facts) (hMixSIdeal : Cert.MixSIdeal.Facts) (hMixSRefIdeal : Cert.MixSRefIdeal.Facts) (hEnd : Cert.End.Facts) (hEndIdeal : Cert.EndIdeal.Facts) (hEndRefIdeal : Cert.EndRefIdeal.Facts) (hEndS : Cert.EndS.Facts) (hEndSIdeal : Cert.EndSIdeal.Facts) (hEndSRefIdeal : Cert.EndSRefIdeal.Facts) (hGateS : Cert.GateS.Facts) (hGateSIdeal : Cert.GateSIdeal.Facts) (hGateSRefIdeal : Cert.GateSRefIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ quiescent_Mix (hMix := hMix)
    ∧ quiescent_MixIdeal (hMixIdeal := hMixIdeal)
    ∧ quiescent_MixRefIdeal (hMixRefIdeal := hMixRefIdeal)
    ∧ quiescent_MixS (hMixS := hMixS)
    ∧ quiescent_MixSIdeal (hMixSIdeal := hMixSIdeal)
    ∧ quiescent_MixSRefIdeal (hMixSRefIdeal := hMixSRefIdeal)
    ∧ quiescent_End (hEnd := hEnd)
    ∧ quiescent_EndIdeal (hEndIdeal := hEndIdeal)
    ∧ quiescent_EndRefIdeal (hEndRefIdeal := hEndRefIdeal)
    ∧ quiescent_EndS (hEndS := hEndS)
    ∧ quiescent_EndSIdeal (hEndSIdeal := hEndSIdeal)
    ∧ quiescent_EndSRefIdeal (hEndSRefIdeal := hEndSRefIdeal)
    ∧ quiescent_GateS (hGateS := hGateS)
    ∧ quiescent_GateSIdeal (hGateSIdeal := hGateSIdeal)
    ∧ quiescent_GateSRefIdeal (hGateSRefIdeal := hGateSRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
    ∧ preserves_Mix_MixIdeal
    ∧ algebraic_MixIdeal_MixRefIdeal (hMixIdeal := hMixIdeal) (hMixRefIdeal := hMixRefIdeal)
    ∧ preserves_MixS_MixSIdeal
    ∧ algebraic_MixSIdeal_MixSRefIdeal (hMixSIdeal := hMixSIdeal) (hMixSRefIdeal := hMixSRefIdeal)
    ∧ preserves_End_EndIdeal
    ∧ algebraic_EndIdeal_EndRefIdeal (hEndIdeal := hEndIdeal) (hEndRefIdeal := hEndRefIdeal)
    ∧ preserves_EndS_EndSIdeal
    ∧ algebraic_EndSIdeal_EndSRefIdeal (hEndSIdeal := hEndSIdeal) (hEndSRefIdeal := hEndSRefIdeal)
    ∧ preserves_GateS_GateSIdeal
    ∧ algebraic_GateSIdeal_GateSRefIdeal (hGateSIdeal := hGateSIdeal) (hGateSRefIdeal := hGateSRefIdeal)
-- ==== Pre_scores_finite.lean ====
abbrev S16x32x10240 : Shape := ⟨3, ![16, 32, 10240]⟩
abbrev S16x32x2048 : Shape := ⟨3, ![16, 32, 2048]⟩
abbrev S1x16x1024x16x128 : Shape := ⟨5, ![1, 16, 1024, 16, 128]⟩
abbrev S16x1024x16 : Shape := ⟨3, ![16, 1024, 16]⟩
abbrev S16x32x16 : Shape := ⟨3, ![16, 32, 16]⟩
abbrev S_ : Shape := ⟨0, ![]⟩

class Facts : Prop where
  slices_S16x32x10240_S16x32x2048_0_0_8192 : S16x32x10240.Slices ![0, 0, 8192] S16x32x2048
  bcast_S_S16x32x2048 : S_.BroadcastsInDim S16x32x2048 (![] : Fin 0 → Fin S16x32x2048.rank)
  reducesTo_S16x32x2048_S_d0_1_2 : S16x32x2048.ReducesTo [0, 1, 2] S_
  h_S_ : 0 < S_.numel
  bcast_S_S1x16x1024x16x128 : S_.BroadcastsInDim S1x16x1024x16x128 (![] : Fin 0 → Fin S1x16x1024x16x128.rank)
  reducesTo_S1x16x1024x16x128_S_d0_1_2_3_4 : S1x16x1024x16x128.ReducesTo [0, 1, 2, 3, 4] S_
  bcast_S_S16x1024x16 : S_.BroadcastsInDim S16x1024x16 (![] : Fin 0 → Fin S16x1024x16.rank)
  reducesTo_S16x1024x16_S_d0_1_2 : S16x1024x16.ReducesTo [0, 1, 2] S_
  bcast_S_S16x32x16 : S_.BroadcastsInDim S16x32x16 (![] : Fin 0 → Fin S16x32x16.rank)
  reducesTo_S16x32x16_S_d0_1_2 : S16x32x16.ReducesTo [0, 1, 2] S_

variable [Facts]

def fn_part1 {F : FTy → Type} [FloatOps F] (main_arg6 : FVec F S16x32x16 .f32) (main_v4 : IVec S_ 1) (main_v8 : IVec S_ 1) (main_v12 : IVec S_ 1) (main_v15 : IVec S16x1024x16 1) (main_c_5 : IVec S_ 1) : IVec S_ 1 :=
  let main_v16 : IVec S_ 1 := (fun x v => Host.reduce IntOp.andi x v reducesTo_S16x1024x16_S_d0_1_2 h_S_) main_v15 main_c_5
  let main_v17 : FVec F S16x32x16 .f32 := Host.absf main_arg6
  let main_cst_6 : FVec F S_ .f32 := constant S_ .f32 0x7F800000#32
  let main_v18 : FVec F S16x32x16 .f32 := broadcastInDim S16x32x16 ![] bcast_S_S16x32x16 main_cst_6
  let main_v19 : IVec S16x32x16 1 := cmpf .olt main_v17 main_v18
  let main_c_7 : IVec S_ 1 := constantI S_ 1 1#1
  let main_v20 : IVec S_ 1 := (fun x v => Host.reduce IntOp.andi x v reducesTo_S16x32x16_S_d0_1_2 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S16x32x10240 .f32) (main_arg1 : FVec F S16x32x2048 .f32) (main_arg2 : FVec F S16x32x2048 .f32) (main_arg3 : FVec F S1x16x1024x16x128 .f32) (main_arg4 : FVec F S1x16x1024x16x128 .f32) (main_arg5 : FVec F S16x1024x16 .f32) (main_arg6 : FVec F S16x32x16 .f32) : IVec S_ 1 :=
  let main_v0 : FVec F S16x32x2048 .f32 := (extractStridedSlice S16x32x2048 ![0, 0, 8192] · slices_S16x32x10240_S16x32x2048_0_0_8192) main_arg0
  let main_v1 : FVec F S16x32x2048 .f32 := Host.absf main_v0
  let main_cst : FVec F S_ .f32 := constant S_ .f32 0x7F800000#32
  let main_v2 : FVec F S16x32x2048 .f32 := broadcastInDim S16x32x2048 ![] bcast_S_S16x32x2048 main_cst
  let main_v3 : IVec S16x32x2048 1 := cmpf .olt main_v1 main_v2
  let main_c : IVec S_ 1 := constantI S_ 1 1#1
  let main_v4 : IVec S_ 1 := (fun x v => Host.reduce IntOp.andi x v reducesTo_S16x32x2048_S_d0_1_2 h_S_) main_v3 main_c
  let main_v5 : FVec F S16x32x2048 .f32 := Host.absf main_arg1
  let main_cst_0 : FVec F S_ .f32 := constant S_ .f32 0x7F800000#32
  let main_v6 : FVec F S16x32x2048 .f32 := broadcastInDim S16x32x2048 ![] bcast_S_S16x32x2048 main_cst_0
  let main_v7 : IVec S16x32x2048 1 := cmpf .olt main_v5 main_v6
  let main_c_1 : IVec S_ 1 := constantI S_ 1 1#1
  let main_v8 : IVec S_ 1 := (fun x v => Host.reduce IntOp.andi x v reducesTo_S16x32x2048_S_d0_1_2 h_S_) main_v7 main_c_1
  let main_v9 : FVec F S1x16x1024x16x128 .f32 := Host.absf main_arg3
  let main_cst_2 : FVec F S_ .f32 := constant S_ .f32 0x7F800000#32
  let main_v10 : FVec F S1x16x1024x16x128 .f32 := broadcastInDim S1x16x1024x16x128 ![] bcast_S_S1x16x1024x16x128 main_cst_2
  let main_v11 : IVec S1x16x1024x16x128 1 := cmpf .olt main_v9 main_v10
  let main_c_3 : IVec S_ 1 := constantI S_ 1 1#1
  let main_v12 : IVec S_ 1 := (fun x v => Host.reduce IntOp.andi x v reducesTo_S1x16x1024x16x128_S_d0_1_2_3_4 h_S_) main_v11 main_c_3
  let main_v13 : FVec F S16x1024x16 .f32 := Host.absf main_arg5
  let main_cst_4 : FVec F S_ .f32 := constant S_ .f32 0x7F800000#32
  let main_v14 : FVec F S16x1024x16 .f32 := broadcastInDim S16x1024x16 ![] bcast_S_S16x1024x16 main_cst_4
  let main_v15 : IVec S16x1024x16 1 := cmpf .olt main_v13 main_v14
  let main_c_5 : IVec S_ 1 := constantI S_ 1 1#1
  fn_part1 (F := F) main_arg6 main_v4 main_v8 main_v12 main_v15 main_c_5
-- ==== Kernel.lean ====
abbrev S16x32x10240 : Shape := ⟨3, ![16, 32, 10240]⟩
abbrev S16x32x2048 : Shape := ⟨3, ![16, 32, 2048]⟩
abbrev S1x16x1024x16x128 : Shape := ⟨5, ![1, 16, 1024, 16, 128]⟩
abbrev S16x1024x16 : Shape := ⟨3, ![16, 1024, 16]⟩
abbrev S16x32x16 : Shape := ⟨3, ![16, 32, 16]⟩
abbrev S_ : Shape := ⟨0, ![]⟩
abbrev S16x32x128 : Shape := ⟨3, ![16, 32, 128]⟩
abbrev S16x1024x128 : Shape := ⟨3, ![16, 1024, 128]⟩
abbrev S16x128x1024 : Shape := ⟨3, ![16, 128, 1024]⟩
abbrev S16x128x32 : Shape := ⟨3, ![16, 128, 32]⟩
abbrev S16x1024x16x128 : Shape := ⟨4, ![16, 1024, 16, 128]⟩
abbrev S16x16384x128 : Shape := ⟨3, ![16, 16384, 128]⟩
abbrev S1x32x2048 : Shape := ⟨3, ![1, 32, 2048]⟩
abbrev S1x16384x128 : Shape := ⟨3, ![1, 16384, 128]⟩
abbrev S1x32x128 : Shape := ⟨3, ![1, 32, 128]⟩
abbrev S1x128x1024 : Shape := ⟨3, ![1, 128, 1024]⟩
abbrev S1x128x32 : Shape := ⟨3, ![1, 128, 32]⟩
abbrev S32x128 : Shape := ⟨2, ![32, 128]⟩
abbrev S32x32 : Shape := ⟨2, ![32, 32]⟩
abbrev S32x1 : Shape := ⟨2, ![32, 1]⟩
abbrev S1x1x1024 : Shape := ⟨3, ![1, 1, 1024]⟩
abbrev S1x1024 : Shape := ⟨2, ![1, 1024]⟩
abbrev S1x1x32 : Shape := ⟨3, ![1, 1, 32]⟩
abbrev S1x32 : Shape := ⟨2, ![1, 32]⟩
abbrev S1x1024x128 : Shape := ⟨3, ![1, 1024, 128]⟩
abbrev S1024x128 : Shape := ⟨2, ![1024, 128]⟩
abbrev S32x1024 : Shape := ⟨2, ![32, 1024]⟩
abbrev S32 : Shape := ⟨1, ![32]⟩

abbrev nBuf : Space → Nat
  | .hbm => 20
  | .vmem => 18
  | .smem => 0
  | _ => 0

abbrev bufTy : (tb : Table) → Fin (tcTables nBuf tb) → BufTy
  | .hbm, ⟨0, _⟩ => ⟨S16x32x10240, .f32⟩
  | .hbm, ⟨1, _⟩ => ⟨S16x32x2048, .f32⟩
  | .hbm, ⟨2, _⟩ => ⟨S16x32x2048, .f32⟩
  | .hbm, ⟨3, _⟩ => ⟨S1x16x1024x16x128, .f32⟩
  | .hbm, ⟨4, _⟩ => ⟨S1x16x1024x16x128, .f32⟩
  | .hbm, ⟨5, _⟩ => ⟨S16x1024x16, .f32⟩
  | .hbm, ⟨6, _⟩ => ⟨S16x32x16, .f32⟩
  | .hbm, ⟨7, _⟩ => ⟨S_, .i32⟩
  | .hbm, ⟨8, _⟩ => ⟨S_, .f32⟩
  | .hbm, ⟨9, _⟩ => ⟨S16x32x128, .f32⟩
  | .hbm, ⟨10, _⟩ => ⟨S_, .i32⟩
  | .hbm, ⟨11, _⟩ => ⟨S_, .f32⟩
  | .hbm, ⟨12, _⟩ => ⟨S16x1024x128, .f32⟩
  | .hbm, ⟨13, _⟩ => ⟨S16x128x1024, .f32⟩
  | .hbm, ⟨14, _⟩ => ⟨S16x128x32, .f32⟩
  | .hbm, ⟨15, _⟩ => ⟨S16x1024x16x128, .f32⟩
  | .hbm, ⟨16, _⟩ => ⟨S16x16384x128, .f32⟩
  | .hbm, ⟨17, _⟩ => ⟨S16x1024x16x128, .f32⟩
  | .hbm, ⟨18, _⟩ => ⟨S16x16384x128, .f32⟩
  | .hbm, ⟨19, _⟩ => ⟨S16x32x2048, .bf16⟩
  | .local _ .vmem, ⟨0, _⟩ => ⟨S1x32x2048, .f32⟩
  | .local _ .vmem, ⟨1, _⟩ => ⟨S1x32x2048, .f32⟩
  | .local _ .vmem, ⟨2, _⟩ => ⟨S1x32x2048, .f32⟩
  | .local _ .vmem, ⟨3, _⟩ => ⟨S1x32x2048, .f32⟩
  | .local _ .vmem, ⟨4, _⟩ => ⟨S1x32x2048, .f32⟩
  | .local _ .vmem, ⟨5, _⟩ => ⟨S1x32x2048, .f32⟩
  | .local _ .vmem, ⟨6, _⟩ => ⟨S1x16384x128, .f32⟩
  | .local _ .vmem, ⟨7, _⟩ => ⟨S1x16384x128, .f32⟩
  | .local _ .vmem, ⟨8, _⟩ => ⟨S1x16384x128, .f32⟩
  | .local _ .vmem, ⟨9, _⟩ => ⟨S1x16384x128, .f32⟩
  | .local _ .vmem, ⟨10, _⟩ => ⟨S1x32x128, .f32⟩
  | .local _ .vmem, ⟨11, _⟩ => ⟨S1x32x128, .f32⟩
  | .local _ .vmem, ⟨12, _⟩ => ⟨S1x128x1024, .f32⟩
  | .local _ .vmem, ⟨13, _⟩ => ⟨S1x128x1024, .f32⟩
  | .local _ .vmem, ⟨14, _⟩ => ⟨S1x128x32, .f32⟩
  | .local _ .vmem, ⟨15, _⟩ => ⟨S1x128x32, .f32⟩
  | .local _ .vmem, ⟨16, _⟩ => ⟨S1x32x2048, .bf16⟩
  | .local _ .vmem, ⟨17, _⟩ => ⟨S1x32x2048, .bf16⟩
  | _, _ => ⟨S16x32x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | "q_scale" => some (((11863283 / 134217728) * (Real.log 2)⁻¹ : ℝ) : EReal)
  | _ => none
-- ==== ReferenceIdeal.lean ====
abbrev S16x32x10240 : Shape := ⟨3, ![16, 32, 10240]⟩
abbrev S16x32x2048 : Shape := ⟨3, ![16, 32, 2048]⟩
abbrev S1x16x1024x16x128 : Shape := ⟨5, ![1, 16, 1024, 16, 128]⟩
abbrev S16x1024x16 : Shape := ⟨3, ![16, 1024, 16]⟩
abbrev S16x32x16 : Shape := ⟨3, ![16, 32, 16]⟩
abbrev S16x32x16x128 : Shape := ⟨4, ![16, 32, 16, 128]⟩
abbrev S16x1024x16x128 : Shape := ⟨4, ![16, 1024, 16, 128]⟩
abbrev S16x1056x16x128 : Shape := ⟨4, ![16, 1056, 16, 128]⟩
abbrev S16x1056x16 : Shape := ⟨3, ![16, 1056, 16]⟩
abbrev S32 : Shape := ⟨1, ![32]⟩
abbrev S_ : Shape := ⟨0, ![]⟩
abbrev S16x16x32x1056 : Shape := ⟨4, ![16, 16, 32, 1056]⟩
abbrev S16x16x32 : Shape := ⟨3, ![16, 16, 32]⟩
abbrev S16x16x32x1 : Shape := ⟨4, ![16, 16, 32, 1]⟩
abbrev S16x16x1056 : Shape := ⟨3, ![16, 16, 1056]⟩
abbrev S16x16x1x1056 : Shape := ⟨4, ![16, 16, 1, 1056]⟩
abbrev S1056 : Shape := ⟨1, ![1056]⟩
abbrev S1x1056 : Shape := ⟨2, ![1, 1056]⟩
abbrev S32x1 : Shape := ⟨2, ![32, 1]⟩
abbrev S32x1056 : Shape := ⟨2, ![32, 1056]⟩
abbrev S16x16x128x32 : Shape := ⟨4, ![16, 16, 128, 32]⟩

abbrev nBuf : Space → Nat
  | .hbm => 61
  | .vmem => 0
  | .smem => 0
  | _ => 0

abbrev bufTy : (tb : Table) → Fin (tcTables nBuf tb) → BufTy
  | .hbm, ⟨0, _⟩ => ⟨S16x32x10240, .f32⟩
  | .hbm, ⟨1, _⟩ => ⟨S16x32x2048, .f32⟩
  | .hbm, ⟨2, _⟩ => ⟨S16x32x2048, .f32⟩
  | .hbm, ⟨3, _⟩ => ⟨S1x16x1024x16x128, .f32⟩
  | .hbm, ⟨4, _⟩ => ⟨S1x16x1024x16x128, .f32⟩
  | .hbm, ⟨5, _⟩ => ⟨S16x1024x16, .f32⟩
  | .hbm, ⟨6, _⟩ => ⟨S16x32x16, .f32⟩
  | .hbm, ⟨7, _⟩ => ⟨S16x32x2048, .f32⟩
  | .hbm, ⟨8, _⟩ => ⟨S16x32x16x128, .f32⟩
  | .hbm, ⟨9, _⟩ => ⟨S16x32x16x128, .f32⟩
  | .hbm, ⟨10, _⟩ => ⟨S16x32x16x128, .f32⟩
  | .hbm, ⟨11, _⟩ => ⟨S16x1024x16x128, .f32⟩
  | .hbm, ⟨12, _⟩ => ⟨S16x1056x16x128, .f32⟩
  | .hbm, ⟨13, _⟩ => ⟨S16x1024x16x128, .f32⟩
  | .hbm, ⟨14, _⟩ => ⟨S16x1056x16x128, .f32⟩
  | .hbm, ⟨15, _⟩ => ⟨S16x1056x16, .f32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S16x16x32x1056, .f32⟩
  | .hbm, ⟨21, _⟩ => ⟨S_, .f32⟩
  | .hbm, ⟨22, _⟩ => ⟨S16x16x32x1056, .f32⟩
  | .hbm, ⟨23, _⟩ => ⟨S16x16x32x1056, .f32⟩
  | .hbm, ⟨24, _⟩ => ⟨S16x16x32, .f32⟩
  | .hbm, ⟨25, _⟩ => ⟨S16x16x32x1, .f32⟩
  | .hbm, ⟨26, _⟩ => ⟨S16x16x1056, .f32⟩
  | .hbm, ⟨27, _⟩ => ⟨S16x16x1x1056, .f32⟩
  | .hbm, ⟨28, _⟩ => ⟨S16x16x32x1056, .f32⟩
  | .hbm, ⟨29, _⟩ => ⟨S16x16x32x1056, .f32⟩
  | .hbm, ⟨30, _⟩ => ⟨S16x16x32x1056, .f32⟩
  | .hbm, ⟨31, _⟩ => ⟨S1056, .i32⟩
  | .hbm, ⟨32, _⟩ => ⟨S1x1056, .i32⟩
  | .hbm, ⟨33, _⟩ => ⟨S32x1, .i32⟩
  | .hbm, ⟨34, _⟩ => ⟨S32x1056, .i32⟩
  | .hbm, ⟨35, _⟩ => ⟨S32x1056, .i32⟩
  | .hbm, ⟨36, _⟩ => ⟨S32x1056, .i1⟩
  | .hbm, ⟨37, _⟩ => ⟨S16x16x32x1056, .f32⟩
  | .hbm, ⟨38, _⟩ => ⟨S_, .f32⟩
  | .hbm, ⟨39, _⟩ => ⟨S_, .f32⟩
  | .hbm, ⟨40, _⟩ => ⟨S16x16x32x1056, .i1⟩
  | .hbm, ⟨41, _⟩ => ⟨S16x16x32x1056, .f32⟩
  | .hbm, ⟨42, _⟩ => ⟨S16x16x32x1056, .f32⟩
  | .hbm, ⟨43, _⟩ => ⟨S_, .f32⟩
  | .hbm, ⟨44, _⟩ => ⟨S16x16x32, .f32⟩
  | .hbm, ⟨45, _⟩ => ⟨S_, .f32⟩
  | .hbm, ⟨46, _⟩ => ⟨S16x16x32, .f32⟩
  | .hbm, ⟨47, _⟩ => ⟨S16x16x32, .f32⟩
  | .hbm, ⟨48, _⟩ => ⟨S16x16x32x1, .f32⟩
  | .hbm, ⟨49, _⟩ => ⟨S16x16x32x1056, .f32⟩
  | .hbm, ⟨50, _⟩ => ⟨S16x16x32x1056, .f32⟩
  | .hbm, ⟨51, _⟩ => ⟨S16x16x32x1056, .f32⟩
  | .hbm, ⟨52, _⟩ => ⟨S_, .f32⟩
  | .hbm, ⟨53, _⟩ => ⟨S16x16x32, .f32⟩
  | .hbm, ⟨54, _⟩ => ⟨S16x16x32x1, .f32⟩
  | .hbm, ⟨55, _⟩ => ⟨S16x16x32x1056, .f32⟩
  | .hbm, ⟨56, _⟩ => ⟨S16x16x32x1056, .f32⟩
  | .hbm, ⟨57, _⟩ => ⟨S16x16x128x32, .f32⟩
  | .hbm, ⟨58, _⟩ => ⟨S16x32x16x128, .f32⟩
  | .hbm, ⟨59, _⟩ => ⟨S16x32x2048, .f32⟩
  | .hbm, ⟨60, _⟩ => ⟨S16x32x2048, .bf16⟩
  | _, _ => ⟨S16x32x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Prompt.lean ====
abbrev S8x2048x4096 : Shape := ⟨3, ![8, 2048, 4096]⟩
abbrev S1x4096x14384 : Shape := ⟨3, ![1, 4096, 14384]⟩
abbrev S4096x14384 : Shape := ⟨2, ![4096, 14384]⟩
abbrev S4096x8192 : Shape := ⟨2, ![4096, 8192]⟩
abbrev S4096x6144 : Shape := ⟨2, ![4096, 6144]⟩
abbrev S4096x14336 : Shape := ⟨2, ![4096, 14336]⟩
abbrev S4096x16 : Shape := ⟨2, ![4096, 16]⟩
abbrev S4096x32 : Shape := ⟨2, ![4096, 32]⟩
abbrev S4096x64 : Shape := ⟨2, ![4096, 64]⟩
abbrev S_ : Shape := ⟨0, ![]⟩
abbrev S4096x128 : Shape := ⟨2, ![4096, 128]⟩
abbrev S16384x4096 : Shape := ⟨2, ![16384, 4096]⟩
abbrev S16384x10240 : Shape := ⟨2, ![16384, 10240]⟩
abbrev S16384x2048 : Shape := ⟨2, ![16384, 2048]⟩
abbrev S16384x128 : Shape := ⟨2, ![16384, 128]⟩
abbrev S128x16384 : Shape := ⟨2, ![128, 16384]⟩
abbrev S4096x16384 : Shape := ⟨2, ![4096, 16384]⟩
abbrev S512x4096 : Shape := ⟨2, ![512, 4096]⟩
abbrev S4096x1024 : Shape := ⟨2, ![4096, 1024]⟩
abbrev S512x1024 : Shape := ⟨2, ![512, 1024]⟩
abbrev S512x128 : Shape := ⟨2, ![512, 128]⟩
abbrev S128x512 : Shape := ⟨2, ![128, 512]⟩
abbrev S1024x512 : Shape := ⟨2, ![1024, 512]⟩
abbrev S8x3x6144 : Shape := ⟨3, ![8, 3, 6144]⟩
abbrev S8x2048x10240 : Shape := ⟨3, ![8, 2048, 10240]⟩
abbrev S8x2048x6144 : Shape := ⟨3, ![8, 2048, 6144]⟩
abbrev S8x2051x6144 : Shape := ⟨3, ![8, 2051, 6144]⟩
abbrev S1x8x2048x16x128 : Shape := ⟨5, ![1, 8, 2048, 16, 128]⟩
abbrev S1x8x3x6144 : Shape := ⟨4, ![1, 8, 3, 6144]⟩

abbrev nBuf : Space → Nat
  | .hbm => 31
  | .vmem => 18
  | .smem => 0
  | _ => 0

abbrev bufTy : (tb : Table) → Fin (tcTables nBuf tb) → BufTy
  | .hbm, ⟨0, _⟩ => ⟨S8x2048x4096, .f32⟩
  | .hbm, ⟨1, _⟩ => ⟨S1x4096x14384, .f32⟩
  | .hbm, ⟨2, _⟩ => ⟨S4096x14384, .f32⟩
  | .hbm, ⟨3, _⟩ => ⟨S4096x8192, .f32⟩
  | .hbm, ⟨4, _⟩ => ⟨S4096x8192, .bf16⟩
  | .hbm, ⟨5, _⟩ => ⟨S4096x6144, .f32⟩
  | .hbm, ⟨6, _⟩ => ⟨S4096x6144, .bf16⟩
  | .hbm, ⟨7, _⟩ => ⟨S4096x14336, .bf16⟩
  | .hbm, ⟨8, _⟩ => ⟨S4096x16, .f32⟩
  | .hbm, ⟨9, _⟩ => ⟨S4096x32, .f32⟩
  | .hbm, ⟨10, _⟩ => ⟨S4096x64, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x128, .bf16⟩
  | .hbm, ⟨15, _⟩ => ⟨S16384x4096, .f32⟩
  | .hbm, ⟨16, _⟩ => ⟨S16384x10240, .f32⟩
  | .hbm, ⟨17, _⟩ => ⟨S16384x2048, .f32⟩
  | .hbm, ⟨18, _⟩ => ⟨S16384x2048, .f32⟩
  | .hbm, ⟨19, _⟩ => ⟨S16384x128, .f32⟩
  | .hbm, ⟨20, _⟩ => ⟨S128x16384, .f32⟩
  | .hbm, ⟨21, _⟩ => ⟨S4096x16384, .bf16⟩
  | .hbm, ⟨22, _⟩ => ⟨S_, .f32⟩
  | .hbm, ⟨23, _⟩ => ⟨S8x3x6144, .f32⟩
  | .hbm, ⟨24, _⟩ => ⟨S8x2048x10240, .f32⟩
  | .hbm, ⟨25, _⟩ => ⟨S8x2048x6144, .f32⟩
  | .hbm, ⟨26, _⟩ => ⟨S8x2051x6144, .f32⟩
  | .hbm, ⟨27, _⟩ => ⟨S8x3x6144, .f32⟩
  | .hbm, ⟨28, _⟩ => ⟨S1x8x2048x16x128, .f32⟩
  | .hbm, ⟨29, _⟩ => ⟨S1x8x2048x16x128, .f32⟩
  | .hbm, ⟨30, _⟩ => ⟨S1x8x3x6144, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S4096x128, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x128, .f32⟩
  | .local _ .vmem, ⟨12, _⟩ => ⟨S512x128, .f32⟩
  | .local _ .vmem, ⟨13, _⟩ => ⟨S128x512, .f32⟩
  | .local _ .vmem, ⟨14, _⟩ => ⟨S128x512, .f32⟩
  | .local _ .vmem, ⟨15, _⟩ => ⟨S1024x512, .bf16⟩
  | .local _ .vmem, ⟨16, _⟩ => ⟨S1024x512, .bf16⟩
  | .local _ .vmem, ⟨17, _⟩ => ⟨S512x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 14], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let c10_i32 : BitVec 32 := 10#32
  let v7 : BitVec 1 := Scalar.cmpi .slt arg1 c10_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c10_i32_4 : BitVec 32 := 10#32
  let v11 : BitVec 1 := Scalar.cmpi .sge arg1 c10_i32_4
  let c12_i32 : BitVec 32 := 12#32
  let v12 : BitVec 1 := Scalar.cmpi .slt arg1 c12_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c12_i32_6 : BitVec 32 := 12#32
  let v16 : BitVec 1 := Scalar.cmpi .sge arg1 c12_i32_6
  let v17 : BitVec 32 := Scalar.extui v16
  let c0_i32_7 : BitVec 32 := 0#32
  let v18 : BitVec 1 := Scalar.cmpi .ne v17 c0_i32_7
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg1 c10_i32
  let c8_i32 : BitVec 32 := 8#32
  let v1 : BitVec 32 := Scalar.subi arg1 c8_i32
  let c0_i32 : BitVec 32 := 0#32
  let v2 : BitVec 32 := Scalar.maxsi v1 c0_i32
  let c12_i32 : BitVec 32 := 12#32
  let v3 : BitVec 1 := Scalar.cmpi .slt arg1 c12_i32
  let c12_i32_0 : BitVec 32 := 12#32
  let v4 : BitVec 32 := Scalar.subi arg1 c12_i32_0
  let c2_i32 : BitVec 32 := 2#32
  let v5 : BitVec 32 := Scalar.addi v4 c2_i32
  let c1_i32 : BitVec 32 := 1#32
  let v6 : BitVec 32 := Scalar.select v3 c1_i32 v5
  let v7 : BitVec 32 := Scalar.select v0 v2 v6
  let c0_i32_1 : BitVec 32 := 0#32
  ![v7.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PromptRefIdeal.lean ====
abbrev S8x2048x4096 : Shape := ⟨3, ![8, 2048, 4096]⟩
abbrev S1x4096x14384 : Shape := ⟨3, ![1, 4096, 14384]⟩
abbrev S_ : Shape := ⟨0, ![]⟩
abbrev S8x3x6144 : Shape := ⟨3, ![8, 3, 6144]⟩
abbrev S4096x14384 : Shape := ⟨2, ![4096, 14384]⟩
abbrev S8x2048x14384 : Shape := ⟨3, ![8, 2048, 14384]⟩
abbrev S16384x14384 : Shape := ⟨2, ![16384, 14384]⟩
abbrev S16384x6144 : Shape := ⟨2, ![16384, 6144]⟩
abbrev S16384x2048 : Shape := ⟨2, ![16384, 2048]⟩
abbrev S16384x16 : Shape := ⟨2, ![16384, 16]⟩
abbrev S16384x10240 : Shape := ⟨2, ![16384, 10240]⟩
abbrev S16384x64 : Shape := ⟨2, ![16384, 64]⟩
abbrev S16384x128 : Shape := ⟨2, ![16384, 128]⟩
abbrev S1x8x2048x16x128 : Shape := ⟨5, ![1, 8, 2048, 16, 128]⟩
abbrev S8x2048x6144 : Shape := ⟨3, ![8, 2048, 6144]⟩
abbrev S8x2051x6144 : Shape := ⟨3, ![8, 2051, 6144]⟩
abbrev S1x8x3x6144 : Shape := ⟨4, ![1, 8, 3, 6144]⟩
abbrev S128x16384 : Shape := ⟨2, ![128, 16384]⟩
abbrev S16384x4096 : Shape := ⟨2, ![16384, 4096]⟩
abbrev S4096x16384 : Shape := ⟨2, ![4096, 16384]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096x14384, .f32⟩
  | .hbm, ⟨2, _⟩ => ⟨S_, .f32⟩
  | .hbm, ⟨3, _⟩ => ⟨S8x3x6144, .f32⟩
  | .hbm, ⟨4, _⟩ => ⟨S4096x14384, .f32⟩
  | .hbm, ⟨5, _⟩ => ⟨S8x2048x14384, .f32⟩
  | .hbm, ⟨6, _⟩ => ⟨S16384x14384, .f32⟩
  | .hbm, ⟨7, _⟩ => ⟨S16384x6144, .f32⟩
  | .hbm, ⟨8, _⟩ => ⟨S16384x2048, .f32⟩
  | .hbm, ⟨9, _⟩ => ⟨S16384x16, .f32⟩
  | .hbm, ⟨10, _⟩ => ⟨S16384x16, .f32⟩
  | .hbm, ⟨11, _⟩ => ⟨S16384x6144, .f32⟩
  | .hbm, ⟨12, _⟩ => ⟨S16384x16, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x10240, .f32⟩
  | .hbm, ⟨17, _⟩ => ⟨S_, .f32⟩
  | .hbm, ⟨18, _⟩ => ⟨S16384x64, .f32⟩
  | .hbm, ⟨19, _⟩ => ⟨S16384x128, .f32⟩
  | .hbm, ⟨20, _⟩ => ⟨S1x8x2048x16x128, .f32⟩
  | .hbm, ⟨21, _⟩ => ⟨S1x8x2048x16x128, .f32⟩
  | .hbm, ⟨22, _⟩ => ⟨S8x2048x6144, .f32⟩
  | .hbm, ⟨23, _⟩ => ⟨S8x2051x6144, .f32⟩
  | .hbm, ⟨24, _⟩ => ⟨S8x3x6144, .f32⟩
  | .hbm, ⟨25, _⟩ => ⟨S1x8x3x6144, .f32⟩
  | .hbm, ⟨26, _⟩ => ⟨S128x16384, .f32⟩
  | .hbm, ⟨27, _⟩ => ⟨S16384x4096, .f32⟩
  | .hbm, ⟨28, _⟩ => ⟨S4096x16384, .f32⟩
  | .hbm, ⟨29, _⟩ => ⟨S4096x16384, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Sample.lean ====
abbrev S16x32x4096 : Shape := ⟨3, ![16, 32, 4096]⟩
abbrev S1x4096x14384 : Shape := ⟨3, ![1, 4096, 14384]⟩
abbrev S1x16x3x6144 : Shape := ⟨4, ![1, 16, 3, 6144]⟩
abbrev S4096x14384 : Shape := ⟨2, ![4096, 14384]⟩
abbrev S4096x8192 : Shape := ⟨2, ![4096, 8192]⟩
abbrev S4096x6144 : Shape := ⟨2, ![4096, 6144]⟩
abbrev S4096x14336 : Shape := ⟨2, ![4096, 14336]⟩
abbrev S4096x16 : Shape := ⟨2, ![4096, 16]⟩
abbrev S4096x32 : Shape := ⟨2, ![4096, 32]⟩
abbrev S4096x64 : Shape := ⟨2, ![4096, 64]⟩
abbrev S_ : Shape := ⟨0, ![]⟩
abbrev S4096x128 : Shape := ⟨2, ![4096, 128]⟩
abbrev S512x4096 : Shape := ⟨2, ![512, 4096]⟩
abbrev S512x10240 : Shape := ⟨2, ![512, 10240]⟩
abbrev S512x2048 : Shape := ⟨2, ![512, 2048]⟩
abbrev S512x128 : Shape := ⟨2, ![512, 128]⟩
abbrev S128x512 : Shape := ⟨2, ![128, 512]⟩
abbrev S4096x1024 : Shape := ⟨2, ![4096, 1024]⟩
abbrev S512x1024 : Shape := ⟨2, ![512, 1024]⟩
abbrev S16x3x6144 : Shape := ⟨3, ![16, 3, 6144]⟩
abbrev S16x32x10240 : Shape := ⟨3, ![16, 32, 10240]⟩
abbrev S16x32x6144 : Shape := ⟨3, ![16, 32, 6144]⟩
abbrev S16x35x6144 : Shape := ⟨3, ![16, 35, 6144]⟩
abbrev S1x16x32x16x128 : Shape := ⟨5, ![1, 16, 32, 16, 128]⟩

abbrev nBuf : Space → Nat
  | .hbm => 30
  | .vmem => 13
  | .smem => 0
  | _ => 0

abbrev bufTy : (tb : Table) → Fin (tcTables nBuf tb) → BufTy
  | .hbm, ⟨0, _⟩ => ⟨S16x32x4096, .f32⟩
  | .hbm, ⟨1, _⟩ => ⟨S1x4096x14384, .f32⟩
  | .hbm, ⟨2, _⟩ => ⟨S1x16x3x6144, .f32⟩
  | .hbm, ⟨3, _⟩ => ⟨S4096x14384, .f32⟩
  | .hbm, ⟨4, _⟩ => ⟨S4096x8192, .f32⟩
  | .hbm, ⟨5, _⟩ => ⟨S4096x8192, .bf16⟩
  | .hbm, ⟨6, _⟩ => ⟨S4096x6144, .f32⟩
  | .hbm, ⟨7, _⟩ => ⟨S4096x6144, .bf16⟩
  | .hbm, ⟨8, _⟩ => ⟨S4096x14336, .bf16⟩
  | .hbm, ⟨9, _⟩ => ⟨S4096x16, .f32⟩
  | .hbm, ⟨10, _⟩ => ⟨S4096x32, .f32⟩
  | .hbm, ⟨11, _⟩ => ⟨S4096x64, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S512x4096, .f32⟩
  | .hbm, ⟨17, _⟩ => ⟨S512x10240, .f32⟩
  | .hbm, ⟨18, _⟩ => ⟨S512x2048, .f32⟩
  | .hbm, ⟨19, _⟩ => ⟨S512x2048, .f32⟩
  | .hbm, ⟨20, _⟩ => ⟨S512x128, .f32⟩
  | .hbm, ⟨21, _⟩ => ⟨S128x512, .f32⟩
  | .hbm, ⟨22, _⟩ => ⟨S16x3x6144, .f32⟩
  | .hbm, ⟨23, _⟩ => ⟨S16x32x10240, .f32⟩
  | .hbm, ⟨24, _⟩ => ⟨S16x32x6144, .f32⟩
  | .hbm, ⟨25, _⟩ => ⟨S16x35x6144, .f32⟩
  | .hbm, ⟨26, _⟩ => ⟨S16x3x6144, .f32⟩
  | .hbm, ⟨27, _⟩ => ⟨S1x16x32x16x128, .f32⟩
  | .hbm, ⟨28, _⟩ => ⟨S1x16x32x16x128, .f32⟩
  | .hbm, ⟨29, _⟩ => ⟨S1x16x3x6144, .f32⟩
  | .local _ .vmem, ⟨0, _⟩ => ⟨S512x4096, .f32⟩
  | .local _ .vmem, ⟨1, _⟩ => ⟨S4096x1024, .bf16⟩
  | .local _ .vmem, ⟨2, _⟩ => ⟨S4096x1024, .bf16⟩
  | .local _ .vmem, ⟨3, _⟩ => ⟨S4096x128, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S128x512, .f32⟩
  | .local _ .vmem, ⟨12, _⟩ => ⟨S512x4096, .bf16⟩
  | _, _ => ⟨S16x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 14], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let c10_i32 : BitVec 32 := 10#32
  let v7 : BitVec 1 := Scalar.cmpi .slt arg1 c10_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c10_i32_4 : BitVec 32 := 10#32
  let v11 : BitVec 1 := Scalar.cmpi .sge arg1 c10_i32_4
  let c12_i32 : BitVec 32 := 12#32
  let v12 : BitVec 1 := Scalar.cmpi .slt arg1 c12_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c12_i32_6 : BitVec 32 := 12#32
  let v16 : BitVec 1 := Scalar.cmpi .sge arg1 c12_i32_6
  let v17 : BitVec 32 := Scalar.extui v16
  let c0_i32_7 : BitVec 32 := 0#32
  let v18 : BitVec 1 := Scalar.cmpi .ne v17 c0_i32_7
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== SampleRefIdeal.lean ====
abbrev S16x32x4096 : Shape := ⟨3, ![16, 32, 4096]⟩
abbrev S1x4096x14384 : Shape := ⟨3, ![1, 4096, 14384]⟩
abbrev S1x16x3x6144 : Shape := ⟨4, ![1, 16, 3, 6144]⟩
abbrev S16x3x6144 : Shape := ⟨3, ![16, 3, 6144]⟩
abbrev S4096x14384 : Shape := ⟨2, ![4096, 14384]⟩
abbrev S16x32x14384 : Shape := ⟨3, ![16, 32, 14384]⟩
abbrev S512x14384 : Shape := ⟨2, ![512, 14384]⟩
abbrev S512x6144 : Shape := ⟨2, ![512, 6144]⟩
abbrev S512x2048 : Shape := ⟨2, ![512, 2048]⟩
abbrev S512x16 : Shape := ⟨2, ![512, 16]⟩
abbrev S512x10240 : Shape := ⟨2, ![512, 10240]⟩
abbrev S_ : Shape := ⟨0, ![]⟩
abbrev S512x64 : Shape := ⟨2, ![512, 64]⟩
abbrev S512x128 : Shape := ⟨2, ![512, 128]⟩
abbrev S1x16x32x16x128 : Shape := ⟨5, ![1, 16, 32, 16, 128]⟩
abbrev S16x32x6144 : Shape := ⟨3, ![16, 32, 6144]⟩
abbrev S16x35x6144 : Shape := ⟨3, ![16, 35, 6144]⟩
abbrev S128x512 : Shape := ⟨2, ![128, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x32x4096, .f32⟩
  | .hbm, ⟨1, _⟩ => ⟨S1x4096x14384, .f32⟩
  | .hbm, ⟨2, _⟩ => ⟨S1x16x3x6144, .f32⟩
  | .hbm, ⟨3, _⟩ => ⟨S16x3x6144, .f32⟩
  | .hbm, ⟨4, _⟩ => ⟨S4096x14384, .f32⟩
  | .hbm, ⟨5, _⟩ => ⟨S16x32x14384, .f32⟩
  | .hbm, ⟨6, _⟩ => ⟨S512x14384, .f32⟩
  | .hbm, ⟨7, _⟩ => ⟨S512x6144, .f32⟩
  | .hbm, ⟨8, _⟩ => ⟨S512x2048, .f32⟩
  | .hbm, ⟨9, _⟩ => ⟨S512x16, .f32⟩
  | .hbm, ⟨10, _⟩ => ⟨S512x16, .f32⟩
  | .hbm, ⟨11, _⟩ => ⟨S512x6144, .f32⟩
  | .hbm, ⟨12, _⟩ => ⟨S512x16, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x10240, .f32⟩
  | .hbm, ⟨17, _⟩ => ⟨S_, .f32⟩
  | .hbm, ⟨18, _⟩ => ⟨S512x64, .f32⟩
  | .hbm, ⟨19, _⟩ => ⟨S512x128, .f32⟩
  | .hbm, ⟨20, _⟩ => ⟨S1x16x32x16x128, .f32⟩
  | .hbm, ⟨21, _⟩ => ⟨S1x16x32x16x128, .f32⟩
  | .hbm, ⟨22, _⟩ => ⟨S16x32x6144, .f32⟩
  | .hbm, ⟨23, _⟩ => ⟨S16x35x6144, .f32⟩
  | .hbm, ⟨24, _⟩ => ⟨S16x3x6144, .f32⟩
  | .hbm, ⟨25, _⟩ => ⟨S1x16x3x6144, .f32⟩
  | .hbm, ⟨26, _⟩ => ⟨S128x512, .f32⟩
  | _, _ => ⟨S16x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Mix.lean ====
abbrev S8x2048x2048 : Shape := ⟨3, ![8, 2048, 2048]⟩
abbrev S8x2048x4096 : Shape := ⟨3, ![8, 2048, 4096]⟩
abbrev S1x4096x4096 : Shape := ⟨3, ![1, 4096, 4096]⟩
abbrev S1x4096 : Shape := ⟨2, ![1, 4096]⟩
abbrev S4096x4096 : Shape := ⟨2, ![4096, 4096]⟩
abbrev S16384x2048 : Shape := ⟨2, ![16384, 2048]⟩
abbrev S16384x4096 : Shape := ⟨2, ![16384, 4096]⟩
abbrev S4096 : Shape := ⟨1, ![4096]⟩
abbrev S4096x16384 : Shape := ⟨2, ![4096, 16384]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S4096x512 : Shape := ⟨2, ![4096, 512]⟩
abbrev S32x4096 : Shape := ⟨2, ![32, 4096]⟩
abbrev S32 : Shape := ⟨1, ![32]⟩
abbrev S32x1 : Shape := ⟨2, ![32, 1]⟩
abbrev S128x512 : Shape := ⟨2, ![128, 512]⟩
abbrev S512x128 : Shape := ⟨2, ![512, 128]⟩

abbrev nBuf : Space → Nat
  | .hbm => 17
  | .vmem => 16
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S8x2048x4096, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .bf16⟩
  | .hbm, ⟨8, _⟩ => ⟨S16384x2048, .bf16⟩
  | .hbm, ⟨9, _⟩ => ⟨S16384x2048, .bf16⟩
  | .hbm, ⟨10, _⟩ => ⟨S16384x4096, .f32⟩
  | .hbm, ⟨11, _⟩ => ⟨S4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S16384x4096, .f32⟩
  | .hbm, ⟨16, _⟩ => ⟨S4096x16384, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S1x4096, .f32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | .local _ .vmem, ⟨14, _⟩ => ⟨S4096x512, .bf16⟩
  | .local _ .vmem, ⟨15, _⟩ => ⟨S4096x512, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let c0_11 : Index := 0#32
  let arg1 : BitVec 32 := BitVec.ofNat 32 (i 1).val
  let c512_i32 : BitVec 32 := 512#32
  let v0 : BitVec 32 := Scalar.muli arg1 c512_i32
  let v1 : BitVec 32 := v0
  let v18 : Index := Scalar.indexCast v1
  ![0, v18.toNat]
def k0_cond1 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32 : BitVec 32 := 0#32
  let v22 : BitVec 1 := Scalar.cmpi .ne v21 c0_i32
  v22

@[reducible] def k0_t1_loop : Scf.Loop 32 :=
  let c0_i32_12 : BitVec 32 := 0#32
  let c16_i32 : BitVec 32 := 16#32
  let v23 : BitVec 32 := Scalar.addi c0_i32_12 c16_i32
  let c1_i32 : BitVec 32 := 1#32
  ⟨c0_i32_12, v23, c1_i32⟩
def k0_mult2 (k0_t1 : Fin k0_t1_loop.trips) : BitVec 32 :=
  let c0_i32_12 : BitVec 32 := 0#32
  let c1_i32 : BitVec 32 := 1#32
  let arg11 : BitVec 32 := Scf.iv c0_i32_12 c1_i32 k0_t1
  let c32_i32 : BitVec 32 := 32#32
  let v184 : BitVec 32 := Scalar.muli arg11 c32_i32
  v184
def k0_off2 (k0_t1 : Fin k0_t1_loop.trips) : Fin 2 → Nat :=
  let c0_i32_12 : BitVec 32 := 0#32
  let c1_i32 : BitVec 32 := 1#32
  let arg11 : BitVec 32 := Scf.iv c0_i32_12 c1_i32 k0_t1
  let c32_i32 : BitVec 32 := 32#32
  let v184 : BitVec 32 := Scalar.muli arg11 c32_i32
  let v185 : BitVec 32 := v184
  let v186 : Index := Scalar.indexCast v185
  let c0_132 : Index := 0#32
  ![v186.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixRefIdeal.lean ====
abbrev S8x2048x2048 : Shape := ⟨3, ![8, 2048, 2048]⟩
abbrev S8x2048x4096 : Shape := ⟨3, ![8, 2048, 4096]⟩
abbrev S1x4096x4096 : Shape := ⟨3, ![1, 4096, 4096]⟩
abbrev S1x4096 : Shape := ⟨2, ![1, 4096]⟩
abbrev S4096x4096 : Shape := ⟨2, ![4096, 4096]⟩
abbrev S_ : Shape := ⟨0, ![]⟩
abbrev S4096 : Shape := ⟨1, ![4096]⟩
abbrev S8x2048 : Shape := ⟨2, ![8, 2048]⟩
abbrev S8x2048x1 : Shape := ⟨3, ![8, 2048, 1]⟩
abbrev S1x1x4096 : Shape := ⟨3, ![1, 1, 4096]⟩
abbrev S16384x4096 : Shape := ⟨2, ![16384, 4096]⟩
abbrev S4096x16384 : Shape := ⟨2, ![4096, 16384]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S8x2048x4096, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S8x2048x2048, .f32⟩
  | .hbm, ⟨7, _⟩ => ⟨S8x2048x2048, .f32⟩
  | .hbm, ⟨8, _⟩ => ⟨S8x2048x4096, .f32⟩
  | .hbm, ⟨9, _⟩ => ⟨S4096x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x4096, .f32⟩
  | .hbm, ⟨33, _⟩ => ⟨S8x2048x4096, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x4096, .f32⟩
  | .hbm, ⟨39, _⟩ => ⟨S8x2048x4096, .f32⟩
  | .hbm, ⟨40, _⟩ => ⟨S1x1x4096, .f32⟩
  | .hbm, ⟨41, _⟩ => ⟨S8x2048x4096, .f32⟩
  | .hbm, ⟨42, _⟩ => ⟨S8x2048x4096, .f32⟩
  | .hbm, ⟨43, _⟩ => ⟨S1x1x4096, .f32⟩
  | .hbm, ⟨44, _⟩ => ⟨S8x2048x4096, .f32⟩
  | .hbm, ⟨45, _⟩ => ⟨S8x2048x4096, .f32⟩
  | .hbm, ⟨46, _⟩ => ⟨S16384x4096, .f32⟩
  | .hbm, ⟨47, _⟩ => ⟨S4096x16384, .f32⟩
  | .hbm, ⟨48, _⟩ => ⟨S4096x16384, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MixS.lean ====
abbrev S16x32x2048 : Shape := ⟨3, ![16, 32, 2048]⟩
abbrev S16x32x4096 : Shape := ⟨3, ![16, 32, 4096]⟩
abbrev S1x4096x4096 : Shape := ⟨3, ![1, 4096, 4096]⟩
abbrev S1x4096 : Shape := ⟨2, ![1, 4096]⟩
abbrev S4096x4096 : Shape := ⟨2, ![4096, 4096]⟩
abbrev S512x2048 : Shape := ⟨2, ![512, 2048]⟩
abbrev S512x4096 : Shape := ⟨2, ![512, 4096]⟩
abbrev S4096 : Shape := ⟨1, ![4096]⟩
abbrev S4096x512 : Shape := ⟨2, ![4096, 512]⟩
abbrev S2048x512 : Shape := ⟨2, ![2048, 512]⟩
abbrev S512x512 : Shape := ⟨2, ![512, 512]⟩
abbrev S32x4096 : Shape := ⟨2, ![32, 4096]⟩
abbrev S32 : Shape := ⟨1, ![32]⟩
abbrev S32x1 : Shape := ⟨2, ![32, 1]⟩
abbrev S128x512 : Shape := ⟨2, ![128, 512]⟩
abbrev S512x128 : Shape := ⟨2, ![512, 128]⟩

abbrev nBuf : Space → Nat
  | .hbm => 17
  | .vmem => 12
  | .smem => 0
  | _ => 0

abbrev bufTy : (tb : Table) → Fin (tcTables nBuf tb) → BufTy
  | .hbm, ⟨0, _⟩ => ⟨S16x32x2048, .bf16⟩
  | .hbm, ⟨1, _⟩ => ⟨S16x32x2048, .bf16⟩
  | .hbm, ⟨2, _⟩ => ⟨S16x32x4096, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .bf16⟩
  | .hbm, ⟨8, _⟩ => ⟨S512x2048, .bf16⟩
  | .hbm, ⟨9, _⟩ => ⟨S512x2048, .bf16⟩
  | .hbm, ⟨10, _⟩ => ⟨S512x4096, .f32⟩
  | .hbm, ⟨11, _⟩ => ⟨S4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S512x4096, .f32⟩
  | .hbm, ⟨16, _⟩ => ⟨S4096x512, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S4096x512, .bf16⟩
  | _, _ => ⟨S16x32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let c0_11 : Index := 0#32
  let arg1 : BitVec 32 := BitVec.ofNat 32 (i 1).val
  let c512_i32 : BitVec 32 := 512#32
  let v0 : BitVec 32 := Scalar.muli arg1 c512_i32
  let v1 : BitVec 32 := v0
  let v18 : Index := Scalar.indexCast v1
  ![0, v18.toNat]
def k0_cond1 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32 : BitVec 32 := 0#32
  let v22 : BitVec 1 := Scalar.cmpi .ne v21 c0_i32
  v22

@[reducible] def k0_t1_loop : Scf.Loop 32 :=
  let c0_i32_12 : BitVec 32 := 0#32
  let c16_i32 : BitVec 32 := 16#32
  let v23 : BitVec 32 := Scalar.addi c0_i32_12 c16_i32
  let c1_i32 : BitVec 32 := 1#32
  ⟨c0_i32_12, v23, c1_i32⟩
def k0_mult2 (k0_t1 : Fin k0_t1_loop.trips) : BitVec 32 :=
  let c0_i32_12 : BitVec 32 := 0#32
  let c1_i32 : BitVec 32 := 1#32
  let arg11 : BitVec 32 := Scf.iv c0_i32_12 c1_i32 k0_t1
  let c32_i32 : BitVec 32 := 32#32
  let v184 : BitVec 32 := Scalar.muli arg11 c32_i32
  v184
def k0_off2 (k0_t1 : Fin k0_t1_loop.trips) : Fin 2 → Nat :=
  let c0_i32_12 : BitVec 32 := 0#32
  let c1_i32 : BitVec 32 := 1#32
  let arg11 : BitVec 32 := Scf.iv c0_i32_12 c1_i32 k0_t1
  let c32_i32 : BitVec 32 := 32#32
  let v184 : BitVec 32 := Scalar.muli arg11 c32_i32
  let v185 : BitVec 32 := v184
  let v186 : Index := Scalar.indexCast v185
  let c0_132 : Index := 0#32
  ![v186.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MixSRefIdeal.lean ====
abbrev S16x32x2048 : Shape := ⟨3, ![16, 32, 2048]⟩
abbrev S16x32x4096 : Shape := ⟨3, ![16, 32, 4096]⟩
abbrev S1x4096x4096 : Shape := ⟨3, ![1, 4096, 4096]⟩
abbrev S1x4096 : Shape := ⟨2, ![1, 4096]⟩
abbrev S4096x4096 : Shape := ⟨2, ![4096, 4096]⟩
abbrev S_ : Shape := ⟨0, ![]⟩
abbrev S4096 : Shape := ⟨1, ![4096]⟩
abbrev S16x32 : Shape := ⟨2, ![16, 32]⟩
abbrev S16x32x1 : Shape := ⟨3, ![16, 32, 1]⟩
abbrev S1x1x4096 : Shape := ⟨3, ![1, 1, 4096]⟩
abbrev S512x4096 : Shape := ⟨2, ![512, 4096]⟩
abbrev S4096x512 : Shape := ⟨2, ![4096, 512]⟩

abbrev nBuf : Space → Nat
  | .hbm => 49
  | .vmem => 0
  | .smem => 0
  | _ => 0

abbrev bufTy : (tb : Table) → Fin (tcTables nBuf tb) → BufTy
  | .hbm, ⟨0, _⟩ => ⟨S16x32x2048, .bf16⟩
  | .hbm, ⟨1, _⟩ => ⟨S16x32x2048, .bf16⟩
  | .hbm, ⟨2, _⟩ => ⟨S16x32x4096, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S16x32x2048, .f32⟩
  | .hbm, ⟨7, _⟩ => ⟨S16x32x2048, .f32⟩
  | .hbm, ⟨8, _⟩ => ⟨S16x32x4096, .f32⟩
  | .hbm, ⟨9, _⟩ => ⟨S4096x4096, .f32⟩
  | .hbm, ⟨10, _⟩ => ⟨S16x32x4096, .f32⟩
  | .hbm, ⟨11, _⟩ => ⟨S_, .f32⟩
  | .hbm, ⟨12, _⟩ => ⟨S16x32x4096, .f32⟩
  | .hbm, ⟨13, _⟩ => ⟨S16x32x4096, .f32⟩
  | .hbm, ⟨14, _⟩ => ⟨S16x32x4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S16x32, .f32⟩
  | .hbm, ⟨19, _⟩ => ⟨S16x32x1, .f32⟩
  | .hbm, ⟨20, _⟩ => ⟨S_, .f32⟩
  | .hbm, ⟨21, _⟩ => ⟨S16x32x1, .f32⟩
  | .hbm, ⟨22, _⟩ => ⟨S16x32x1, .f32⟩
  | .hbm, ⟨23, _⟩ => ⟨S16x32x4096, .f32⟩
  | .hbm, ⟨24, _⟩ => ⟨S16x32x4096, .f32⟩
  | .hbm, ⟨25, _⟩ => ⟨S16x32x4096, .f32⟩
  | .hbm, ⟨26, _⟩ => ⟨S_, .f32⟩
  | .hbm, ⟨27, _⟩ => ⟨S16x32, .f32⟩
  | .hbm, ⟨28, _⟩ => ⟨S16x32x1, .f32⟩
  | .hbm, ⟨29, _⟩ => ⟨S_, .f32⟩
  | .hbm, ⟨30, _⟩ => ⟨S16x32x1, .f32⟩
  | .hbm, ⟨31, _⟩ => ⟨S16x32x1, .f32⟩
  | .hbm, ⟨32, _⟩ => ⟨S16x32x4096, .f32⟩
  | .hbm, ⟨33, _⟩ => ⟨S16x32x4096, .f32⟩
  | .hbm, ⟨34, _⟩ => ⟨S_, .f32⟩
  | .hbm, ⟨35, _⟩ => ⟨S16x32x1, .f32⟩
  | .hbm, ⟨36, _⟩ => ⟨S16x32x1, .f32⟩
  | .hbm, ⟨37, _⟩ => ⟨S16x32x1, .f32⟩
  | .hbm, ⟨38, _⟩ => ⟨S16x32x4096, .f32⟩
  | .hbm, ⟨39, _⟩ => ⟨S16x32x4096, .f32⟩
  | .hbm, ⟨40, _⟩ => ⟨S1x1x4096, .f32⟩
  | .hbm, ⟨41, _⟩ => ⟨S16x32x4096, .f32⟩
  | .hbm, ⟨42, _⟩ => ⟨S16x32x4096, .f32⟩
  | .hbm, ⟨43, _⟩ => ⟨S1x1x4096, .f32⟩
  | .hbm, ⟨44, _⟩ => ⟨S16x32x4096, .f32⟩
  | .hbm, ⟨45, _⟩ => ⟨S16x32x4096, .f32⟩
  | .hbm, ⟨46, _⟩ => ⟨S512x4096, .f32⟩
  | .hbm, ⟨47, _⟩ => ⟨S4096x512, .f32⟩
  | .hbm, ⟨48, _⟩ => ⟨S4096x512, .bf16⟩
  | _, _ => ⟨S16x32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== End.lean ====
abbrev S16384x4096 : Shape := ⟨2, ![16384, 4096]⟩
abbrev S4096x16384 : Shape := ⟨2, ![4096, 16384]⟩
abbrev S1x4096 : Shape := ⟨2, ![1, 4096]⟩
abbrev S4096 : Shape := ⟨1, ![4096]⟩
abbrev S256x4096 : Shape := ⟨2, ![256, 4096]⟩
abbrev S4096x256 : Shape := ⟨2, ![4096, 256]⟩
abbrev S256x512 : Shape := ⟨2, ![256, 512]⟩
abbrev S512x256 : Shape := ⟨2, ![512, 256]⟩
abbrev S32x4096 : Shape := ⟨2, ![32, 4096]⟩
abbrev S32 : Shape := ⟨1, ![32]⟩
abbrev S32x1 : Shape := ⟨2, ![32, 1]⟩
abbrev S8x2048x4096 : Shape := ⟨3, ![8, 2048, 4096]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v56 : BitVec 32 := Scalar.addi c0_i32 c8_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v57 : BitVec 32 := Scalar.muli arg6 c32_i32
  v57
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v57 : BitVec 32 := Scalar.muli arg6 c32_i32
  let v58 : BitVec 32 := v57
  let v59 : Index := Scalar.indexCast v58
  let c0_48 : Index := 0#32
  ![v59.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EndRefIdeal.lean ====
abbrev S16384x4096 : Shape := ⟨2, ![16384, 4096]⟩
abbrev S4096x16384 : Shape := ⟨2, ![4096, 16384]⟩
abbrev S1x4096 : Shape := ⟨2, ![1, 4096]⟩
abbrev S_ : Shape := ⟨0, ![]⟩
abbrev S4096 : Shape := ⟨1, ![4096]⟩
abbrev S16384 : Shape := ⟨1, ![16384]⟩
abbrev S16384x1 : Shape := ⟨2, ![16384, 1]⟩
abbrev S8x2048x4096 : Shape := ⟨3, ![8, 2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S8x2048x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== EndS.lean ====
abbrev S512x4096 : Shape := ⟨2, ![512, 4096]⟩
abbrev S4096x512 : Shape := ⟨2, ![4096, 512]⟩
abbrev S1x4096 : Shape := ⟨2, ![1, 4096]⟩
abbrev S4096 : Shape := ⟨1, ![4096]⟩
abbrev S256x4096 : Shape := ⟨2, ![256, 4096]⟩
abbrev S4096x256 : Shape := ⟨2, ![4096, 256]⟩
abbrev S256x512 : Shape := ⟨2, ![256, 512]⟩
abbrev S512x256 : Shape := ⟨2, ![512, 256]⟩
abbrev S32x4096 : Shape := ⟨2, ![32, 4096]⟩
abbrev S32 : Shape := ⟨1, ![32]⟩
abbrev S32x1 : Shape := ⟨2, ![32, 1]⟩
abbrev S16x32x4096 : Shape := ⟨3, ![16, 32, 4096]⟩

abbrev nBuf : Space → Nat
  | .hbm => 10
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S512x4096, .f32⟩
  | .hbm, ⟨9, _⟩ => ⟨S16x32x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c8_i32 : BitVec 32 := 8#32
  let v56 : BitVec 32 := Scalar.addi c0_i32 c8_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v57 : BitVec 32 := Scalar.muli arg6 c32_i32
  v57
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v57 : BitVec 32 := Scalar.muli arg6 c32_i32
  let v58 : BitVec 32 := v57
  let v59 : Index := Scalar.indexCast v58
  let c0_48 : Index := 0#32
  ![v59.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EndSRefIdeal.lean ====
abbrev S512x4096 : Shape := ⟨2, ![512, 4096]⟩
abbrev S4096x512 : Shape := ⟨2, ![4096, 512]⟩
abbrev S1x4096 : Shape := ⟨2, ![1, 4096]⟩
abbrev S_ : Shape := ⟨0, ![]⟩
abbrev S4096 : Shape := ⟨1, ![4096]⟩
abbrev S512 : Shape := ⟨1, ![512]⟩
abbrev S512x1 : Shape := ⟨2, ![512, 1]⟩
abbrev S16x32x4096 : Shape := ⟨3, ![16, 32, 4096]⟩

abbrev nBuf : Space → Nat
  | .hbm => 41
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x4096, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x4096, .f32⟩
  | .hbm, ⟨33, _⟩ => ⟨S512x4096, .f32⟩
  | .hbm, ⟨34, _⟩ => ⟨S1x4096, .f32⟩
  | .hbm, ⟨35, _⟩ => ⟨S512x4096, .f32⟩
  | .hbm, ⟨36, _⟩ => ⟨S512x4096, .f32⟩
  | .hbm, ⟨37, _⟩ => ⟨S1x4096, .f32⟩
  | .hbm, ⟨38, _⟩ => ⟨S512x4096, .f32⟩
  | .hbm, ⟨39, _⟩ => ⟨S512x4096, .f32⟩
  | .hbm, ⟨40, _⟩ => ⟨S16x32x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== GateS.lean ====
abbrev S512x128 : Shape := ⟨2, ![512, 128]⟩
abbrev S128x512 : Shape := ⟨2, ![128, 512]⟩
abbrev S16x1x128 : Shape := ⟨3, ![16, 1, 128]⟩
abbrev S16x128x1 : Shape := ⟨3, ![16, 128, 1]⟩
abbrev S1x16 : Shape := ⟨2, ![1, 16]⟩
abbrev S_ : Shape := ⟨0, ![]⟩
abbrev S16 : Shape := ⟨1, ![16]⟩
abbrev S128 : Shape := ⟨1, ![128]⟩
abbrev S64 : Shape := ⟨1, ![64]⟩
abbrev S1x128 : Shape := ⟨2, ![1, 128]⟩
abbrev S2x128 : Shape := ⟨2, ![2, 128]⟩
abbrev S128x2 : Shape := ⟨2, ![128, 2]⟩
abbrev S128x16x32 : Shape := ⟨3, ![128, 16, 32]⟩
abbrev S16x128x32 : Shape := ⟨3, ![16, 128, 32]⟩
abbrev S16x32x128 : Shape := ⟨3, ![16, 32, 128]⟩
abbrev S16x1x128x32 : Shape := ⟨4, ![16, 1, 128, 32]⟩
abbrev S1x32x128 : Shape := ⟨3, ![1, 32, 128]⟩
abbrev S1x128x32 : Shape := ⟨3, ![1, 128, 32]⟩
abbrev S1x1x128 : Shape := ⟨3, ![1, 1, 128]⟩
abbrev S1x128x1 : Shape := ⟨3, ![1, 128, 1]⟩
abbrev S1x1x128x32 : Shape := ⟨4, ![1, 1, 128, 32]⟩
abbrev S32x32 : Shape := ⟨2, ![32, 32]⟩
abbrev S32x128 : Shape := ⟨2, ![32, 128]⟩
abbrev S128x32 : Shape := ⟨2, ![128, 32]⟩
abbrev S128x1 : Shape := ⟨2, ![128, 1]⟩
abbrev S16x32x16 : Shape := ⟨3, ![16, 32, 16]⟩
abbrev S1x16x32x16 : Shape := ⟨4, ![1, 16, 32, 16]⟩

abbrev nBuf : Space → Nat
  | .hbm => 32
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S128x512, .f32⟩
  | .hbm, ⟨2, _⟩ => ⟨S16x1x128, .f32⟩
  | .hbm, ⟨3, _⟩ => ⟨S16x128x1, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S64, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S128x2, .f32⟩
  | .hbm, ⟨24, _⟩ => ⟨S128x16x32, .f32⟩
  | .hbm, ⟨25, _⟩ => ⟨S16x128x32, .f32⟩
  | .hbm, ⟨26, _⟩ => ⟨S16x32x128, .f32⟩
  | .hbm, ⟨27, _⟩ => ⟨S16x32x128, .f32⟩
  | .hbm, ⟨28, _⟩ => ⟨S16x1x128x32, .f32⟩
  | .hbm, ⟨29, _⟩ => ⟨S16x128x32, .f32⟩
  | .hbm, ⟨30, _⟩ => ⟨S16x32x16, .f32⟩
  | .hbm, ⟨31, _⟩ => ⟨S1x16x32x16, .f32⟩
  | .local _ .vmem, ⟨0, _⟩ => ⟨S1x32x128, .f32⟩
  | .local _ .vmem, ⟨1, _⟩ => ⟨S1x32x128, .f32⟩
  | .local _ .vmem, ⟨2, _⟩ => ⟨S1x128x32, .f32⟩
  | .local _ .vmem, ⟨3, _⟩ => ⟨S1x128x32, .f32⟩
  | .local _ .vmem, ⟨4, _⟩ => ⟨S1x1x128, .f32⟩
  | .local _ .vmem, ⟨5, _⟩ => ⟨S1x1x128, .f32⟩
  | .local _ .vmem, ⟨6, _⟩ => ⟨S1x128x1, .f32⟩
  | .local _ .vmem, ⟨7, _⟩ => ⟨S1x128x1, .f32⟩
  | .local _ .vmem, ⟨8, _⟩ => ⟨S2x128, .f32⟩
  | .local _ .vmem, ⟨9, _⟩ => ⟨S128x2, .f32⟩
  | .local _ .vmem, ⟨10, _⟩ => ⟨S1x32x128, .f32⟩
  | .local _ .vmem, ⟨11, _⟩ => ⟨S1x32x128, .f32⟩
  | .local _ .vmem, ⟨12, _⟩ => ⟨S1x1x128x32, .f32⟩
  | .local _ .vmem, ⟨13, _⟩ => ⟨S1x1x128x32, .f32⟩
  | .local _ .vmem, ⟨14, _⟩ => ⟨S1x128x32, .f32⟩
  | .local _ .vmem, ⟨15, _⟩ => ⟨S1x128x32, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateSRefIdeal.lean ====
abbrev S512x128 : Shape := ⟨2, ![512, 128]⟩
abbrev S128x512 : Shape := ⟨2, ![128, 512]⟩
abbrev S16x1x128 : Shape := ⟨3, ![16, 1, 128]⟩
abbrev S16x128x1 : Shape := ⟨3, ![16, 128, 1]⟩
abbrev S1x16 : Shape := ⟨2, ![1, 16]⟩
abbrev S16x32x128 : Shape := ⟨3, ![16, 32, 128]⟩
abbrev S16x32x16 : Shape := ⟨3, ![16, 32, 16]⟩
abbrev S16 : Shape := ⟨1, ![16]⟩
abbrev S1x1x16 : Shape := ⟨3, ![1, 1, 16]⟩
abbrev S_ : Shape := ⟨0, ![]⟩
abbrev S1x16x32x16 : Shape := ⟨4, ![1, 16, 32, 16]⟩

abbrev nBuf : Space → Nat
  | .hbm => 30
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S128x512, .f32⟩
  | .hbm, ⟨2, _⟩ => ⟨S16x1x128, .f32⟩
  | .hbm, ⟨3, _⟩ => ⟨S16x128x1, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S16x32x128, .f32⟩
  | .hbm, ⟨8, _⟩ => ⟨S16x32x16, .f32⟩
  | .hbm, ⟨9, _⟩ => ⟨S16, .f32⟩
  | .hbm, ⟨10, _⟩ => ⟨S1x1x16, .f32⟩
  | .hbm, ⟨11, _⟩ => ⟨S16x32x16, .f32⟩
  | .hbm, ⟨12, _⟩ => ⟨S16x32x16, .f32⟩
  | .hbm, ⟨13, _⟩ => ⟨S16x32x16, .f32⟩
  | .hbm, ⟨14, _⟩ => ⟨S_, .f32⟩
  | .hbm, ⟨15, _⟩ => ⟨S16x32x16, .f32⟩
  | .hbm, ⟨16, _⟩ => ⟨S16x32x16, .f32⟩
  | .hbm, ⟨17, _⟩ => ⟨S16x32x16, .f32⟩
  | .hbm, ⟨18, _⟩ => ⟨S16x32x16, .f32⟩
  | .hbm, ⟨19, _⟩ => ⟨S16x32x16, .i1⟩
  | .hbm, ⟨20, _⟩ => ⟨S16x32x16, .f32⟩
  | .hbm, ⟨21, _⟩ => ⟨S16x32x16, .f32⟩
  | .hbm, ⟨22, _⟩ => ⟨S16x32x16, .f32⟩
  | .hbm, ⟨23, _⟩ => ⟨S16x32x16, .f32⟩
  | .hbm, ⟨24, _⟩ => ⟨S16x32x16, .f32⟩
  | .hbm, ⟨25, _⟩ => ⟨S16x32x16, .f32⟩
  | .hbm, ⟨26, _⟩ => ⟨S16x32x16, .f32⟩
  | .hbm, ⟨27, _⟩ => ⟨S16x32x16, .f32⟩
  | .hbm, ⟨28, _⟩ => ⟨S16x32x16, .f32⟩
  | .hbm, ⟨29, _⟩ => ⟨S1x16x32x16, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v6 : Ref sig .tc := ⟨.hbm, 28, rfl⟩
abbrev main_v7 : Ref sig .tc := ⟨.hbm, 29, rfl⟩

abbrev nD : Nat := 1
abbrev τ : Topo := Topo.v7x

variable {F : FTy → Type} [FloatOps F]
-- ==== Proof.Heads.lean ====
module

public import proofs.«01_k».proof.Proof.Gen.KernelIdeal.Frame
public import Idealize.ShloMosaic.Lib.Pipeline.Value
public import Idealize.ShloMosaic.Lib.WholeRead

/-! The sixteen stores of the attention's body are one function of the head. -/

@[expose] public section
set_option maxRecDepth 16384
noncomputable section
namespace Cert.KernelIdeal.Heads
open Cert.KernelIdeal Cert.KernelIdeal.Gen Idealize.ShloMosaic Idealize.ShloMosaic.TcCoe Idealize.SL.Sem
variable {F : FTy → Type} [FloatOps F] [Named F]

/-- One head of the body, from its decay column and its loads: the scores against the cache and against the block's own
    rows, the exponentials after the row maximum, their two products with the values, over the sum of both. -/
def head (cq : FVec F S32x1 .f32) (fc : Vec F S1x1x1024 .f32) (fn : Vec F S1x1x32 .f32) (q kn vn : Vec F S1x32x128 .f32)
    (kc vc : Vec F S1x1024x128 .f32) : FVec F S1x32x128 .bf16 :=
  have xc := k0_pay86 (k0_pay20 fc) (k0_pay52 q) (k0_pay70 kc)
  have xn := k0_pay104 k0_pay3 (k0_pay102 (k0_pay36 fn) (k0_pay52 q) kn) k0_pay103
  have mx := k0_pay122 cq xc xn
  have pc := k0_pay139 cq xc mx
  have pn := k0_pay155 cq xn mx
  k0_pay206 pc pn (k0_pay187 pc pn (k0_pay171 vc) vn)

/-- The columns of head `h` lie in the block. -/
theorem inbCol (h : ℕ) (hh : h < 16) : ∀ a, (![0, 0, 128 * h] : Fin 3 → ℕ) a + S1x32x128.size a ≤ S1x32x2048.size a := by
  intro a; fin_cases a
  · exact Nat.le_refl 1
  · exact Nat.le_refl 32
  · show 128 * h + 128 ≤ 2048; omega

/-- The rows `h, h + 16, …` of the cache lie in the block. -/
theorem inbRows (h : ℕ) (hh : h < 16) : ∀ a, S1x1024x128.size a = 0 ∨
    (![0, h, 0] : Fin 3 → ℕ) a + (![1, 16, 1] : Fin 3 → ℕ) a * (S1x1024x128.size a - 1) < S1x16384x128.size a := by
  intro a; right; fin_cases a
  · exact Nat.zero_lt_one
  · show h + 16 * 1023 < 16384; omega
  · show 0 + 1 * 127 < 128; omega

theorem inbC (h : ℕ) (hh : h < 16) : ∀ a, (![0, 32 + h, 0] : Fin 3 → ℕ) a + S1x1x1024.size a ≤ S1x128x1024.size a := by
  intro a; fin_cases a
  · exact Nat.le_refl 1
  · show 32 + h + 1 ≤ 128; omega
  · exact Nat.le_refl 1024

theorem inbN (h : ℕ) (hh : h < 16) : ∀ a, (![0, 32 + h, 0] : Fin 3 → ℕ) a + S1x1x32.size a ≤ S1x128x32.size a := by
  intro a; fin_cases a
  · exact Nat.le_refl 1
  · show 32 + h + 1 ≤ 128; omega
  · exact Nat.le_refl 32

theorem slCol (h : ℕ) (hh : h < 16) : S32x128.Slices ![0, 32 + h] S32x1 := by
  refine ⟨rfl, fun a => ?_⟩; fin_cases a
  · exact Nat.le_refl 32
  · show 32 + h + 1 ≤ 128; omega

abbrev rCol (h : ℕ) (hh : h < 16) : Rect S1x32x2048 := Rect.unit ![0, 0, 128 * h] S1x32x128.size (inbCol h hh)
abbrev rRows (h : ℕ) (hh : h < 16) : LoadRect S1x16384x128 :=
  { off := ![0, h, 0], size := S1x1024x128.size, stride := ![1, 16, 1], inb := inbRows h hh }
abbrev rC (h : ℕ) (hh : h < 16) : Rect S1x128x1024 := Rect.unit ![0, 32 + h, 0] S1x1x1024.size (inbC h hh)
abbrev rN (h : ℕ) (hh : h < 16) : Rect S1x128x32 := Rect.unit ![0, 32 + h, 0] S1x1x32.size (inbN h hh)
abbrev rAll : Rect S1x32x128 := Rect.unit ![0, 0, 0] S1x32x128.size inb_S1x32x128_S1x32x128_0_0_0

/-- What the body stores for head `h`, its loads as the run states them. -/
def piece (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) (h : ℕ) (hh : h < 16) :
    View.Piece (Elt F) S1x32x2048 .bf16 :=
  ⟨rCol h hh,
    head (extractStridedSlice S32x1 ![0, 32 + h] (k0_pay2 (View.readAt (Elt F) arg6.view rAll.toLoadRect (harg6.unread x5))) (slCol h hh))
      (View.readAt (Elt F) arg7.view (rC h hh).toLoadRect (harg7.unread x6))
      (View.readAt (Elt F) arg8.view (rN h hh).toLoadRect (harg8.unread x7))
      (View.readAt (Elt F) arg1.view (rCol h hh).toLoadRect (harg1.unread x0))
      (View.readAt (Elt F) arg2.view (rCol h hh).toLoadRect (harg2.unread x1))
      (View.readAt (Elt F) arg3.view (rCol h hh).toLoadRect (harg3.unread x2))
      (View.readAt (Elt F) arg4.view (rRows h hh) (harg4.unread x3))
      (View.readAt (Elt F) arg5.view (rRows h hh) (harg5.unread x4))⟩

/-- The body's sixteen stores, the last first. -/
theorem pieces (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) :
    (kernelRun0_A c i arg1 harg1 arg2 harg2 arg3 harg3 arg4 harg4 arg5 harg5 arg6 harg6 arg7 harg7 arg8 harg8 arg9 harg9 x0 x1 x2 x3 x4 x5 x6 x7).1 = [
      piece c i arg1 harg1 arg2 harg2 arg3 harg3 arg4 harg4 arg5 harg5 arg6 harg6 arg7 harg7 arg8 harg8 arg9 harg9 x0 x1 x2 x3 x4 x5 x6 x7 15 (by decide),
      piece c i arg1 harg1 arg2 harg2 arg3 harg3 arg4 harg4 arg5 harg5 arg6 harg6 arg7 harg7 arg8 harg8 arg9 harg9 x0 x1 x2 x3 x4 x5 x6 x7 14 (by decide),
      piece c i arg1 harg1 arg2 harg2 arg3 harg3 arg4 harg4 arg5 harg5 arg6 harg6 arg7 harg7 arg8 harg8 arg9 harg9 x0 x1 x2 x3 x4 x5 x6 x7 13 (by decide),
      piece c i arg1 harg1 arg2 harg2 arg3 harg3 arg4 harg4 arg5 harg5 arg6 harg6 arg7 harg7 arg8 harg8 arg9 harg9 x0 x1 x2 x3 x4 x5 x6 x7 12 (by decide),
      piece c i arg1 harg1 arg2 harg2 arg3 harg3 arg4 harg4 arg5 harg5 arg6 harg6 arg7 harg7 arg8 harg8 arg9 harg9 x0 x1 x2 x3 x4 x5 x6 x7 11 (by decide),
      piece c i arg1 harg1 arg2 harg2 arg3 harg3 arg4 harg4 arg5 harg5 arg6 harg6 arg7 harg7 arg8 harg8 arg9 harg9 x0 x1 x2 x3 x4 x5 x6 x7 10 (by decide),
      piece c i arg1 harg1 arg2 harg2 arg3 harg3 arg4 harg4 arg5 harg5 arg6 harg6 arg7 harg7 arg8 harg8 arg9 harg9 x0 x1 x2 x3 x4 x5 x6 x7 9 (by decide),
      piece c i arg1 harg1 arg2 harg2 arg3 harg3 arg4 harg4 arg5 harg5 arg6 harg6 arg7 harg7 arg8 harg8 arg9 harg9 x0 x1 x2 x3 x4 x5 x6 x7 8 (by decide),
      piece c i arg1 harg1 arg2 harg2 arg3 harg3 arg4 harg4 arg5 harg5 arg6 harg6 arg7 harg7 arg8 harg8 arg9 harg9 x0 x1 x2 x3 x4 x5 x6 x7 7 (by decide),
      piece c i arg1 harg1 arg2 harg2 arg3 harg3 arg4 harg4 arg5 harg5 arg6 harg6 arg7 harg7 arg8 harg8 arg9 harg9 x0 x1 x2 x3 x4 x5 x6 x7 6 (by decide),
      piece c i arg1 harg1 arg2 harg2 arg3 harg3 arg4 harg4 arg5 harg5 arg6 harg6 arg7 harg7 arg8 harg8 arg9 harg9 x0 x1 x2 x3 x4 x5 x6 x7 5 (by decide),
      piece c i arg1 harg1 arg2 harg2 arg3 harg3 arg4 harg4 arg5 harg5 arg6 harg6 arg7 harg7 arg8 harg8 arg9 harg9 x0 x1 x2 x3 x4 x5 x6 x7 4 (by decide),
      piece c i arg1 harg1 arg2 harg2 arg3 harg3 arg4 harg4 arg5 harg5 arg6 harg6 arg7 harg7 arg8 harg8 arg9 harg9 x0 x1 x2 x3 x4 x5 x6 x7 3 (by decide),
      piece c i arg1 harg1 arg2 harg2 arg3 harg3 arg4 harg4 arg5 harg5 arg6 harg6 arg7 harg7 arg8 harg8 arg9 harg9 x0 x1 x2 x3 x4 x5 x6 x7 2 (by decide),
      piece c i arg1 harg1 arg2 harg2 arg3 harg3 arg4 harg4 arg5 harg5 arg6 harg6 arg7 harg7 arg8 harg8 arg9 harg9 x0 x1 x2 x3 x4 x5 x6 x7 1 (by decide),
      piece c i arg1 harg1 arg2 harg2 arg3 harg3 arg4 harg4 arg5 harg5 arg6 harg6 arg7 harg7 arg8 harg8 arg9 harg9 x0 x1 x2 x3 x4 x5 x6 x7 0 (by decide) ] := by
  unfold kernelRun0_A
  dsimp only
  sl_unfold_words
  rfl

end Cert.KernelIdeal.Heads
-- ==== Proof.Softmax.lean ====
module

public import Idealize.ShloMosaic.PureOps.Ideal
public import Idealize.ShloMosaic.Lib.Pointwise

/-! The softmax of a row of scores over the extended reals, by powers of two after a scaling and by exponentials
    without it, when the weights are divided by their sum before or after the weighted sum is taken. -/

@[expose] public section
noncomputable section
namespace Cert.Softmax
open Idealize.ShloMosaic

/-- The reciprocal of log 2: a power of two of `x` times it is the exponential of `x`. -/
abbrev L : ℝ := (Real.log 2)⁻¹

theorem L_pos : 0 < L := inv_pos.mpr (Real.log_pos (by norm_num))

theorem rpow_L (t : ℝ) : Real.rpow 2 (t * L) = Real.exp t := by
  have h : Real.log 2 ≠ 0 := (Real.log_pos (by norm_num)).ne'
  show (2 : ℝ) ^ (t * (Real.log 2)⁻¹) = _
  rw [Real.rpow_def_of_pos (by norm_num), mul_comm t, ← mul_assoc, mul_inv_cancel₀ h, one_mul]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A weight by a power of two of scaled numbers is the exponential's: a score `z` that is a real or −∞, over a row whose
    maximum is the real `ζ` beside the decay `c`. -/
theorem weight (z : EReal) (hz : z ≠ ⊤) (c ζ : ℝ) :
    Ideal.exp2 (z * (L : EReal) + ((c : EReal) * (L : EReal) - ((c : EReal) * (L : EReal) + (ζ : EReal) * (L : EReal))))
      = Ideal.exp (((c : EReal) + z) - ((c : EReal) + (ζ : EReal))) := by
  induction z using EReal.rec with
  | bot => rw [EReal.bot_mul_coe_of_pos L_pos]; simp [sub_eq_add_neg]
  | top => exact absurd rfl hz
  | coe z =>
    rw [show (z : EReal) * (L : EReal) + ((c : EReal) * (L : EReal) - ((c : EReal) * (L : EReal) + (ζ : EReal) * (L : EReal)))
        = (((z - ζ) * L : ℝ) : EReal) by norm_cast; ring_nf,
      show ((c : EReal) + (z : EReal)) - ((c : EReal) + (ζ : EReal)) = ((z - ζ : ℝ) : EReal) by norm_cast; ring_nf]
    rw [Ideal.exp2_coe, Ideal.exp_coe, rpow_L]

/-- The exponentials of such a row are nonnegative reals. -/
theorem exp_real (z : EReal) (hz : z ≠ ⊤) (c ζ : ℝ) :
    ∃ P : ℝ, 0 ≤ P ∧ Ideal.exp (((c : EReal) + z) - ((c : EReal) + (ζ : EReal))) = (P : EReal) ∧ (z ≠ ⊥ → 0 < P) := by
  induction z using EReal.rec with
  | bot => exact ⟨0, le_rfl, by simp [sub_eq_add_neg], fun h => absurd rfl h⟩
  | top => exact absurd rfl hz
  | coe z =>
    refine ⟨Real.exp (z - ζ), (Real.exp_pos _).le, ?_, fun _ => Real.exp_pos _⟩
    rw [show ((c : EReal) + (z : EReal)) - ((c : EReal) + (ζ : EReal)) = ((z - ζ : ℝ) : EReal) by norm_cast; ring_nf,
      Ideal.exp_coe]

theorem fold_max {ι : Type*} (s : Finset ι) (f : ι → EReal) : s.fold max ⊥ f = s.sup f := rfl

/-- The greatest of a row's scores is taken before or after a real is added. -/
theorem sup_add {ι : Type*} (s : Finset ι) (z : ι → EReal) (c : ℝ) :
    (s.sup fun i => (c : EReal) + z i) = (c : EReal) + s.sup z := by
  classical
  induction s using Finset.induction_on with
  | empty => simp
  | insert a s ha ih =>
    rw [Finset.sup_insert, Finset.sup_insert, ih]
    exact ((add_right_mono (a := (c : EReal))).map_max).symm

/-- … and before or after a scaling by a positive real. -/
theorem sup_mul {ι : Type*} (s : Finset ι) (z : ι → EReal) (r : ℝ) (hr : 0 < r) :
    (s.sup fun i => z i * (r : EReal)) = s.sup z * (r : EReal) := by
  classical
  induction s using Finset.induction_on with
  | empty => simp [EReal.bot_mul_coe_of_pos hr]
  | insert a s ha ih =>
    rw [Finset.sup_insert, Finset.sup_insert, ih]
    have hm : Monotone fun x : EReal => x * (r : EReal) := fun x y h =>
      mul_le_mul_of_nonneg_right h (by exact_mod_cast hr.le)
    exact (hm.map_max).symm

/-- The greatest of a row in two parts. -/
theorem sup_split {a b : ℕ} (z : Fin (a + b) → EReal) :
    max (Finset.univ.sup fun i => z (Fin.castAdd b i)) (Finset.univ.sup fun j => z (Fin.natAdd a j)) = Finset.univ.sup z := by
  apply le_antisymm
  · exact max_le (Finset.sup_le fun i _ => Finset.le_sup (f := z) (Finset.mem_univ _))
      (Finset.sup_le fun i _ => Finset.le_sup (f := z) (Finset.mem_univ _))
  · refine Finset.sup_le fun s _ => ?_
    refine Fin.addCases (fun i => ?_) (fun j => ?_) s
    · exact le_max_of_le_left (Finset.le_sup (f := fun i => z (Fin.castAdd b i)) (Finset.mem_univ i))
    · exact le_max_of_le_right (Finset.le_sup (f := fun j => z (Fin.natAdd a j)) (Finset.mem_univ j))

/-- THE TWO SOFTMAXES: of scores `z` that are reals or −∞, not all −∞, beside a real decay `c`, with values `w`. -/
theorem softmax {a b : ℕ} (z w : Fin (a + b) → EReal) (c : ℝ) (hz : ∀ s, z s ≠ ⊤) (s₀ : Fin (a + b)) (h₀ : z s₀ ≠ ⊥)
    (m : EReal) (hm : m = (c : EReal) * (L : EReal)
      + max (Finset.univ.fold max ⊥ fun i => z (Fin.castAdd b i) * (L : EReal))
          (Finset.univ.fold max ⊥ fun j => z (Fin.natAdd a j) * (L : EReal))) (M : EReal)
    (hM : M = Finset.univ.fold max ⊥ fun s => (c : EReal) + z s) :
    Ideal.div
        ((∑ i, Ideal.exp2 (z (Fin.castAdd b i) * (L : EReal) + ((c : EReal) * (L : EReal) - m)) * w (Fin.castAdd b i))
          + ∑ j, Ideal.exp2 (z (Fin.natAdd a j) * (L : EReal) + ((c : EReal) * (L : EReal) - m)) * w (Fin.natAdd a j))
        ((∑ i, Ideal.exp2 (z (Fin.castAdd b i) * (L : EReal) + ((c : EReal) * (L : EReal) - m)))
          + ∑ j, Ideal.exp2 (z (Fin.natAdd a j) * (L : EReal) + ((c : EReal) * (L : EReal) - m)))
      = ∑ s, w s * Ideal.div (Ideal.exp (((c : EReal) + z s) - M)) (∑ t, Ideal.exp (((c : EReal) + z t) - M)) := by
  obtain ⟨ζ, hζ⟩ : ∃ ζ : ℝ, Finset.univ.sup z = (ζ : EReal) := by
    obtain ⟨s, -, hs⟩ := Finset.exists_mem_eq_sup (Finset.univ) ⟨s₀, Finset.mem_univ _⟩ z
    have hb : Finset.univ.sup z ≠ ⊥ := fun h => h₀ (le_bot_iff.mp (h ▸ Finset.le_sup (f := z) (Finset.mem_univ s₀)))
    have ht : Finset.univ.sup z ≠ ⊤ := hs ▸ hz s
    exact ⟨_, (EReal.coe_toReal ht hb).symm⟩
  have hM' : M = (c : EReal) + (ζ : EReal) := by rw [hM, fold_max, sup_add, hζ]
  have hm' : m = (c : EReal) * (L : EReal) + (ζ : EReal) * (L : EReal) := by
    rw [hm, fold_max, fold_max, sup_split (fun s => z s * (L : EReal)), sup_mul _ _ _ L_pos, hζ]
  subst hM' hm'
  simp only [fun s => weight (z s) (hz s) c ζ]
  choose P hP0 hP hPp using fun s => exp_real (z s) (hz s) c ζ
  simp only [hP]
  have hsum : (∑ t, (P t : EReal)) = ((∑ t, P t : ℝ) : EReal) := (coe_sum _ _).symm
  have hpos : 0 < ∑ t, P t :=
    Finset.sum_pos' (fun s _ => hP0 s) ⟨s₀, Finset.mem_univ _, hPp s₀ h₀⟩
  rw [← Fin.sum_univ_add (fun s => (P s : EReal) * w s), ← Fin.sum_univ_add (fun s => (P s : EReal)), hsum,
    Ideal.div_coe hpos.ne', sum_mul_coe _ _ _ (by positivity)]
  refine Finset.sum_congr rfl fun s _ => ?_
  rw [Ideal.div_coe hpos.ne', ← mul_assoc, mul_comm (w s)]

end Cert.Softmax
-- ==== Proof.HeadValue.lean ====
module

public import proofs.«01_k».proof.Proof.Heads
public import Idealize.ShloMosaic.Lib.Pointwise
public import Idealize.ShloMosaic.Lib.IdealHost
public import Idealize.ShloMosaic.PureOps.IdealRules
public import proofs.«01_k».proof.Proof.Softmax

/-! One head of the attention at an index. -/

@[expose] public section
set_option maxRecDepth 16384
noncomputable section
namespace Cert.KernelIdeal.Heads
open Cert.KernelIdeal Cert.KernelIdeal.Gen Idealize.ShloMosaic Idealize.ShloMosaic.TcCoe Idealize.SL.Sem Idealize.ShloMosaic.Pointwise

theorem xc_apply (fc : Vec Ideal S1x1x1024 .f32) (q : Vec Ideal S1x32x128 .f32) (kc : Vec Ideal S1x1024x128 .f32) (i : Fin 32) (j : Fin 1024) :
    k0_pay86 (F := Ideal) (k0_pay20 fc) (k0_pay52 q) (k0_pay70 kc) (ix2 i j) =
      ∑ x : Fin 128, q (ix3 0 i x) * (Named.named κ "q_scale" (φ := .f32) 1040356334#32 : Ideal .f32) * kc (ix3 0 j x) - fc (ix3 0 0 j) * (Named.named κ "log2e" (φ := .f32) 1069066811#32 : Ideal .f32) := by
  pointwise [k0_pay86, k0_pay20, k0_pay52, k0_pay70]

theorem xn_apply (fn : Vec Ideal S1x1x32 .f32) (q kn : Vec Ideal S1x32x128 .f32) (i : Fin 32) (j : Fin 32) :
    k0_pay104 (F := Ideal) k0_pay3 (k0_pay102 (k0_pay36 fn) (k0_pay52 q) kn) k0_pay103 (ix2 i j) =
      Scalar.select (IntOp.cmpi .sle (BitVec.ofNat 32 j.val) (BitVec.ofNat 32 i.val))
        (∑ x : Fin 128, q (ix3 0 i x) * (Named.named κ "q_scale" (φ := .f32) 1040356334#32 : Ideal .f32) * kn (ix3 0 j x) - fn (ix3 0 0 j) * (Named.named κ "log2e" (φ := .f32) 1069066811#32 : Ideal .f32))
        (Ideal.ofBits .f32 4286578688#32) := by
  pointwise [k0_pay104, k0_pay3, k0_pay102, k0_pay36, k0_pay52, k0_pay103]

theorem mx_apply (cq : FVec Ideal S32x1 .f32) (xc : FVec Ideal S32x1024 .f32) (xn : FVec Ideal S32x32 .f32) (i : Fin 32) :
    k0_pay122 (F := Ideal) cq xc xn (ix2 i 0) = cq (ix2 i 0) +
      max (Finset.univ.fold max (Ideal.ofBits .f32 4286578688#32) fun x : Fin 1024 => xc (ix2 i x))
        (Finset.univ.fold max (Ideal.ofBits .f32 4286578688#32) fun x : Fin 32 => xn (ix2 i x)) := by
  pointwise [k0_pay122]

theorem pc_apply (cq : FVec Ideal S32x1 .f32) (xc : FVec Ideal S32x1024 .f32) (mx : FVec Ideal S32x1 .f32) (i : Fin 32) (j : Fin 1024) :
    k0_pay139 (F := Ideal) cq xc mx (ix2 i j) = Ideal.exp2 (xc (ix2 i j) + (cq (ix2 i 0) - mx (ix2 i 0))) := by
  pointwise [k0_pay139]
  rfl

theorem pn_apply (cq : FVec Ideal S32x1 .f32) (xn : FVec Ideal S32x32 .f32) (mx : FVec Ideal S32x1 .f32) (i : Fin 32) (j : Fin 32) :
    k0_pay155 (F := Ideal) cq xn mx (ix2 i j) = Ideal.exp2 (xn (ix2 i j) + (cq (ix2 i 0) - mx (ix2 i 0))) := by
  pointwise [k0_pay155]
  rfl

theorem o_apply (pc : FVec Ideal S32x1024 .f32) (pn : FVec Ideal S32x32 .f32) (vc : Vec Ideal S1x1024x128 .f32) (vn : Vec Ideal S1x32x128 .f32) (i : Fin 32) (d : Fin 128) :
    k0_pay206 (F := Ideal) pc pn (k0_pay187 pc pn (k0_pay171 vc) vn) (ix3 0 i d) =
      Ideal.div (∑ x : Fin 1024, pc (ix2 i x) * vc (ix3 0 x d) + ∑ x : Fin 32, pn (ix2 i x) * vn (ix3 0 x d))
        (∑ x : Fin 1024, pc (ix2 i x) + ∑ x : Fin 32, pn (ix2 i x)) := by
  pointwise [k0_pay206, k0_pay187, k0_pay171]

/-- The exact value of the reference's scale of the scores. -/
abbrev σ : ℝ := 11863283 / 134217728

theorem q_scale : (Named.named κ "q_scale" (φ := .f32) 1040356334#32 : Ideal .f32) = ((σ * Cert.Softmax.L : ℝ) : EReal) :=
  IdealRules.named_const.ideal_named_scalar _ _ _ _ rfl

theorem log2e : (Named.named κ "log2e" (φ := .f32) 1069066811#32 : Ideal .f32) = ((Cert.Softmax.L : ℝ) : EReal) :=
  IdealRules.named_const.ideal_named_scalar _ _ _ _ rfl

theorem neg_inf : Ideal.ofBits .f32 4286578688#32 = ⊥ := by
  simp [Ideal.ofBits, Ideal.ieee]

/-- A score of real queries and keys: the scale taken into the queries and the whole in the base of the exponential. -/
theorem score (q k : Fin 128 → ℝ) (c : ℝ) :
    (∑ x, (q x : EReal) * ((σ * Cert.Softmax.L : ℝ) : EReal) * (k x : EReal)) - (c : EReal) * (Cert.Softmax.L : EReal)
      = ((((∑ x, q x * k x) * σ - c : ℝ)) : EReal) * (Cert.Softmax.L : EReal) := by
  have h : ∀ x, (q x : EReal) * ((σ * Cert.Softmax.L : ℝ) : EReal) * (k x : EReal) = ((q x * (σ * Cert.Softmax.L) * k x : ℝ) : EReal) := fun x => by
    push_cast; rfl
  simp only [h]
  rw [← Cert.Softmax.coe_sum]
  norm_cast
  rw [sub_mul, Finset.sum_mul, Finset.sum_mul]
  congr 1
  exact Finset.sum_congr rfl fun x _ => by ring

/-- One head at an index: the softmax of its scores over its values, the head's loads named by their elements. -/
theorem head_softmax (cq : FVec Ideal S32x1 .f32) (fc : Vec Ideal S1x1x1024 .f32) (fn : Vec Ideal S1x1x32 .f32) (q kn vn : Vec Ideal S1x32x128 .f32)
    (kc vc : Vec Ideal S1x1024x128 .f32) (i : Fin 32) (d : Fin 128) (z w : Fin (1024 + 32) → EReal) (c : ℝ)
    (hcq : cq (ix2 i 0) = (c : EReal) * (Cert.Softmax.L : EReal))
    (hxc : ∀ j : Fin 1024, (∑ x : Fin 128, q (ix3 0 i x) * (Named.named κ "q_scale" (φ := .f32) 1040356334#32 : Ideal .f32) * kc (ix3 0 j x)
      - fc (ix3 0 0 j) * (Named.named κ "log2e" (φ := .f32) 1069066811#32 : Ideal .f32) : EReal) = z (Fin.castAdd 32 j) * (Cert.Softmax.L : EReal))
    (hxn : ∀ j : Fin 32, (Scalar.select (IntOp.cmpi .sle (BitVec.ofNat 32 j.val) (BitVec.ofNat 32 i.val))
      (∑ x : Fin 128, q (ix3 0 i x) * (Named.named κ "q_scale" (φ := .f32) 1040356334#32 : Ideal .f32) * kn (ix3 0 j x)
        - fn (ix3 0 0 j) * (Named.named κ "log2e" (φ := .f32) 1069066811#32 : Ideal .f32))
      (Ideal.ofBits .f32 4286578688#32) : EReal) = z (Fin.natAdd 1024 j) * (Cert.Softmax.L : EReal))
    (hwc : ∀ j : Fin 1024, vc (ix3 0 j d) = w (Fin.castAdd 32 j)) (hwn : ∀ j : Fin 32, vn (ix3 0 j d) = w (Fin.natAdd 1024 j))
    (hz : ∀ s, z s ≠ ⊤) (h₀ : z 0 ≠ ⊥) :
    head (F := Ideal) cq fc fn q kn vn kc vc (ix3 0 i d) = ∑ s, w s * Ideal.div (Ideal.exp (((c : EReal) + z s) - Finset.univ.fold max ⊥ fun s => (c : EReal) + z s))
      (∑ t, Ideal.exp (((c : EReal) + z t) - Finset.univ.fold max ⊥ fun s => (c : EReal) + z s)) := by
  rw [← Cert.Softmax.softmax z w c hz 0 h₀ _ rfl _ rfl]
  unfold head
  rw [o_apply]
  simp only [pc_apply, pn_apply, mx_apply, xc_apply, xn_apply, hxc, hxn, hcq, hwc, hwn]
  simp only [neg_inf]

end Cert.KernelIdeal.Heads
-- ==== Proof.RefValue.lean ====
module

public import proofs.«01_k».proof.Proof.Gen.ReferenceIdeal.Run
public import Idealize.ShloMosaic.Lib.Pointwise
public import Idealize.ShloMosaic.Lib.IdealHost

/-! The reference's result at an index: the softmax of a row's scores, over the head's values. -/

@[expose] public section
set_option maxRecDepth 16384
noncomputable section
namespace Cert.ReferenceIdeal.Attn
open Cert.ReferenceIdeal Cert.ReferenceIdeal.Gen Idealize.ShloMosaic Idealize.ShloMosaic.TcCoe Idealize.SL.Sem Idealize.ShloMosaic.Pointwise

/-- The cache's rows, then the block's own, head by head. -/
def rows (ac : FVec Ideal S1x16x1024x16x128 .f32) (an : FVec Ideal S16x32x2048 .f32) : FVec Ideal S16x1056x16x128 .f32 :=
  (concatenate S16x1056x16x128 1 [⟨S16x1024x16x128, (shapeCast _ ac shapeCasts_S1x16x1024x16x128_S16x1024x16x128)⟩, ⟨S16x32x16x128, (shapeCast _ an shapeCasts_S16x32x2048_S16x32x16x128)⟩] concatenates_S16x1024x16x128_S16x32x16x128_S16x1056x16x128_d1)

/-- The masked scores. -/
def logits (a0 : FVec Ideal S16x32x10240 .f32) (K : FVec Ideal S16x1056x16x128 .f32) (a5 : FVec Ideal S16x1024x16 .f32)
    (a6 : FVec Ideal S16x32x16 .f32) : FVec Ideal S16x16x32x1056 .f32 :=
  (select (broadcastInDim S16x16x32x1056 ![2, 3] bcast_S32x1056_S16x16x32x1056_2_3 (cmpi .sle (broadcastInDim S32x1056 ![0, 1] bcast_S1x1056_S32x1056_0_1 (broadcastInDim S1x1056 ![1] bcast_S1056_S1x1056_1 (iotaInDim S1056 32 0))) (broadcastInDim S32x1056 ![0, 1] bcast_S32x1_S32x1056_0_1 (broadcastInDim S32x1 ![0] bcast_S32_S32x1_0 (addi (broadcastInDim S32 ![] bcast_S_S32 (constantI S_ 32 1024#32)) (iotaInDim S32 32 0)))))) (addf (mulf (Host.dotGeneral dot_S16x32x16x128_S16x1056x16x128_S16x16x32x1056_3_3_1_1_02_02 none (shapeCast _ (extractStridedSlice S16x32x2048 ![0, 0, 8192] a0 slices_S16x32x10240_S16x32x2048_0_0_8192) shapeCasts_S16x32x2048_S16x32x16x128) K) (broadcastInDim S16x16x32x1056 ![] bcast_S_S16x16x32x1056 (constant S_ .f32 0x3DB504F3#32))) (subf (broadcastInDim S16x16x32x1056 ![0, 1, 2, 3] bcast_S16x16x32x1_S16x16x32x1056_0_1_2_3 (broadcastInDim S16x16x32x1 ![0, 1, 2] bcast_S16x16x32_S16x16x32x1_0_1_2 (transpose S16x16x32 [0, 2, 1] a6 transposes_S16x32x16_S16x16x32_0_2_1))) (broadcastInDim S16x16x32x1056 ![0, 1, 2, 3] bcast_S16x16x1x1056_S16x16x32x1056_0_1_2_3 (broadcastInDim S16x16x1x1056 ![0, 1, 3] bcast_S16x16x1056_S16x16x1x1056_0_1_3 (transpose S16x16x1056 [0, 2, 1] (concatenate S16x1056x16 1 [⟨S16x1024x16, a5⟩, ⟨S16x32x16, a6⟩] concatenates_S16x1024x16_S16x32x16_S16x1056x16_d1) transposes_S16x1056x16_S16x16x1056_0_2_1))))) (broadcastInDim S16x16x32x1056 ![] bcast_S_S16x16x32x1056 (id (constant S_ .f32 0xFF800000#32))))

/-- The rows' maxima. -/
def tops (X : FVec Ideal S16x16x32x1056 .f32) : FVec Ideal S16x16x32 .f32 :=
  Host.reduce FloatOps.maximumf X (constant S_ .f32 0xFF800000#32) reducesTo_S16x16x32x1056_S16x16x32_d3 h_S_

/-- The exponentials after the row maximum. -/
def weights (M : FVec Ideal S16x16x32 .f32) (X : FVec Ideal S16x16x32x1056 .f32) : FVec Ideal S16x16x32x1056 .f32 :=
  (Host.exp (subf X (broadcastInDim S16x16x32x1056 ![0, 1, 2, 3] bcast_S16x16x32x1_S16x16x32x1056_0_1_2_3 (broadcastInDim S16x16x32x1 ![0, 1, 2] bcast_S16x16x32_S16x16x32x1_0_1_2 (maximumf (broadcastInDim S16x16x32 ![] bcast_S_S16x16x32 (constant S_ .f32 0xFF800000#32)) M)))))

/-- The weighted sum of the values. -/
def attend (V : FVec Ideal S16x1056x16x128 .f32) (E : FVec Ideal S16x16x32x1056 .f32) : FVec Ideal S16x32x2048 .bf16 :=
  truncf .bf16 (shapeCast _ (transpose S16x32x16x128 [0, 3, 1, 2] (Host.dotGeneral dot_S16x1056x16x128_S16x16x32x1056_S16x16x128x32_1_3_3_2_02_01 none V (Host.divf E (broadcastInDim S16x16x32x1056 ![0, 1, 2, 3] bcast_S16x16x32x1_S16x16x32x1056_0_1_2_3 (broadcastInDim S16x16x32x1 ![0, 1, 2] bcast_S16x16x32_S16x16x32x1_0_1_2 (Host.reduceAdd E (constant S_ .f32 0x00000000#32) reducesTo_S16x16x32x1056_S16x16x32_d3 h_S_))))) transposes_S16x16x128x32_S16x32x16x128_0_3_1_2) shapeCasts_S16x32x16x128_S16x32x2048) bitsLt_bf16_f32

/-- The exponentials of the scores. -/
def stage (X : FVec Ideal S16x16x32x1056 .f32) : FVec Ideal S16x16x32x1056 .f32 := weights (tops X) X

theorem res_eq (m : (ℓ : Loc nD τ sig) → Buf (Elt Ideal) ℓ) (c : Dev nD) :
    Value.res_out0 (F := Ideal) m c = attend (rows (m ((c.tc : Thread nD τ).loc main_arg4)) (m ((c.tc : Thread nD τ).loc main_arg2)))
      (stage (logits (m ((c.tc : Thread nD τ).loc main_arg0)) (rows (m ((c.tc : Thread nD τ).loc main_arg3)) (m ((c.tc : Thread nD τ).loc main_arg1)))
        (m ((c.tc : Thread nD τ).loc main_arg5)) (m ((c.tc : Thread nD τ).loc main_arg6)))) := by
  unfold Value.res_out0 Value.res_main_v44
  rfl

theorem rows_apply (ac : FVec Ideal S1x16x1024x16x128 .f32) (an : FVec Ideal S16x32x2048 .f32) (b : Fin 16) (s : Fin 1056) (h : Fin 16) (x : Fin 128) :
    rows ac an (ix4 b s h x) = if h_1 : s.val < 1024 then ac (ix5 0 b ⟨s.val, h_1⟩ h x)
      else an (ix3 b ⟨s.val - 1024, by omega⟩ ⟨h.val * 128 + x.val, by omega⟩) := by
  pointwise [rows]

theorem logits_apply (a0 : FVec Ideal S16x32x10240 .f32) (K : FVec Ideal S16x1056x16x128 .f32) (a5 : FVec Ideal S16x1024x16 .f32)
    (a6 : FVec Ideal S16x32x16 .f32) (b h : Fin 16) (i : Fin 32) (s : Fin 1056) :
    logits a0 K a5 a6 (ix4 b h i s) = Scalar.select (IntOp.cmpi .sle (BitVec.ofNat 32 s.val) (IntOp.addi (1024#32) (BitVec.ofNat 32 i.val)))
      ((∑ x : Fin 128, a0 (ix3 b i ⟨8192 + (h.val * 128 + x.val), by omega⟩) * K (ix4 b s h x)) * Ideal.ofBits .f32 1035273459#32
        + (a6 (ix3 b i h) - if h_1 : s.val < 1024 then a5 (ix3 b ⟨s.val, h_1⟩ h) else a6 (ix3 b ⟨s.val - 1024, by omega⟩ h)))
      (Ideal.ofBits .f32 4286578688#32) := by
  pointwise [logits]
  rfl

/-- The maximum along the last of four axes. -/
theorem last_max {n0 n1 n2 n3 : ℕ} (X : FVec Ideal ⟨4, ![n0, n1, n2, n3]⟩ .f32) (init : FVec Ideal ⟨0, ![]⟩ .f32)
    (H : (⟨4, ![n0, n1, n2, n3]⟩ : Shape).ReducesTo [3] ⟨3, ![n0, n1, n2]⟩) (hu : 0 < (⟨0, ![]⟩ : Shape).numel) (b : Fin n0) (g : Fin n1) (i : Fin n2) :
    Host.reduce FloatOps.maximumf X init H hu (ix3 b g i) =
      (Finset.univ : Finset (Fin n3)).fold max (init (Shape.Idx.first hu)) fun k => X (ix4 b g i k) :=
  (Host.reduce_eq_fold _ X init H hu _).trans (H.fold_fiber_r4_a3 _ _ _ _)

theorem tops_apply (X : FVec Ideal S16x16x32x1056 .f32) (b h : Fin 16) (i : Fin 32) :
    tops X (ix3 b h i) = (Finset.univ : Finset (Fin 1056)).fold max (Ideal.ofBits .f32 4286578688#32) fun k => X (ix4 b h i k) :=
  last_max X _ _ _ b h i

theorem weights_apply (M : FVec Ideal S16x16x32 .f32) (X : FVec Ideal S16x16x32x1056 .f32) (b h : Fin 16) (i : Fin 32) (s : Fin 1056) :
    weights M X (ix4 b h i s) = Ideal.exp (X (ix4 b h i s) - max (Ideal.ofBits .f32 4286578688#32) (M (ix3 b h i))) := by
  pointwise [weights]

theorem attend_apply (V : FVec Ideal S16x1056x16x128 .f32) (E : FVec Ideal S16x16x32x1056 .f32) (b : Fin 16) (i : Fin 32) (d : Fin 2048) :
    attend V E (ix3 b i d) = (∑ x : Fin 1056, V (ix4 b x ⟨d.val / 128, by omega⟩ ⟨d.val % 128, by omega⟩) *
      Ideal.div (E (ix4 b ⟨d.val / 128, by omega⟩ i x)) (∑ y : Fin 1056, E (ix4 b ⟨d.val / 128, by omega⟩ i y)) : EReal) := by
  pointwise [attend]

end Cert.ReferenceIdeal.Attn
-- ==== Proof.Spec.lean ====
module

public import proofs.«01_k».proof.Proof.HeadValue
public import proofs.«01_k».proof.Proof.RefValue
public import Idealize.ShloMosaic.Lib.WordCmp

/-! One row of one head: its scores as reals or −∞, and the reference's softmax over them. -/

@[expose] public section
set_option maxRecDepth 16384
noncomputable section
namespace Cert.Attn
open Idealize.ShloMosaic Idealize.ShloMosaic.Pointwise
open Cert.KernelIdeal.Heads (σ neg_inf)

/-- The keys of a head: the cache's, then the block's own. -/
def keys (kc : Fin 1024 → Fin 128 → ℝ) (kn : Fin 32 → Fin 128 → ℝ) (s : Fin 1056) (x : Fin 128) : ℝ :=
  if h : s.val < 1024 then kc ⟨s.val, h⟩ x else kn ⟨s.val - 1024, by omega⟩ x

/-- The keys' decays of a head. -/
def decays (cp : Fin 1024 → ℝ) (cn : Fin 32 → ℝ) (s : Fin 1056) : ℝ :=
  if h : s.val < 1024 then cp ⟨s.val, h⟩ else cn ⟨s.val - 1024, by omega⟩

/-- The scores of row `i`, less the row's own decay. -/
def scores (q : Fin 128 → ℝ) (k : Fin 1056 → Fin 128 → ℝ) (c : Fin 1056 → ℝ) (i : Fin 32) (s : Fin 1056) : EReal :=
  if s.val ≤ 1024 + i.val then (((∑ x, q x * k s x) * σ - c s : ℝ) : EReal) else ⊥

theorem scores_ne_top (q : Fin 128 → ℝ) (k : Fin 1056 → Fin 128 → ℝ) (c : Fin 1056 → ℝ) (i : Fin 32) (s : Fin 1056) : scores q k c i s ≠ ⊤ := by
  unfold scores
  split
  · exact EReal.coe_ne_top _
  · exact bot_ne_top

theorem scores_zero (q : Fin 128 → ℝ) (k : Fin 1056 → Fin 128 → ℝ) (c : Fin 1056 → ℝ) (i : Fin 32) : scores q k c i 0 ≠ ⊥ := by
  unfold scores
  rw [if_pos (by show 0 ≤ _; omega)]
  exact EReal.coe_ne_bot _

theorem scale : Ideal.ofBits .f32 1035273459#32 = ((σ : ℝ) : EReal) := by
  simp [Ideal.ofBits, Ideal.ieee, -EReal.coe_mul]; norm_num

/-- The softmax of a row's scores over the values. -/
def row (c : ℝ) (z w : Fin 1056 → EReal) : EReal :=
  ∑ s, w s * Ideal.div (Ideal.exp (((c : EReal) + z s) - Finset.univ.fold max ⊥ fun s => (c : EReal) + z s))
    (∑ t, Ideal.exp (((c : EReal) + z t) - Finset.univ.fold max ⊥ fun s => (c : EReal) + z s))

open Cert.ReferenceIdeal Cert.ReferenceIdeal.Attn in
/-- The reference's masked score is the row's. -/
theorem logits_scores (a0 : FVec Ideal S16x32x10240 .f32) (a1 : FVec Ideal S16x32x2048 .f32) (a3 : FVec Ideal S1x16x1024x16x128 .f32)
    (a5 : FVec Ideal S16x1024x16 .f32) (a6 : FVec Ideal S16x32x16 .f32) (Q : Fin 16 → Fin 32 → Fin 2048 → ℝ) (A1 : S16x32x2048.Idx → ℝ)
    (A3 : S1x16x1024x16x128.Idx → ℝ) (A5 : S16x1024x16.Idx → ℝ) (A6 : S16x32x16.Idx → ℝ)
    (h0 : ∀ (b : Fin 16) (i : Fin 32) (y : Fin 2048), a0 (ix3 b i ⟨8192 + y.val, by omega⟩) = (Q b i y : EReal)) (h1 : ∀ j, a1 j = (A1 j : EReal))
    (h3 : ∀ j, a3 j = (A3 j : EReal)) (h5 : ∀ j, a5 j = (A5 j : EReal)) (h6 : ∀ j, a6 j = (A6 j : EReal)) (b h : Fin 16) (i : Fin 32) (s : Fin 1056) :
    logits a0 (rows a3 a1) a5 a6 (ix4 b h i s) = (A6 (ix3 b i h) : EReal)
      + scores (fun x => Q b i ⟨h.val * 128 + x.val, by omega⟩)
          (keys (fun j x => A3 (ix5 0 b j h x)) fun j x => A1 (ix3 b j ⟨h.val * 128 + x.val, by omega⟩))
          (decays (fun j => A5 (ix3 b j h)) fun j => A6 (ix3 b j h)) i s := by
  have hk : ∀ x : Fin 128, rows a3 a1 (ix4 b s h x)
      = ((keys (fun j x => A3 (ix5 0 b j h x)) (fun j x => A1 (ix3 b j ⟨h.val * 128 + x.val, by omega⟩)) s x : ℝ) : EReal) := fun x => by
    rw [rows_apply]
    unfold keys
    split
    · exact h3 _
    · exact h1 _
  have hc : (if h_1 : s.val < 1024 then a5 (ix3 b ⟨s.val, h_1⟩ h) else a6 (ix3 b ⟨s.val - 1024, by omega⟩ h))
      = ((decays (fun j => A5 (ix3 b j h)) (fun j => A6 (ix3 b j h)) s : ℝ) : EReal) := by
    unfold decays
    split
    · exact h5 _
    · exact h6 _
  rw [logits_apply, hc, scale, neg_inf, h6]
  simp only [hk, fun x : Fin 128 => h0 b i ⟨h.val * 128 + x.val, by omega⟩]
  have hm : IntOp.cmpi .sle (BitVec.ofNat 32 s.val) (IntOp.addi (1024#32) (BitVec.ofNat 32 i.val)) = BitVec.ofBool (decide (s.val ≤ 1024 + i.val)) := by
    rw [show IntOp.addi (1024#32) (BitVec.ofNat 32 i.val) = BitVec.ofNat 32 (1024 + i.val) from (BitVec.ofNat_add ..).symm]
    exact WordCmp.cmpi_sle_ofNat (by have := s.isLt; norm_num; omega) (by have := i.isLt; norm_num; omega)
  rw [hm]
  unfold scores Scalar.select
  by_cases hs : s.val ≤ 1024 + i.val
  · rw [decide_eq_true hs, if_pos hs, if_pos (by decide)]
    simp only [← EReal.coe_mul]
    rw [← Cert.Softmax.coe_sum]
    norm_cast
    ring
  · rw [decide_eq_false hs, if_neg hs, if_neg (by decide), EReal.add_bot]

open Cert.ReferenceIdeal Cert.ReferenceIdeal.Attn in
/-- The reference's result at an index, its scores given. -/
theorem attend_row (V : FVec Ideal S16x1056x16x128 .f32) (X : FVec Ideal S16x16x32x1056 .f32) (b : Fin 16) (i : Fin 32) (d : Fin 2048) (c : ℝ)
    (z : Fin 1056 → EReal) (hX : ∀ s, X (ix4 b ⟨d.val / 128, by omega⟩ i s) = (c : EReal) + z s) :
    attend V (stage X) (ix3 b i d) = row c z fun s => V (ix4 b s ⟨d.val / 128, by omega⟩ ⟨d.val % 128, by omega⟩) := by
  rw [attend_apply]
  unfold stage row
  simp only [weights_apply, tops_apply, neg_inf, hX, bot_sup_eq]

end Cert.Attn
-- ==== Proof.KernelOut.lean ====
module

public import proofs.«01_k».proof.Proof.Heads
public import Idealize.ShloMosaic.Lib.Pointwise

/-! The attention's block after the body, at an index: the head of its column, and what each load of a head reads. -/

@[expose] public section
set_option maxRecDepth 16384
noncomputable section
namespace Cert.KernelIdeal.Heads
open Cert.KernelIdeal Cert.KernelIdeal.Gen Idealize.ShloMosaic Idealize.ShloMosaic.TcCoe Idealize.SL.Sem Idealize.ShloMosaic.Pointwise
variable {F : FTy → Type} [FloatOps F] [Named F]

/-- The payload of head `h`'s store. -/
def stored (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) (h : ℕ) (hh : h < 16) : FVec F S1x32x128 .bf16 :=
  (piece c i arg1 harg1 arg2 harg2 arg3 harg3 arg4 harg4 arg5 harg5 arg6 harg6 arg7 harg7 arg8 harg8 arg9 harg9 x0 x1 x2 x3 x4 x5 x6 x7 h hh).2

theorem stored_congr (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) (h h' : ℕ) (hh : h < 16) (hh' : h' < 16) (e : h = h')
    (x x' : S1x32x128.Idx) (ex : x = x') : stored c i arg1 harg1 arg2 harg2 arg3 harg3 arg4 harg4 arg5 harg5 arg6 harg6 arg7 harg7 arg8 harg8 arg9 harg9 x0 x1 x2 x3 x4 x5 x6 x7 h hh x = stored c i arg1 harg1 arg2 harg2 arg3 harg3 arg4 harg4 arg5 harg5 arg6 harg6 arg7 harg7 arg8 harg8 arg9 harg9 x0 x1 x2 x3 x4 x5 x6 x7 h' hh' x' := by
  subst e ex; rfl

/-- Where head `h`'s store puts its columns. -/
theorem emb_col (h : ℕ) (hh : h < 16) (x : S1x32x128.Idx) :
    ((rCol h hh).emb x 1).val = (x 1).val ∧ ((rCol h hh).emb x 2).val = 128 * h + (x 2).val :=
  ⟨by rw [Rect.emb_apply]; show 0 + 1 * (x 1).val = _; omega, by rw [Rect.emb_apply]; show 128 * h + 1 * (x 2).val = _; omega⟩

/-- The block at an index is what its column's head stored there. -/
def whole (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) : FVec F S1x32x2048 .bf16 := fun y =>
  stored c i arg1 harg1 arg2 harg2 arg3 harg3 arg4 harg4 arg5 harg5 arg6 harg6 arg7 harg7 arg8 harg8 arg9 harg9 x0 x1 x2 x3 x4 x5 x6 x7 ((y 2).val / 128) (by have : (y 2).val < 2048 := (y 2).isLt; omega)
    (ix3 0 ⟨(y 1).val, (y 1).isLt⟩ ⟨(y 2).val % 128, by omega⟩)

theorem piece_whole (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) (h : ℕ) (hh : h < 16) :
    ∀ x, (piece c i arg1 harg1 arg2 harg2 arg3 harg3 arg4 harg4 arg5 harg5 arg6 harg6 arg7 harg7 arg8 harg8 arg9 harg9 x0 x1 x2 x3 x4 x5 x6 x7 h hh).2 x = whole c i arg1 harg1 arg2 harg2 arg3 harg3 arg4 harg4 arg5 harg5 arg6 harg6 arg7 harg7 arg8 harg8 arg9 harg9 x0 x1 x2 x3 x4 x5 x6 x7 ((piece c i arg1 harg1 arg2 harg2 arg3 harg3 arg4 harg4 arg5 harg5 arg6 harg6 arg7 harg7 arg8 harg8 arg9 harg9 x0 x1 x2 x3 x4 x5 x6 x7 h hh).1.emb x) := fun (x : S1x32x128.Idx) => by
  have e := emb_col h hh x
  have h2 : (x 2).val < 128 := (x 2).isLt
  have h0 : (x 0).val < 1 := (x 0).isLt
  refine stored_congr c i arg1 harg1 arg2 harg2 arg3 harg3 arg4 harg4 arg5 harg5 arg6 harg6 arg7 harg7 arg8 harg8 arg9 harg9 x0 x1 x2 x3 x4 x5 x6 x7 _ _ _ _ ?_ _ _ ?_
  · show h = ((rCol h hh).emb x 2).val / 128
    rw [e.2]; omega
  · funext a
    apply Fin.ext
    fin_cases a
    · show (x 0).val = 0; omega
    · exact e.1.symm
    · show (x 2).val = ((rCol h hh).emb x 2).val % 128
      rw [e.2]; omega

theorem out_eq (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec F S1x32x2048 .f32) (x1 : Vec F S1x32x2048 .f32) (x2 : Vec F S1x32x2048 .f32) (x3 : Vec F S1x16384x128 .f32) (x4 : Vec F S1x16384x128 .f32) (x5 : Vec F S1x32x128 .f32) (x6 : Vec F S1x128x1024 .f32) (x7 : Vec F S1x128x32 .f32) :
    out0_A_8 c i arg1 harg1 arg2 harg2 arg3 harg3 arg4 harg4 arg5 harg5 arg6 harg6 arg7 harg7 arg8 harg8 arg9 harg9 x0 x1 x2 x3 x4 x5 x6 x7 = whole c i arg1 harg1 arg2 harg2 arg3 harg3 arg4 harg4 arg5 harg5 arg6 harg6 arg7 harg7 arg8 harg8 arg9 harg9 x0 x1 x2 x3 x4 x5 x6 x7 := by
  funext y
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  refine View.canon_apply_of_pieces _ _ ?_ y (cover0_A_8 c i arg1 harg1 arg2 harg2 arg3 harg3 arg4 harg4 arg5 harg5 arg6 harg6 arg7 harg7 arg8 harg8 arg9 harg9 x0 x1 x2 x3 x4 x5 x6 x7 y)
  rw [pieces]
  exact List.forall_iff_forall_mem.mp ⟨piece_whole c i arg1 harg1 arg2 harg2 arg3 harg3 arg4 harg4 arg5 harg5 arg6 harg6 arg7 harg7 arg8 harg8 arg9 harg9 x0 x1 x2 x3 x4 x5 x6 x7 15 _, piece_whole c i arg1 harg1 arg2 harg2 arg3 harg3 arg4 harg4 arg5 harg5 arg6 harg6 arg7 harg7 arg8 harg8 arg9 harg9 x0 x1 x2 x3 x4 x5 x6 x7 14 _, piece_whole c i arg1 harg1 arg2 harg2 arg3 harg3 arg4 harg4 arg5 harg5 arg6 harg6 arg7 harg7 arg8 harg8 arg9 harg9 x0 x1 x2 x3 x4 x5 x6 x7 13 _, piece_whole c i arg1 harg1 arg2 harg2 arg3 harg3 arg4 harg4 arg5 harg5 arg6 harg6 arg7 harg7 arg8 harg8 arg9 harg9 x0 x1 x2 x3 x4 x5 x6 x7 12 _, piece_whole c i arg1 harg1 arg2 harg2 arg3 harg3 arg4 harg4 arg5 harg5 arg6 harg6 arg7 harg7 arg8 harg8 arg9 harg9 x0 x1 x2 x3 x4 x5 x6 x7 11 _, piece_whole c i arg1 harg1 arg2 harg2 arg3 harg3 arg4 harg4 arg5 harg5 arg6 harg6 arg7 harg7 arg8 harg8 arg9 harg9 x0 x1 x2 x3 x4 x5 x6 x7 10 _, piece_whole c i arg1 harg1 arg2 harg2 arg3 harg3 arg4 harg4 arg5 harg5 arg6 harg6 arg7 harg7 arg8 harg8 arg9 harg9 x0 x1 x2 x3 x4 x5 x6 x7 9 _, piece_whole c i arg1 harg1 arg2 harg2 arg3 harg3 arg4 harg4 arg5 harg5 arg6 harg6 arg7 harg7 arg8 harg8 arg9 harg9 x0 x1 x2 x3 x4 x5 x6 x7 8 _, piece_whole c i arg1 harg1 arg2 harg2 arg3 harg3 arg4 harg4 arg5 harg5 arg6 harg6 arg7 harg7 arg8 harg8 arg9 harg9 x0 x1 x2 x3 x4 x5 x6 x7 7 _, piece_whole c i arg1 harg1 arg2 harg2 arg3 harg3 arg4 harg4 arg5 harg5 arg6 harg6 arg7 harg7 arg8 harg8 arg9 harg9 x0 x1 x2 x3 x4 x5 x6 x7 6 _, piece_whole c i arg1 harg1 arg2 harg2 arg3 harg3 arg4 harg4 arg5 harg5 arg6 harg6 arg7 harg7 arg8 harg8 arg9 harg9 x0 x1 x2 x3 x4 x5 x6 x7 5 _, piece_whole c i arg1 harg1 arg2 harg2 arg3 harg3 arg4 harg4 arg5 harg5 arg6 harg6 arg7 harg7 arg8 harg8 arg9 harg9 x0 x1 x2 x3 x4 x5 x6 x7 4 _, piece_whole c i arg1 harg1 arg2 harg2 arg3 harg3 arg4 harg4 arg5 harg5 arg6 harg6 arg7 harg7 arg8 harg8 arg9 harg9 x0 x1 x2 x3 x4 x5 x6 x7 3 _, piece_whole c i arg1 harg1 arg2 harg2 arg3 harg3 arg4 harg4 arg5 harg5 arg6 harg6 arg7 harg7 arg8 harg8 arg9 harg9 x0 x1 x2 x3 x4 x5 x6 x7 2 _, piece_whole c i arg1 harg1 arg2 harg2 arg3 harg3 arg4 harg4 arg5 harg5 arg6 harg6 arg7 harg7 arg8 harg8 arg9 harg9 x0 x1 x2 x3 x4 x5 x6 x7 1 _, piece_whole c i arg1 harg1 arg2 harg2 arg3 harg3 arg4 harg4 arg5 harg5 arg6 harg6 arg7 harg7 arg8 harg8 arg9 harg9 x0 x1 x2 x3 x4 x5 x6 x7 0 _⟩

theorem ldC (M : Memref sig .tc .vmem S1x128x1024 .f32) (hM : M.IsWhole) (X : Vec F S1x128x1024 .f32) (h : ℕ) (hh : h < 16) (j : Fin 1024) :
    View.readAt (Elt F) M.view (rC h hh).toLoadRect (hM.unread X) (ix3 0 0 j) = X (ix3 0 ⟨32 + h, by omega⟩ j) := by
  refine (hM.readAt_unread X _ _).trans (congrArg X ?_)
  funext k
  apply Fin.ext
  fin_cases k
  · show 0 + 1 * 0 = 0; omega
  · show 32 + h + 1 * 0 = 32 + h; omega
  · show 0 + 1 * j.val = j.val; omega

theorem ldN (M : Memref sig .tc .vmem S1x128x32 .f32) (hM : M.IsWhole) (X : Vec F S1x128x32 .f32) (h : ℕ) (hh : h < 16) (j : Fin 32) :
    View.readAt (Elt F) M.view (rN h hh).toLoadRect (hM.unread X) (ix3 0 0 j) = X (ix3 0 ⟨32 + h, by omega⟩ j) := by
  refine (hM.readAt_unread X _ _).trans (congrArg X ?_)
  funext k
  apply Fin.ext
  fin_cases k
  · show 0 + 1 * 0 = 0; omega
  · show 32 + h + 1 * 0 = 32 + h; omega
  · show 0 + 1 * j.val = j.val; omega

theorem ldCol (M : Memref sig .tc .vmem S1x32x2048 .f32) (hM : M.IsWhole) (X : Vec F S1x32x2048 .f32) (h : ℕ) (hh : h < 16) (r : Fin 32) (x : Fin 128) :
    View.readAt (Elt F) M.view (rCol h hh).toLoadRect (hM.unread X) (ix3 0 r x) = X (ix3 0 r ⟨h * 128 + x.val, by omega⟩) := by
  refine (hM.readAt_unread X _ _).trans (congrArg X ?_)
  funext k
  apply Fin.ext
  fin_cases k
  · show 0 + 1 * 0 = 0; omega
  · show 0 + 1 * r.val = r.val; omega
  · show 128 * h + 1 * x.val = h * 128 + x.val; omega

theorem ldRows (M : Memref sig .tc .vmem S1x16384x128 .f32) (hM : M.IsWhole) (X : Vec F S1x16384x128 .f32) (h : ℕ) (hh : h < 16) (j : Fin 1024) (x : Fin 128) :
    View.readAt (Elt F) M.view (rRows h hh) (hM.unread X) (ix3 0 j x) = X (ix3 0 ⟨h + 16 * j.val, by omega⟩ x) := by
  refine (hM.readAt_unread X _ _).trans (congrArg X ?_)
  funext k
  apply Fin.ext
  fin_cases k
  · show 0 + 1 * 0 = 0; omega
  · show h + 16 * j.val = h + 16 * j.val; omega
  · show 0 + 1 * x.val = x.val; omega

theorem ldAll (M : Memref sig .tc .vmem S1x32x128 .f32) (hM : M.IsWhole) (X : Vec F S1x32x128 .f32) (r : Fin 32) (x : Fin 128) :
    View.readAt (Elt F) M.view rAll.toLoadRect (hM.unread X) (ix3 0 r x) = X (ix3 0 r x) := by
  refine (hM.readAt_unread X _ _).trans (congrArg X ?_)
  funext k
  apply Fin.ext
  fin_cases k
  · show 0 + 1 * 0 = 0; omega
  · show 0 + 1 * r.val = r.val; omega
  · show 0 + 1 * x.val = x.val; omega

/-- A head's column of decays: the base of the exponential taken in. -/
theorem col_apply (X : Vec Ideal S1x32x128 .f32) (h : ℕ) (hh : h < 16) (r : Fin 32) :
    extractStridedSlice S32x1 ![0, 32 + h] (k0_pay2 (F := Ideal) X) (slCol h hh) (ix2 r 0) =
      X (ix3 0 r ⟨32 + h, by omega⟩) * (Named.named κ "log2e" (φ := .f32) 1069066811#32 : Ideal .f32) := by
  refine (extractStridedSlice_apply _ _ _ _ (ix2 r ⟨32 + h, by omega⟩) fun a => ?_).trans ?_
  · fin_cases a
    · show r.val = 0 + r.val; omega
    · show 32 + h = 32 + h + 0; omega
  · pointwise [k0_pay2]

end Cert.KernelIdeal.Heads
-- ==== Proof.Entry.lean ====
module

public import proofs.«01_k».proof.Proof.Gen.KernelIdeal.Frame
public import Idealize.ShloMosaic.Lib.Pointwise
public import Idealize.ShloMosaic.Lib.Claim

/-! The arrays the attention's windows read, in the arguments. -/

@[expose] public section
set_option maxRecDepth 16384
noncomputable section
namespace Cert.KernelIdeal.Entry
open Cert.KernelIdeal Cert.KernelIdeal.Gen Idealize.ShloMosaic Idealize.ShloMosaic.TcCoe Idealize.SL.Sem Idealize.ShloMosaic.Pointwise
variable {F : FTy → Type} [FloatOps F] [Named F]
variable (m : (ℓ : Loc nD τ sig) → Buf (Elt F) ℓ) (c : Dev nD)

theorem v3 (b : Fin 16) (h : Fin 16) (j : Fin 1024) (d : Fin 128) :
    V m c main_v5 (ix3 b ⟨h.val + 16 * j.val, by omega⟩ d) = m ((c : Thread nD τ).loc main_arg3) (ix5 0 b j h d) := by
  simp only [V, hostOps0, hostOps0_1, hostOps0_2, hostOps0_3, hostOps0_4, List.flatten_cons, List.flatten_nil, List.append_nil, List.cons_append, List.nil_append]
  after_results
  pointwise

theorem v4 (b : Fin 16) (h : Fin 16) (j : Fin 1024) (d : Fin 128) :
    V m c main_v7 (ix3 b ⟨h.val + 16 * j.val, by omega⟩ d) = m ((c : Thread nD τ).loc main_arg4) (ix5 0 b j h d) := by
  simp only [V, hostOps0, hostOps0_1, hostOps0_2, hostOps0_3, hostOps0_4, List.flatten_cons, List.flatten_nil, List.append_nil, List.cons_append, List.nil_append]
  after_results
  pointwise

theorem v5 (b : Fin 16) (i : Fin 32) (h : Fin 16) :
    V m c main_v0 (ix3 b i ⟨32 + h.val, by omega⟩) = m ((c : Thread nD τ).loc main_arg6) (ix3 b i h) := by
  simp only [V, hostOps0, hostOps0_1, hostOps0_2, hostOps0_3, hostOps0_4, List.flatten_cons, List.flatten_nil, List.append_nil, List.cons_append, List.nil_append]
  after_results
  show pad S16x32x128 ![0, 0, 32] ![0, 0, 80] ![0, 0, 0] (m ((c : Thread nD τ).loc main_arg6)) (sitofp .f32 (constantI S_ 32 0#32) : FVec F S_ .f32) pads_S16x32x16_S16x32x128_000_000_32800 h_S_ _ = _
  pointwise
  refine dif_pos (show ∀ a : Fin 3, _ from fun a => ?_)
  fin_cases a
  · exact ⟨Nat.zero_le _, Nat.mod_one _, show (b.val - 0) / 1 < 16 by omega⟩
  · exact ⟨Nat.zero_le _, Nat.mod_one _, show (i.val - 0) / 1 < 32 by omega⟩
  · exact ⟨show 32 ≤ 32 + h.val by omega, Nat.mod_one _, show (32 + h.val - 32) / 1 < 16 by omega⟩

theorem v6 (b : Fin 16) (h : Fin 16) (j : Fin 1024) :
    V m c main_v2 (ix3 b ⟨32 + h.val, by omega⟩ j) = m ((c : Thread nD τ).loc main_arg5) (ix3 b j h) := by
  simp only [V, hostOps0, hostOps0_1, hostOps0_2, hostOps0_3, hostOps0_4, List.flatten_cons, List.flatten_nil, List.append_nil, List.cons_append, List.nil_append]
  after_results
  show transpose S16x128x1024 [0, 2, 1] (pad S16x1024x128 ![0, 0, 32] ![0, 0, 80] ![0, 0, 0] (m ((c : Thread nD τ).loc main_arg5)) (sitofp .f32 (constantI S_ 32 0#32) : FVec F S_ .f32) pads_S16x1024x16_S16x1024x128_000_000_32800 h_S_) transposes_S16x1024x128_S16x128x1024_0_2_1 _ = _
  pointwise
  refine dif_pos (show ∀ a : Fin 3, _ from fun a => ?_)
  fin_cases a
  · exact ⟨Nat.zero_le _, Nat.mod_one _, show (b.val - 0) / 1 < 16 by omega⟩
  · exact ⟨Nat.zero_le _, Nat.mod_one _, show (j.val - 0) / 1 < 1024 by omega⟩
  · exact ⟨show 32 ≤ 32 + h.val by omega, Nat.mod_one _, show (32 + h.val - 32) / 1 < 16 by omega⟩

theorem v7 (b : Fin 16) (h : Fin 16) (j : Fin 32) :
    V m c main_v3 (ix3 b ⟨32 + h.val, by omega⟩ j) = m ((c : Thread nD τ).loc main_arg6) (ix3 b j h) := by
  simp only [V, hostOps0, hostOps0_1, hostOps0_2, hostOps0_3, hostOps0_4, List.flatten_cons, List.flatten_nil, List.append_nil, List.cons_append, List.nil_append]
  after_results
  show transpose S16x128x32 [0, 2, 1] (pad S16x32x128 ![0, 0, 32] ![0, 0, 80] ![0, 0, 0] (m ((c : Thread nD τ).loc main_arg6)) (sitofp .f32 (constantI S_ 32 0#32) : FVec F S_ .f32) pads_S16x32x16_S16x32x128_000_000_32800 h_S_) transposes_S16x32x128_S16x128x32_0_2_1 _ = _
  pointwise
  refine dif_pos (show ∀ a : Fin 3, _ from fun a => ?_)
  fin_cases a
  · exact ⟨Nat.zero_le _, Nat.mod_one _, show (b.val - 0) / 1 < 16 by omega⟩
  · exact ⟨Nat.zero_le _, Nat.mod_one _, show (j.val - 0) / 1 < 32 by omega⟩
  · exact ⟨show 32 ≤ 32 + h.val by omega, Nat.mod_one _, show (32 + h.val - 32) / 1 < 16 by omega⟩

end Cert.KernelIdeal.Entry
-- ==== Proof.Reads.lean ====
module

public import proofs.«01_k».proof.Proof.Entry
public import Idealize.ShloMosaic.Lib.Pointwise
public import Idealize.ShloMosaic.Lib.Pipeline.ValueKit
public import Idealize.ShloMosaic.Lib.Claim

/-! What the attention's blocks hold of the arguments. -/

@[expose] public section
set_option maxRecDepth 16384
noncomputable section
namespace Cert.KernelIdeal.Reads
open Cert.KernelIdeal Cert.KernelIdeal.Gen Idealize.ShloMosaic Idealize.ShloMosaic.TcCoe Idealize.SL.Sem Idealize.ShloMosaic.Pointwise
variable {F : FTy → Type} [FloatOps F] [Named F]
variable (m : (ℓ : Loc nD τ sig) → Buf (Elt F) ℓ) (c : Dev nD)

/-- The grid point of a stream. -/
abbrev pt (b : Fin 16) : Fin cfg0.N := ⟨b.val, by show b.val < grid0.N; rw [N_0]; exact b.isLt⟩

theorem idx : ∀ t : Fin cfg0.N, win0_0.index t = ![t.val, 0, 4] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

theorem r0 (b : Fin 16) (i : Fin 32) (y : Fin 2048) :
    iblk m c 0 (pt b) (ix3 0 i y) = m ((c : Thread nD τ).loc main_arg0) (ix3 b i ⟨8192 + y.val, by omega⟩) := by
  blk_ext [iblk, V_main_arg0, idx (pt b)]

theorem r1 (b : Fin 16) (i : Fin 32) (y : Fin 2048) :
    iblk m c 1 (pt b) (ix3 0 i y) = m ((c : Thread nD τ).loc main_arg1) (ix3 b i y) := by
  blk_ext [iblk, V_main_arg1, idx (pt b)]

theorem r2 (b : Fin 16) (i : Fin 32) (y : Fin 2048) :
    iblk m c 2 (pt b) (ix3 0 i y) = m ((c : Thread nD τ).loc main_arg2) (ix3 b i y) := by
  blk_ext [iblk, V_main_arg2, idx (pt b)]

theorem emb3 (t : Fin cfg0.N) (y : S1x16384x128.Idx) (b : Fin 16) (hb : b.val = t.val) :
    ((cfg0.win 3).blk t).view.emb y = (ix3 b (y 1) (y 2) : S16x16384x128.Idx) := by
  funext a
  apply Fin.ext
  refine (Pipeline.Window.rect_emb_val win0_3 t y a).trans ?_
  rw [(idx t).2.2.2.1]
  have h0 : (y 0).val = 0 := by have : (y 0).val < 1 := (y 0).isLt; omega
  fin_cases a
  · show t.val * 1 + (y 0).val = b.val; omega
  · show 0 * 16384 + (y 1).val = (y 1).val; omega
  · show 0 * 128 + (y 2).val = (y 2).val; omega

theorem read3 (X : Buf (Elt F) ((c : Thread nD τ).loc main_v5)) (b : Fin 16) (t : Fin cfg0.N) (hb : b.val = t.val) (y : Fin 16384) (d : Fin 128) :
    ((cfg0.win 3).blk t).view.read (Elt F) X (ix3 0 y d) = X (ix3 b y d) :=
  congrArg X (emb3 t (ix3 0 y d) b hb)

theorem r3_block (b : Fin 16) (y : Fin 16384) (d : Fin 128) :
    iblk m c 3 (pt b) (ix3 0 y d) = V m c main_v5 (ix3 b y d) := by
  unfold iblk
  exact read3 c (V m c main_v5) b (pt b) rfl y d

theorem r3 (b : Fin 16) (h : Fin 16) (j : Fin 1024) (d : Fin 128) :
    iblk m c 3 (pt b) (ix3 0 ⟨h.val + 16 * j.val, by omega⟩ d) = m ((c : Thread nD τ).loc main_arg3) (ix5 0 b j h d) :=
  (r3_block m c _ _ _).trans (Entry.v3 m c b h j d)

theorem emb4 (t : Fin cfg0.N) (y : S1x16384x128.Idx) (b : Fin 16) (hb : b.val = t.val) :
    ((cfg0.win 4).blk t).view.emb y = (ix3 b (y 1) (y 2) : S16x16384x128.Idx) := by
  funext a
  apply Fin.ext
  refine (Pipeline.Window.rect_emb_val win0_4 t y a).trans ?_
  rw [(idx t).2.2.2.2.1]
  have h0 : (y 0).val = 0 := by have : (y 0).val < 1 := (y 0).isLt; omega
  fin_cases a
  · show t.val * 1 + (y 0).val = b.val; omega
  · show 0 * 16384 + (y 1).val = (y 1).val; omega
  · show 0 * 128 + (y 2).val = (y 2).val; omega

theorem read4 (X : Buf (Elt F) ((c : Thread nD τ).loc main_v7)) (b : Fin 16) (t : Fin cfg0.N) (hb : b.val = t.val) (y : Fin 16384) (d : Fin 128) :
    ((cfg0.win 4).blk t).view.read (Elt F) X (ix3 0 y d) = X (ix3 b y d) :=
  congrArg X (emb4 t (ix3 0 y d) b hb)

theorem r4_block (b : Fin 16) (y : Fin 16384) (d : Fin 128) :
    iblk m c 4 (pt b) (ix3 0 y d) = V m c main_v7 (ix3 b y d) := by
  unfold iblk
  exact read4 c (V m c main_v7) b (pt b) rfl y d

theorem r4 (b : Fin 16) (h : Fin 16) (j : Fin 1024) (d : Fin 128) :
    iblk m c 4 (pt b) (ix3 0 ⟨h.val + 16 * j.val, by omega⟩ d) = m ((c : Thread nD τ).loc main_arg4) (ix5 0 b j h d) :=
  (r4_block m c _ _ _).trans (Entry.v4 m c b h j d)

theorem r5_block (b : Fin 16) (y : Fin 32) (d : Fin 128) :
    iblk m c 5 (pt b) (ix3 0 y d) = V m c (Pipeline.arrRef spec0 5) (ix3 b y d) := by
  blk_ext [iblk, idx (pt b)]

theorem r5 (b : Fin 16) (i : Fin 32) (h : Fin 16) :
    iblk m c 5 (pt b) (ix3 0 i ⟨32 + h.val, by omega⟩) = m ((c : Thread nD τ).loc main_arg6) (ix3 b i h) :=
  (r5_block m c _ _ _).trans (Entry.v5 m c b i h)

theorem r6_block (b : Fin 16) (y : Fin 128) (d : Fin 1024) :
    iblk m c 6 (pt b) (ix3 0 y d) = V m c (Pipeline.arrRef spec0 6) (ix3 b y d) := by
  blk_ext [iblk, idx (pt b)]

theorem r6 (b : Fin 16) (h : Fin 16) (j : Fin 1024) :
    iblk m c 6 (pt b) (ix3 0 ⟨32 + h.val, by omega⟩ j) = m ((c : Thread nD τ).loc main_arg5) (ix3 b j h) :=
  (r6_block m c _ _ _).trans (Entry.v6 m c b h j)

theorem r7_block (b : Fin 16) (y : Fin 128) (d : Fin 32) :
    iblk m c 7 (pt b) (ix3 0 y d) = V m c (Pipeline.arrRef spec0 7) (ix3 b y d) := by
  blk_ext [iblk, idx (pt b)]

theorem r7 (b : Fin 16) (h : Fin 16) (j : Fin 32) :
    iblk m c 7 (pt b) (ix3 0 ⟨32 + h.val, by omega⟩ j) = m ((c : Thread nD τ).loc main_arg6) (ix3 b j h) :=
  (r7_block m c _ _ _).trans (Entry.v7 m c b h j)

end Cert.KernelIdeal.Reads
-- ==== Proof.Finite.lean ====
module

public import proofs.«01_k».proof.Proof.Gen.Pre_scores_finite
public import Idealize.ShloMosaic.Lib.ReduceAll
public import Idealize.ShloMosaic.Lib.Pointwise
public import Idealize.ShloMosaic.Lib.IdealHost

/-! What the precondition says of the arguments: every entry that enters a score is a real. -/

@[expose] public section
set_option maxRecDepth 16384
noncomputable section
namespace Cert.Pre_scores_finite
open Idealize.ShloMosaic Idealize.ShloMosaic.Pointwise

theorem pos_inf : Ideal.ofBits .f32 0x7F800000#32 = ⊤ := by simp [Ideal.ofBits, Ideal.ieee]

/-- An entry whose absolute value is below infinity is a real. -/
theorem real_of_lt (x : EReal) (h : FloatOps.cmpf (F := Ideal) (φ := .f32) .olt (max x (-x) : EReal) (Ideal.ofBits .f32 0x7F800000#32) = 1#1) :
    ∃ r : ℝ, x = (r : EReal) := by
  rw [pos_inf] at h
  have hlt : max x (-x) < ⊤ := by
    by_contra hn
    have : FloatOps.cmpf (F := Ideal) (φ := .f32) .olt (max x (-x) : EReal) (⊤ : EReal) = BitVec.ofBool (decide (max x (-x) < ⊤)) := rfl
    rw [this, decide_eq_false hn] at h
    exact absurd h (by decide)
  induction x using EReal.rec with
  | bot => simp at hlt
  | top => simp at hlt
  | coe r => exact ⟨r, rfl⟩

theorem real_of_all {s : Shape} {axes : List (Fin s.rank)} (x : FVec Ideal s .f32) (bc : S_.BroadcastsInDim s (![] : Fin 0 → Fin s.rank))
    (init : IVec S_ 1) (h : s.ReducesTo axes S_) (hu : 0 < S_.numel)
    (e : Host.reduce IntOp.andi (cmpf .olt (Host.absf x) (broadcastInDim s ![] bc (constant S_ .f32 0x7F800000#32))) init h hu ix0 = 1#1) (i : s.Idx) :
    ∃ r : ℝ, x i = (r : EReal) :=
  haveI : Subsingleton S_.Idx := ⟨fun _ _ => funext fun a => a.elim0⟩
  real_of_lt _ (Host.reduce_andi_all _ _ h hu ix0 e i)

theorem reals (a0 : FVec Ideal S16x32x10240 .f32) (a1 a2 : FVec Ideal S16x32x2048 .f32) (a3 a4 : FVec Ideal S1x16x1024x16x128 .f32)
    (a5 : FVec Ideal S16x1024x16 .f32) (a6 : FVec Ideal S16x32x16 .f32) (h : fn (F := Ideal) a0 a1 a2 a3 a4 a5 a6 = fun _ => 1#1) :
    (∀ (b : Fin 16) (i : Fin 32) (y : Fin 2048), ∃ r : ℝ, a0 (ix3 b i ⟨8192 + y.val, by omega⟩) = (r : EReal))
      ∧ (∀ j, ∃ r : ℝ, a1 j = (r : EReal)) ∧ (∀ j, ∃ r : ℝ, a3 j = (r : EReal)) ∧ (∀ j, ∃ r : ℝ, a5 j = (r : EReal))
      ∧ ∀ j, ∃ r : ℝ, a6 j = (r : EReal) := by
  have e := congrFun h ix0
  unfold fn fn_part1 at e
  dsimp only at e
  obtain ⟨e, e6⟩ := IntOp.andi_eq_one.1 (show IntOp.andi _ _ = 1#1 from e)
  obtain ⟨e, e5⟩ := IntOp.andi_eq_one.1 (show IntOp.andi _ _ = 1#1 from e)
  obtain ⟨e, e3⟩ := IntOp.andi_eq_one.1 (show IntOp.andi _ _ = 1#1 from e)
  obtain ⟨e0, e1⟩ := IntOp.andi_eq_one.1 (show IntOp.andi _ _ = 1#1 from e)
  refine ⟨fun b i y => ?_, real_of_all a1 _ _ _ _ e1, real_of_all a3 _ _ _ _ e3, real_of_all a5 _ _ _ _ e5, real_of_all a6 _ _ _ _ e6⟩
  obtain ⟨r, hr⟩ := real_of_all _ _ _ _ _ e0 (ix3 b i y)
  refine ⟨r, hr ▸ (extractStridedSlice_apply _ _ _ _ _ fun a => ?_).symm⟩
  fin_cases a
  · show b.val = 0 + b.val; omega
  · show i.val = 0 + i.val; omega
  · rfl

end Cert.Pre_scores_finite
-- ==== Proof.AttnValue.lean ====
module

public import proofs.«01_k».proof.Proof.Spec
public import proofs.«01_k».proof.Proof.KernelOut
public import proofs.«01_k».proof.Proof.Reads
public import proofs.«01_k».proof.Proof.Finite
public import proofs.«01_k».proof.Proof.Gen.KernelIdeal.Value
public import proofs.«01_k».proof.Proof.Gen.ReferenceIdeal.Run
public import proofs.«01_k».proof.Defs

/-! The attention over the extended reals: the kernel's result is the reference's function of the arguments, wherever every score is finite. -/

@[expose] public section
set_option maxRecDepth 16384
noncomputable section
namespace Cert.KernelIdeal.Heads
open Cert.KernelIdeal Cert.KernelIdeal.Gen Idealize.ShloMosaic Idealize.ShloMosaic.TcCoe Idealize.SL.Sem Idealize.ShloMosaic.Pointwise Cert.Attn

/-- What head `h` stores at a row and column, its blocks holding the given reals: the softmax of the row's scores. -/
theorem stored_row (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x32x2048 .f32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x32x128 .f32) (harg6 : arg6.IsWhole) (arg7 : Memref sig .tc .vmem S1x128x1024 .f32) (harg7 : arg7.IsWhole) (arg8 : Memref sig .tc .vmem S1x128x32 .f32) (harg8 : arg8.IsWhole) (arg9 : Memref sig .tc .vmem S1x32x2048 .bf16) (harg9 : arg9.IsWhole)
    (x0 : Vec Ideal S1x32x2048 .f32) (x1 : Vec Ideal S1x32x2048 .f32) (x2 : Vec Ideal S1x32x2048 .f32) (x3 : Vec Ideal S1x16384x128 .f32) (x4 : Vec Ideal S1x16384x128 .f32) (x5 : Vec Ideal S1x32x128 .f32) (x6 : Vec Ideal S1x128x1024 .f32) (x7 : Vec Ideal S1x128x32 .f32) (h : ℕ) (hh : h < 16)
    (Q : Fin 32 → Fin 2048 → ℝ) (K1 : Fin 32 → Fin 2048 → ℝ) (K3 : Fin 1024 → Fin 128 → ℝ) (cp : Fin 1024 → ℝ) (cn : Fin 32 → ℝ) (W : Fin 1056 → EReal)
    (r : Fin 32) (d : Fin 128)
    (g0 : ∀ i y, x0 (ix3 0 i y) = (Q i y : EReal)) (g1 : ∀ j y, x1 (ix3 0 j y) = (K1 j y : EReal))
    (g3 : ∀ (j : Fin 1024) x, x3 (ix3 0 ⟨h + 16 * j.val, by omega⟩ x) = (K3 j x : EReal))
    (g5 : ∀ j, x5 (ix3 0 j ⟨32 + h, by omega⟩) = (cn j : EReal)) (g6 : ∀ j, x6 (ix3 0 ⟨32 + h, by omega⟩ j) = (cp j : EReal))
    (g7 : ∀ j, x7 (ix3 0 ⟨32 + h, by omega⟩ j) = (cn j : EReal))
    (g4 : ∀ j : Fin 1024, x4 (ix3 0 ⟨h + 16 * j.val, by omega⟩ d) = W (Fin.castAdd 32 j))
    (g2 : ∀ j : Fin 32, x2 (ix3 0 j ⟨h * 128 + d.val, by omega⟩) = W (Fin.natAdd 1024 j)) :
    stored c i arg1 harg1 arg2 harg2 arg3 harg3 arg4 harg4 arg5 harg5 arg6 harg6 arg7 harg7 arg8 harg8 arg9 harg9 x0 x1 x2 x3 x4 x5 x6 x7 h hh (ix3 0 r d) =
      row (cn r) (scores (fun x => Q r ⟨h * 128 + x.val, by omega⟩) (keys K3 fun j x => K1 j ⟨h * 128 + x.val, by omega⟩) (decays cp cn) r) W := by
  unfold stored piece
  refine head_softmax _ _ _ _ _ _ _ _ r d (scores _ _ _ r) W (cn r) ?_ (fun j => ?_) (fun j => ?_) (fun j => ?_) (fun j => ?_) (scores_ne_top _ _ _ r) (scores_zero _ _ _ r)
  · refine (col_apply _ h hh r).trans ?_
    rw [ldAll, g5, log2e]
  · simp only [ldCol _ _ _ h hh, ldRows _ _ _ h hh, ldC _ _ _ h hh, g0, g3, g6, q_scale, log2e]
    rw [score]
    unfold scores
    rw [if_pos (show (Fin.castAdd 32 j).val ≤ 1024 + r.val by show j.val ≤ _; omega)]
    have hk : ∀ x, keys K3 (fun j x => K1 j ⟨h * 128 + x.val, by omega⟩) (Fin.castAdd 32 j) x = K3 j x := fun x => dif_pos j.isLt
    have hd : decays cp cn (Fin.castAdd 32 j) = cp j := dif_pos j.isLt
    simp only [hk, hd]
  · simp only [ldCol _ _ _ h hh, ldN _ _ _ h hh, g0, g1, g7, q_scale, log2e]
    rw [score, neg_inf, WordCmp.cmpi_sle_ofNat (by have := j.isLt; norm_num; omega) (by have := r.isLt; norm_num; omega)]
    have hk : ∀ x, keys K3 (fun j x => K1 j ⟨h * 128 + x.val, by omega⟩) (Fin.natAdd 1024 j) x = K1 j ⟨h * 128 + x.val, by omega⟩ := fun x =>
      (dif_neg (by show ¬ 1024 + j.val < 1024; omega)).trans (congrArg (fun a => K1 a _) (Fin.ext (by show 1024 + j.val - 1024 = j.val; omega)))
    have hd : decays cp cn (Fin.natAdd 1024 j) = cn j :=
      (dif_neg (by show ¬ 1024 + j.val < 1024; omega)).trans (congrArg cn (Fin.ext (by show 1024 + j.val - 1024 = j.val; omega)))
    unfold scores Scalar.select
    by_cases hs : j.val ≤ r.val
    · rw [decide_eq_true hs, if_pos (by decide), if_pos (show (Fin.natAdd 1024 j).val ≤ 1024 + r.val by show 1024 + j.val ≤ _; omega)]
      simp only [hk, hd]
    · rw [decide_eq_false hs, if_neg (by decide), if_neg (show ¬ (Fin.natAdd 1024 j).val ≤ 1024 + r.val by show ¬ 1024 + j.val ≤ _; omega),
        EReal.bot_mul_coe_of_pos Cert.Softmax.L_pos]
  · rw [ldRows _ _ _ h hh]; exact g4 j
  · rw [ldCol _ _ _ h hh]; exact g2 j

variable (m : (ℓ : Loc nD τ sig) → Buf (Elt Ideal) ℓ) (c : Dev nD)

/-- The attention as the reference computes it, of the kernel's arguments. -/
def G : FVec Ideal S16x32x2048 .f32 :=
  Cert.ReferenceIdeal.Attn.attend (Cert.ReferenceIdeal.Attn.rows (m ((c : Thread nD τ).loc main_arg4)) (m ((c : Thread nD τ).loc main_arg2)))
    (Cert.ReferenceIdeal.Attn.stage (Cert.ReferenceIdeal.Attn.logits (m ((c : Thread nD τ).loc main_arg0))
      (Cert.ReferenceIdeal.Attn.rows (m ((c : Thread nD τ).loc main_arg3)) (m ((c : Thread nD τ).loc main_arg1)))
      (m ((c : Thread nD τ).loc main_arg5)) (m ((c : Thread nD τ).loc main_arg6))))

/-- The block of stream `b` after the body is the reference's result there. -/
theorem block_eq (hpre : Cert.Pre_KernelIdeal_scores_finite m) (b : Fin 16) (i : Fin 32) (d : Fin 2048) :
    outsAt0 m c (Reads.pt b) (ix3 0 i d) = G m c (ix3 b i d) := by
  obtain ⟨h0, h1, h3, h5, h6⟩ := Cert.Pre_scores_finite.reals _ _ _ _ _ _ _ (hpre c)
  choose Q hQ using h0
  choose A1 hA1 using h1
  choose A3 hA3 using h3
  choose A5 hA5 using h5
  choose A6 hA6 using h6
  have hd : (⟨d.val / 128 * 128 + d.val % 128, by omega⟩ : Fin 2048) = d := Fin.ext (by show d.val / 128 * 128 + d.val % 128 = d.val; omega)
  unfold outsAt0
  rw [out_eq]
  unfold G whole
  refine (stored_row _ _ _ _ _ _ _ _ _ _ _ _ _ _ _ _ _ _ _ _ _ _ _ _ _ _ _ _ (d.val / 128) (by omega) (Q b) (fun j y => A1 (ix3 b j y)) (fun j x => A3 (ix5 0 b j ⟨d.val / 128, by omega⟩ x))
    (fun j => A5 (ix3 b j ⟨d.val / 128, by omega⟩)) (fun j => A6 (ix3 b j ⟨d.val / 128, by omega⟩))
    (fun s => Cert.ReferenceIdeal.Attn.rows (m ((c : Thread nD τ).loc main_arg4)) (m ((c : Thread nD τ).loc main_arg2)) (ix4 b s ⟨d.val / 128, by omega⟩ ⟨d.val % 128, by omega⟩))
    i ⟨d.val % 128, by omega⟩ (fun i y => (Reads.r0 m c b i y).trans (hQ b i y)) (fun j y => (Reads.r1 m c b j y).trans (hA1 _))
    (fun j x => (Reads.r3 m c b ⟨d.val / 128, by omega⟩ j x).trans (hA3 _)) (fun j => (Reads.r5 m c b j ⟨d.val / 128, by omega⟩).trans (hA6 _))
    (fun j => (Reads.r6 m c b ⟨d.val / 128, by omega⟩ j).trans (hA5 _)) (fun j => (Reads.r7 m c b ⟨d.val / 128, by omega⟩ j).trans (hA6 _))
    (fun j => (Reads.r4 m c b ⟨d.val / 128, by omega⟩ j _).trans ?_) (fun j => (Reads.r2 m c b j _).trans ?_)).trans ?_
  · rw [Cert.ReferenceIdeal.Attn.rows_apply]
    rw [dif_pos (show (Fin.castAdd 32 j).val < 1024 from j.isLt)]
    exact congrArg (fun a => m ((c : Thread nD τ).loc main_arg4) (ix5 0 b a _ _)) (Fin.ext rfl)
  · rw [Cert.ReferenceIdeal.Attn.rows_apply, dif_neg (show ¬ (Fin.natAdd 1024 j).val < 1024 by show ¬ 1024 + j.val < 1024; omega)]
    exact congrArg (fun a => m ((c : Thread nD τ).loc main_arg2) (ix3 b a _)) (Fin.ext (by show j.val = 1024 + j.val - 1024; omega))
  · exact (attend_row _ _ b i d _ _ fun s => logits_scores _ _ _ _ _ Q A1 A3 A5 A6 hQ hA1 hA3 hA5 hA6 b ⟨d.val / 128, by omega⟩ i s).symm

theorem emb8 (t : Fin cfg0.N) (y : S1x32x2048.Idx) (b : Fin 16) (hb : b.val = t.val) :
    ((cfg0.win 8).blk t).view.emb y = (ix3 b (y 1) (y 2) : S16x32x2048.Idx) := by
  funext a
  apply Fin.ext
  refine (Pipeline.Window.rect_emb_val win0_8 t y a).trans ?_
  rw [(Reads.idx t).2.2.2.2.2.2.2.2]
  have h0 : (y 0).val = 0 := by have : (y 0).val < 1 := (y 0).isLt; omega
  fin_cases a
  · show t.val * 1 + (y 0).val = b.val; omega
  · show 0 * 32 + (y 1).val = (y 1).val; omega
  · show 0 * 2048 + (y 2).val = (y 2).val; omega

/-- The result array after the run. -/
theorem arr_eq (hpre : Cert.Pre_KernelIdeal_scores_finite m) : (dats m 0 c).arrAt 8 cfg0.N = G m c := by
  refine Pipeline.Dat.arrAt_eq_of_covers (dats m 0 c) 8 (G m c) (by decide +kernel) fun t hf => fun y => ?_
  have hN : t.val < 16 := lt_of_lt_of_eq t.isLt N_0
  have he := emb8 t y ⟨t.val, hN⟩ rfl
  rw [he, after0_8]
  have h0 : (y 0).val = 0 := by have : (y 0).val < 1 := (y 0).isLt; omega
  have hy : y = (ix3 0 (y 1) (y 2) : S1x32x2048.Idx) := by
    funext a
    fin_cases a
    · exact Fin.ext h0
    · rfl
    · rfl
  refine Eq.trans ?_ (block_eq m c hpre ⟨t.val, hN⟩ (y 1) (y 2))
  show outsAt0 m c t _ = outsAt0 m c t _
  exact congrArg _ hy

end Cert.KernelIdeal.Heads
-- ==== Proof.SampleRun.lean ====
module

public import proofs.«01_k».proof.Proof.Gen.SampleIdeal.Launch
public import proofs.«01_k».proof.Proof.Gen.SampleIdeal.Skeleton
public import proofs.«01_k».proof.Proof.Gen.SampleIdeal.Points
public import proofs.«01_k».proof.Proof.Gen.SampleIdeal.Frame
public import Idealize.ShloMosaic.Lib.VecWindow

@[expose] public section

set_option maxRecDepth 16384

noncomputable section

namespace Cert.SampleIdeal.Hand

open Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the sample batch's projection call, one triple for each way through its five conditionals: every
    operand held whole, a stored one left at the stored value and every other one as it was. -/

/-- A load of a whole operand held at the contents that read `X` reads `X`. -/
theorem load_whole {sp : Space} {s : Shape} {e : EltTy} {M : Memref sig Kind.tc sp s e} (h : M.IsWhole) (X : s.Idx → Elt F e)
    {off : Fin s.rank → ℕ} (inb : ∀ a, off a + s.size a ≤ s.size a) :
    View.readAt (Elt F) M.view (Rect.unit off s.size inb).toLoadRect (h.unread X) = X :=
  (View.readAt_full _ _ inb).trans (h.read_unread X)

set_option maxHeartbeats 1000000 in
/-- The conditionals taken: 1, 2. -/
theorem stepA (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mxb : Memref sig .tc .vmem S512x4096 .bf16) (hxb : Mxb.IsWhole)
    (hc0 : k0_cond1 i = 1#1) (hc1 : k0_cond2 i = 1#1) (hc2 : ¬ k0_cond3 i = 1#1) (hc3 : ¬ k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (k0_pay5 (k0_pay2 x) w) ∗ owns (c : Thread nD τ) Mk fullShare (k) ∗ owns (c : Thread nD τ) Mv fullShare (v) ∗ owns (c : Thread nD τ) Ms fullShare (k0_pay3 x ws) ∗ owns (c : Thread nD τ) Mst fullShare (k0_pay4 x ws) ∗ owns (c : Thread nD τ) Mxb fullShare (k0_pay2 x)) -∗ K ⟨⟩))
    ⊢ wp frame (wpE (defs₀ (F := F)) Variants.none c none) E (cc0_inproj i Mx hx Mw hw Mws hws Mo ho Mk hk Mv hv Ms hs Mst hst Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro
    refine (View.read_writes_full _ _ _ _ _).trans (congrArg₂ k0_pay5 ?_ (load_whole hw _ _))
    unfold stepA.sl.v19 stepA.sl.Hxb_1; exact (View.readCov_full _ _ _ _ _).trans (congrArg k0_pay2 (load_whole hx _ _))
  isplitl [Hk]
  · iexists _; isplitr; swap; · iexact Hk
    ipureintro; exact hk.read_unread _
  isplitl [Hv]
  · iexists _; isplitr; swap; · iexact Hv
    ipureintro; exact hv.read_unread _
  isplitl [Hs]
  · iexists _; isplitr; swap; · iexact Hs
    ipureintro
    exact (View.read_writes_full _ _ _ _ _).trans (congrArg₂ k0_pay3 (load_whole hx _ _) (load_whole hws _ _))
  isplitl [Hst]
  · iexists _; isplitr; swap; · iexact Hst
    ipureintro
    exact (View.read_writes_full _ _ _ _ _).trans (congrArg₂ k0_pay4 (load_whole hx _ _) (load_whole hws _ _))
  iexists _; isplitr; swap; · iexact Hxb
  ipureintro
  unfold stepA.sl.Hxb_1; exact (View.read_writes_full _ _ _ _ _).trans (congrArg k0_pay2 (load_whole hx _ _))

set_option maxHeartbeats 1000000 in
/-- The conditionals taken: 2. -/
theorem stepB (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mxb : Memref sig .tc .vmem S512x4096 .bf16) (hxb : Mxb.IsWhole)
    (hc0 : ¬ k0_cond1 i = 1#1) (hc1 : k0_cond2 i = 1#1) (hc2 : ¬ k0_cond3 i = 1#1) (hc3 : ¬ k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (k0_pay5 xb w) ∗ owns (c : Thread nD τ) Mk fullShare (k) ∗ owns (c : Thread nD τ) Mv fullShare (v) ∗ owns (c : Thread nD τ) Ms fullShare (s) ∗ owns (c : Thread nD τ) Mst fullShare (st) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro
    exact (View.read_writes_full _ _ _ _ _).trans (congrArg₂ k0_pay5 (load_whole hxb _ _) (load_whole hw _ _))
  isplitl [Hk]
  · iexists _; isplitr; swap; · iexact Hk
    ipureintro; exact hk.read_unread _
  isplitl [Hv]
  · iexists _; isplitr; swap; · iexact Hv
    ipureintro; exact hv.read_unread _
  isplitl [Hs]
  · iexists _; isplitr; swap; · iexact Hs
    ipureintro; exact hs.read_unread _
  isplitl [Hst]
  · iexists _; isplitr; swap; · iexact Hst
    ipureintro; exact hst.read_unread _
  iexists _; isplitr; swap; · iexact Hxb
  ipureintro; exact hxb.read_unread _

set_option maxHeartbeats 1000000 in
/-- The conditionals taken: 3. -/
theorem stepC (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mxb : Memref sig .tc .vmem S512x4096 .bf16) (hxb : Mxb.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (k0_pay6 xb w) ∗ owns (c : Thread nD τ) Mk fullShare (k) ∗ owns (c : Thread nD τ) Mv fullShare (v) ∗ owns (c : Thread nD τ) Ms fullShare (s) ∗ owns (c : Thread nD τ) Mst fullShare (st) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro
    exact (View.read_writes_full _ _ _ _ _).trans (congrArg₂ k0_pay6 (load_whole hxb _ _) (load_whole hw _ _))
  isplitl [Hk]
  · iexists _; isplitr; swap; · iexact Hk
    ipureintro; exact hk.read_unread _
  isplitl [Hv]
  · iexists _; isplitr; swap; · iexact Hv
    ipureintro; exact hv.read_unread _
  isplitl [Hs]
  · iexists _; isplitr; swap; · iexact Hs
    ipureintro; exact hs.read_unread _
  isplitl [Hst]
  · iexists _; isplitr; swap; · iexact Hst
    ipureintro; exact hst.read_unread _
  iexists _; isplitr; swap; · iexact Hxb
  ipureintro; exact hxb.read_unread _

set_option maxHeartbeats 1000000 in
/-- The conditionals taken: 4. -/
theorem stepD (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mxb : Memref sig .tc .vmem S512x4096 .bf16) (hxb : Mxb.IsWhole)
    (hc0 : ¬ k0_cond1 i = 1#1) (hc1 : ¬ k0_cond2 i = 1#1) (hc2 : ¬ k0_cond3 i = 1#1) (hc3 : k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (o) ∗ owns (c : Thread nD τ) Mk fullShare (k0_pay7 xb w) ∗ owns (c : Thread nD τ) Mv fullShare (v) ∗ owns (c : Thread nD τ) Ms fullShare (s) ∗ owns (c : Thread nD τ) Mst fullShare (st) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro; exact ho.read_unread _
  isplitl [Hk]
  · iexists _; isplitr; swap; · iexact Hk
    ipureintro
    exact (View.read_writes_full _ _ _ _ _).trans (congrArg₂ k0_pay7 (load_whole hxb _ _) (load_whole hw _ _))
  isplitl [Hv]
  · iexists _; isplitr; swap; · iexact Hv
    ipureintro; exact hv.read_unread _
  isplitl [Hs]
  · iexists _; isplitr; swap; · iexact Hs
    ipureintro; exact hs.read_unread _
  isplitl [Hst]
  · iexists _; isplitr; swap; · iexact Hst
    ipureintro; exact hst.read_unread _
  iexists _; isplitr; swap; · iexact Hxb
  ipureintro; exact hxb.read_unread _

set_option maxHeartbeats 1000000 in
/-- The conditionals taken: 5. -/
theorem stepE (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mxb : Memref sig .tc .vmem S512x4096 .bf16) (hxb : Mxb.IsWhole)
    (hc0 : ¬ k0_cond1 i = 1#1) (hc1 : ¬ k0_cond2 i = 1#1) (hc2 : ¬ k0_cond3 i = 1#1) (hc3 : ¬ k0_cond4 i = 1#1) (hc4 : k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (o) ∗ owns (c : Thread nD τ) Mk fullShare (k) ∗ owns (c : Thread nD τ) Mv fullShare (k0_pay8 xb w) ∗ owns (c : Thread nD τ) Ms fullShare (s) ∗ owns (c : Thread nD τ) Mst fullShare (st) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro; exact ho.read_unread _
  isplitl [Hk]
  · iexists _; isplitr; swap; · iexact Hk
    ipureintro; exact hk.read_unread _
  isplitl [Hv]
  · iexists _; isplitr; swap; · iexact Hv
    ipureintro
    exact (View.read_writes_full _ _ _ _ _).trans (congrArg₂ k0_pay8 (load_whole hxb _ _) (load_whole hw _ _))
  isplitl [Hs]
  · iexists _; isplitr; swap; · iexact Hs
    ipureintro; exact hs.read_unread _
  isplitl [Hst]
  · iexists _; isplitr; swap; · iexact Hst
    ipureintro; exact hst.read_unread _
  iexists _; isplitr; swap; · iexact Hxb
  ipureintro; exact hxb.read_unread _

end Cert.SampleIdeal.Hand

end
-- ==== Proof.SampleDat.lean ====
module

public import proofs.«01_k».proof.Proof.SampleRun
public import Idealize.ShloMosaic.Lib.Claim

@[expose] public section

set_option maxRecDepth 16384

noncomputable section

namespace Cert.SampleIdeal.Hand

open Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point

Fourteen points make one block of rows; at its first point the block of `x` is rounded into the scratch, which the other
thirteen read. -/

/-- The point of `t`'s row block at which column block `j` is met, if that is not after `t`; else `t`. -/
def back (t : Fin cfg0.N) (j : ℕ) : Fin cfg0.N := ⟨min t.val (t.val - t.val % 14 + j), Nat.lt_of_le_of_lt (Nat.min_le_left _ _) t.isLt⟩

/-- The rounded rows at a point. -/
def XB (c : Dev nD) (t : Fin cfg0.N) : Vec F S512x4096 .bf16 := k0_pay2 (iblk m c 0 t)
/-- The product of the rows and the columns the point meets. -/
def Prod (c : Dev nD) (t : Fin cfg0.N) : Vec F S512x1024 .f32 := k0_pay5 (XB m c t) (iblk m c 1 t)
/-- The product of the rows and the narrow columns. -/
def Narrow (c : Dev nD) (t : Fin cfg0.N) : Vec F S512x128 .f32 := k0_pay3 (iblk m c 0 t) (iblk m c 2 t)
/-- The same with its axes exchanged. -/
def NarrowT (c : Dev nD) (t : Fin cfg0.N) : Vec F S128x512 .f32 := k0_pay4 (iblk m c 0 t) (iblk m c 2 t)

/-- The scratch between points: after a point that is not the last of its row block, that block's rounded rows. -/
def PhiAt (c : Dev nD) (n : ℕ) : sProp 𝕄 :=
  iprop((∃ d, iprop(⌜∀ t : Fin cfg0.N, t.val + 1 = n → n % 14 ≠ 0 → d = XB m c t⌝
    ∗ owns (c : Thread nD τ) (Memref.whole cc0_scratch0) fullShare d)) ∗ (∃ r, prngReg c r))

/-- The proof data: every output at the last product stored in it, the scratch at the rounded rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Prod m c (back t 9)
    | ⟨4, _⟩ => Prod m c (back t 11)
    | ⟨5, _⟩ => Prod m c t
    | ⟨6, _⟩ => Narrow m c (back t 0)
    | ⟨7, _⟩ => NarrowT m c (back t 0)
  Φ t := (fun n (_ : n ≤ cfg0.N) => PhiAt m c n) t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = Prod m c (back t 9) := by dsimp only [dats]
theorem after_4 (c : Dev nD) (t : Fin cfg0.N) : (dats m 0 c).after 4 t = Prod m c (back t 11) := by dsimp only [dats]
theorem after_5 (c : Dev nD) (t : Fin cfg0.N) : (dats m 0 c).after 5 t = Prod m c t := by dsimp only [dats]
theorem after_6 (c : Dev nD) (t : Fin cfg0.N) : (dats m 0 c).after 6 t = Narrow m c (back t 0) := by dsimp only [dats]
theorem after_7 (c : Dev nD) (t : Fin cfg0.N) : (dats m 0 c).after 7 t = NarrowT m c (back t 0) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem Phi_start (c : Dev nD) (t : Fin cfg0.N) : (dats m 0 c).Φ t.castSucc = PhiAt m c t.val := by
  dsimp only [dats]; exact Pipeline.Dat.Φ_castSucc (fun n (_ : n ≤ cfg0.N) => PhiAt m c n) t
theorem Phi_next (c : Dev nD) (t : Fin cfg0.N) : (dats m 0 c).Φ t.succ = PhiAt m c (t.val + 1) := by
  dsimp only [dats]; simp only [Fin.val_succ]

/-- Within a row block the block of `x` does not move. -/
theorem rows_same (c : Dev nD) (t t' : Fin cfg0.N) (h : t'.val + 1 = t.val) (hj : t.val % 14 ≠ 0) : iblk m c 0 t = iblk m c 0 t' := by
  have hf : (cfg0.win 0).fetch t = false := Bool.eq_false_iff.mpr fun e => hj ((fetch0_0 t).mp e)
  have e := before_0 m c t (iblk m c 0 t)
  rw [(dats m 0 c).before_of_pos 0 t (by omega) hf, (cfg0.win 0).flush_in rfl, if_neg Bool.false_ne_true] at e
  have ht : (⟨t.val - 1, Nat.lt_of_le_of_lt (Nat.sub_le _ _) t.isLt⟩ : Fin cfg0.N) = t' := Fin.ext (by show t.val - 1 = _; omega)
  rw [ht] at e
  refine e.symm.trans ?_
  have hk : (dats m 0 c).left 0 t' (iblk m c 0 t) = (dats m 0 c).after 0 t' := rfl
  rw [hk, after_0]

theorem back_step (t t' : Fin cfg0.N) (j : ℕ) (h : t'.val + 1 = t.val) (hj : j < t.val % 14) : back t j = back t' j := by
  apply Fin.ext; unfold back; dsimp only; omega

theorem back_self (t : Fin cfg0.N) (j : ℕ) (hj : t.val % 14 ≤ j) : back t j = t := by
  apply Fin.ext; unfold back; dsimp only; omega

/-! ## When a result is written back, and what its buffer holds when the body does not store it -/

/-- A result stored at column block `lo` and neither stored nor written back until `hi`: its buffer then holds what was
    stored. -/
theorem hold (c : Dev nD) (w : Fin cfg0.W) (lo hi : ℕ) (hin : (cfg0.win w).isOut = true)
    (hfl : ∀ t : Fin cfg0.N, lo ≤ t.val % 14 → t.val % 14 < hi → (cfg0.win w).flush t = false)
    (hidle : ∀ t : Fin cfg0.N, lo < t.val % 14 → t.val % 14 ≤ hi → cfg0.idle w (cfg0.grid.coords t) = true)
    (hlive : ∀ t : Fin cfg0.N, t.val % 14 = lo → cfg0.idle w (cfg0.grid.coords t) = false)
    (huncut : ∀ t d, (dats m 0 c).kept w t d = (dats m 0 c).after w t)
    (hafter : ∀ t t' : Fin cfg0.N, t'.val + 1 = t.val → lo < t.val % 14 → t.val % 14 ≤ hi → (dats m 0 c).after w t = (dats m 0 c).after w t') :
    ∀ (n : ℕ) (t : Fin cfg0.N) (d), t.val = n → lo < t.val % 14 → t.val % 14 ≤ hi → (dats m 0 c).before w t d = (dats m 0 c).after w t := by
  intro n
  induction n with
  | zero => intro t d hn hlo; rw [hn] at hlo; omega
  | succ n ih =>
    intro t d hn hlo hhi
    have hf : (cfg0.win w).fetch t = false := by unfold Window.fetch; rw [hin]; rfl
    have ht' : n < cfg0.N := by have := t.isLt; omega
    have e1 : (⟨t.val - 1, Nat.lt_of_le_of_lt (Nat.sub_le _ _) t.isLt⟩ : Fin cfg0.N) = ⟨n, ht'⟩ := Fin.ext (by show t.val - 1 = n; omega)
    rw [(dats m 0 c).before_of_pos w t (by omega) hf, e1, hfl ⟨n, ht'⟩ (by show lo ≤ n % 14; omega) (by show n % 14 < hi; omega), if_neg Bool.false_ne_true,
      hafter t ⟨n, ht'⟩ (by show n + 1 = _; omega) hlo hhi]
    unfold Dat.left
    by_cases hl : n % 14 = lo
    · rw [hlive ⟨n, ht'⟩ hl]; exact huncut _ _
    · rw [hidle ⟨n, ht'⟩ (by show lo < n % 14; omega) (by show n % 14 ≤ hi; omega)]
      exact ih ⟨n, ht'⟩ d rfl (by show lo < n % 14; omega) (by show n % 14 ≤ hi; omega)

theorem live_3 : ∀ t : Fin cfg0.N, cfg0.idle 3 (cfg0.grid.coords t) = false ↔ t.val % 14 ≤ 9 :=
  (by decide +kernel : ∀ t : Fin grid0.N, idle0 3 (grid0.coords t) = false ↔ t.val % 14 ≤ 9)
theorem idle_3 (t : Fin cfg0.N) (h : ¬ t.val % 14 ≤ 9) : cfg0.idle 3 (cfg0.grid.coords t) = true := by
  cases e : cfg0.idle 3 (cfg0.grid.coords t)
  · exact absurd ((live_3 t).mp e) h
  · rfl
theorem live_4 : ∀ t : Fin cfg0.N, cfg0.idle 4 (cfg0.grid.coords t) = false ↔ (10 ≤ t.val % 14 ∧ t.val % 14 ≤ 11) :=
  (by decide +kernel : ∀ t : Fin grid0.N, idle0 4 (grid0.coords t) = false ↔ (10 ≤ t.val % 14 ∧ t.val % 14 ≤ 11))
theorem idle_4 (t : Fin cfg0.N) (h : ¬ (10 ≤ t.val % 14 ∧ t.val % 14 ≤ 11)) : cfg0.idle 4 (cfg0.grid.coords t) = true := by
  cases e : cfg0.idle 4 (cfg0.grid.coords t)
  · exact absurd ((live_4 t).mp e) h
  · rfl
theorem live_5 : ∀ t : Fin cfg0.N, cfg0.idle 5 (cfg0.grid.coords t) = false ↔ 12 ≤ t.val % 14 :=
  (by decide +kernel : ∀ t : Fin grid0.N, idle0 5 (grid0.coords t) = false ↔ 12 ≤ t.val % 14)
theorem idle_5 (t : Fin cfg0.N) (h : ¬ 12 ≤ t.val % 14) : cfg0.idle 5 (cfg0.grid.coords t) = true := by
  cases e : cfg0.idle 5 (cfg0.grid.coords t)
  · exact absurd ((live_5 t).mp e) h
  · rfl
theorem live_6 : ∀ t : Fin cfg0.N, cfg0.idle 6 (cfg0.grid.coords t) = false ↔ t.val % 14 = 0 :=
  (by decide +kernel : ∀ t : Fin grid0.N, idle0 6 (grid0.coords t) = false ↔ t.val % 14 = 0)
theorem idle_6 (t : Fin cfg0.N) (h : ¬ t.val % 14 = 0) : cfg0.idle 6 (cfg0.grid.coords t) = true := by
  cases e : cfg0.idle 6 (cfg0.grid.coords t)
  · exact absurd ((live_6 t).mp e) h
  · rfl
theorem live_7 : ∀ t : Fin cfg0.N, cfg0.idle 7 (cfg0.grid.coords t) = false ↔ t.val % 14 = 0 :=
  (by decide +kernel : ∀ t : Fin grid0.N, idle0 7 (grid0.coords t) = false ↔ t.val % 14 = 0)
theorem idle_7 (t : Fin cfg0.N) (h : ¬ t.val % 14 = 0) : cfg0.idle 7 (cfg0.grid.coords t) = true := by
  cases e : cfg0.idle 7 (cfg0.grid.coords t)
  · exact absurd ((live_7 t).mp e) h
  · rfl
theorem flush_3 : ∀ t : Fin cfg0.N, (cfg0.win 3).flush t = true ↔ (t.val % 14 ≤ 8 ∨ t.val % 14 = 13) :=
  (by decide +kernel : ∀ t : Fin grid0.N, win0_3.flush t = true ↔ (t.val % 14 ≤ 8 ∨ t.val % 14 = 13))
theorem flush_4 : ∀ t : Fin cfg0.N, (cfg0.win 4).flush t = true ↔ (t.val % 14 = 10 ∨ t.val % 14 = 13) :=
  (by decide +kernel : ∀ t : Fin grid0.N, win0_4.flush t = true ↔ (t.val % 14 = 10 ∨ t.val % 14 = 13))
theorem flush_5 : ∀ t : Fin cfg0.N, (cfg0.win 5).flush t = true ↔ 12 ≤ t.val % 14 :=
  (by decide +kernel : ∀ t : Fin grid0.N, win0_5.flush t = true ↔ 12 ≤ t.val % 14)
theorem flush_6 : ∀ t : Fin cfg0.N, (cfg0.win 6).flush t = true ↔ t.val % 14 = 13 :=
  (by decide +kernel : ∀ t : Fin grid0.N, win0_6.flush t = true ↔ t.val % 14 = 13)
theorem flush_7 : ∀ t : Fin cfg0.N, (cfg0.win 7).flush t = true ↔ t.val % 14 = 13 :=
  (by decide +kernel : ∀ t : Fin grid0.N, win0_7.flush t = true ↔ t.val % 14 = 13)
theorem hold_3 (c : Dev nD) (t : Fin cfg0.N) (d) (h1 : 9 < t.val % 14) (h2 : t.val % 14 ≤ 13) : (dats m 0 c).before 3 t d = (dats m 0 c).after 3 t :=
  hold m c 3 9 13 rfl (fun t h h' => Bool.eq_false_iff.mpr fun e => by have := (flush_3 t).mp e; omega)
    (fun t h h' => idle_3 t (by omega)) (fun t h => (live_3 t).mpr (by omega)) (fun _ _ => rfl)
    (fun t t' h h1 h2 => by rw [after_3, after_3, back_step t t' 9 h (by omega)]) t.val t d rfl h1 h2
theorem hold_4 (c : Dev nD) (t : Fin cfg0.N) (d) (h1 : 11 < t.val % 14) (h2 : t.val % 14 ≤ 13) : (dats m 0 c).before 4 t d = (dats m 0 c).after 4 t :=
  hold m c 4 11 13 rfl (fun t h h' => Bool.eq_false_iff.mpr fun e => by have := (flush_4 t).mp e; omega)
    (fun t h h' => idle_4 t (by omega)) (fun t h => (live_4 t).mpr (by omega)) (fun _ _ => rfl)
    (fun t t' h h1 h2 => by rw [after_4, after_4, back_step t t' 11 h (by omega)]) t.val t d rfl h1 h2
theorem hold_6 (c : Dev nD) (t : Fin cfg0.N) (d) (h1 : 0 < t.val % 14) (h2 : t.val % 14 ≤ 13) : (dats m 0 c).before 6 t d = (dats m 0 c).after 6 t :=
  hold m c 6 0 13 rfl (fun t h h' => Bool.eq_false_iff.mpr fun e => by have := (flush_6 t).mp e; omega)
    (fun t h h' => idle_6 t (by omega)) (fun t h => (live_6 t).mpr (by omega)) (fun _ _ => rfl)
    (fun t t' h h1 h2 => by rw [after_6, after_6, back_step t t' 0 h (by omega)]) t.val t d rfl h1 h2
theorem hold_7 (c : Dev nD) (t : Fin cfg0.N) (d) (h1 : 0 < t.val % 14) (h2 : t.val % 14 ≤ 13) : (dats m 0 c).before 7 t d = (dats m 0 c).after 7 t :=
  hold m c 7 0 13 rfl (fun t h h' => Bool.eq_false_iff.mpr fun e => by have := (flush_7 t).mp e; omega)
    (fun t h h' => idle_7 t (by omega)) (fun t h => (live_7 t).mpr (by omega)) (fun _ _ => rfl)
    (fun t t' h h1 h2 => by rw [after_7, after_7, back_step t t' 0 h (by omega)]) t.val t d rfl h1 h2

/-! ## The body's obligation -/

/-- A stored result is handed on at what was stored. -/
theorem give (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ ((dats m 0 c).leavesExact w t : sProp 𝕄) := by
  unfold Dat.leavesExact; rw [h]

/-- A result not stored is handed back as it was found. -/
theorem keep (c : Dev nD) (w : Fin cfg0.W) (t : Fin cfg0.N) (d) (h : cfg0.idle w (cfg0.grid.coords t) = true)
    (hb : (cfg0.win w).flush t = true → (dats m 0 c).before w t d = (dats m 0 c).after w t) :
    owns (c : Thread nD τ) ((cfg0.win w).stage (cfg0.slots t w)) fullShare ((dats m 0 c).before w t d) ⊢ ((dats m 0 c).leavesExact w t : sProp 𝕄) := by
  unfold Dat.leavesExact; rw [h]
  cases hf : (cfg0.win w).flush t
  · iintro H; iexists d; iexact H
  · rw [hb hf]

theorem taken_0 : ∀ t : Fin cfg0.N, k0_cond1 (grid0.coords t) = 1#1 ↔ t.val % 14 = 0 :=
  (by decide +kernel : ∀ t : Fin grid0.N, k0_cond1 (grid0.coords t) = 1#1 ↔ t.val % 14 = 0)
theorem taken_1 : ∀ t : Fin cfg0.N, k0_cond2 (grid0.coords t) = 1#1 ↔ t.val % 14 ≤ 7 :=
  (by decide +kernel : ∀ t : Fin grid0.N, k0_cond2 (grid0.coords t) = 1#1 ↔ t.val % 14 ≤ 7)
theorem taken_2 : ∀ t : Fin cfg0.N, k0_cond3 (grid0.coords t) = 1#1 ↔ (8 ≤ t.val % 14 ∧ t.val % 14 ≤ 9) :=
  (by decide +kernel : ∀ t : Fin grid0.N, k0_cond3 (grid0.coords t) = 1#1 ↔ (8 ≤ t.val % 14 ∧ t.val % 14 ≤ 9))
theorem taken_3 : ∀ t : Fin cfg0.N, k0_cond4 (grid0.coords t) = 1#1 ↔ (10 ≤ t.val % 14 ∧ t.val % 14 ≤ 11) :=
  (by decide +kernel : ∀ t : Fin grid0.N, k0_cond4 (grid0.coords t) = 1#1 ↔ (10 ≤ t.val % 14 ∧ t.val % 14 ≤ 11))
theorem taken_4 : ∀ t : Fin cfg0.N, k0_cond5 (grid0.coords t) = 1#1 ↔ 12 ≤ t.val % 14 :=
  (by decide +kernel : ∀ t : Fin grid0.N, k0_cond5 (grid0.coords t) = 1#1 ↔ 12 ≤ t.val % 14)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands on. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
theorem pointA (c : Dev nD) (t : Fin cfg0.N) (hj : t.val % 14 = 0) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (stepA c (grid0.coords t) _ _ _ _ _ _ _ _ _ _ _ _ _ _ _ _ _ _ ((taken_0 t).mpr (by omega)) ((taken_1 t).mpr (by omega)) (fun h => absurd ((taken_2 t).mp h) (by omega)) (fun h => absurd ((taken_3 t).mp h) (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply give m c 3 t ((live_3 t).mpr (by omega)); rw [after_3, back_self t 9 (by omega)]; iexact H3
  isplitl [H4]; · iapply keep m c 4 t d4 (idle_4 t (by omega)) (fun e => by have hf := (flush_4 t).mp e; first | (exfalso; omega) | exact hold_4 m c t _ (by omega) (by omega)); iexact H4
  isplitl [H5]; · iapply keep m c 5 t d5 (idle_5 t (by omega)) (fun e => by have hf := (flush_5 t).mp e; exfalso; omega); iexact H5
  isplitl [H6]; · iapply give m c 6 t ((live_6 t).mpr (by omega)); rw [after_6, back_self t 0 (by omega)]; iexact H6
  iapply give m c 7 t ((live_7 t).mpr (by omega)); rw [after_7, back_self t 0 (by omega)]; iexact H7

set_option maxHeartbeats 2000000 in
theorem pointB (c : Dev nD) (t : Fin cfg0.N) (hj : t.val % 14 ≠ 0) (hj2 : t.val % 14 ≤ 7) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepB c (grid0.coords t) _ _ _ _ _ _ _ _ _ _ _ _ _ _ _ _ _ _ (fun h => absurd ((taken_0 t).mp h) (by omega)) ((taken_1 t).mpr (by omega)) (fun h => absurd ((taken_2 t).mp h) (by omega)) (fun h => absurd ((taken_3 t).mp h) (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply give m c 3 t ((live_3 t).mpr (by omega)); rw [after_3, back_self t 9 (by omega)]; iexact H3
  isplitl [H4]; · iapply keep m c 4 t d4 (idle_4 t (by omega)) (fun e => by have hf := (flush_4 t).mp e; first | (exfalso; omega) | exact hold_4 m c t _ (by omega) (by omega)); iexact H4
  isplitl [H5]; · iapply keep m c 5 t d5 (idle_5 t (by omega)) (fun e => by have hf := (flush_5 t).mp e; exfalso; omega); iexact H5
  isplitl [H6]; · iapply keep m c 6 t d6 (idle_6 t (by omega)) (fun e => by have hf := (flush_6 t).mp e; first | (exfalso; omega) | exact hold_6 m c t _ (by omega) (by omega)); iexact H6
  iapply keep m c 7 t d7 (idle_7 t (by omega)) (fun e => by have hf := (flush_7 t).mp e; first | (exfalso; omega) | exact hold_7 m c t _ (by omega) (by omega)); iexact H7

set_option maxHeartbeats 2000000 in
theorem pointC (c : Dev nD) (t : Fin cfg0.N) (hj : 8 ≤ t.val % 14) (hj2 : t.val % 14 ≤ 9) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepC c (grid0.coords t) _ _ _ _ _ _ _ _ _ _ _ _ _ _ _ _ _ _ (fun h => absurd ((taken_0 t).mp h) (by omega)) (fun h => absurd ((taken_1 t).mp h) (by omega)) ((taken_2 t).mpr (by omega)) (fun h => absurd ((taken_3 t).mp h) (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply give m c 3 t ((live_3 t).mpr (by omega)); rw [after_3, back_self t 9 (by omega)]; iexact H3
  isplitl [H4]; · iapply keep m c 4 t d4 (idle_4 t (by omega)) (fun e => by have hf := (flush_4 t).mp e; first | (exfalso; omega) | exact hold_4 m c t _ (by omega) (by omega)); iexact H4
  isplitl [H5]; · iapply keep m c 5 t d5 (idle_5 t (by omega)) (fun e => by have hf := (flush_5 t).mp e; exfalso; omega); iexact H5
  isplitl [H6]; · iapply keep m c 6 t d6 (idle_6 t (by omega)) (fun e => by have hf := (flush_6 t).mp e; first | (exfalso; omega) | exact hold_6 m c t _ (by omega) (by omega)); iexact H6
  iapply keep m c 7 t d7 (idle_7 t (by omega)) (fun e => by have hf := (flush_7 t).mp e; first | (exfalso; omega) | exact hold_7 m c t _ (by omega) (by omega)); iexact H7

set_option maxHeartbeats 2000000 in
theorem pointD (c : Dev nD) (t : Fin cfg0.N) (hj : 10 ≤ t.val % 14) (hj2 : t.val % 14 ≤ 11) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepD c (grid0.coords t) _ _ _ _ _ _ _ _ _ _ _ _ _ _ _ _ _ _ (fun h => absurd ((taken_0 t).mp h) (by omega)) (fun h => absurd ((taken_1 t).mp h) (by omega)) (fun h => absurd ((taken_2 t).mp h) (by omega)) ((taken_3 t).mpr (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply keep m c 3 t d3 (idle_3 t (by omega)) (fun e => by have hf := (flush_3 t).mp e; first | (exfalso; omega) | exact hold_3 m c t _ (by omega) (by omega)); iexact H3
  isplitl [H4]; · iapply give m c 4 t ((live_4 t).mpr (by omega)); rw [after_4, back_self t 11 (by omega)]; iexact H4
  isplitl [H5]; · iapply keep m c 5 t d5 (idle_5 t (by omega)) (fun e => by have hf := (flush_5 t).mp e; exfalso; omega); iexact H5
  isplitl [H6]; · iapply keep m c 6 t d6 (idle_6 t (by omega)) (fun e => by have hf := (flush_6 t).mp e; first | (exfalso; omega) | exact hold_6 m c t _ (by omega) (by omega)); iexact H6
  iapply keep m c 7 t d7 (idle_7 t (by omega)) (fun e => by have hf := (flush_7 t).mp e; first | (exfalso; omega) | exact hold_7 m c t _ (by omega) (by omega)); iexact H7

set_option maxHeartbeats 2000000 in
theorem pointE (c : Dev nD) (t : Fin cfg0.N) (hj : 12 ≤ t.val % 14) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepE c (grid0.coords t) _ _ _ _ _ _ _ _ _ _ _ _ _ _ _ _ _ _ (fun h => absurd ((taken_0 t).mp h) (by omega)) (fun h => absurd ((taken_1 t).mp h) (by omega)) (fun h => absurd ((taken_2 t).mp h) (by omega)) (fun h => absurd ((taken_3 t).mp h) (by omega)) ((taken_4 t).mpr (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply keep m c 3 t d3 (idle_3 t (by omega)) (fun e => by have hf := (flush_3 t).mp e; first | (exfalso; omega) | exact hold_3 m c t _ (by omega) (by omega)); iexact H3
  isplitl [H4]; · iapply keep m c 4 t d4 (idle_4 t (by omega)) (fun e => by have hf := (flush_4 t).mp e; first | (exfalso; omega) | exact hold_4 m c t _ (by omega) (by omega)); iexact H4
  isplitl [H5]; · iapply give m c 5 t ((live_5 t).mpr (by omega)); rw [after_5]; iexact H5
  isplitl [H6]; · iapply keep m c 6 t d6 (idle_6 t (by omega)) (fun e => by have hf := (flush_6 t).mp e; first | (exfalso; omega) | exact hold_6 m c t _ (by omega) (by omega)); iexact H6
  iapply keep m c 7 t d7 (idle_7 t (by omega)) (fun e => by have hf := (flush_7 t).mp e; first | (exfalso; omega) | exact hold_7 m c t _ (by omega) (by omega)); iexact H7

theorem point (c : Dev nD) (t : Fin cfg0.N) :
    bodyPre m c t ⊢ wp frame (wpE (defs₀ (F := F)) Variants.none c none) Set.univ (bodyAt0 t) (fun _ => bodyPost m c t) := by
  by_cases h0 : t.val % 14 = 0
  · exact pointA m c t h0
  by_cases h1 : t.val % 14 ≤ 7
  · exact pointB m c t h0 h1
  by_cases h2 : t.val % 14 ≤ 9
  · exact pointC m c t (by omega) h2
  by_cases h3 : t.val % 14 ≤ 11
  · exact pointD m c t (by omega) h3
  exact pointE m c t (by omega)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

/-! ## The launch -/

theorem enter (c : Dev nD) : (Pipeline.ΦA spec0 c : sProp 𝕄) ⊢ (dats m 0 c).Φ 0 := by
  rw [show (dats m 0 c).Φ 0 = PhiAt m c 0 from by dsimp only [dats]; rfl]
  unfold Pipeline.ΦA PhiAt
  rw [scopedRest0_eq]; simp only [owns_whole]
  iintro ⟨⟨%d, H⟩, Hg⟩
  isplitl [H]
  · iexists _
    isplitr
    swap
    · iexact H
    ipureintro
    intro t h; omega
  iexact Hg

theorem leave (c : Dev nD) : (dats m 0 c).Φ (Fin.last cfg0.N) ⊢ (Pipeline.ΦA spec0 c : sProp 𝕄) := by
  rw [show (dats m 0 c).Φ (Fin.last cfg0.N) = PhiAt m c cfg0.N from by dsimp only [dats]; rfl]
  unfold Pipeline.ΦA PhiAt
  rw [scopedRest0_eq]; simp only [owns_whole]
  iintro ⟨⟨%d, -, H⟩, Hg⟩
  isplitl [H]
  · iexists _; iexact H
  iexact Hg

/-- Every run ends, with the results at the write-backs of the products, what is kept of them at the lines after the
call, and every counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.SampleIdeal.Hand

end
-- ==== Proof.SampleColumns.lean ====
module

public import proofs.«01_k».proof.Proof.Gen.SampleRefIdeal.Run
public import Idealize.ShloMosaic.Lib.Pointwise
public import Idealize.ShloMosaic.Lib.IdealHost

/-! The combined projection at a row and a column, and the reference's results as its columns. -/

@[expose] public section
set_option maxRecDepth 16384
noncomputable section
namespace Cert.SampleRefIdeal.Columns
open Cert.SampleRefIdeal Cert.SampleRefIdeal.Gen Idealize.ShloMosaic Idealize.ShloMosaic.TcCoe Idealize.SL.Sem Idealize.ShloMosaic.Pointwise

/-- The projection of row `r` by column `n` of the weights. -/
def proj (x : FVec Ideal S16x32x4096 .f32) (w : FVec Ideal S1x4096x14384 .f32) (r : Fin 512) (n : Fin 14384) : EReal :=
  ∑ k : Fin 4096, x (ix3 ⟨r.val / 32, by omega⟩ ⟨r.val % 32, by omega⟩ k) * w (ix3 0 k n)

/-- Column `n` of the packed wide weights is this column of the weights. -/
def wide (n : ℕ) (h : n < 14336) : Fin 14384 := ⟨if n < 8192 then n else n + 32, by split <;> omega⟩

/-- The narrow columns: two of 16, the forget gate's 16 twice, zeros. -/
def narrow (x : FVec Ideal S16x32x4096 .f32) (w : FVec Ideal S1x4096x14384 .f32) (r : Fin 512) (n : Fin 128) : EReal :=
  if h : n.val < 32 then proj x w r ⟨8192 + n.val, by omega⟩
  else if h : n.val < 48 then proj x w r ⟨14336 + n.val, by omega⟩
  else if h : n.val < 64 then proj x w r ⟨14320 + n.val, by omega⟩ else 0

def main (x : FVec Ideal S16x32x4096 .f32) (w : FVec Ideal S1x4096x14384 .f32) : FVec Ideal S512x10240 .f32 :=
  fun i => proj x w (i 0) (wide (i 1).val (by have : (i 1).val < 10240 := (i 1).isLt; omega))
def keys (x : FVec Ideal S16x32x4096 .f32) (w : FVec Ideal S1x4096x14384 .f32) : FVec Ideal S512x2048 .f32 :=
  fun i => proj x w (i 0) ⟨10272 + (i 1).val, by have : (i 1).val < 2048 := (i 1).isLt; omega⟩
def values (x : FVec Ideal S16x32x4096 .f32) (w : FVec Ideal S1x4096x14384 .f32) : FVec Ideal S512x2048 .f32 :=
  fun i => proj x w (i 0) ⟨12320 + (i 1).val, by have : (i 1).val < 2048 := (i 1).isLt; omega⟩
def small (x : FVec Ideal S16x32x4096 .f32) (w : FVec Ideal S1x4096x14384 .f32) : FVec Ideal S512x128 .f32 :=
  fun i => narrow x w (i 0) (i 1)
def smallT (x : FVec Ideal S16x32x4096 .f32) (w : FVec Ideal S1x4096x14384 .f32) : FVec Ideal S128x512 .f32 :=
  fun i => narrow x w (i 1) (i 0)

/-- The first columns of the projection, by stream and frame. -/
def frames (x : FVec Ideal S16x32x4096 .f32) (w : FVec Ideal S1x4096x14384 .f32) : FVec Ideal S16x32x6144 .f32 :=
  fun i => proj x w ⟨(i 0).val * 32 + (i 1).val, by have h0 : (i 0).val < 16 := (i 0).isLt; have h1 : (i 1).val < 32 := (i 1).isLt; omega⟩
    ⟨(i 2).val, by have h2 : (i 2).val < 6144 := (i 2).isLt; omega⟩

/-- The last three rows of `h` followed by `y`. -/
def lastRows (h : FVec Ideal S1x16x3x6144 .f32) (y : FVec Ideal S16x32x6144 .f32) : FVec Ideal S1x16x3x6144 .f32 :=
  broadcastInDim S1x16x3x6144 ![1, 2, 3] bcast_S16x3x6144_S1x16x3x6144_1_2_3 (extractStridedSlice S16x3x6144 ![0, 32, 0] (concatenate S16x35x6144 1 [⟨S16x3x6144, shapeCast S16x3x6144 h shapeCasts_S1x16x3x6144_S16x3x6144⟩, ⟨S16x32x6144, y⟩] concatenates_S16x3x6144_S16x32x6144_S16x35x6144_d1) slices_S16x35x6144_S16x3x6144_0_32_0)

/-- A projection's `2048` columns by stream, frame, head and lane. -/
def byHead (y : FVec Ideal S512x2048 .f32) : FVec Ideal S1x16x32x16x128 .f32 := shapeCast S1x16x32x16x128 y shapeCasts_S512x2048_S1x16x32x16x128

/-- The whole projection, as the reference computes it. -/
def whole (x : FVec Ideal S16x32x4096 .f32) (w : FVec Ideal S1x4096x14384 .f32) : FVec Ideal S512x14384 .f32 :=
  shapeCast _ (Host.dotGeneral dot_S16x32x4096_S4096x14384_S16x32x14384_2_0_01_1_n_n none x (shapeCast _ w shapeCasts_S1x4096x14384_S4096x14384)) shapeCasts_S16x32x14384_S512x14384

theorem whole_apply (x : FVec Ideal S16x32x4096 .f32) (w : FVec Ideal S1x4096x14384 .f32) (r : Fin 512) (n : Fin 14384) :
    whole x w (ix2 r n) = proj x w r n := by
  unfold proj
  pointwise [whole]

theorem main_eq (X : FVec Ideal S512x14384 .f32) (x : FVec Ideal S16x32x4096 .f32) (w : FVec Ideal S1x4096x14384 .f32) (h : ∀ r n, X (ix2 r n) = proj x w r n) :
    (concatenate S512x10240 1 [⟨S512x6144, (extractStridedSlice S512x6144 ![0, 0] X slices_S512x14384_S512x6144_0_0)⟩, ⟨S512x2048, (extractStridedSlice S512x2048 ![0, 6144] X slices_S512x14384_S512x2048_0_6144)⟩, ⟨S512x2048, (extractStridedSlice S512x2048 ![0, 0] (extractStridedSlice S512x6144 ![0, 8224] X slices_S512x14384_S512x6144_0_8224) slices_S512x6144_S512x2048_0_0)⟩] concatenates_S512x6144_S512x2048_S512x2048_S512x10240_d1 : FVec Ideal S512x10240 .f32) = main x w := by
  funext i
  obtain ⟨r, n, rfl⟩ : ∃ r n, i = (ix2 r n : S512x10240.Idx) := ⟨i 0, i 1, eq_ix2 i⟩
  show _ = proj x w r (wide n.val _)
  pointwise
  simp only [h]
  split_ifs with h1 h2 <;> refine congrArg (proj x w r) (Fin.ext ?_) <;> unfold wide <;> dsimp only <;> (try split_ifs) <;> first | done | omega

theorem keys_eq (X : FVec Ideal S512x14384 .f32) (x : FVec Ideal S16x32x4096 .f32) (w : FVec Ideal S1x4096x14384 .f32) (h : ∀ r n, X (ix2 r n) = proj x w r n) :
    (extractStridedSlice S512x2048 ![0, 2048] (extractStridedSlice S512x6144 ![0, 8224] X slices_S512x14384_S512x6144_0_8224) slices_S512x6144_S512x2048_0_2048) = keys x w := by
  funext i
  obtain ⟨r, n, rfl⟩ : ∃ r n, i = (ix2 r n : S512x2048.Idx) := ⟨i 0, i 1, eq_ix2 i⟩
  show _ = proj x w r ⟨10272 + n.val, _⟩
  pointwise
  rw [h]
  exact congrArg (proj x w r) (Fin.ext (by first | rfl | (dsimp only; omega)))

theorem values_eq (X : FVec Ideal S512x14384 .f32) (x : FVec Ideal S16x32x4096 .f32) (w : FVec Ideal S1x4096x14384 .f32) (h : ∀ r n, X (ix2 r n) = proj x w r n) :
    (extractStridedSlice S512x2048 ![0, 4096] (extractStridedSlice S512x6144 ![0, 8224] X slices_S512x14384_S512x6144_0_8224) slices_S512x6144_S512x2048_0_4096) = values x w := by
  funext i
  obtain ⟨r, n, rfl⟩ : ∃ r n, i = (ix2 r n : S512x2048.Idx) := ⟨i 0, i 1, eq_ix2 i⟩
  show _ = proj x w r ⟨12320 + n.val, _⟩
  pointwise
  rw [h]
  exact congrArg (proj x w r) (Fin.ext (by first | rfl | (dsimp only; omega)))

theorem zero_bits : Ideal.ofBits .f32 0#32 = 0 := by simp [Ideal.ofBits, Ideal.ieee]

theorem small_eq (X : FVec Ideal S512x14384 .f32) (x : FVec Ideal S16x32x4096 .f32) (w : FVec Ideal S1x4096x14384 .f32) (h : ∀ r n, X (ix2 r n) = proj x w r n) :
    (concatenate S512x128 1 [⟨S512x16, (extractStridedSlice S512x16 ![0, 8192] X slices_S512x14384_S512x16_0_8192)⟩, ⟨S512x16, (extractStridedSlice S512x16 ![0, 8208] X slices_S512x14384_S512x16_0_8208)⟩, ⟨S512x16, (extractStridedSlice S512x16 ![0, 14368] X slices_S512x14384_S512x16_0_14368)⟩, ⟨S512x16, (extractStridedSlice S512x16 ![0, 14368] X slices_S512x14384_S512x16_0_14368)⟩, ⟨S512x64, (broadcastInDim S512x64 ![] bcast_S_S512x64 (constant S_ .f32 0x00000000#32))⟩] concatenates_S512x16_S512x16_S512x16_S512x16_S512x64_S512x128_d1 : FVec Ideal S512x128 .f32) = small x w := by
  funext i
  obtain ⟨r, n, rfl⟩ : ∃ r n, i = (ix2 r n : S512x128.Idx) := ⟨i 0, i 1, eq_ix2 i⟩
  show _ = narrow x w r n
  unfold narrow
  pointwise
  simp only [h]
  (repeat' split) <;> first
    | exact zero_bits
    | rfl
    | (exfalso; omega)
    | (refine congrArg (proj x w r) (Fin.ext ?_); first | rfl | (dsimp only; omega))

theorem smallT_eq (x : FVec Ideal S16x32x4096 .f32) (w : FVec Ideal S1x4096x14384 .f32) :
    transpose S128x512 [1, 0] (small x w) transposes_S512x128_S128x512_1_0 = smallT x w := by
  funext i
  obtain ⟨r, n, rfl⟩ : ∃ r n, i = (ix2 r n : S128x512.Idx) := ⟨i 0, i 1, eq_ix2 i⟩
  show _ = narrow x w n r
  pointwise
  rfl

theorem frames_eq (X : FVec Ideal S512x14384 .f32) (x : FVec Ideal S16x32x4096 .f32) (w : FVec Ideal S1x4096x14384 .f32) (h : ∀ r n, X (ix2 r n) = proj x w r n) :
    shapeCast S16x32x6144 (extractStridedSlice S512x6144 ![0, 0] X slices_S512x14384_S512x6144_0_0) shapeCasts_S512x6144_S16x32x6144 = frames x w := by
  funext i
  obtain ⟨b, t, n, rfl⟩ : ∃ b t n, i = (ix3 b t n : S16x32x6144.Idx) := ⟨i 0, i 1, i 2, eq_ix3 i⟩
  show _ = proj x w ⟨b.val * 32 + t.val, _⟩ ⟨n.val, _⟩
  pointwise
  rw [h]

/-- The reference's run ends in the projection's columns. -/
theorem run (m : (ℓ : Loc nD τ sig) → Buf (Elt Ideal) ℓ) (ρ : Dev nD → PrngReg) :
    θ_run defs (onTc (τ := τ) (Cert.SampleRefIdeal.main (F := Ideal))) ⟨m, fun _ => 0, ρ⟩ fun r => ∀ c : Dev nD,
      r.2.mem ((c.tc : Thread nD τ).loc main_v13) = main (m ((c.tc : Thread nD τ).loc main_arg0)) (m ((c.tc : Thread nD τ).loc main_arg1))
      ∧ r.2.mem ((c.tc : Thread nD τ).loc main_v11) = keys (m ((c.tc : Thread nD τ).loc main_arg0)) (m ((c.tc : Thread nD τ).loc main_arg1))
      ∧ r.2.mem ((c.tc : Thread nD τ).loc main_v12) = values (m ((c.tc : Thread nD τ).loc main_arg0)) (m ((c.tc : Thread nD τ).loc main_arg1))
      ∧ r.2.mem ((c.tc : Thread nD τ).loc main_v15) = small (m ((c.tc : Thread nD τ).loc main_arg0)) (m ((c.tc : Thread nD τ).loc main_arg1))
      ∧ r.2.mem ((c.tc : Thread nD τ).loc main_v22) = smallT (m ((c.tc : Thread nD τ).loc main_arg0)) (m ((c.tc : Thread nD τ).loc main_arg1))
      ∧ r.2.mem ((c.tc : Thread nD τ).loc main_v16) = byHead (keys (m ((c.tc : Thread nD τ).loc main_arg0)) (m ((c.tc : Thread nD τ).loc main_arg1)))
      ∧ r.2.mem ((c.tc : Thread nD τ).loc main_v17) = byHead (values (m ((c.tc : Thread nD τ).loc main_arg0)) (m ((c.tc : Thread nD τ).loc main_arg1)))
      ∧ r.2.mem ((c.tc : Thread nD τ).loc main_v21) = lastRows (m ((c.tc : Thread nD τ).loc main_arg2)) (frames (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4, hk, hv, hc, ha⟩ := h c
    have e := whole_apply (m ((c.tc : Thread nD τ).loc main_arg0)) (m ((c.tc : Thread nD τ).loc main_arg1))
    refine ⟨h0.trans (main_eq _ _ _ e), h1.trans (keys_eq _ _ _ e), h2.trans (values_eq _ _ _ e), h3.trans (small_eq _ _ _ e), h4.trans ((congrArg (transpose S128x512 [1, 0] · transposes_S512x128_S128x512_1_0) (small_eq _ _ _ e)).trans (smallT_eq _ _)), hk.trans (congrArg byHead (keys_eq _ _ _ e)), hv.trans (congrArg byHead (values_eq _ _ _ e)),
      hc.trans (congrArg (lastRows _) (frames_eq _ _ _ e)), ha⟩)
    (Value.run m ρ)

end Cert.SampleRefIdeal.Columns
-- ==== Proof.SampleValue.lean ====
module

public import proofs.«01_k».proof.Proof.SampleDat
public import proofs.«01_k».proof.Proof.SampleColumns
public import Idealize.ShloMosaic.Lib.Pointwise
public import Idealize.ShloMosaic.Lib.IdealHost
public import Idealize.ShloMosaic.Lib.Pipeline.ValueKit
public import Idealize.ShloMosaic.PureOps.IdealRules

/-! The projection's results over the extended reals: the columns of the whole projection. -/

@[expose] public section
set_option maxRecDepth 16384
noncomputable section
namespace Cert.SampleIdeal.Hand
open Cert.SampleIdeal Cert.SampleIdeal.Gen Idealize.ShloMosaic Idealize.ShloMosaic.TcCoe Idealize.SL.Sem Idealize.ShloMosaic.Pointwise Cert.SampleRefIdeal.Columns
variable (m : (ℓ : Loc nD τ sig) → Buf (Elt Ideal) ℓ) (c : Dev nD)

/-! ## The packed weights -/

/-- The packed narrow weights at an index. -/
def packed (w : FVec Ideal S1x4096x14384 .f32) (k : Fin 4096) (n : Fin 128) : EReal :=
  if h : n.val < 32 then w (ix3 0 k ⟨8192 + n.val, by omega⟩)
  else if h : n.val < 48 then w (ix3 0 k ⟨14336 + n.val, by omega⟩)
  else if h : n.val < 64 then w (ix3 0 k ⟨14320 + n.val, by omega⟩) else 0

theorem rows_at (r : Fin 512) (k : Fin 4096) :
    V m c main_v11 (ix2 r k) = m ((c : Thread nD τ).loc main_arg0) (ix3 ⟨r.val / 32, by omega⟩ ⟨r.val % 32, by omega⟩ k) := by
  simp only [V, V0, hostOps0, hostOps0_1, hostOps0_2, List.flatten_cons, List.flatten_nil, List.append_nil, List.cons_append, List.nil_append]
  after_results
  pointwise

theorem wide_at (k : Fin 4096) (n : Fin 14336) :
    V m c main_v5 (ix2 k n) = m ((c : Thread nD τ).loc main_arg1) (ix3 0 k (wide n.val n.isLt)) := by
  simp only [V, V0, hostOps0, hostOps0_1, hostOps0_2, List.flatten_cons, List.flatten_nil, List.append_nil, List.cons_append, List.nil_append]
  after_results
  pointwise
  (repeat' split) <;> refine congrArg (fun a => m ((c : Thread nD τ).loc main_arg1) (ix3 0 k a)) (Fin.ext ?_) <;> unfold wide <;> dsimp only <;> split <;> omega

theorem packed_eq : V m c main_v10 = (truncf .bf16 (pad S4096x128 ![0, 0] ![0, 64] ![0, 0]
    (concatenate S4096x64 1 [⟨S4096x32, (extractStridedSlice S4096x32 ![0, 8192] (shapeCast _ (m ((c : Thread nD τ).loc main_arg1)) shapeCasts_S1x4096x14384_S4096x14384) slices_S4096x14384_S4096x32_0_8192)⟩,
      ⟨S4096x16, (extractStridedSlice S4096x16 ![0, 14368] (shapeCast _ (m ((c : Thread nD τ).loc main_arg1)) shapeCasts_S1x4096x14384_S4096x14384) slices_S4096x14384_S4096x16_0_14368)⟩,
      ⟨S4096x16, (extractStridedSlice S4096x16 ![0, 14368] (shapeCast _ (m ((c : Thread nD τ).loc main_arg1)) shapeCasts_S1x4096x14384_S4096x14384) slices_S4096x14384_S4096x16_0_14368)⟩] concatenates_S4096x32_S4096x16_S4096x16_S4096x64_d1 : FVec Ideal S4096x64 .f32)
    (sitofp .f32 (constantI S_ 32 0#32) : FVec Ideal S_ .f32) pads_S4096x64_S4096x128_000_0640 h_S_) bitsLt_bf16_f32 : FVec Ideal S4096x128 .bf16) := by
  simp only [V, V0, hostOps0, hostOps0_1, hostOps0_2, List.flatten_cons, List.flatten_nil, List.append_nil, List.cons_append, List.nil_append]
  after_results <;> rfl

/-- The zeros at the end of a row. -/
theorem padded (X : FVec Ideal S4096x64 .f32) (z : FVec Ideal S_ .f32) (k : Fin 4096) (n : Fin 128) :
    pad S4096x128 ![0, 0] ![0, 64] ![0, 0] X z pads_S4096x64_S4096x128_000_0640 h_S_ (ix2 k n) =
      if h : n.val < 64 then X (ix2 k ⟨n.val, h⟩) else z (Shape.Idx.first h_S_) := by
  pointwise

theorem joined (w : FVec Ideal S4096x14384 .f32) (k : Fin 4096) (n : Fin 64) :
    (concatenate S4096x64 1 [⟨S4096x32, (extractStridedSlice S4096x32 ![0, 8192] w slices_S4096x14384_S4096x32_0_8192)⟩,
      ⟨S4096x16, (extractStridedSlice S4096x16 ![0, 14368] w slices_S4096x14384_S4096x16_0_14368)⟩,
      ⟨S4096x16, (extractStridedSlice S4096x16 ![0, 14368] w slices_S4096x14384_S4096x16_0_14368)⟩] concatenates_S4096x32_S4096x16_S4096x16_S4096x64_d1 : FVec Ideal S4096x64 .f32) (ix2 k n) =
      w (ix2 k ⟨if n.val < 32 then 8192 + n.val else if n.val < 48 then 14336 + n.val else 14320 + n.val, by split_ifs <;> omega⟩) := by
  pointwise
  (repeat' split) <;> first
    | rfl
    | (refine congrArg (fun a => w (ix2 k a)) (Fin.ext ?_); dsimp only; omega)

theorem flat (w : FVec Ideal S1x4096x14384 .f32) (k : Fin 4096) (n : Fin 14384) :
    shapeCast S4096x14384 w shapeCasts_S1x4096x14384_S4096x14384 (ix2 k n) = w (ix3 0 k n) := by
  pointwise

theorem narrow_at (k : Fin 4096) (n : Fin 128) :
    V m c main_v10 (ix2 k n) = packed (m ((c : Thread nD τ).loc main_arg1)) k n := by
  rw [packed_eq]
  refine (padded _ _ k n).trans ?_
  unfold packed
  by_cases h : n.val < 64
  · rw [dif_pos h]
    refine (joined _ k ⟨n.val, h⟩).trans ((flat _ k _).trans ?_)
    dsimp only
    by_cases h1 : n.val < 32
    · rw [dif_pos h1]; exact congrArg (fun a => m ((c : Thread nD τ).loc main_arg1) (ix3 0 k a)) (Fin.ext (if_pos h1))
    · by_cases h2 : n.val < 48
      · rw [dif_neg h1, dif_pos h2]; exact congrArg (fun a => m ((c : Thread nD τ).loc main_arg1) (ix3 0 k a)) (Fin.ext ((if_neg h1).trans (if_pos h2)))
      · rw [dif_neg h1, dif_neg h2, dif_pos h]; exact congrArg (fun a => m ((c : Thread nD τ).loc main_arg1) (ix3 0 k a)) (Fin.ext ((if_neg h1).trans (if_neg h2)))
  · rw [dif_neg h, dif_neg (by omega), dif_neg (by omega), dif_neg h]
    show (((0#32 : BitVec 32).toInt : ℝ) : EReal) = 0
    norm_num

/-! ## The blocks -/

theorem N_at (t : Fin cfg0.N) : t.val < 14 := lt_of_lt_of_eq t.isLt N_0

theorem idx_0 : ∀ t : Fin cfg0.N, win0_0.index t = ![t.val / 14, 0] :=
  (by decide +kernel : ∀ t : Fin grid0.N, _)
theorem idx_1 : ∀ t : Fin cfg0.N, win0_1.index t = ![0, t.val % 14] :=
  (by decide +kernel : ∀ t : Fin grid0.N, _)
theorem idx_2 : ∀ t : Fin cfg0.N, win0_2.index t = ![0, 0] :=
  (by decide +kernel : ∀ t : Fin grid0.N, _)
theorem idx_3 : ∀ t : Fin cfg0.N, win0_3.index t = ![t.val / 14, min (t.val % 14) 9] :=
  (by decide +kernel : ∀ t : Fin grid0.N, _)
theorem idx_4 : ∀ t : Fin cfg0.N, win0_4.index t = ![t.val / 14, min (t.val % 14 - 10) 1] :=
  (by decide +kernel : ∀ t : Fin grid0.N, _)
theorem idx_5 : ∀ t : Fin cfg0.N, win0_5.index t = ![t.val / 14, t.val % 14 - 12] :=
  (by decide +kernel : ∀ t : Fin grid0.N, _)
theorem idx_6 : ∀ t : Fin cfg0.N, win0_6.index t = ![t.val / 14, 0] :=
  (by decide +kernel : ∀ t : Fin grid0.N, _)
theorem idx_7 : ∀ t : Fin cfg0.N, win0_7.index t = ![0, t.val / 14] :=
  (by decide +kernel : ∀ t : Fin grid0.N, _)

theorem emb_0 (t : Fin cfg0.N) (y : S512x4096.Idx) (r : Fin 512) (n : Fin 4096) (hr : r.val = (t.val / 14) * 512 + (y 0).val)
    (hn : n.val = (0) * 4096 + (y 1).val) : ((cfg0.win 0).blk t).view.emb y = (ix2 r n : S512x4096.Idx) := by
  funext a
  apply Fin.ext
  refine (Pipeline.Window.rect_emb_val win0_0 t y a).trans ?_
  rw [idx_0 t]
  fin_cases a
  · exact hr.symm
  · exact hn.symm

theorem emb_1 (t : Fin cfg0.N) (y : S4096x1024.Idx) (r : Fin 4096) (n : Fin 14336) (hr : r.val = (0) * 4096 + (y 0).val)
    (hn : n.val = (t.val % 14) * 1024 + (y 1).val) : ((cfg0.win 1).blk t).view.emb y = (ix2 r n : S4096x14336.Idx) := by
  funext a
  apply Fin.ext
  refine (Pipeline.Window.rect_emb_val win0_1 t y a).trans ?_
  rw [idx_1 t]
  fin_cases a
  · exact hr.symm
  · exact hn.symm

theorem emb_2 (t : Fin cfg0.N) (y : S4096x128.Idx) (r : Fin 4096) (n : Fin 128) (hr : r.val = (0) * 4096 + (y 0).val)
    (hn : n.val = (0) * 128 + (y 1).val) : ((cfg0.win 2).blk t).view.emb y = (ix2 r n : S4096x128.Idx) := by
  funext a
  apply Fin.ext
  refine (Pipeline.Window.rect_emb_val win0_2 t y a).trans ?_
  rw [idx_2 t]
  fin_cases a
  · exact hr.symm
  · exact hn.symm

theorem emb_3 (t : Fin cfg0.N) (y : S512x1024.Idx) (r : Fin 512) (n : Fin 10240) (hr : r.val = (t.val / 14) * 512 + (y 0).val)
    (hn : n.val = (min (t.val % 14) 9) * 1024 + (y 1).val) : ((cfg0.win 3).blk t).view.emb y = (ix2 r n : S512x10240.Idx) := by
  funext a
  apply Fin.ext
  refine (Pipeline.Window.rect_emb_val win0_3 t y a).trans ?_
  rw [idx_3 t]
  fin_cases a
  · exact hr.symm
  · exact hn.symm

theorem emb_4 (t : Fin cfg0.N) (y : S512x1024.Idx) (r : Fin 512) (n : Fin 2048) (hr : r.val = (t.val / 14) * 512 + (y 0).val)
    (hn : n.val = (min (t.val % 14 - 10) 1) * 1024 + (y 1).val) : ((cfg0.win 4).blk t).view.emb y = (ix2 r n : S512x2048.Idx) := by
  funext a
  apply Fin.ext
  refine (Pipeline.Window.rect_emb_val win0_4 t y a).trans ?_
  rw [idx_4 t]
  fin_cases a
  · exact hr.symm
  · exact hn.symm

theorem emb_5 (t : Fin cfg0.N) (y : S512x1024.Idx) (r : Fin 512) (n : Fin 2048) (hr : r.val = (t.val / 14) * 512 + (y 0).val)
    (hn : n.val = (t.val % 14 - 12) * 1024 + (y 1).val) : ((cfg0.win 5).blk t).view.emb y = (ix2 r n : S512x2048.Idx) := by
  funext a
  apply Fin.ext
  refine (Pipeline.Window.rect_emb_val win0_5 t y a).trans ?_
  rw [idx_5 t]
  fin_cases a
  · exact hr.symm
  · exact hn.symm

theorem emb_6 (t : Fin cfg0.N) (y : S512x128.Idx) (r : Fin 512) (n : Fin 128) (hr : r.val = (t.val / 14) * 512 + (y 0).val)
    (hn : n.val = (0) * 128 + (y 1).val) : ((cfg0.win 6).blk t).view.emb y = (ix2 r n : S512x128.Idx) := by
  funext a
  apply Fin.ext
  refine (Pipeline.Window.rect_emb_val win0_6 t y a).trans ?_
  rw [idx_6 t]
  fin_cases a
  · exact hr.symm
  · exact hn.symm

theorem emb_7 (t : Fin cfg0.N) (y : S128x512.Idx) (r : Fin 128) (n : Fin 512) (hr : r.val = (0) * 128 + (y 0).val)
    (hn : n.val = (t.val / 14) * 512 + (y 1).val) : ((cfg0.win 7).blk t).view.emb y = (ix2 r n : S128x512.Idx) := by
  funext a
  apply Fin.ext
  refine (Pipeline.Window.rect_emb_val win0_7 t y a).trans ?_
  rw [idx_7 t]
  fin_cases a
  · exact hr.symm
  · exact hn.symm

theorem read_0 (X : Buf (Elt Ideal) ((c : Thread nD τ).loc main_v11)) (t : Fin cfg0.N) (p : Fin 512) (q : Fin 4096) (r : Fin 512) (n : Fin 4096)
    (hr : r.val = (t.val / 14) * 512 + p.val) (hn : n.val = (0) * 4096 + q.val) :
    ((cfg0.win 0).blk t).view.read (Elt Ideal) X (ix2 p q) = X (ix2 r n) :=
  congrArg X (emb_0 t (ix2 p q) r n hr hn)

theorem block_0 (t : Fin cfg0.N) (p : Fin 512) (q : Fin 4096) (r : Fin 512) (n : Fin 4096)
    (hr : r.val = (t.val / 14) * 512 + p.val) (hn : n.val = (0) * 4096 + q.val) :
    iblk m c 0 t (ix2 p q) = V m c main_v11 (ix2 r n) := by
  unfold iblk
  exact read_0 c (V m c main_v11) t p q r n hr hn

theorem read_1 (X : Buf (Elt Ideal) ((c : Thread nD τ).loc main_v5)) (t : Fin cfg0.N) (p : Fin 4096) (q : Fin 1024) (r : Fin 4096) (n : Fin 14336)
    (hr : r.val = (0) * 4096 + p.val) (hn : n.val = (t.val % 14) * 1024 + q.val) :
    ((cfg0.win 1).blk t).view.read (Elt Ideal) X (ix2 p q) = X (ix2 r n) :=
  congrArg X (emb_1 t (ix2 p q) r n hr hn)

theorem block_1 (t : Fin cfg0.N) (p : Fin 4096) (q : Fin 1024) (r : Fin 4096) (n : Fin 14336)
    (hr : r.val = (0) * 4096 + p.val) (hn : n.val = (t.val % 14) * 1024 + q.val) :
    iblk m c 1 t (ix2 p q) = V m c main_v5 (ix2 r n) := by
  unfold iblk
  exact read_1 c (V m c main_v5) t p q r n hr hn

theorem read_2 (X : Buf (Elt Ideal) ((c : Thread nD τ).loc main_v10)) (t : Fin cfg0.N) (p : Fin 4096) (q : Fin 128) (r : Fin 4096) (n : Fin 128)
    (hr : r.val = (0) * 4096 + p.val) (hn : n.val = (0) * 128 + q.val) :
    ((cfg0.win 2).blk t).view.read (Elt Ideal) X (ix2 p q) = X (ix2 r n) :=
  congrArg X (emb_2 t (ix2 p q) r n hr hn)

theorem block_2 (t : Fin cfg0.N) (p : Fin 4096) (q : Fin 128) (r : Fin 4096) (n : Fin 128)
    (hr : r.val = (0) * 4096 + p.val) (hn : n.val = (0) * 128 + q.val) :
    iblk m c 2 t (ix2 p q) = V m c main_v10 (ix2 r n) := by
  unfold iblk
  exact read_2 c (V m c main_v10) t p q r n hr hn

/-! ## The products -/

theorem prod_apply (x : Vec Ideal S512x4096 .f32) (w : Vec Ideal S4096x1024 .bf16) (p : Fin 512) (q : Fin 1024) :
    k0_pay5 (F := Ideal) (k0_pay2 x) w (ix2 p q) = ∑ k : Fin 4096, x (ix2 p k) * w (ix2 k q) := by
  pointwise [k0_pay5, k0_pay2, k0_pay1]

theorem narrow_apply (x : Vec Ideal S512x4096 .f32) (w : Vec Ideal S4096x128 .bf16) (p : Fin 512) (q : Fin 128) :
    k0_pay3 (F := Ideal) x w (ix2 p q) = ∑ k : Fin 4096, x (ix2 p k) * w (ix2 k q) := by
  pointwise [k0_pay3, k0_pay1]

theorem narrowT_apply (x : Vec Ideal S512x4096 .f32) (w : Vec Ideal S4096x128 .bf16) (p : Fin 128) (q : Fin 512) :
    k0_pay4 (F := Ideal) x w (ix2 p q) = ∑ k : Fin 4096, x (ix2 q k) * w (ix2 k p) := by
  pointwise [k0_pay4, k0_pay3, k0_pay1]

/-- The product a point leaves, at an index. -/
theorem prod_sum (t : Fin cfg0.N) (p : Fin 512) (q : Fin 1024) (r : Fin 512) (n : Fin 14384) (hr : r.val = t.val / 14 * 512 + p.val)
    (hn : n.val = if t.val % 14 * 1024 + q.val < 8192 then t.val % 14 * 1024 + q.val else t.val % 14 * 1024 + q.val + 32)
    (k : Fin 4096) : iblk m c 0 t (ix2 p k) = m ((c : Thread nD τ).loc main_arg0) (ix3 ⟨r.val / 32, by omega⟩ ⟨r.val % 32, by omega⟩ k)
      ∧ iblk m c 1 t (ix2 k q) = m ((c : Thread nD τ).loc main_arg1) (ix3 0 k n) :=
  ⟨(block_0 m c t p k r k hr (by omega)).trans (rows_at m c r k),
    ((block_1 m c t k q k ⟨t.val % 14 * 1024 + q.val, by omega⟩ (by omega) rfl).trans (wide_at m c k _)).trans
      (congrArg (fun a => m ((c : Thread nD τ).loc main_arg1) (ix3 0 k a)) (Fin.ext hn.symm))⟩

theorem prod_at (t : Fin cfg0.N) (p : Fin 512) (q : Fin 1024) (r : Fin 512) (n : Fin 14384) (hr : r.val = t.val / 14 * 512 + p.val)
    (hn : n.val = if t.val % 14 * 1024 + q.val < 8192 then t.val % 14 * 1024 + q.val else t.val % 14 * 1024 + q.val + 32) :
    Prod m c t (ix2 p q) = proj (m ((c : Thread nD τ).loc main_arg0)) (m ((c : Thread nD τ).loc main_arg1)) r n := by
  unfold Prod XB proj
  refine (prod_apply _ _ p q).trans (Finset.sum_congr rfl fun k _ => ?_)
  exact congrArg₂ (fun a b : EReal => a * b) (prod_sum m c t p q r n hr hn k).1 (prod_sum m c t p q r n hr hn k).2

theorem narrow_zero (x : FVec Ideal S16x32x4096 .f32) (w : FVec Ideal S1x4096x14384 .f32) (r : Fin 512) (q : Fin 128) :
    (∑ k : Fin 4096, x (ix3 ⟨r.val / 32, by omega⟩ ⟨r.val % 32, by omega⟩ k) * packed w k q : EReal) = narrow x w r q := by
  unfold packed narrow proj
  by_cases h1 : q.val < 32
  · simp only [dif_pos h1]
  · by_cases h2 : q.val < 48
    · simp only [dif_neg h1, dif_pos h2]
    · by_cases h3 : q.val < 64
      · simp only [dif_neg h1, dif_neg h2, dif_pos h3]
      · simp only [dif_neg h1, dif_neg h2, dif_neg h3, mul_zero, Finset.sum_const_zero]

theorem narrow_sum (t : Fin cfg0.N) (p : Fin 512) (q : Fin 128) (r : Fin 512) (hr : r.val = t.val / 14 * 512 + p.val)
    (k : Fin 4096) : iblk m c 0 t (ix2 p k) = m ((c : Thread nD τ).loc main_arg0) (ix3 ⟨r.val / 32, by omega⟩ ⟨r.val % 32, by omega⟩ k)
      ∧ iblk m c 2 t (ix2 k q) = packed (m ((c : Thread nD τ).loc main_arg1)) k q :=
  ⟨(block_0 m c t p k r k hr (by omega)).trans (rows_at m c r k), (block_2 m c t k q k q (by omega) (by omega)).trans (narrow_at m c k q)⟩

theorem narrow_block (t : Fin cfg0.N) (p : Fin 512) (q : Fin 128) (r : Fin 512) (hr : r.val = t.val / 14 * 512 + p.val) :
    Narrow m c t (ix2 p q) = narrow (m ((c : Thread nD τ).loc main_arg0)) (m ((c : Thread nD τ).loc main_arg1)) r q := by
  unfold Narrow
  refine ((narrow_apply _ _ p q).trans (Finset.sum_congr rfl fun k _ => ?_)).trans (narrow_zero _ _ r q)
  exact congrArg₂ (fun a b : EReal => a * b) (narrow_sum m c t p q r hr k).1 (narrow_sum m c t p q r hr k).2

theorem narrowT_block (t : Fin cfg0.N) (p : Fin 512) (q : Fin 128) (r : Fin 512) (hr : r.val = t.val / 14 * 512 + p.val) :
    NarrowT m c t (ix2 q p) = narrow (m ((c : Thread nD τ).loc main_arg0)) (m ((c : Thread nD τ).loc main_arg1)) r q := by
  unfold NarrowT
  refine ((narrowT_apply _ _ q p).trans (Finset.sum_congr rfl fun k _ => ?_)).trans (narrow_zero _ _ r q)
  exact congrArg₂ (fun a b : EReal => a * b) (narrow_sum m c t p q r hr k).1 (narrow_sum m c t p q r hr k).2

/-! ## The arrays after the run -/

theorem back_at (t : Fin cfg0.N) (j : ℕ) (hj : j < 14) : (back t j).val / 14 = t.val / 14 ∧ (back t j).val % 14 = min (t.val % 14) j := by
  unfold back; dsimp only; omega

theorem arr_3 : (dats m 0 c).arrAt 3 cfg0.N = Cert.SampleRefIdeal.Columns.main (m ((c : Thread nD τ).loc main_arg0)) (m ((c : Thread nD τ).loc main_arg1)) := by
  refine Pipeline.Dat.arrAt_eq_of_covers (dats m 0 c) 3 (Cert.SampleRefIdeal.Columns.main (m ((c : Thread nD τ).loc main_arg0)) (m ((c : Thread nD τ).loc main_arg1))) (by decide +kernel) fun t hf => fun y => ?_
  have hN := N_at t
  have hf := (flush_3 t).mp hf
  have y0 : (y 0).val < 512 := (y 0).isLt
  have y1 : (y 1).val < 1024 := (y 1).isLt
  have ey : y = (ix2 (y 0) (y 1) : S512x1024.Idx) := eq_ix2 (y : S512x1024.Idx)
  rw [emb_3 t y ⟨(t.val / 14) * 512 + (y 0).val, by omega⟩ ⟨(min (t.val % 14) 9) * 1024 + (y 1).val, by omega⟩ rfl rfl, after_3]
  have hb := back_at t 9 (by omega)
  refine (congrArg (Prod m c (back t 9)) ey).trans (prod_at m c (back t 9) (y 0) (y 1) _ _ ?_ ?_)
  · rw [hb.1]; rfl
  · rw [hb.2]; rfl

theorem arr_4 : (dats m 0 c).arrAt 4 cfg0.N = keys (m ((c : Thread nD τ).loc main_arg0)) (m ((c : Thread nD τ).loc main_arg1)) := by
  refine Pipeline.Dat.arrAt_eq_of_covers (dats m 0 c) 4 (keys (m ((c : Thread nD τ).loc main_arg0)) (m ((c : Thread nD τ).loc main_arg1))) (by decide +kernel) fun t hf => fun y => ?_
  have hN := N_at t
  have hf := (flush_4 t).mp hf
  have y0 : (y 0).val < 512 := (y 0).isLt
  have y1 : (y 1).val < 1024 := (y 1).isLt
  have ey : y = (ix2 (y 0) (y 1) : S512x1024.Idx) := eq_ix2 (y : S512x1024.Idx)
  rw [emb_4 t y ⟨(t.val / 14) * 512 + (y 0).val, by omega⟩ ⟨(min (t.val % 14 - 10) 1) * 1024 + (y 1).val, by omega⟩ rfl rfl, after_4]
  have hb := back_at t 11 (by omega)
  refine (congrArg (Prod m c (back t 11)) ey).trans (prod_at m c (back t 11) (y 0) (y 1) _ _ ?_ ?_)
  · rw [hb.1]; rfl
  · rw [hb.2]
    show 10272 + ((min (t.val % 14 - 10) 1) * 1024 + (y 1).val) = _; split <;> omega

theorem arr_5 : (dats m 0 c).arrAt 5 cfg0.N = values (m ((c : Thread nD τ).loc main_arg0)) (m ((c : Thread nD τ).loc main_arg1)) := by
  refine Pipeline.Dat.arrAt_eq_of_covers (dats m 0 c) 5 (values (m ((c : Thread nD τ).loc main_arg0)) (m ((c : Thread nD τ).loc main_arg1))) (by decide +kernel) fun t hf => fun y => ?_
  have hN := N_at t
  have hf := (flush_5 t).mp hf
  have y0 : (y 0).val < 512 := (y 0).isLt
  have y1 : (y 1).val < 1024 := (y 1).isLt
  have ey : y = (ix2 (y 0) (y 1) : S512x1024.Idx) := eq_ix2 (y : S512x1024.Idx)
  rw [emb_5 t y ⟨(t.val / 14) * 512 + (y 0).val, by omega⟩ ⟨(t.val % 14 - 12) * 1024 + (y 1).val, by omega⟩ rfl rfl, after_5]
  refine (congrArg (Prod m c (t)) ey).trans (prod_at m c (t) (y 0) (y 1) _ _ ?_ ?_)
  · rfl
  · show 12320 + ((t.val % 14 - 12) * 1024 + (y 1).val) = _; split <;> omega

theorem arr_6 : (dats m 0 c).arrAt 6 cfg0.N = small (m ((c : Thread nD τ).loc main_arg0)) (m ((c : Thread nD τ).loc main_arg1)) := by
  refine Pipeline.Dat.arrAt_eq_of_covers (dats m 0 c) 6 (small (m ((c : Thread nD τ).loc main_arg0)) (m ((c : Thread nD τ).loc main_arg1))) (by decide +kernel) fun t hf => fun y => ?_
  have hN := N_at t
  have hf := (flush_6 t).mp hf
  have y0 : (y 0).val < 512 := (y 0).isLt
  have y1 : (y 1).val < 128 := (y 1).isLt
  have ey : y = (ix2 (y 0) (y 1) : S512x128.Idx) := eq_ix2 (y : S512x128.Idx)
  rw [emb_6 t y ⟨(t.val / 14) * 512 + (y 0).val, by omega⟩ ⟨(0) * 128 + (y 1).val, by omega⟩ rfl rfl, after_6]
  have hb := back_at t 0 (by omega)
  refine (congrArg (Narrow m c (back t 0)) ey).trans ((narrow_block m c (back t 0) (y 0) (y 1) _ ?_).trans
    (congrArg (narrow (m ((c : Thread nD τ).loc main_arg0)) (m ((c : Thread nD τ).loc main_arg1)) _) (Fin.ext (show (y 1).val = 0 * 128 + (y 1).val by omega))))
  rw [hb.1]; rfl

theorem arr_7 : (dats m 0 c).arrAt 7 cfg0.N = smallT (m ((c : Thread nD τ).loc main_arg0)) (m ((c : Thread nD τ).loc main_arg1)) := by
  refine Pipeline.Dat.arrAt_eq_of_covers (dats m 0 c) 7 (smallT (m ((c : Thread nD τ).loc main_arg0)) (m ((c : Thread nD τ).loc main_arg1))) (by decide +kernel) fun t hf => fun y => ?_
  have hN := N_at t
  have hf := (flush_7 t).mp hf
  have y0 : (y 0).val < 128 := (y 0).isLt
  have y1 : (y 1).val < 512 := (y 1).isLt
  have ey : y = (ix2 (y 0) (y 1) : S128x512.Idx) := eq_ix2 (y : S128x512.Idx)
  rw [emb_7 t y ⟨(0) * 128 + (y 0).val, by omega⟩ ⟨(t.val / 14) * 512 + (y 1).val, by omega⟩ rfl rfl, after_7]
  have hb := back_at t 0 (by omega)
  refine (congrArg (NarrowT m c (back t 0)) ey).trans ((narrowT_block m c (back t 0) (y 1) (y 0) _ ?_).trans
    (congrArg (narrow (m ((c : Thread nD τ).loc main_arg0)) (m ((c : Thread nD τ).loc main_arg1)) _) (Fin.ext (show (y 0).val = 0 * 128 + (y 0).val by omega))))
  rw [hb.1]; rfl

/-! ## What the lines after the call keep -/

theorem frames_cut (x : FVec Ideal S16x32x4096 .f32) (w : FVec Ideal S1x4096x14384 .f32) :
    extractStridedSlice S16x32x6144 ![0, 0, 0] (shapeCast S16x32x10240 (Cert.SampleRefIdeal.Columns.main x w) shapeCasts_S512x10240_S16x32x10240) slices_S16x32x10240_S16x32x6144_0_0_0 = frames x w := by
  funext i
  obtain ⟨b, t, n, rfl⟩ : ∃ b t n, i = (ix3 b t n : S16x32x6144.Idx) := ⟨i 0, i 1, i 2, eq_ix3 i⟩
  show _ = proj x w ⟨b.val * 32 + t.val, _⟩ ⟨n.val, _⟩
  pointwise
  refine congrArg₂ (proj x w) (Fin.ext ?_) (Fin.ext ?_)
  · first | rfl | (dsimp only; omega)
  · show (if n.val < 8192 then n.val else n.val + 32) = n.val
    have := n.isLt
    split_ifs <;> omega

theorem rows_cut (h h' : FVec Ideal S1x16x3x6144 .f32) (X : FVec Ideal S512x10240 .f32) (x : FVec Ideal S16x32x4096 .f32) (w : FVec Ideal S1x4096x14384 .f32) (e2 : h = h') (e0 : X = Cert.SampleRefIdeal.Columns.main x w) :
    broadcastInDim S1x16x3x6144 ![1, 2, 3] bcast_S16x3x6144_S1x16x3x6144_1_2_3 (extractStridedSlice S16x3x6144 ![0, 32, 0] (concatenate S16x35x6144 1 [⟨S16x3x6144, shapeCast S16x3x6144 h shapeCasts_S1x16x3x6144_S16x3x6144⟩, ⟨S16x32x6144, extractStridedSlice S16x32x6144 ![0, 0, 0] (shapeCast S16x32x10240 X shapeCasts_S512x10240_S16x32x10240) slices_S16x32x10240_S16x32x6144_0_0_0⟩] concatenates_S16x3x6144_S16x32x6144_S16x35x6144_d1) slices_S16x35x6144_S16x3x6144_0_32_0)
      = lastRows h' (frames x w) := by
  subst e2 e0
  rw [frames_cut]
  rfl

theorem kept_keys : Pipeline.afterTail₀ cfgs (dats m) 0 (V0 m) [hostOps1] c main_v18 = byHead (keys (m ((c : Thread nD τ).loc main_arg0)) (m ((c : Thread nD τ).loc main_arg1))) := by
  unfold Pipeline.afterTail₀
  simp only [hostOps1, List.flatten_cons, List.flatten_nil, List.append_nil, List.cons_append, List.nil_append]
  after_results
  exact congrArg byHead ((Pipeline.withArrays_arr spec0 launch0.win.arr_inj c (V0 m c) (fun w => (dats m 0 c).arrAt w cfg0.N) 4).trans (arr_4 m c))

theorem kept_values : Pipeline.afterTail₀ cfgs (dats m) 0 (V0 m) [hostOps1] c main_v19 = byHead (values (m ((c : Thread nD τ).loc main_arg0)) (m ((c : Thread nD τ).loc main_arg1))) := by
  unfold Pipeline.afterTail₀
  simp only [hostOps1, List.flatten_cons, List.flatten_nil, List.append_nil, List.cons_append, List.nil_append]
  after_results
  exact congrArg byHead ((Pipeline.withArrays_arr spec0 launch0.win.arr_inj c (V0 m c) (fun w => (dats m 0 c).arrAt w cfg0.N) 5).trans (arr_5 m c))

theorem kept_rows : Pipeline.afterTail₀ cfgs (dats m) 0 (V0 m) [hostOps1] c main_v20 = lastRows (m ((c : Thread nD τ).loc main_arg2)) (frames (m ((c : Thread nD τ).loc main_arg0)) (m ((c : Thread nD τ).loc main_arg1))) := by
  unfold Pipeline.afterTail₀
  simp only [hostOps1, List.flatten_cons, List.flatten_nil, List.append_nil, List.cons_append, List.nil_append]
  after_results
  have e2 : Pipeline.withArrays spec0 c (V0 m c) (fun w => (dats m 0 c).arrAt w cfg0.N) (Proc.devRef .tc main_arg2) = m ((c : Thread nD τ).loc main_arg2) :=
    (Pipeline.withArrays_of_ne spec0 c _ _ main_arg2 (by exact (by decide : ∀ w, Pipeline.arrRef spec0 w ≠ main_arg2))).trans (V_main_arg2 m c)
  have e0 := (Pipeline.withArrays_arr spec0 launch0.win.arr_inj c (V0 m c) (fun w => (dats m 0 c).arrAt w cfg0.N) 3).trans (arr_3 m c)
  exact rows_cut _ _ _ _ _ e2 e0

/-- Every run ends with the projection's columns in the results, and with what is kept of them. -/
theorem run_columns (ρ : Dev nD → PrngReg) :
    θ_run defs (onTc (τ := τ) (Cert.SampleIdeal.main (F := Ideal))) ⟨m, fun _ => 0, ρ⟩ fun r => ∀ c : Dev nD,
      r.2.mem ((c.tc : Thread nD τ).loc main_v12_0) = Cert.SampleRefIdeal.Columns.main (m ((c.tc : Thread nD τ).loc main_arg0)) (m ((c.tc : Thread nD τ).loc main_arg1))
      ∧ r.2.mem ((c.tc : Thread nD τ).loc main_v12_1) = keys (m ((c.tc : Thread nD τ).loc main_arg0)) (m ((c.tc : Thread nD τ).loc main_arg1))
      ∧ r.2.mem ((c.tc : Thread nD τ).loc main_v12_2) = values (m ((c.tc : Thread nD τ).loc main_arg0)) (m ((c.tc : Thread nD τ).loc main_arg1))
      ∧ r.2.mem ((c.tc : Thread nD τ).loc main_v12_3) = small (m ((c.tc : Thread nD τ).loc main_arg0)) (m ((c.tc : Thread nD τ).loc main_arg1))
      ∧ r.2.mem ((c.tc : Thread nD τ).loc main_v12_4) = smallT (m ((c.tc : Thread nD τ).loc main_arg0)) (m ((c.tc : Thread nD τ).loc main_arg1))
      ∧ r.2.mem ((c.tc : Thread nD τ).loc main_v18) = byHead (keys (m ((c.tc : Thread nD τ).loc main_arg0)) (m ((c.tc : Thread nD τ).loc main_arg1)))
      ∧ r.2.mem ((c.tc : Thread nD τ).loc main_v19) = byHead (values (m ((c.tc : Thread nD τ).loc main_arg0)) (m ((c.tc : Thread nD τ).loc main_arg1)))
      ∧ r.2.mem ((c.tc : Thread nD τ).loc main_v20) = lastRows (m ((c.tc : Thread nD τ).loc main_arg2)) (frames (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1.1 c).1 3).trans (arr_3 m c), ((h.1.1 c).1 4).trans (arr_4 m c), ((h.1.1 c).1 5).trans (arr_5 m c), ((h.1.1 c).1 6).trans (arr_6 m c), ((h.1.1 c).1 7).trans (arr_7 m c),
      ((h.1.1 c).2 main_v18 (Pipeline.mem_restRefs_of main_v18 (by decide) (by decide))).trans (kept_keys m c),
      ((h.1.1 c).2 main_v19 (Pipeline.mem_restRefs_of main_v19 (by decide) (by decide))).trans (kept_values m c),
      ((h.1.1 c).2 main_v20 (Pipeline.mem_restRefs_of main_v20 (by decide) (by decide))).trans (kept_rows m c), h.2.1 c⟩)
    (θ_run_and (run m ρ) (frame m ρ))

end Cert.SampleIdeal.Hand
-- ==== Proof.PromptRun.lean ====
module

public import proofs.«01_k».proof.Proof.Gen.PromptIdeal.Launch
public import proofs.«01_k».proof.Proof.Gen.PromptIdeal.Skeleton
public import proofs.«01_k».proof.Proof.Gen.PromptIdeal.Points
public import proofs.«01_k».proof.Proof.Gen.PromptIdeal.Frame
public import Idealize.ShloMosaic.Lib.VecWindow

@[expose] public section

set_option maxRecDepth 16384

noncomputable section

namespace Cert.PromptIdeal.Hand

open Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the prompt batch's projection call, one triple for each way through its five conditionals: every
    operand held whole, a stored one left at the stored value and every other one as it was. -/

/-- A load of a whole operand held at the contents that read `X` reads `X`. -/
theorem load_whole {sp : Space} {s : Shape} {e : EltTy} {M : Memref sig Kind.tc sp s e} (h : M.IsWhole) (X : s.Idx → Elt F e)
    {off : Fin s.rank → ℕ} (inb : ∀ a, off a + s.size a ≤ s.size a) :
    View.readAt (Elt F) M.view (Rect.unit off s.size inb).toLoadRect (h.unread X) = X :=
  (View.readAt_full _ _ inb).trans (h.read_unread X)

set_option maxHeartbeats 1000000 in
/-- The conditionals taken: 1, 2. -/
theorem stepA (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mqv : Memref sig .tc .vmem S1024x512 .bf16) (hqv : Mqv.IsWhole) (Mxb : Memref sig .tc .vmem S512x4096 .bf16) (hxb : Mxb.IsWhole)
    (hc0 : k0_cond1 i = 1#1) (hc1 : k0_cond2 i = 1#1) (hc2 : ¬ k0_cond3 i = 1#1) (hc3 : ¬ k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (qv : Vec F S1024x512 .bf16) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mqv fullShare qv ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (k0_pay5 (k0_pay2 x) w) ∗ owns (c : Thread nD τ) Mk fullShare (k) ∗ owns (c : Thread nD τ) Mv fullShare (v) ∗ owns (c : Thread nD τ) Ms fullShare (k0_pay3 x ws) ∗ owns (c : Thread nD τ) Mst fullShare (k0_pay4 x ws) ∗ owns (c : Thread nD τ) Mqv fullShare (qv) ∗ owns (c : Thread nD τ) Mxb fullShare (k0_pay2 x)) -∗ K ⟨⟩))
    ⊢ wp frame (wpE (defs₀ (F := F)) Variants.none c none) E (cc0_inproj i Mx hx Mw hw Mws hws Mo ho Mk hk Mv hv Ms hs Mst hst Mqv hqv Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fqv, %eqv, Hqv⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hqv.eq_unread eqv; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro
    refine (View.read_writes_full _ _ _ _ _).trans (congrArg₂ k0_pay5 ?_ (load_whole hw _ _))
    unfold stepA.sl.v19 stepA.sl.Hxb_1; exact (View.readCov_full _ _ _ _ _).trans (congrArg k0_pay2 (load_whole hx _ _))
  isplitl [Hk]
  · iexists _; isplitr; swap; · iexact Hk
    ipureintro; exact hk.read_unread _
  isplitl [Hv]
  · iexists _; isplitr; swap; · iexact Hv
    ipureintro; exact hv.read_unread _
  isplitl [Hs]
  · iexists _; isplitr; swap; · iexact Hs
    ipureintro
    exact (View.read_writes_full _ _ _ _ _).trans (congrArg₂ k0_pay3 (load_whole hx _ _) (load_whole hws _ _))
  isplitl [Hst]
  · iexists _; isplitr; swap; · iexact Hst
    ipureintro
    exact (View.read_writes_full _ _ _ _ _).trans (congrArg₂ k0_pay4 (load_whole hx _ _) (load_whole hws _ _))
  isplitl [Hqv]
  · iexists _; isplitr; swap; · iexact Hqv
    ipureintro; exact hqv.read_unread _
  iexists _; isplitr; swap; · iexact Hxb
  ipureintro
  unfold stepA.sl.Hxb_1; exact (View.read_writes_full _ _ _ _ _).trans (congrArg k0_pay2 (load_whole hx _ _))

set_option maxHeartbeats 1000000 in
/-- The conditionals taken: 2. -/
theorem stepB (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mqv : Memref sig .tc .vmem S1024x512 .bf16) (hqv : Mqv.IsWhole) (Mxb : Memref sig .tc .vmem S512x4096 .bf16) (hxb : Mxb.IsWhole)
    (hc0 : ¬ k0_cond1 i = 1#1) (hc1 : k0_cond2 i = 1#1) (hc2 : ¬ k0_cond3 i = 1#1) (hc3 : ¬ k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (qv : Vec F S1024x512 .bf16) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mqv fullShare qv ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (k0_pay5 xb w) ∗ owns (c : Thread nD τ) Mk fullShare (k) ∗ owns (c : Thread nD τ) Mv fullShare (v) ∗ owns (c : Thread nD τ) Ms fullShare (s) ∗ owns (c : Thread nD τ) Mst fullShare (st) ∗ owns (c : Thread nD τ) Mqv fullShare (qv) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mqv hqv Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fqv, %eqv, Hqv⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hqv.eq_unread eqv; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro
    exact (View.read_writes_full _ _ _ _ _).trans (congrArg₂ k0_pay5 (load_whole hxb _ _) (load_whole hw _ _))
  isplitl [Hk]
  · iexists _; isplitr; swap; · iexact Hk
    ipureintro; exact hk.read_unread _
  isplitl [Hv]
  · iexists _; isplitr; swap; · iexact Hv
    ipureintro; exact hv.read_unread _
  isplitl [Hs]
  · iexists _; isplitr; swap; · iexact Hs
    ipureintro; exact hs.read_unread _
  isplitl [Hst]
  · iexists _; isplitr; swap; · iexact Hst
    ipureintro; exact hst.read_unread _
  isplitl [Hqv]
  · iexists _; isplitr; swap; · iexact Hqv
    ipureintro; exact hqv.read_unread _
  iexists _; isplitr; swap; · iexact Hxb
  ipureintro; exact hxb.read_unread _

set_option maxHeartbeats 1000000 in
/-- The conditionals taken: 3. -/
theorem stepC (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mqv : Memref sig .tc .vmem S1024x512 .bf16) (hqv : Mqv.IsWhole) (Mxb : Memref sig .tc .vmem S512x4096 .bf16) (hxb : Mxb.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (qv : Vec F S1024x512 .bf16) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mqv fullShare qv ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (k0_pay6 xb w) ∗ owns (c : Thread nD τ) Mk fullShare (k) ∗ owns (c : Thread nD τ) Mv fullShare (v) ∗ owns (c : Thread nD τ) Ms fullShare (s) ∗ owns (c : Thread nD τ) Mst fullShare (st) ∗ owns (c : Thread nD τ) Mqv fullShare (k0_pay7 xb w) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mqv hqv Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fqv, %eqv, Hqv⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hqv.eq_unread eqv; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro
    exact (View.read_writes_full _ _ _ _ _).trans (congrArg₂ k0_pay6 (load_whole hxb _ _) (load_whole hw _ _))
  isplitl [Hk]
  · iexists _; isplitr; swap; · iexact Hk
    ipureintro; exact hk.read_unread _
  isplitl [Hv]
  · iexists _; isplitr; swap; · iexact Hv
    ipureintro; exact hv.read_unread _
  isplitl [Hs]
  · iexists _; isplitr; swap; · iexact Hs
    ipureintro; exact hs.read_unread _
  isplitl [Hst]
  · iexists _; isplitr; swap; · iexact Hst
    ipureintro; exact hst.read_unread _
  isplitl [Hqv]
  · iexists _; isplitr; swap; · iexact Hqv
    ipureintro
    exact (View.read_writes_full _ _ _ _ _).trans (congrArg₂ k0_pay7 (load_whole hxb _ _) (load_whole hw _ _))
  iexists _; isplitr; swap; · iexact Hxb
  ipureintro; exact hxb.read_unread _

set_option maxHeartbeats 1000000 in
/-- The conditionals taken: 4. -/
theorem stepD (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mqv : Memref sig .tc .vmem S1024x512 .bf16) (hqv : Mqv.IsWhole) (Mxb : Memref sig .tc .vmem S512x4096 .bf16) (hxb : Mxb.IsWhole)
    (hc0 : ¬ k0_cond1 i = 1#1) (hc1 : ¬ k0_cond2 i = 1#1) (hc2 : ¬ k0_cond3 i = 1#1) (hc3 : k0_cond4 i = 1#1) (hc4 : ¬ k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (qv : Vec F S1024x512 .bf16) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mqv fullShare qv ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (o) ∗ owns (c : Thread nD τ) Mk fullShare (k0_pay8 xb w) ∗ owns (c : Thread nD τ) Mv fullShare (v) ∗ owns (c : Thread nD τ) Ms fullShare (s) ∗ owns (c : Thread nD τ) Mst fullShare (st) ∗ owns (c : Thread nD τ) Mqv fullShare (qv) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mqv hqv Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fqv, %eqv, Hqv⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hqv.eq_unread eqv; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro; exact ho.read_unread _
  isplitl [Hk]
  · iexists _; isplitr; swap; · iexact Hk
    ipureintro
    exact (View.read_writes_full _ _ _ _ _).trans (congrArg₂ k0_pay8 (load_whole hxb _ _) (load_whole hw _ _))
  isplitl [Hv]
  · iexists _; isplitr; swap; · iexact Hv
    ipureintro; exact hv.read_unread _
  isplitl [Hs]
  · iexists _; isplitr; swap; · iexact Hs
    ipureintro; exact hs.read_unread _
  isplitl [Hst]
  · iexists _; isplitr; swap; · iexact Hst
    ipureintro; exact hst.read_unread _
  isplitl [Hqv]
  · iexists _; isplitr; swap; · iexact Hqv
    ipureintro; exact hqv.read_unread _
  iexists _; isplitr; swap; · iexact Hxb
  ipureintro; exact hxb.read_unread _

set_option maxHeartbeats 1000000 in
/-- The conditionals taken: 5. -/
theorem stepE (c : Dev nD) (i : grid0.Coords) (Mx : Memref sig .tc .vmem S512x4096 .f32) (hx : Mx.IsWhole) (Mw : Memref sig .tc .vmem S4096x1024 .bf16) (hw : Mw.IsWhole) (Mws : Memref sig .tc .vmem S4096x128 .bf16) (hws : Mws.IsWhole) (Mo : Memref sig .tc .vmem S512x1024 .f32) (ho : Mo.IsWhole) (Mk : Memref sig .tc .vmem S512x1024 .f32) (hk : Mk.IsWhole) (Mv : Memref sig .tc .vmem S512x1024 .f32) (hv : Mv.IsWhole) (Ms : Memref sig .tc .vmem S512x128 .f32) (hs : Ms.IsWhole) (Mst : Memref sig .tc .vmem S128x512 .f32) (hst : Mst.IsWhole) (Mqv : Memref sig .tc .vmem S1024x512 .bf16) (hqv : Mqv.IsWhole) (Mxb : Memref sig .tc .vmem S512x4096 .bf16) (hxb : Mxb.IsWhole)
    (hc0 : ¬ k0_cond1 i = 1#1) (hc1 : ¬ k0_cond2 i = 1#1) (hc2 : ¬ k0_cond3 i = 1#1) (hc3 : ¬ k0_cond4 i = 1#1) (hc4 : k0_cond5 i = 1#1)
    (x : Vec F S512x4096 .f32) (w : Vec F S4096x1024 .bf16) (ws : Vec F S4096x128 .bf16) (o : Vec F S512x1024 .f32) (k : Vec F S512x1024 .f32) (v : Vec F S512x1024 .f32) (s : Vec F S512x128 .f32) (st : Vec F S128x512 .f32) (qv : Vec F S1024x512 .bf16) (xb : Vec F S512x4096 .bf16) (E : Set ℕ) (K : PUnit → sProp 𝕄) :
    iprop(owns (c : Thread nD τ) Mx fullShare x ∗ owns (c : Thread nD τ) Mw fullShare w ∗ owns (c : Thread nD τ) Mws fullShare ws ∗ owns (c : Thread nD τ) Mo fullShare o ∗ owns (c : Thread nD τ) Mk fullShare k ∗ owns (c : Thread nD τ) Mv fullShare v ∗ owns (c : Thread nD τ) Ms fullShare s ∗ owns (c : Thread nD τ) Mst fullShare st ∗ owns (c : Thread nD τ) Mqv fullShare qv ∗ owns (c : Thread nD τ) Mxb fullShare xb
      ∗ (iprop(owns (c : Thread nD τ) Mx fullShare (x) ∗ owns (c : Thread nD τ) Mw fullShare (w) ∗ owns (c : Thread nD τ) Mws fullShare (ws) ∗ owns (c : Thread nD τ) Mo fullShare (o) ∗ owns (c : Thread nD τ) Mk fullShare (k) ∗ owns (c : Thread nD τ) Mv fullShare (k0_pay9 xb w) ∗ owns (c : Thread nD τ) Ms fullShare (s) ∗ owns (c : Thread nD τ) Mst fullShare (st) ∗ owns (c : Thread nD τ) Mqv fullShare (k0_pay10 xb w) ∗ owns (c : Thread nD τ) Mxb fullShare (xb)) -∗ K ⟨⟩))
    ⊢ wp frame (wpE (defs₀ (F := F)) Variants.none c none) E (cc0_inproj i Mx hx Mw hw Mws hws Mo ho Mk hk Mv hv Ms hs Mst hst Mqv hqv Mxb hxb) K := by
  simp only [cc0_inproj_eq_skeleton]; unfold cc0_inproj_skel
  unfold owns
  iintro ⟨⟨%fx, %ex, Hx⟩, ⟨%fw, %ew, Hw⟩, ⟨%fws, %ews, Hws⟩, ⟨%fo, %eo, Ho⟩, ⟨%fk, %ek, Hk⟩, ⟨%fv, %ev, Hv⟩, ⟨%fs, %es, Hs⟩, ⟨%fst, %est, Hst⟩, ⟨%fqv, %eqv, Hqv⟩, ⟨%fxb, %exb, Hxb⟩, Hk⟩
  obtain rfl := hx.eq_unread ex; obtain rfl := hw.eq_unread ew; obtain rfl := hws.eq_unread ews; obtain rfl := ho.eq_unread eo; obtain rfl := hk.eq_unread ek; obtain rfl := hv.eq_unread ev; obtain rfl := hs.eq_unread es; obtain rfl := hst.eq_unread est; obtain rfl := hqv.eq_unread eqv; obtain rfl := hxb.eq_unread exb
  sl_exec (disch := first | sl_exact hc0 | sl_exact hc1 | sl_exact hc2 | sl_exact hc3 | sl_exact hc4)
  sl_step
  iapply Hk
  isplitl [Hx]
  · iexists _; isplitr; swap; · iexact Hx
    ipureintro; exact hx.read_unread _
  isplitl [Hw]
  · iexists _; isplitr; swap; · iexact Hw
    ipureintro; exact hw.read_unread _
  isplitl [Hws]
  · iexists _; isplitr; swap; · iexact Hws
    ipureintro; exact hws.read_unread _
  isplitl [Ho]
  · iexists _; isplitr; swap; · iexact Ho
    ipureintro; exact ho.read_unread _
  isplitl [Hk]
  · iexists _; isplitr; swap; · iexact Hk
    ipureintro; exact hk.read_unread _
  isplitl [Hv]
  · iexists _; isplitr; swap; · iexact Hv
    ipureintro
    exact (View.read_writes_full _ _ _ _ _).trans (congrArg₂ k0_pay9 (load_whole hxb _ _) (load_whole hw _ _))
  isplitl [Hs]
  · iexists _; isplitr; swap; · iexact Hs
    ipureintro; exact hs.read_unread _
  isplitl [Hst]
  · iexists _; isplitr; swap; · iexact Hst
    ipureintro; exact hst.read_unread _
  isplitl [Hqv]
  · iexists _; isplitr; swap; · iexact Hqv
    ipureintro
    exact (View.read_writes_full _ _ _ _ _).trans (congrArg₂ k0_pay10 (load_whole hxb _ _) (load_whole hw _ _))
  iexists _; isplitr; swap; · iexact Hxb
  ipureintro; exact hxb.read_unread _

end Cert.PromptIdeal.Hand

end
-- ==== Proof.PromptDat.lean ====
module

public import proofs.«01_k».proof.Proof.PromptRun
public import Idealize.ShloMosaic.Lib.Claim

@[expose] public section

set_option maxRecDepth 16384

noncomputable section

namespace Cert.PromptIdeal.Hand

open Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point

Fourteen points make one block of rows; at its first point the block of `x` is rounded into the scratch, which the other
thirteen read. -/

/-- The point of `t`'s row block at which column block `j` is met, if that is not after `t`; else `t`. -/
def back (t : Fin cfg0.N) (j : ℕ) : Fin cfg0.N := ⟨min t.val (t.val - t.val % 14 + j), Nat.lt_of_le_of_lt (Nat.min_le_left _ _) t.isLt⟩

/-- The rounded rows at a point. -/
def XB (c : Dev nD) (t : Fin cfg0.N) : Vec F S512x4096 .bf16 := k0_pay2 (iblk m c 0 t)
/-- The product of the rows and the columns the point meets. -/
def Prod (c : Dev nD) (t : Fin cfg0.N) : Vec F S512x1024 .f32 := k0_pay5 (XB m c t) (iblk m c 1 t)
/-- The product of the rows and the narrow columns. -/
def Narrow (c : Dev nD) (t : Fin cfg0.N) : Vec F S512x128 .f32 := k0_pay3 (iblk m c 0 t) (iblk m c 2 t)
/-- The same with its axes exchanged. -/
def NarrowT (c : Dev nD) (t : Fin cfg0.N) : Vec F S128x512 .f32 := k0_pay4 (iblk m c 0 t) (iblk m c 2 t)
/-- The product rounded, its axes exchanged. -/
def ProdT (c : Dev nD) (t : Fin cfg0.N) : Vec F S1024x512 .bf16 := k0_pay7 (XB m c t) (iblk m c 1 t)
/-- The point whose product the transposed result holds at `t`. -/
def turn (t : Fin cfg0.N) : Fin cfg0.N := if 12 ≤ t.val % 14 then t else back t 9

/-- The scratch between points: after a point that is not the last of its row block, that block's rounded rows. -/
def PhiAt (c : Dev nD) (n : ℕ) : sProp 𝕄 :=
  iprop((∃ d, iprop(⌜∀ t : Fin cfg0.N, t.val + 1 = n → n % 14 ≠ 0 → d = XB m c t⌝
    ∗ owns (c : Thread nD τ) (Memref.whole cc0_scratch0) fullShare d)) ∗ (∃ r, prngReg c r))

/-- The proof data: every output at the last product stored in it, the scratch at the rounded rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Prod m c (back t 9)
    | ⟨4, _⟩ => Prod m c (back t 11)
    | ⟨5, _⟩ => Prod m c t
    | ⟨6, _⟩ => Narrow m c (back t 0)
    | ⟨7, _⟩ => NarrowT m c (back t 0)
    | ⟨8, _⟩ => ProdT m c (turn t)
  Φ t := (fun n (_ : n ≤ cfg0.N) => PhiAt m c n) t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = Prod m c (back t 9) := by dsimp only [dats]
theorem after_4 (c : Dev nD) (t : Fin cfg0.N) : (dats m 0 c).after 4 t = Prod m c (back t 11) := by dsimp only [dats]
theorem after_5 (c : Dev nD) (t : Fin cfg0.N) : (dats m 0 c).after 5 t = Prod m c t := by dsimp only [dats]
theorem after_6 (c : Dev nD) (t : Fin cfg0.N) : (dats m 0 c).after 6 t = Narrow m c (back t 0) := by dsimp only [dats]
theorem after_7 (c : Dev nD) (t : Fin cfg0.N) : (dats m 0 c).after 7 t = NarrowT m c (back t 0) := by dsimp only [dats]
theorem after_8 (c : Dev nD) (t : Fin cfg0.N) : (dats m 0 c).after 8 t = ProdT m c (turn t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem Phi_start (c : Dev nD) (t : Fin cfg0.N) : (dats m 0 c).Φ t.castSucc = PhiAt m c t.val := by
  dsimp only [dats]; exact Pipeline.Dat.Φ_castSucc (fun n (_ : n ≤ cfg0.N) => PhiAt m c n) t
theorem Phi_next (c : Dev nD) (t : Fin cfg0.N) : (dats m 0 c).Φ t.succ = PhiAt m c (t.val + 1) := by
  dsimp only [dats]; simp only [Fin.val_succ]

/-- Within a row block the block of `x` does not move. -/
theorem rows_same (c : Dev nD) (t t' : Fin cfg0.N) (h : t'.val + 1 = t.val) (hj : t.val % 14 ≠ 0) : iblk m c 0 t = iblk m c 0 t' := by
  have hf : (cfg0.win 0).fetch t = false := Bool.eq_false_iff.mpr fun e => hj ((fetch0_0 t).mp e)
  have e := before_0 m c t (iblk m c 0 t)
  rw [(dats m 0 c).before_of_pos 0 t (by omega) hf, (cfg0.win 0).flush_in rfl, if_neg Bool.false_ne_true] at e
  have ht : (⟨t.val - 1, Nat.lt_of_le_of_lt (Nat.sub_le _ _) t.isLt⟩ : Fin cfg0.N) = t' := Fin.ext (by show t.val - 1 = _; omega)
  rw [ht] at e
  refine e.symm.trans ?_
  have hk : (dats m 0 c).left 0 t' (iblk m c 0 t) = (dats m 0 c).after 0 t' := rfl
  rw [hk, after_0]

theorem back_step (t t' : Fin cfg0.N) (j : ℕ) (h : t'.val + 1 = t.val) (hj : j < t.val % 14) : back t j = back t' j := by
  apply Fin.ext; unfold back; dsimp only; omega

theorem back_self (t : Fin cfg0.N) (j : ℕ) (hj : t.val % 14 ≤ j) : back t j = t := by
  apply Fin.ext; unfold back; dsimp only; omega

/-! ## When a result is written back, and what its buffer holds when the body does not store it -/

/-- A result stored at column block `lo` and neither stored nor written back until `hi`: its buffer then holds what was
    stored. -/
theorem hold (c : Dev nD) (w : Fin cfg0.W) (lo hi : ℕ) (hin : (cfg0.win w).isOut = true)
    (hfl : ∀ t : Fin cfg0.N, lo ≤ t.val % 14 → t.val % 14 < hi → (cfg0.win w).flush t = false)
    (hidle : ∀ t : Fin cfg0.N, lo < t.val % 14 → t.val % 14 ≤ hi → cfg0.idle w (cfg0.grid.coords t) = true)
    (hlive : ∀ t : Fin cfg0.N, t.val % 14 = lo → cfg0.idle w (cfg0.grid.coords t) = false)
    (huncut : ∀ t d, (dats m 0 c).kept w t d = (dats m 0 c).after w t)
    (hafter : ∀ t t' : Fin cfg0.N, t'.val + 1 = t.val → lo < t.val % 14 → t.val % 14 ≤ hi → (dats m 0 c).after w t = (dats m 0 c).after w t') :
    ∀ (n : ℕ) (t : Fin cfg0.N) (d), t.val = n → lo < t.val % 14 → t.val % 14 ≤ hi → (dats m 0 c).before w t d = (dats m 0 c).after w t := by
  intro n
  induction n with
  | zero => intro t d hn hlo; rw [hn] at hlo; omega
  | succ n ih =>
    intro t d hn hlo hhi
    have hf : (cfg0.win w).fetch t = false := by unfold Window.fetch; rw [hin]; rfl
    have ht' : n < cfg0.N := by have := t.isLt; omega
    have e1 : (⟨t.val - 1, Nat.lt_of_le_of_lt (Nat.sub_le _ _) t.isLt⟩ : Fin cfg0.N) = ⟨n, ht'⟩ := Fin.ext (by show t.val - 1 = n; omega)
    rw [(dats m 0 c).before_of_pos w t (by omega) hf, e1, hfl ⟨n, ht'⟩ (by show lo ≤ n % 14; omega) (by show n % 14 < hi; omega), if_neg Bool.false_ne_true,
      hafter t ⟨n, ht'⟩ (by show n + 1 = _; omega) hlo hhi]
    unfold Dat.left
    by_cases hl : n % 14 = lo
    · rw [hlive ⟨n, ht'⟩ hl]; exact huncut _ _
    · rw [hidle ⟨n, ht'⟩ (by show lo < n % 14; omega) (by show n % 14 ≤ hi; omega)]
      exact ih ⟨n, ht'⟩ d rfl (by show lo < n % 14; omega) (by show n % 14 ≤ hi; omega)

theorem live_3 : ∀ t : Fin cfg0.N, cfg0.idle 3 (cfg0.grid.coords t) = false ↔ t.val % 14 ≤ 9 :=
  (by decide +kernel : ∀ t : Fin grid0.N, idle0 3 (grid0.coords t) = false ↔ t.val % 14 ≤ 9)
theorem idle_3 (t : Fin cfg0.N) (h : ¬ t.val % 14 ≤ 9) : cfg0.idle 3 (cfg0.grid.coords t) = true := by
  cases e : cfg0.idle 3 (cfg0.grid.coords t)
  · exact absurd ((live_3 t).mp e) h
  · rfl
theorem live_4 : ∀ t : Fin cfg0.N, cfg0.idle 4 (cfg0.grid.coords t) = false ↔ (10 ≤ t.val % 14 ∧ t.val % 14 ≤ 11) :=
  (by decide +kernel : ∀ t : Fin grid0.N, idle0 4 (grid0.coords t) = false ↔ (10 ≤ t.val % 14 ∧ t.val % 14 ≤ 11))
theorem idle_4 (t : Fin cfg0.N) (h : ¬ (10 ≤ t.val % 14 ∧ t.val % 14 ≤ 11)) : cfg0.idle 4 (cfg0.grid.coords t) = true := by
  cases e : cfg0.idle 4 (cfg0.grid.coords t)
  · exact absurd ((live_4 t).mp e) h
  · rfl
theorem live_5 : ∀ t : Fin cfg0.N, cfg0.idle 5 (cfg0.grid.coords t) = false ↔ 12 ≤ t.val % 14 :=
  (by decide +kernel : ∀ t : Fin grid0.N, idle0 5 (grid0.coords t) = false ↔ 12 ≤ t.val % 14)
theorem idle_5 (t : Fin cfg0.N) (h : ¬ 12 ≤ t.val % 14) : cfg0.idle 5 (cfg0.grid.coords t) = true := by
  cases e : cfg0.idle 5 (cfg0.grid.coords t)
  · exact absurd ((live_5 t).mp e) h
  · rfl
theorem live_6 : ∀ t : Fin cfg0.N, cfg0.idle 6 (cfg0.grid.coords t) = false ↔ t.val % 14 = 0 :=
  (by decide +kernel : ∀ t : Fin grid0.N, idle0 6 (grid0.coords t) = false ↔ t.val % 14 = 0)
theorem idle_6 (t : Fin cfg0.N) (h : ¬ t.val % 14 = 0) : cfg0.idle 6 (cfg0.grid.coords t) = true := by
  cases e : cfg0.idle 6 (cfg0.grid.coords t)
  · exact absurd ((live_6 t).mp e) h
  · rfl
theorem live_7 : ∀ t : Fin cfg0.N, cfg0.idle 7 (cfg0.grid.coords t) = false ↔ t.val % 14 = 0 :=
  (by decide +kernel : ∀ t : Fin grid0.N, idle0 7 (grid0.coords t) = false ↔ t.val % 14 = 0)
theorem idle_7 (t : Fin cfg0.N) (h : ¬ t.val % 14 = 0) : cfg0.idle 7 (cfg0.grid.coords t) = true := by
  cases e : cfg0.idle 7 (cfg0.grid.coords t)
  · exact absurd ((live_7 t).mp e) h
  · rfl
theorem live_8 : ∀ t : Fin cfg0.N, cfg0.idle 8 (cfg0.grid.coords t) = false ↔ ((8 ≤ t.val % 14 ∧ t.val % 14 ≤ 9) ∨ 12 ≤ t.val % 14) :=
  (by decide +kernel : ∀ t : Fin grid0.N, idle0 8 (grid0.coords t) = false ↔ ((8 ≤ t.val % 14 ∧ t.val % 14 ≤ 9) ∨ 12 ≤ t.val % 14))
theorem idle_8 (t : Fin cfg0.N) (h : ¬ ((8 ≤ t.val % 14 ∧ t.val % 14 ≤ 9) ∨ 12 ≤ t.val % 14)) : cfg0.idle 8 (cfg0.grid.coords t) = true := by
  cases e : cfg0.idle 8 (cfg0.grid.coords t)
  · exact absurd ((live_8 t).mp e) h
  · rfl
theorem flush_3 : ∀ t : Fin cfg0.N, (cfg0.win 3).flush t = true ↔ (t.val % 14 ≤ 8 ∨ t.val % 14 = 13) :=
  (by decide +kernel : ∀ t : Fin grid0.N, win0_3.flush t = true ↔ (t.val % 14 ≤ 8 ∨ t.val % 14 = 13))
theorem flush_4 : ∀ t : Fin cfg0.N, (cfg0.win 4).flush t = true ↔ (t.val % 14 = 10 ∨ t.val % 14 = 13) :=
  (by decide +kernel : ∀ t : Fin grid0.N, win0_4.flush t = true ↔ (t.val % 14 = 10 ∨ t.val % 14 = 13))
theorem flush_5 : ∀ t : Fin cfg0.N, (cfg0.win 5).flush t = true ↔ 12 ≤ t.val % 14 :=
  (by decide +kernel : ∀ t : Fin grid0.N, win0_5.flush t = true ↔ 12 ≤ t.val % 14)
theorem flush_6 : ∀ t : Fin cfg0.N, (cfg0.win 6).flush t = true ↔ t.val % 14 = 13 :=
  (by decide +kernel : ∀ t : Fin grid0.N, win0_6.flush t = true ↔ t.val % 14 = 13)
theorem flush_7 : ∀ t : Fin cfg0.N, (cfg0.win 7).flush t = true ↔ t.val % 14 = 13 :=
  (by decide +kernel : ∀ t : Fin grid0.N, win0_7.flush t = true ↔ t.val % 14 = 13)
theorem flush_8 : ∀ t : Fin cfg0.N, (cfg0.win 8).flush t = true ↔ (t.val % 14 = 8 ∨ 11 ≤ t.val % 14) :=
  (by decide +kernel : ∀ t : Fin grid0.N, win0_8.flush t = true ↔ (t.val % 14 = 8 ∨ 11 ≤ t.val % 14))
theorem hold_3 (c : Dev nD) (t : Fin cfg0.N) (d) (h1 : 9 < t.val % 14) (h2 : t.val % 14 ≤ 13) : (dats m 0 c).before 3 t d = (dats m 0 c).after 3 t :=
  hold m c 3 9 13 rfl (fun t h h' => Bool.eq_false_iff.mpr fun e => by have := (flush_3 t).mp e; omega)
    (fun t h h' => idle_3 t (by omega)) (fun t h => (live_3 t).mpr (by omega)) (fun _ _ => rfl)
    (fun t t' h h1 h2 => by rw [after_3, after_3, back_step t t' 9 h (by omega)]) t.val t d rfl h1 h2
theorem hold_4 (c : Dev nD) (t : Fin cfg0.N) (d) (h1 : 11 < t.val % 14) (h2 : t.val % 14 ≤ 13) : (dats m 0 c).before 4 t d = (dats m 0 c).after 4 t :=
  hold m c 4 11 13 rfl (fun t h h' => Bool.eq_false_iff.mpr fun e => by have := (flush_4 t).mp e; omega)
    (fun t h h' => idle_4 t (by omega)) (fun t h => (live_4 t).mpr (by omega)) (fun _ _ => rfl)
    (fun t t' h h1 h2 => by rw [after_4, after_4, back_step t t' 11 h (by omega)]) t.val t d rfl h1 h2
theorem hold_6 (c : Dev nD) (t : Fin cfg0.N) (d) (h1 : 0 < t.val % 14) (h2 : t.val % 14 ≤ 13) : (dats m 0 c).before 6 t d = (dats m 0 c).after 6 t :=
  hold m c 6 0 13 rfl (fun t h h' => Bool.eq_false_iff.mpr fun e => by have := (flush_6 t).mp e; omega)
    (fun t h h' => idle_6 t (by omega)) (fun t h => (live_6 t).mpr (by omega)) (fun _ _ => rfl)
    (fun t t' h h1 h2 => by rw [after_6, after_6, back_step t t' 0 h (by omega)]) t.val t d rfl h1 h2
theorem hold_7 (c : Dev nD) (t : Fin cfg0.N) (d) (h1 : 0 < t.val % 14) (h2 : t.val % 14 ≤ 13) : (dats m 0 c).before 7 t d = (dats m 0 c).after 7 t :=
  hold m c 7 0 13 rfl (fun t h h' => Bool.eq_false_iff.mpr fun e => by have := (flush_7 t).mp e; omega)
    (fun t h h' => idle_7 t (by omega)) (fun t h => (live_7 t).mpr (by omega)) (fun _ _ => rfl)
    (fun t t' h h1 h2 => by rw [after_7, after_7, back_step t t' 0 h (by omega)]) t.val t d rfl h1 h2
theorem hold_8 (c : Dev nD) (t : Fin cfg0.N) (d) (h1 : 9 < t.val % 14) (h2 : t.val % 14 ≤ 11) : (dats m 0 c).before 8 t d = (dats m 0 c).after 8 t :=
  hold m c 8 9 11 rfl (fun t h h' => Bool.eq_false_iff.mpr fun e => by have := (flush_8 t).mp e; omega)
    (fun t h h' => idle_8 t (by omega)) (fun t h => (live_8 t).mpr (by omega)) (fun _ _ => rfl)
    (fun t t' h h1 h2 => by rw [after_8, after_8]; unfold turn; rw [if_neg (by omega), if_neg (by omega), back_step t t' 9 h (by omega)]) t.val t d rfl h1 h2

/-! ## The body's obligation -/

/-- A stored result is handed on at what was stored. -/
theorem give (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ ((dats m 0 c).leavesExact w t : sProp 𝕄) := by
  unfold Dat.leavesExact; rw [h]

/-- A result not stored is handed back as it was found. -/
theorem keep (c : Dev nD) (w : Fin cfg0.W) (t : Fin cfg0.N) (d) (h : cfg0.idle w (cfg0.grid.coords t) = true)
    (hb : (cfg0.win w).flush t = true → (dats m 0 c).before w t d = (dats m 0 c).after w t) :
    owns (c : Thread nD τ) ((cfg0.win w).stage (cfg0.slots t w)) fullShare ((dats m 0 c).before w t d) ⊢ ((dats m 0 c).leavesExact w t : sProp 𝕄) := by
  unfold Dat.leavesExact; rw [h]
  cases hf : (cfg0.win w).flush t
  · iintro H; iexists d; iexact H
  · rw [hb hf]

theorem taken_0 : ∀ t : Fin cfg0.N, k0_cond1 (grid0.coords t) = 1#1 ↔ t.val % 14 = 0 :=
  (by decide +kernel : ∀ t : Fin grid0.N, k0_cond1 (grid0.coords t) = 1#1 ↔ t.val % 14 = 0)
theorem taken_1 : ∀ t : Fin cfg0.N, k0_cond2 (grid0.coords t) = 1#1 ↔ t.val % 14 ≤ 7 :=
  (by decide +kernel : ∀ t : Fin grid0.N, k0_cond2 (grid0.coords t) = 1#1 ↔ t.val % 14 ≤ 7)
theorem taken_2 : ∀ t : Fin cfg0.N, k0_cond3 (grid0.coords t) = 1#1 ↔ (8 ≤ t.val % 14 ∧ t.val % 14 ≤ 9) :=
  (by decide +kernel : ∀ t : Fin grid0.N, k0_cond3 (grid0.coords t) = 1#1 ↔ (8 ≤ t.val % 14 ∧ t.val % 14 ≤ 9))
theorem taken_3 : ∀ t : Fin cfg0.N, k0_cond4 (grid0.coords t) = 1#1 ↔ (10 ≤ t.val % 14 ∧ t.val % 14 ≤ 11) :=
  (by decide +kernel : ∀ t : Fin grid0.N, k0_cond4 (grid0.coords t) = 1#1 ↔ (10 ≤ t.val % 14 ∧ t.val % 14 ≤ 11))
theorem taken_4 : ∀ t : Fin cfg0.N, k0_cond5 (grid0.coords t) = 1#1 ↔ 12 ≤ t.val % 14 :=
  (by decide +kernel : ∀ t : Fin grid0.N, k0_cond5 (grid0.coords t) = 1#1 ↔ 12 ≤ t.val % 14)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands on. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2000000 in
theorem pointA (c : Dev nD) (t : Fin cfg0.N) (hj : t.val % 14 = 0) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (stepA c (grid0.coords t) _ _ _ _ _ _ _ _ _ _ _ _ _ _ _ _ _ _ _ _ ((taken_0 t).mpr (by omega)) ((taken_1 t).mpr (by omega)) (fun h => absurd ((taken_2 t).mp h) (by omega)) (fun h => absurd ((taken_3 t).mp h) (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) ((dats m 0 c).before 8 t d8) ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply give m c 3 t ((live_3 t).mpr (by omega)); rw [after_3, back_self t 9 (by omega)]; iexact H3
  isplitl [H4]; · iapply keep m c 4 t d4 (idle_4 t (by omega)) (fun e => by have hf := (flush_4 t).mp e; first | (exfalso; omega) | exact hold_4 m c t _ (by omega) (by omega)); iexact H4
  isplitl [H5]; · iapply keep m c 5 t d5 (idle_5 t (by omega)) (fun e => by have hf := (flush_5 t).mp e; exfalso; omega); iexact H5
  isplitl [H6]; · iapply give m c 6 t ((live_6 t).mpr (by omega)); rw [after_6, back_self t 0 (by omega)]; iexact H6
  isplitl [H7]; · iapply give m c 7 t ((live_7 t).mpr (by omega)); rw [after_7, back_self t 0 (by omega)]; iexact H7
  iapply keep m c 8 t d8 (idle_8 t (by omega)) (fun e => by have hf := (flush_8 t).mp e; first | (exfalso; omega) | exact hold_8 m c t _ (by omega) (by omega)); iexact H8

set_option maxHeartbeats 2000000 in
theorem pointB (c : Dev nD) (t : Fin cfg0.N) (hj : t.val % 14 ≠ 0) (hj2 : t.val % 14 ≤ 7) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepB c (grid0.coords t) _ _ _ _ _ _ _ _ _ _ _ _ _ _ _ _ _ _ _ _ (fun h => absurd ((taken_0 t).mp h) (by omega)) ((taken_1 t).mpr (by omega)) (fun h => absurd ((taken_2 t).mp h) (by omega)) (fun h => absurd ((taken_3 t).mp h) (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) ((dats m 0 c).before 8 t d8) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply give m c 3 t ((live_3 t).mpr (by omega)); rw [after_3, back_self t 9 (by omega)]; iexact H3
  isplitl [H4]; · iapply keep m c 4 t d4 (idle_4 t (by omega)) (fun e => by have hf := (flush_4 t).mp e; first | (exfalso; omega) | exact hold_4 m c t _ (by omega) (by omega)); iexact H4
  isplitl [H5]; · iapply keep m c 5 t d5 (idle_5 t (by omega)) (fun e => by have hf := (flush_5 t).mp e; exfalso; omega); iexact H5
  isplitl [H6]; · iapply keep m c 6 t d6 (idle_6 t (by omega)) (fun e => by have hf := (flush_6 t).mp e; first | (exfalso; omega) | exact hold_6 m c t _ (by omega) (by omega)); iexact H6
  isplitl [H7]; · iapply keep m c 7 t d7 (idle_7 t (by omega)) (fun e => by have hf := (flush_7 t).mp e; first | (exfalso; omega) | exact hold_7 m c t _ (by omega) (by omega)); iexact H7
  iapply keep m c 8 t d8 (idle_8 t (by omega)) (fun e => by have hf := (flush_8 t).mp e; first | (exfalso; omega) | exact hold_8 m c t _ (by omega) (by omega)); iexact H8

set_option maxHeartbeats 2000000 in
theorem pointC (c : Dev nD) (t : Fin cfg0.N) (hj : 8 ≤ t.val % 14) (hj2 : t.val % 14 ≤ 9) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepC c (grid0.coords t) _ _ _ _ _ _ _ _ _ _ _ _ _ _ _ _ _ _ _ _ (fun h => absurd ((taken_0 t).mp h) (by omega)) (fun h => absurd ((taken_1 t).mp h) (by omega)) ((taken_2 t).mpr (by omega)) (fun h => absurd ((taken_3 t).mp h) (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) ((dats m 0 c).before 8 t d8) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply give m c 3 t ((live_3 t).mpr (by omega)); rw [after_3, back_self t 9 (by omega)]; iexact H3
  isplitl [H4]; · iapply keep m c 4 t d4 (idle_4 t (by omega)) (fun e => by have hf := (flush_4 t).mp e; first | (exfalso; omega) | exact hold_4 m c t _ (by omega) (by omega)); iexact H4
  isplitl [H5]; · iapply keep m c 5 t d5 (idle_5 t (by omega)) (fun e => by have hf := (flush_5 t).mp e; exfalso; omega); iexact H5
  isplitl [H6]; · iapply keep m c 6 t d6 (idle_6 t (by omega)) (fun e => by have hf := (flush_6 t).mp e; first | (exfalso; omega) | exact hold_6 m c t _ (by omega) (by omega)); iexact H6
  isplitl [H7]; · iapply keep m c 7 t d7 (idle_7 t (by omega)) (fun e => by have hf := (flush_7 t).mp e; first | (exfalso; omega) | exact hold_7 m c t _ (by omega) (by omega)); iexact H7
  iapply give m c 8 t ((live_8 t).mpr (by omega)); rw [after_8, show turn t = t from by unfold turn; rw [if_neg (by omega)]; exact back_self t 9 (by omega)]; iexact H8

set_option maxHeartbeats 2000000 in
theorem pointD (c : Dev nD) (t : Fin cfg0.N) (hj : 10 ≤ t.val % 14) (hj2 : t.val % 14 ≤ 11) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepD c (grid0.coords t) _ _ _ _ _ _ _ _ _ _ _ _ _ _ _ _ _ _ _ _ (fun h => absurd ((taken_0 t).mp h) (by omega)) (fun h => absurd ((taken_1 t).mp h) (by omega)) (fun h => absurd ((taken_2 t).mp h) (by omega)) ((taken_3 t).mpr (by omega)) (fun h => absurd ((taken_4 t).mp h) (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) ((dats m 0 c).before 8 t d8) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply keep m c 3 t d3 (idle_3 t (by omega)) (fun e => by have hf := (flush_3 t).mp e; first | (exfalso; omega) | exact hold_3 m c t _ (by omega) (by omega)); iexact H3
  isplitl [H4]; · iapply give m c 4 t ((live_4 t).mpr (by omega)); rw [after_4, back_self t 11 (by omega)]; iexact H4
  isplitl [H5]; · iapply keep m c 5 t d5 (idle_5 t (by omega)) (fun e => by have hf := (flush_5 t).mp e; exfalso; omega); iexact H5
  isplitl [H6]; · iapply keep m c 6 t d6 (idle_6 t (by omega)) (fun e => by have hf := (flush_6 t).mp e; first | (exfalso; omega) | exact hold_6 m c t _ (by omega) (by omega)); iexact H6
  isplitl [H7]; · iapply keep m c 7 t d7 (idle_7 t (by omega)) (fun e => by have hf := (flush_7 t).mp e; first | (exfalso; omega) | exact hold_7 m c t _ (by omega) (by omega)); iexact H7
  iapply keep m c 8 t d8 (idle_8 t (by omega)) (fun e => by have hf := (flush_8 t).mp e; first | (exfalso; omega) | exact hold_8 m c t _ (by omega) (by omega)); iexact H8

set_option maxHeartbeats 2000000 in
theorem pointE (c : Dev nD) (t : Fin cfg0.N) (hj : 12 ≤ t.val % 14) :
    bodyPre m c t ⊢ wp frame (wpE (defs₀ (F := F)) Variants.none c none) Set.univ (bodyAt0 t) (fun _ => bodyPost m c t) := by
  unfold bodyPre bodyPost bodyAt0
  rw [Phi_start, Phi_next, show (dats m 0 c).owesAt () t.succ = (dats m 0 c).owesAt () t.castSucc from rfl]
  simp only [before_0, before_1, before_2]
  unfold PhiAt
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hn : t.val - 1 < cfg0.N := Nat.lt_of_le_of_lt (Nat.sub_le _ _) t.isLt
  have hXB : ds = XB m c t := by
    rw [hs ⟨t.val - 1, hn⟩ (by show t.val - 1 + 1 = t.val; omega) (by omega)]
    unfold XB; rw [rows_same m c t ⟨t.val - 1, hn⟩ (by show t.val - 1 + 1 = t.val; omega) (by omega)]
  subst hXB
  iapply (stepE c (grid0.coords t) _ _ _ _ _ _ _ _ _ _ _ _ _ _ _ _ _ _ _ _ (fun h => absurd ((taken_0 t).mp h) (by omega)) (fun h => absurd ((taken_1 t).mp h) (by omega)) (fun h => absurd ((taken_2 t).mp h) (by omega)) (fun h => absurd ((taken_3 t).mp h) (by omega)) ((taken_4 t).mpr (by omega)) (iblk m c 0 t) (iblk m c 1 t) (iblk m c 2 t) ((dats m 0 c).before 3 t d3) ((dats m 0 c).before 4 t d4) ((dats m 0 c).before 5 t d5) ((dats m 0 c).before 6 t d6) ((dats m 0 c).before 7 t d7) ((dats m 0 c).before 8 t d8) (XB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexists _
      isplitr
      swap
      · iexact HS
      ipureintro
      intro t' h' _
      obtain rfl : t' = t := Fin.ext (by omega)
      rfl
    iexact Hg
  isplitl [Ho]; · iexact Ho
  isplitl [H0]; · iapply give m c 0 t rfl; rw [after_0]; iexact H0
  isplitl [H1]; · iapply give m c 1 t rfl; rw [after_1]; iexact H1
  isplitl [H2]; · iapply give m c 2 t rfl; rw [after_2]; iexact H2
  isplitl [H3]; · iapply keep m c 3 t d3 (idle_3 t (by omega)) (fun e => by have hf := (flush_3 t).mp e; first | (exfalso; omega) | exact hold_3 m c t _ (by omega) (by omega)); iexact H3
  isplitl [H4]; · iapply keep m c 4 t d4 (idle_4 t (by omega)) (fun e => by have hf := (flush_4 t).mp e; first | (exfalso; omega) | exact hold_4 m c t _ (by omega) (by omega)); iexact H4
  isplitl [H5]; · iapply give m c 5 t ((live_5 t).mpr (by omega)); rw [after_5]; iexact H5
  isplitl [H6]; · iapply keep m c 6 t d6 (idle_6 t (by omega)) (fun e => by have hf := (flush_6 t).mp e; first | (exfalso; omega) | exact hold_6 m c t _ (by omega) (by omega)); iexact H6
  isplitl [H7]; · iapply keep m c 7 t d7 (idle_7 t (by omega)) (fun e => by have hf := (flush_7 t).mp e; first | (exfalso; omega) | exact hold_7 m c t _ (by omega) (by omega)); iexact H7
  iapply give m c 8 t ((live_8 t).mpr (by omega)); rw [after_8, show turn t = t from by unfold turn; exact if_pos (by omega)]; iexact H8

theorem point (c : Dev nD) (t : Fin cfg0.N) :
    bodyPre m c t ⊢ wp frame (wpE (defs₀ (F := F)) Variants.none c none) Set.univ (bodyAt0 t) (fun _ => bodyPost m c t) := by
  by_cases h0 : t.val % 14 = 0
  · exact pointA m c t h0
  by_cases h1 : t.val % 14 ≤ 7
  · exact pointB m c t h0 h1
  by_cases h2 : t.val % 14 ≤ 9
  · exact pointC m c t (by omega) h2
  by_cases h3 : t.val % 14 ≤ 11
  · exact pointD m c t (by omega) h3
  exact pointE m c t (by omega)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

/-! ## The launch -/

theorem enter (c : Dev nD) : (Pipeline.ΦA spec0 c : sProp 𝕄) ⊢ (dats m 0 c).Φ 0 := by
  rw [show (dats m 0 c).Φ 0 = PhiAt m c 0 from by dsimp only [dats]; rfl]
  unfold Pipeline.ΦA PhiAt
  rw [scopedRest0_eq]; simp only [owns_whole]
  iintro ⟨⟨%d, H⟩, Hg⟩
  isplitl [H]
  · iexists _
    isplitr
    swap
    · iexact H
    ipureintro
    intro t h; omega
  iexact Hg

theorem leave (c : Dev nD) : (dats m 0 c).Φ (Fin.last cfg0.N) ⊢ (Pipeline.ΦA spec0 c : sProp 𝕄) := by
  rw [show (dats m 0 c).Φ (Fin.last cfg0.N) = PhiAt m c cfg0.N from by dsimp only [dats]; rfl]
  unfold Pipeline.ΦA PhiAt
  rw [scopedRest0_eq]; simp only [owns_whole]
  iintro ⟨⟨%d, -, H⟩, Hg⟩
  isplitl [H]
  · iexists _; iexact H
  iexact Hg

/-- Every run ends, with the results at the write-backs of the products, what is kept of them at the lines after the
call, and every counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.PromptIdeal.Hand

end
-- ==== Proof.PromptColumns.lean ====
module

public import proofs.«01_k».proof.Proof.Gen.PromptRefIdeal.Run
public import Idealize.ShloMosaic.Lib.Pointwise
public import Idealize.ShloMosaic.Lib.IdealHost

/-! The combined projection at a row and a column, and the reference's results as its columns. -/

@[expose] public section
set_option maxRecDepth 16384
noncomputable section
namespace Cert.PromptRefIdeal.Columns
open Cert.PromptRefIdeal Cert.PromptRefIdeal.Gen Idealize.ShloMosaic Idealize.ShloMosaic.TcCoe Idealize.SL.Sem Idealize.ShloMosaic.Pointwise

/-- The projection of row `r` by column `n` of the weights. -/
def proj (x : FVec Ideal S8x2048x4096 .f32) (w : FVec Ideal S1x4096x14384 .f32) (r : Fin 16384) (n : Fin 14384) : EReal :=
  ∑ k : Fin 4096, x (ix3 ⟨r.val / 2048, by omega⟩ ⟨r.val % 2048, by omega⟩ k) * w (ix3 0 k n)

/-- Column `n` of the packed wide weights is this column of the weights. -/
def wide (n : ℕ) (h : n < 14336) : Fin 14384 := ⟨if n < 8192 then n else n + 32, by split <;> omega⟩

/-- The narrow columns: two of 16, the forget gate's 16 twice, zeros. -/
def narrow (x : FVec Ideal S8x2048x4096 .f32) (w : FVec Ideal S1x4096x14384 .f32) (r : Fin 16384) (n : Fin 128) : EReal :=
  if h : n.val < 32 then proj x w r ⟨8192 + n.val, by omega⟩
  else if h : n.val < 48 then proj x w r ⟨14336 + n.val, by omega⟩
  else if h : n.val < 64 then proj x w r ⟨14320 + n.val, by omega⟩ else 0

def main (x : FVec Ideal S8x2048x4096 .f32) (w : FVec Ideal S1x4096x14384 .f32) : FVec Ideal S16384x10240 .f32 :=
  fun i => proj x w (i 0) (wide (i 1).val (by have : (i 1).val < 10240 := (i 1).isLt; omega))
def keys (x : FVec Ideal S8x2048x4096 .f32) (w : FVec Ideal S1x4096x14384 .f32) : FVec Ideal S16384x2048 .f32 :=
  fun i => proj x w (i 0) ⟨10272 + (i 1).val, by have : (i 1).val < 2048 := (i 1).isLt; omega⟩
def values (x : FVec Ideal S8x2048x4096 .f32) (w : FVec Ideal S1x4096x14384 .f32) : FVec Ideal S16384x2048 .f32 :=
  fun i => proj x w (i 0) ⟨12320 + (i 1).val, by have : (i 1).val < 2048 := (i 1).isLt; omega⟩
def small (x : FVec Ideal S8x2048x4096 .f32) (w : FVec Ideal S1x4096x14384 .f32) : FVec Ideal S16384x128 .f32 :=
  fun i => narrow x w (i 0) (i 1)
def smallT (x : FVec Ideal S8x2048x4096 .f32) (w : FVec Ideal S1x4096x14384 .f32) : FVec Ideal S128x16384 .f32 :=
  fun i => narrow x w (i 1) (i 0)
def turned (x : FVec Ideal S8x2048x4096 .f32) (w : FVec Ideal S1x4096x14384 .f32) : FVec Ideal S4096x16384 .bf16 :=
  fun i => proj x w (i 1) ⟨if (i 0).val < 2048 then 8224 + (i 0).val else 10272 + (i 0).val, by have : (i 0).val < 4096 := (i 0).isLt; split <;> omega⟩

/-- The first columns of the projection, by stream and frame. -/
def frames (x : FVec Ideal S8x2048x4096 .f32) (w : FVec Ideal S1x4096x14384 .f32) : FVec Ideal S8x2048x6144 .f32 :=
  fun i => proj x w ⟨(i 0).val * 2048 + (i 1).val, by have h0 : (i 0).val < 8 := (i 0).isLt; have h1 : (i 1).val < 2048 := (i 1).isLt; omega⟩
    ⟨(i 2).val, by have h2 : (i 2).val < 6144 := (i 2).isLt; omega⟩

/-- The last three rows of zeros followed by `y`. -/
def lastRows (y : FVec Ideal S8x2048x6144 .f32) : FVec Ideal S1x8x3x6144 .f32 :=
  broadcastInDim S1x8x3x6144 ![1, 2, 3] bcast_S8x3x6144_S1x8x3x6144_1_2_3 (extractStridedSlice S8x3x6144 ![0, 2048, 0] (concatenate S8x2051x6144 1 [⟨S8x3x6144, broadcastInDim S8x3x6144 ![] bcast_S_S8x3x6144 (constant S_ .f32 0x00000000#32)⟩, ⟨S8x2048x6144, y⟩] concatenates_S8x3x6144_S8x2048x6144_S8x2051x6144_d1) slices_S8x2051x6144_S8x3x6144_0_2048_0)

/-- A projection's `2048` columns by stream, frame, head and lane. -/
def byHead (y : FVec Ideal S16384x2048 .f32) : FVec Ideal S1x8x2048x16x128 .f32 := shapeCast S1x8x2048x16x128 y shapeCasts_S16384x2048_S1x8x2048x16x128

/-- The whole projection, as the reference computes it. -/
def whole (x : FVec Ideal S8x2048x4096 .f32) (w : FVec Ideal S1x4096x14384 .f32) : FVec Ideal S16384x14384 .f32 :=
  shapeCast _ (Host.dotGeneral dot_S8x2048x4096_S4096x14384_S8x2048x14384_2_0_01_1_n_n none x (shapeCast _ w shapeCasts_S1x4096x14384_S4096x14384)) shapeCasts_S8x2048x14384_S16384x14384

theorem whole_apply (x : FVec Ideal S8x2048x4096 .f32) (w : FVec Ideal S1x4096x14384 .f32) (r : Fin 16384) (n : Fin 14384) :
    whole x w (ix2 r n) = proj x w r n := by
  unfold proj
  pointwise [whole]

theorem main_eq (X : FVec Ideal S16384x14384 .f32) (x : FVec Ideal S8x2048x4096 .f32) (w : FVec Ideal S1x4096x14384 .f32) (h : ∀ r n, X (ix2 r n) = proj x w r n) :
    (concatenate S16384x10240 1 [⟨S16384x6144, (extractStridedSlice S16384x6144 ![0, 0] X slices_S16384x14384_S16384x6144_0_0)⟩, ⟨S16384x2048, (extractStridedSlice S16384x2048 ![0, 6144] X slices_S16384x14384_S16384x2048_0_6144)⟩, ⟨S16384x2048, (extractStridedSlice S16384x2048 ![0, 0] (extractStridedSlice S16384x6144 ![0, 8224] X slices_S16384x14384_S16384x6144_0_8224) slices_S16384x6144_S16384x2048_0_0)⟩] concatenates_S16384x6144_S16384x2048_S16384x2048_S16384x10240_d1 : FVec Ideal S16384x10240 .f32) = main x w := by
  funext i
  obtain ⟨r, n, rfl⟩ : ∃ r n, i = (ix2 r n : S16384x10240.Idx) := ⟨i 0, i 1, eq_ix2 i⟩
  show _ = proj x w r (wide n.val _)
  pointwise
  simp only [h]
  split_ifs with h1 h2 <;> refine congrArg (proj x w r) (Fin.ext ?_) <;> unfold wide <;> dsimp only <;> (try split_ifs) <;> first | done | omega

theorem keys_eq (X : FVec Ideal S16384x14384 .f32) (x : FVec Ideal S8x2048x4096 .f32) (w : FVec Ideal S1x4096x14384 .f32) (h : ∀ r n, X (ix2 r n) = proj x w r n) :
    (extractStridedSlice S16384x2048 ![0, 2048] (extractStridedSlice S16384x6144 ![0, 8224] X slices_S16384x14384_S16384x6144_0_8224) slices_S16384x6144_S16384x2048_0_2048) = keys x w := by
  funext i
  obtain ⟨r, n, rfl⟩ : ∃ r n, i = (ix2 r n : S16384x2048.Idx) := ⟨i 0, i 1, eq_ix2 i⟩
  show _ = proj x w r ⟨10272 + n.val, _⟩
  pointwise
  rw [h]
  exact congrArg (proj x w r) (Fin.ext (by first | rfl | (dsimp only; omega)))

theorem values_eq (X : FVec Ideal S16384x14384 .f32) (x : FVec Ideal S8x2048x4096 .f32) (w : FVec Ideal S1x4096x14384 .f32) (h : ∀ r n, X (ix2 r n) = proj x w r n) :
    (extractStridedSlice S16384x2048 ![0, 4096] (extractStridedSlice S16384x6144 ![0, 8224] X slices_S16384x14384_S16384x6144_0_8224) slices_S16384x6144_S16384x2048_0_4096) = values x w := by
  funext i
  obtain ⟨r, n, rfl⟩ : ∃ r n, i = (ix2 r n : S16384x2048.Idx) := ⟨i 0, i 1, eq_ix2 i⟩
  show _ = proj x w r ⟨12320 + n.val, _⟩
  pointwise
  rw [h]
  exact congrArg (proj x w r) (Fin.ext (by first | rfl | (dsimp only; omega)))

theorem zero_bits : Ideal.ofBits .f32 0#32 = 0 := by simp [Ideal.ofBits, Ideal.ieee]

theorem small_eq (X : FVec Ideal S16384x14384 .f32) (x : FVec Ideal S8x2048x4096 .f32) (w : FVec Ideal S1x4096x14384 .f32) (h : ∀ r n, X (ix2 r n) = proj x w r n) :
    (concatenate S16384x128 1 [⟨S16384x16, (extractStridedSlice S16384x16 ![0, 8192] X slices_S16384x14384_S16384x16_0_8192)⟩, ⟨S16384x16, (extractStridedSlice S16384x16 ![0, 8208] X slices_S16384x14384_S16384x16_0_8208)⟩, ⟨S16384x16, (extractStridedSlice S16384x16 ![0, 14368] X slices_S16384x14384_S16384x16_0_14368)⟩, ⟨S16384x16, (extractStridedSlice S16384x16 ![0, 14368] X slices_S16384x14384_S16384x16_0_14368)⟩, ⟨S16384x64, (broadcastInDim S16384x64 ![] bcast_S_S16384x64 (constant S_ .f32 0x00000000#32))⟩] concatenates_S16384x16_S16384x16_S16384x16_S16384x16_S16384x64_S16384x128_d1 : FVec Ideal S16384x128 .f32) = small x w := by
  funext i
  obtain ⟨r, n, rfl⟩ : ∃ r n, i = (ix2 r n : S16384x128.Idx) := ⟨i 0, i 1, eq_ix2 i⟩
  show _ = narrow x w r n
  unfold narrow
  pointwise
  simp only [h]
  (repeat' split) <;> first
    | exact zero_bits
    | rfl
    | (exfalso; omega)
    | (refine congrArg (proj x w r) (Fin.ext ?_); first | rfl | (dsimp only; omega))

theorem smallT_eq (x : FVec Ideal S8x2048x4096 .f32) (w : FVec Ideal S1x4096x14384 .f32) :
    transpose S128x16384 [1, 0] (small x w) transposes_S16384x128_S128x16384_1_0 = smallT x w := by
  funext i
  obtain ⟨r, n, rfl⟩ : ∃ r n, i = (ix2 r n : S128x16384.Idx) := ⟨i 0, i 1, eq_ix2 i⟩
  show _ = narrow x w n r
  pointwise
  rfl

theorem turned_eq (X : FVec Ideal S16384x14384 .f32) (x : FVec Ideal S8x2048x4096 .f32) (w : FVec Ideal S1x4096x14384 .f32) (h : ∀ r n, X (ix2 r n) = proj x w r n) :
    (truncf .bf16 (transpose S4096x16384 [1, 0] (concatenate S16384x4096 1 [⟨S16384x2048, (extractStridedSlice S16384x2048 ![0, 0] (extractStridedSlice S16384x6144 ![0, 8224] X slices_S16384x14384_S16384x6144_0_8224) slices_S16384x6144_S16384x2048_0_0)⟩, ⟨S16384x2048, (extractStridedSlice S16384x2048 ![0, 4096] (extractStridedSlice S16384x6144 ![0, 8224] X slices_S16384x14384_S16384x6144_0_8224) slices_S16384x6144_S16384x2048_0_4096)⟩] concatenates_S16384x2048_S16384x2048_S16384x4096_d1 : FVec Ideal S16384x4096 .f32) transposes_S16384x4096_S4096x16384_1_0) bitsLt_bf16_f32 : FVec Ideal S4096x16384 .bf16) = turned x w := by
  funext i
  obtain ⟨n, r, rfl⟩ : ∃ n r, i = (ix2 n r : S4096x16384.Idx) := ⟨i 0, i 1, eq_ix2 i⟩
  show _ = proj x w r ⟨if n.val < 2048 then 8224 + n.val else 10272 + n.val, _⟩
  pointwise
  simp only [h]
  split_ifs <;> exact congrArg (proj x w r) (Fin.ext (by first | rfl | (dsimp only; omega) | (dsimp only; split_ifs <;> omega)))

theorem frames_eq (X : FVec Ideal S16384x14384 .f32) (x : FVec Ideal S8x2048x4096 .f32) (w : FVec Ideal S1x4096x14384 .f32) (h : ∀ r n, X (ix2 r n) = proj x w r n) :
    shapeCast S8x2048x6144 (extractStridedSlice S16384x6144 ![0, 0] X slices_S16384x14384_S16384x6144_0_0) shapeCasts_S16384x6144_S8x2048x6144 = frames x w := by
  funext i
  obtain ⟨b, t, n, rfl⟩ : ∃ b t n, i = (ix3 b t n : S8x2048x6144.Idx) := ⟨i 0, i 1, i 2, eq_ix3 i⟩
  show _ = proj x w ⟨b.val * 2048 + t.val, _⟩ ⟨n.val, _⟩
  pointwise
  rw [h]

/-- The reference's run ends in the projection's columns. -/
theorem run (m : (ℓ : Loc nD τ sig) → Buf (Elt Ideal) ℓ) (ρ : Dev nD → PrngReg) :
    θ_run defs (onTc (τ := τ) (Cert.PromptRefIdeal.main (F := Ideal))) ⟨m, fun _ => 0, ρ⟩ fun r => ∀ c : Dev nD,
      r.2.mem ((c.tc : Thread nD τ).loc main_v13) = main (m ((c.tc : Thread nD τ).loc main_arg0)) (m ((c.tc : Thread nD τ).loc main_arg1))
      ∧ r.2.mem ((c.tc : Thread nD τ).loc main_v11) = keys (m ((c.tc : Thread nD τ).loc main_arg0)) (m ((c.tc : Thread nD τ).loc main_arg1))
      ∧ r.2.mem ((c.tc : Thread nD τ).loc main_v12) = values (m ((c.tc : Thread nD τ).loc main_arg0)) (m ((c.tc : Thread nD τ).loc main_arg1))
      ∧ r.2.mem ((c.tc : Thread nD τ).loc main_v15) = small (m ((c.tc : Thread nD τ).loc main_arg0)) (m ((c.tc : Thread nD τ).loc main_arg1))
      ∧ r.2.mem ((c.tc : Thread nD τ).loc main_v22) = smallT (m ((c.tc : Thread nD τ).loc main_arg0)) (m ((c.tc : Thread nD τ).loc main_arg1))
      ∧ r.2.mem ((c.tc : Thread nD τ).loc main_v25) = turned (m ((c.tc : Thread nD τ).loc main_arg0)) (m ((c.tc : Thread nD τ).loc main_arg1))
      ∧ r.2.mem ((c.tc : Thread nD τ).loc main_v16) = byHead (keys (m ((c.tc : Thread nD τ).loc main_arg0)) (m ((c.tc : Thread nD τ).loc main_arg1)))
      ∧ r.2.mem ((c.tc : Thread nD τ).loc main_v17) = byHead (values (m ((c.tc : Thread nD τ).loc main_arg0)) (m ((c.tc : Thread nD τ).loc main_arg1)))
      ∧ r.2.mem ((c.tc : Thread nD τ).loc main_v21) = lastRows (frames (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h0, h1, h2, h3, h4, h5, hk, hv, hc, ha⟩ := h c
    have e := whole_apply (m ((c.tc : Thread nD τ).loc main_arg0)) (m ((c.tc : Thread nD τ).loc main_arg1))
    refine ⟨h0.trans (main_eq _ _ _ e), h1.trans (keys_eq _ _ _ e), h2.trans (values_eq _ _ _ e), h3.trans (small_eq _ _ _ e), h4.trans ((congrArg (transpose S128x16384 [1, 0] · transposes_S16384x128_S128x16384_1_0) (small_eq _ _ _ e)).trans (smallT_eq _ _)), h5.trans (turned_eq _ _ _ e), hk.trans (congrArg byHead (keys_eq _ _ _ e)), hv.trans (congrArg byHead (values_eq _ _ _ e)),
      hc.trans (congrArg (lastRows) (frames_eq _ _ _ e)), ha⟩)
    (Value.run m ρ)

end Cert.PromptRefIdeal.Columns
-- ==== Proof.PromptValue.lean ====
module

public import proofs.«01_k».proof.Proof.PromptDat
public import proofs.«01_k».proof.Proof.PromptColumns
public import Idealize.ShloMosaic.Lib.Pointwise
public import Idealize.ShloMosaic.Lib.IdealHost
public import Idealize.ShloMosaic.Lib.Pipeline.ValueKit
public import Idealize.ShloMosaic.PureOps.IdealRules

/-! The projection's results over the extended reals: the columns of the whole projection. -/

@[expose] public section
set_option maxRecDepth 16384
noncomputable section
namespace Cert.PromptIdeal.Hand
open Cert.PromptIdeal Cert.PromptIdeal.Gen Idealize.ShloMosaic Idealize.ShloMosaic.TcCoe Idealize.SL.Sem Idealize.ShloMosaic.Pointwise Cert.PromptRefIdeal.Columns
variable (m : (ℓ : Loc nD τ sig) → Buf (Elt Ideal) ℓ) (c : Dev nD)

/-! ## The packed weights -/

/-- The packed narrow weights at an index. -/
def packed (w : FVec Ideal S1x4096x14384 .f32) (k : Fin 4096) (n : Fin 128) : EReal :=
  if h : n.val < 32 then w (ix3 0 k ⟨8192 + n.val, by omega⟩)
  else if h : n.val < 48 then w (ix3 0 k ⟨14336 + n.val, by omega⟩)
  else if h : n.val < 64 then w (ix3 0 k ⟨14320 + n.val, by omega⟩) else 0

theorem rows_at (r : Fin 16384) (k : Fin 4096) :
    V m c main_v11 (ix2 r k) = m ((c : Thread nD τ).loc main_arg0) (ix3 ⟨r.val / 2048, by omega⟩ ⟨r.val % 2048, by omega⟩ k) := by
  simp only [V, V0, hostOps0, hostOps0_1, hostOps0_2, List.flatten_cons, List.flatten_nil, List.append_nil, List.cons_append, List.nil_append]
  after_results
  pointwise

theorem wide_at (k : Fin 4096) (n : Fin 14336) :
    V m c main_v5 (ix2 k n) = m ((c : Thread nD τ).loc main_arg1) (ix3 0 k (wide n.val n.isLt)) := by
  simp only [V, V0, hostOps0, hostOps0_1, hostOps0_2, List.flatten_cons, List.flatten_nil, List.append_nil, List.cons_append, List.nil_append]
  after_results
  pointwise
  (repeat' split) <;> refine congrArg (fun a => m ((c : Thread nD τ).loc main_arg1) (ix3 0 k a)) (Fin.ext ?_) <;> unfold wide <;> dsimp only <;> split <;> omega

theorem packed_eq : V m c main_v10 = (truncf .bf16 (pad S4096x128 ![0, 0] ![0, 64] ![0, 0]
    (concatenate S4096x64 1 [⟨S4096x32, (extractStridedSlice S4096x32 ![0, 8192] (shapeCast _ (m ((c : Thread nD τ).loc main_arg1)) shapeCasts_S1x4096x14384_S4096x14384) slices_S4096x14384_S4096x32_0_8192)⟩,
      ⟨S4096x16, (extractStridedSlice S4096x16 ![0, 14368] (shapeCast _ (m ((c : Thread nD τ).loc main_arg1)) shapeCasts_S1x4096x14384_S4096x14384) slices_S4096x14384_S4096x16_0_14368)⟩,
      ⟨S4096x16, (extractStridedSlice S4096x16 ![0, 14368] (shapeCast _ (m ((c : Thread nD τ).loc main_arg1)) shapeCasts_S1x4096x14384_S4096x14384) slices_S4096x14384_S4096x16_0_14368)⟩] concatenates_S4096x32_S4096x16_S4096x16_S4096x64_d1 : FVec Ideal S4096x64 .f32)
    (sitofp .f32 (constantI S_ 32 0#32) : FVec Ideal S_ .f32) pads_S4096x64_S4096x128_000_0640 h_S_) bitsLt_bf16_f32 : FVec Ideal S4096x128 .bf16) := by
  simp only [V, V0, hostOps0, hostOps0_1, hostOps0_2, List.flatten_cons, List.flatten_nil, List.append_nil, List.cons_append, List.nil_append]
  after_results <;> rfl

/-- The zeros at the end of a row. -/
theorem padded (X : FVec Ideal S4096x64 .f32) (z : FVec Ideal S_ .f32) (k : Fin 4096) (n : Fin 128) :
    pad S4096x128 ![0, 0] ![0, 64] ![0, 0] X z pads_S4096x64_S4096x128_000_0640 h_S_ (ix2 k n) =
      if h : n.val < 64 then X (ix2 k ⟨n.val, h⟩) else z (Shape.Idx.first h_S_) := by
  pointwise

theorem joined (w : FVec Ideal S4096x14384 .f32) (k : Fin 4096) (n : Fin 64) :
    (concatenate S4096x64 1 [⟨S4096x32, (extractStridedSlice S4096x32 ![0, 8192] w slices_S4096x14384_S4096x32_0_8192)⟩,
      ⟨S4096x16, (extractStridedSlice S4096x16 ![0, 14368] w slices_S4096x14384_S4096x16_0_14368)⟩,
      ⟨S4096x16, (extractStridedSlice S4096x16 ![0, 14368] w slices_S4096x14384_S4096x16_0_14368)⟩] concatenates_S4096x32_S4096x16_S4096x16_S4096x64_d1 : FVec Ideal S4096x64 .f32) (ix2 k n) =
      w (ix2 k ⟨if n.val < 32 then 8192 + n.val else if n.val < 48 then 14336 + n.val else 14320 + n.val, by split_ifs <;> omega⟩) := by
  pointwise
  (repeat' split) <;> first
    | rfl
    | (refine congrArg (fun a => w (ix2 k a)) (Fin.ext ?_); dsimp only; omega)

theorem flat (w : FVec Ideal S1x4096x14384 .f32) (k : Fin 4096) (n : Fin 14384) :
    shapeCast S4096x14384 w shapeCasts_S1x4096x14384_S4096x14384 (ix2 k n) = w (ix3 0 k n) := by
  pointwise

theorem narrow_at (k : Fin 4096) (n : Fin 128) :
    V m c main_v10 (ix2 k n) = packed (m ((c : Thread nD τ).loc main_arg1)) k n := by
  rw [packed_eq]
  refine (padded _ _ k n).trans ?_
  unfold packed
  by_cases h : n.val < 64
  · rw [dif_pos h]
    refine (joined _ k ⟨n.val, h⟩).trans ((flat _ k _).trans ?_)
    dsimp only
    by_cases h1 : n.val < 32
    · rw [dif_pos h1]; exact congrArg (fun a => m ((c : Thread nD τ).loc main_arg1) (ix3 0 k a)) (Fin.ext (if_pos h1))
    · by_cases h2 : n.val < 48
      · rw [dif_neg h1, dif_pos h2]; exact congrArg (fun a => m ((c : Thread nD τ).loc main_arg1) (ix3 0 k a)) (Fin.ext ((if_neg h1).trans (if_pos h2)))
      · rw [dif_neg h1, dif_neg h2, dif_pos h]; exact congrArg (fun a => m ((c : Thread nD τ).loc main_arg1) (ix3 0 k a)) (Fin.ext ((if_neg h1).trans (if_neg h2)))
  · rw [dif_neg h, dif_neg (by omega), dif_neg (by omega), dif_neg h]
    show (((0#32 : BitVec 32).toInt : ℝ) : EReal) = 0
    norm_num

/-! ## The blocks -/

theorem N_at (t : Fin cfg0.N) : t.val < 448 := lt_of_lt_of_eq t.isLt N_0

theorem idx_0 : ∀ t : Fin cfg0.N, win0_0.index t = ![t.val / 14, 0] :=
  (by decide +kernel : ∀ t : Fin grid0.N, _)
theorem idx_1 : ∀ t : Fin cfg0.N, win0_1.index t = ![0, t.val % 14] :=
  (by decide +kernel : ∀ t : Fin grid0.N, _)
theorem idx_2 : ∀ t : Fin cfg0.N, win0_2.index t = ![0, 0] :=
  (by decide +kernel : ∀ t : Fin grid0.N, _)
theorem idx_3 : ∀ t : Fin cfg0.N, win0_3.index t = ![t.val / 14, min (t.val % 14) 9] :=
  (by decide +kernel : ∀ t : Fin grid0.N, _)
theorem idx_4 : ∀ t : Fin cfg0.N, win0_4.index t = ![t.val / 14, min (t.val % 14 - 10) 1] :=
  (by decide +kernel : ∀ t : Fin grid0.N, _)
theorem idx_5 : ∀ t : Fin cfg0.N, win0_5.index t = ![t.val / 14, t.val % 14 - 12] :=
  (by decide +kernel : ∀ t : Fin grid0.N, _)
theorem idx_6 : ∀ t : Fin cfg0.N, win0_6.index t = ![t.val / 14, 0] :=
  (by decide +kernel : ∀ t : Fin grid0.N, _)
theorem idx_7 : ∀ t : Fin cfg0.N, win0_7.index t = ![0, t.val / 14] :=
  (by decide +kernel : ∀ t : Fin grid0.N, _)
theorem idx_8 : ∀ t : Fin cfg0.N, win0_8.index t = ![if t.val % 14 < 10 then t.val % 14 - 8 else if t.val % 14 < 12 then 1 else t.val % 14 - 10, t.val / 14] :=
  (by decide +kernel : ∀ t : Fin grid0.N, _)

theorem emb_0 (t : Fin cfg0.N) (y : S512x4096.Idx) (r : Fin 16384) (n : Fin 4096) (hr : r.val = (t.val / 14) * 512 + (y 0).val)
    (hn : n.val = (0) * 4096 + (y 1).val) : ((cfg0.win 0).blk t).view.emb y = (ix2 r n : S16384x4096.Idx) := by
  funext a
  apply Fin.ext
  refine (Pipeline.Window.rect_emb_val win0_0 t y a).trans ?_
  rw [idx_0 t]
  fin_cases a
  · exact hr.symm
  · exact hn.symm

theorem emb_1 (t : Fin cfg0.N) (y : S4096x1024.Idx) (r : Fin 4096) (n : Fin 14336) (hr : r.val = (0) * 4096 + (y 0).val)
    (hn : n.val = (t.val % 14) * 1024 + (y 1).val) : ((cfg0.win 1).blk t).view.emb y = (ix2 r n : S4096x14336.Idx) := by
  funext a
  apply Fin.ext
  refine (Pipeline.Window.rect_emb_val win0_1 t y a).trans ?_
  rw [idx_1 t]
  fin_cases a
  · exact hr.symm
  · exact hn.symm

theorem emb_2 (t : Fin cfg0.N) (y : S4096x128.Idx) (r : Fin 4096) (n : Fin 128) (hr : r.val = (0) * 4096 + (y 0).val)
    (hn : n.val = (0) * 128 + (y 1).val) : ((cfg0.win 2).blk t).view.emb y = (ix2 r n : S4096x128.Idx) := by
  funext a
  apply Fin.ext
  refine (Pipeline.Window.rect_emb_val win0_2 t y a).trans ?_
  rw [idx_2 t]
  fin_cases a
  · exact hr.symm
  · exact hn.symm

theorem emb_3 (t : Fin cfg0.N) (y : S512x1024.Idx) (r : Fin 16384) (n : Fin 10240) (hr : r.val = (t.val / 14) * 512 + (y 0).val)
    (hn : n.val = (min (t.val % 14) 9) * 1024 + (y 1).val) : ((cfg0.win 3).blk t).view.emb y = (ix2 r n : S16384x10240.Idx) := by
  funext a
  apply Fin.ext
  refine (Pipeline.Window.rect_emb_val win0_3 t y a).trans ?_
  rw [idx_3 t]
  fin_cases a
  · exact hr.symm
  · exact hn.symm

theorem emb_4 (t : Fin cfg0.N) (y : S512x1024.Idx) (r : Fin 16384) (n : Fin 2048) (hr : r.val = (t.val / 14) * 512 + (y 0).val)
    (hn : n.val = (min (t.val % 14 - 10) 1) * 1024 + (y 1).val) : ((cfg0.win 4).blk t).view.emb y = (ix2 r n : S16384x2048.Idx) := by
  funext a
  apply Fin.ext
  refine (Pipeline.Window.rect_emb_val win0_4 t y a).trans ?_
  rw [idx_4 t]
  fin_cases a
  · exact hr.symm
  · exact hn.symm

theorem emb_5 (t : Fin cfg0.N) (y : S512x1024.Idx) (r : Fin 16384) (n : Fin 2048) (hr : r.val = (t.val / 14) * 512 + (y 0).val)
    (hn : n.val = (t.val % 14 - 12) * 1024 + (y 1).val) : ((cfg0.win 5).blk t).view.emb y = (ix2 r n : S16384x2048.Idx) := by
  funext a
  apply Fin.ext
  refine (Pipeline.Window.rect_emb_val win0_5 t y a).trans ?_
  rw [idx_5 t]
  fin_cases a
  · exact hr.symm
  · exact hn.symm

theorem emb_6 (t : Fin cfg0.N) (y : S512x128.Idx) (r : Fin 16384) (n : Fin 128) (hr : r.val = (t.val / 14) * 512 + (y 0).val)
    (hn : n.val = (0) * 128 + (y 1).val) : ((cfg0.win 6).blk t).view.emb y = (ix2 r n : S16384x128.Idx) := by
  funext a
  apply Fin.ext
  refine (Pipeline.Window.rect_emb_val win0_6 t y a).trans ?_
  rw [idx_6 t]
  fin_cases a
  · exact hr.symm
  · exact hn.symm

theorem emb_7 (t : Fin cfg0.N) (y : S128x512.Idx) (r : Fin 128) (n : Fin 16384) (hr : r.val = (0) * 128 + (y 0).val)
    (hn : n.val = (t.val / 14) * 512 + (y 1).val) : ((cfg0.win 7).blk t).view.emb y = (ix2 r n : S128x16384.Idx) := by
  funext a
  apply Fin.ext
  refine (Pipeline.Window.rect_emb_val win0_7 t y a).trans ?_
  rw [idx_7 t]
  fin_cases a
  · exact hr.symm
  · exact hn.symm

theorem emb_8 (t : Fin cfg0.N) (y : S1024x512.Idx) (r : Fin 4096) (n : Fin 16384) (hr : r.val = (if t.val % 14 < 10 then t.val % 14 - 8 else if t.val % 14 < 12 then 1 else t.val % 14 - 10) * 1024 + (y 0).val)
    (hn : n.val = (t.val / 14) * 512 + (y 1).val) : ((cfg0.win 8).blk t).view.emb y = (ix2 r n : S4096x16384.Idx) := by
  funext a
  apply Fin.ext
  refine (Pipeline.Window.rect_emb_val win0_8 t y a).trans ?_
  rw [idx_8 t]
  fin_cases a
  · exact hr.symm
  · exact hn.symm

theorem read_0 (X : Buf (Elt Ideal) ((c : Thread nD τ).loc main_v11)) (t : Fin cfg0.N) (p : Fin 512) (q : Fin 4096) (r : Fin 16384) (n : Fin 4096)
    (hr : r.val = (t.val / 14) * 512 + p.val) (hn : n.val = (0) * 4096 + q.val) :
    ((cfg0.win 0).blk t).view.read (Elt Ideal) X (ix2 p q) = X (ix2 r n) :=
  congrArg X (emb_0 t (ix2 p q) r n hr hn)

theorem block_0 (t : Fin cfg0.N) (p : Fin 512) (q : Fin 4096) (r : Fin 16384) (n : Fin 4096)
    (hr : r.val = (t.val / 14) * 512 + p.val) (hn : n.val = (0) * 4096 + q.val) :
    iblk m c 0 t (ix2 p q) = V m c main_v11 (ix2 r n) := by
  unfold iblk
  exact read_0 c (V m c main_v11) t p q r n hr hn

theorem read_1 (X : Buf (Elt Ideal) ((c : Thread nD τ).loc main_v5)) (t : Fin cfg0.N) (p : Fin 4096) (q : Fin 1024) (r : Fin 4096) (n : Fin 14336)
    (hr : r.val = (0) * 4096 + p.val) (hn : n.val = (t.val % 14) * 1024 + q.val) :
    ((cfg0.win 1).blk t).view.read (Elt Ideal) X (ix2 p q) = X (ix2 r n) :=
  congrArg X (emb_1 t (ix2 p q) r n hr hn)

theorem block_1 (t : Fin cfg0.N) (p : Fin 4096) (q : Fin 1024) (r : Fin 4096) (n : Fin 14336)
    (hr : r.val = (0) * 4096 + p.val) (hn : n.val = (t.val % 14) * 1024 + q.val) :
    iblk m c 1 t (ix2 p q) = V m c main_v5 (ix2 r n) := by
  unfold iblk
  exact read_1 c (V m c main_v5) t p q r n hr hn

theorem read_2 (X : Buf (Elt Ideal) ((c : Thread nD τ).loc main_v10)) (t : Fin cfg0.N) (p : Fin 4096) (q : Fin 128) (r : Fin 4096) (n : Fin 128)
    (hr : r.val = (0) * 4096 + p.val) (hn : n.val = (0) * 128 + q.val) :
    ((cfg0.win 2).blk t).view.read (Elt Ideal) X (ix2 p q) = X (ix2 r n) :=
  congrArg X (emb_2 t (ix2 p q) r n hr hn)

theorem block_2 (t : Fin cfg0.N) (p : Fin 4096) (q : Fin 128) (r : Fin 4096) (n : Fin 128)
    (hr : r.val = (0) * 4096 + p.val) (hn : n.val = (0) * 128 + q.val) :
    iblk m c 2 t (ix2 p q) = V m c main_v10 (ix2 r n) := by
  unfold iblk
  exact read_2 c (V m c main_v10) t p q r n hr hn

/-! ## The products -/

theorem prod_apply (x : Vec Ideal S512x4096 .f32) (w : Vec Ideal S4096x1024 .bf16) (p : Fin 512) (q : Fin 1024) :
    k0_pay5 (F := Ideal) (k0_pay2 x) w (ix2 p q) = ∑ k : Fin 4096, x (ix2 p k) * w (ix2 k q) := by
  pointwise [k0_pay5, k0_pay2, k0_pay1]

theorem narrow_apply (x : Vec Ideal S512x4096 .f32) (w : Vec Ideal S4096x128 .bf16) (p : Fin 512) (q : Fin 128) :
    k0_pay3 (F := Ideal) x w (ix2 p q) = ∑ k : Fin 4096, x (ix2 p k) * w (ix2 k q) := by
  pointwise [k0_pay3, k0_pay1]

theorem narrowT_apply (x : Vec Ideal S512x4096 .f32) (w : Vec Ideal S4096x128 .bf16) (p : Fin 128) (q : Fin 512) :
    k0_pay4 (F := Ideal) x w (ix2 p q) = ∑ k : Fin 4096, x (ix2 q k) * w (ix2 k p) := by
  pointwise [k0_pay4, k0_pay3, k0_pay1]

theorem prodT_apply (x : Vec Ideal S512x4096 .f32) (w : Vec Ideal S4096x1024 .bf16) (p : Fin 1024) (q : Fin 512) :
    k0_pay7 (F := Ideal) (k0_pay2 x) w (ix2 p q) = ∑ k : Fin 4096, x (ix2 q k) * w (ix2 k p) := by
  pointwise [k0_pay7, k0_pay6, k0_pay2, k0_pay1]

/-- The product a point leaves, at an index. -/
theorem prod_sum (t : Fin cfg0.N) (p : Fin 512) (q : Fin 1024) (r : Fin 16384) (n : Fin 14384) (hr : r.val = t.val / 14 * 512 + p.val)
    (hn : n.val = if t.val % 14 * 1024 + q.val < 8192 then t.val % 14 * 1024 + q.val else t.val % 14 * 1024 + q.val + 32)
    (k : Fin 4096) : iblk m c 0 t (ix2 p k) = m ((c : Thread nD τ).loc main_arg0) (ix3 ⟨r.val / 2048, by omega⟩ ⟨r.val % 2048, by omega⟩ k)
      ∧ iblk m c 1 t (ix2 k q) = m ((c : Thread nD τ).loc main_arg1) (ix3 0 k n) :=
  ⟨(block_0 m c t p k r k hr (by omega)).trans (rows_at m c r k),
    ((block_1 m c t k q k ⟨t.val % 14 * 1024 + q.val, by omega⟩ (by omega) rfl).trans (wide_at m c k _)).trans
      (congrArg (fun a => m ((c : Thread nD τ).loc main_arg1) (ix3 0 k a)) (Fin.ext hn.symm))⟩

theorem prod_at (t : Fin cfg0.N) (p : Fin 512) (q : Fin 1024) (r : Fin 16384) (n : Fin 14384) (hr : r.val = t.val / 14 * 512 + p.val)
    (hn : n.val = if t.val % 14 * 1024 + q.val < 8192 then t.val % 14 * 1024 + q.val else t.val % 14 * 1024 + q.val + 32) :
    Prod m c t (ix2 p q) = proj (m ((c : Thread nD τ).loc main_arg0)) (m ((c : Thread nD τ).loc main_arg1)) r n := by
  unfold Prod XB proj
  refine (prod_apply _ _ p q).trans (Finset.sum_congr rfl fun k _ => ?_)
  exact congrArg₂ (fun a b : EReal => a * b) (prod_sum m c t p q r n hr hn k).1 (prod_sum m c t p q r n hr hn k).2

theorem prodT_at (t : Fin cfg0.N) (p : Fin 512) (q : Fin 1024) (r : Fin 16384) (n : Fin 14384) (hr : r.val = t.val / 14 * 512 + p.val)
    (hn : n.val = if t.val % 14 * 1024 + q.val < 8192 then t.val % 14 * 1024 + q.val else t.val % 14 * 1024 + q.val + 32) :
    ProdT m c t (ix2 q p) = proj (m ((c : Thread nD τ).loc main_arg0)) (m ((c : Thread nD τ).loc main_arg1)) r n := by
  unfold ProdT XB proj
  refine (prodT_apply _ _ q p).trans (Finset.sum_congr rfl fun k _ => ?_)
  exact congrArg₂ (fun a b : EReal => a * b) (prod_sum m c t p q r n hr hn k).1 (prod_sum m c t p q r n hr hn k).2

theorem narrow_zero (x : FVec Ideal S8x2048x4096 .f32) (w : FVec Ideal S1x4096x14384 .f32) (r : Fin 16384) (q : Fin 128) :
    (∑ k : Fin 4096, x (ix3 ⟨r.val / 2048, by omega⟩ ⟨r.val % 2048, by omega⟩ k) * packed w k q : EReal) = narrow x w r q := by
  unfold packed narrow proj
  by_cases h1 : q.val < 32
  · simp only [dif_pos h1]
  · by_cases h2 : q.val < 48
    · simp only [dif_neg h1, dif_pos h2]
    · by_cases h3 : q.val < 64
      · simp only [dif_neg h1, dif_neg h2, dif_pos h3]
      · simp only [dif_neg h1, dif_neg h2, dif_neg h3, mul_zero, Finset.sum_const_zero]

theorem narrow_sum (t : Fin cfg0.N) (p : Fin 512) (q : Fin 128) (r : Fin 16384) (hr : r.val = t.val / 14 * 512 + p.val)
    (k : Fin 4096) : iblk m c 0 t (ix2 p k) = m ((c : Thread nD τ).loc main_arg0) (ix3 ⟨r.val / 2048, by omega⟩ ⟨r.val % 2048, by omega⟩ k)
      ∧ iblk m c 2 t (ix2 k q) = packed (m ((c : Thread nD τ).loc main_arg1)) k q :=
  ⟨(block_0 m c t p k r k hr (by omega)).trans (rows_at m c r k), (block_2 m c t k q k q (by omega) (by omega)).trans (narrow_at m c k q)⟩

theorem narrow_block (t : Fin cfg0.N) (p : Fin 512) (q : Fin 128) (r : Fin 16384) (hr : r.val = t.val / 14 * 512 + p.val) :
    Narrow m c t (ix2 p q) = narrow (m ((c : Thread nD τ).loc main_arg0)) (m ((c : Thread nD τ).loc main_arg1)) r q := by
  unfold Narrow
  refine ((narrow_apply _ _ p q).trans (Finset.sum_congr rfl fun k _ => ?_)).trans (narrow_zero _ _ r q)
  exact congrArg₂ (fun a b : EReal => a * b) (narrow_sum m c t p q r hr k).1 (narrow_sum m c t p q r hr k).2

theorem narrowT_block (t : Fin cfg0.N) (p : Fin 512) (q : Fin 128) (r : Fin 16384) (hr : r.val = t.val / 14 * 512 + p.val) :
    NarrowT m c t (ix2 q p) = narrow (m ((c : Thread nD τ).loc main_arg0)) (m ((c : Thread nD τ).loc main_arg1)) r q := by
  unfold NarrowT
  refine ((narrowT_apply _ _ q p).trans (Finset.sum_congr rfl fun k _ => ?_)).trans (narrow_zero _ _ r q)
  exact congrArg₂ (fun a b : EReal => a * b) (narrow_sum m c t p q r hr k).1 (narrow_sum m c t p q r hr k).2

/-! ## The arrays after the run -/

theorem back_at (t : Fin cfg0.N) (j : ℕ) (hj : j < 14) : (back t j).val / 14 = t.val / 14 ∧ (back t j).val % 14 = min (t.val % 14) j := by
  unfold back; dsimp only; omega

theorem arr_3 : (dats m 0 c).arrAt 3 cfg0.N = Cert.PromptRefIdeal.Columns.main (m ((c : Thread nD τ).loc main_arg0)) (m ((c : Thread nD τ).loc main_arg1)) := by
  refine Pipeline.Dat.arrAt_eq_of_covers (dats m 0 c) 3 (Cert.PromptRefIdeal.Columns.main (m ((c : Thread nD τ).loc main_arg0)) (m ((c : Thread nD τ).loc main_arg1))) (by decide +kernel) fun t hf => fun y => ?_
  have hN := N_at t
  have hf := (flush_3 t).mp hf
  have y0 : (y 0).val < 512 := (y 0).isLt
  have y1 : (y 1).val < 1024 := (y 1).isLt
  have ey : y = (ix2 (y 0) (y 1) : S512x1024.Idx) := eq_ix2 (y : S512x1024.Idx)
  rw [emb_3 t y ⟨(t.val / 14) * 512 + (y 0).val, by omega⟩ ⟨(min (t.val % 14) 9) * 1024 + (y 1).val, by omega⟩ rfl rfl, after_3]
  have hb := back_at t 9 (by omega)
  refine (congrArg (Prod m c (back t 9)) ey).trans (prod_at m c (back t 9) (y 0) (y 1) _ _ ?_ ?_)
  · rw [hb.1]; rfl
  · rw [hb.2]; rfl

theorem arr_4 : (dats m 0 c).arrAt 4 cfg0.N = keys (m ((c : Thread nD τ).loc main_arg0)) (m ((c : Thread nD τ).loc main_arg1)) := by
  refine Pipeline.Dat.arrAt_eq_of_covers (dats m 0 c) 4 (keys (m ((c : Thread nD τ).loc main_arg0)) (m ((c : Thread nD τ).loc main_arg1))) (by decide +kernel) fun t hf => fun y => ?_
  have hN := N_at t
  have hf := (flush_4 t).mp hf
  have y0 : (y 0).val < 512 := (y 0).isLt
  have y1 : (y 1).val < 1024 := (y 1).isLt
  have ey : y = (ix2 (y 0) (y 1) : S512x1024.Idx) := eq_ix2 (y : S512x1024.Idx)
  rw [emb_4 t y ⟨(t.val / 14) * 512 + (y 0).val, by omega⟩ ⟨(min (t.val % 14 - 10) 1) * 1024 + (y 1).val, by omega⟩ rfl rfl, after_4]
  have hb := back_at t 11 (by omega)
  refine (congrArg (Prod m c (back t 11)) ey).trans (prod_at m c (back t 11) (y 0) (y 1) _ _ ?_ ?_)
  · rw [hb.1]; rfl
  · rw [hb.2]
    show 10272 + ((min (t.val % 14 - 10) 1) * 1024 + (y 1).val) = _; split <;> omega

theorem arr_5 : (dats m 0 c).arrAt 5 cfg0.N = values (m ((c : Thread nD τ).loc main_arg0)) (m ((c : Thread nD τ).loc main_arg1)) := by
  refine Pipeline.Dat.arrAt_eq_of_covers (dats m 0 c) 5 (values (m ((c : Thread nD τ).loc main_arg0)) (m ((c : Thread nD τ).loc main_arg1))) (by decide +kernel) fun t hf => fun y => ?_
  have hN := N_at t
  have hf := (flush_5 t).mp hf
  have y0 : (y 0).val < 512 := (y 0).isLt
  have y1 : (y 1).val < 1024 := (y 1).isLt
  have ey : y = (ix2 (y 0) (y 1) : S512x1024.Idx) := eq_ix2 (y : S512x1024.Idx)
  rw [emb_5 t y ⟨(t.val / 14) * 512 + (y 0).val, by omega⟩ ⟨(t.val % 14 - 12) * 1024 + (y 1).val, by omega⟩ rfl rfl, after_5]
  refine (congrArg (Prod m c (t)) ey).trans (prod_at m c (t) (y 0) (y 1) _ _ ?_ ?_)
  · rfl
  · show 12320 + ((t.val % 14 - 12) * 1024 + (y 1).val) = _; split <;> omega

theorem arr_6 : (dats m 0 c).arrAt 6 cfg0.N = small (m ((c : Thread nD τ).loc main_arg0)) (m ((c : Thread nD τ).loc main_arg1)) := by
  refine Pipeline.Dat.arrAt_eq_of_covers (dats m 0 c) 6 (small (m ((c : Thread nD τ).loc main_arg0)) (m ((c : Thread nD τ).loc main_arg1))) (by decide +kernel) fun t hf => fun y => ?_
  have hN := N_at t
  have hf := (flush_6 t).mp hf
  have y0 : (y 0).val < 512 := (y 0).isLt
  have y1 : (y 1).val < 128 := (y 1).isLt
  have ey : y = (ix2 (y 0) (y 1) : S512x128.Idx) := eq_ix2 (y : S512x128.Idx)
  rw [emb_6 t y ⟨(t.val / 14) * 512 + (y 0).val, by omega⟩ ⟨(0) * 128 + (y 1).val, by omega⟩ rfl rfl, after_6]
  have hb := back_at t 0 (by omega)
  refine (congrArg (Narrow m c (back t 0)) ey).trans ((narrow_block m c (back t 0) (y 0) (y 1) _ ?_).trans
    (congrArg (narrow (m ((c : Thread nD τ).loc main_arg0)) (m ((c : Thread nD τ).loc main_arg1)) _) (Fin.ext (show (y 1).val = 0 * 128 + (y 1).val by omega))))
  rw [hb.1]; rfl

theorem arr_7 : (dats m 0 c).arrAt 7 cfg0.N = smallT (m ((c : Thread nD τ).loc main_arg0)) (m ((c : Thread nD τ).loc main_arg1)) := by
  refine Pipeline.Dat.arrAt_eq_of_covers (dats m 0 c) 7 (smallT (m ((c : Thread nD τ).loc main_arg0)) (m ((c : Thread nD τ).loc main_arg1))) (by decide +kernel) fun t hf => fun y => ?_
  have hN := N_at t
  have hf := (flush_7 t).mp hf
  have y0 : (y 0).val < 128 := (y 0).isLt
  have y1 : (y 1).val < 512 := (y 1).isLt
  have ey : y = (ix2 (y 0) (y 1) : S128x512.Idx) := eq_ix2 (y : S128x512.Idx)
  rw [emb_7 t y ⟨(0) * 128 + (y 0).val, by omega⟩ ⟨(t.val / 14) * 512 + (y 1).val, by omega⟩ rfl rfl, after_7]
  have hb := back_at t 0 (by omega)
  refine (congrArg (NarrowT m c (back t 0)) ey).trans ((narrowT_block m c (back t 0) (y 1) (y 0) _ ?_).trans
    (congrArg (narrow (m ((c : Thread nD τ).loc main_arg0)) (m ((c : Thread nD τ).loc main_arg1)) _) (Fin.ext (show (y 0).val = 0 * 128 + (y 0).val by omega))))
  rw [hb.1]; rfl

theorem arr_8 : (dats m 0 c).arrAt 8 cfg0.N = turned (m ((c : Thread nD τ).loc main_arg0)) (m ((c : Thread nD τ).loc main_arg1)) := by
  refine Pipeline.Dat.arrAt_eq_of_covers (dats m 0 c) 8 (turned (m ((c : Thread nD τ).loc main_arg0)) (m ((c : Thread nD τ).loc main_arg1))) (by decide +kernel) fun t hf => fun y => ?_
  have hN := N_at t
  have hf := (flush_8 t).mp hf
  have y0 : (y 0).val < 1024 := (y 0).isLt
  have y1 : (y 1).val < 512 := (y 1).isLt
  have ey : y = (ix2 (y 0) (y 1) : S1024x512.Idx) := eq_ix2 (y : S1024x512.Idx)
  rw [emb_8 t y ⟨(if t.val % 14 < 10 then t.val % 14 - 8 else if t.val % 14 < 12 then 1 else t.val % 14 - 10) * 1024 + (y 0).val, by split_ifs <;> omega⟩ ⟨(t.val / 14) * 512 + (y 1).val, by omega⟩ rfl rfl, after_8]
  have hb := back_at t 9 (by omega)
  have ht : (turn t).val / 14 = t.val / 14 ∧ (turn t).val % 14 = if 12 ≤ t.val % 14 then t.val % 14 else min (t.val % 14) 9 := by
    unfold turn; split
    · exact ⟨rfl, rfl⟩
    · exact hb
  refine (congrArg (ProdT m c (turn t)) ey).trans (prodT_at m c (turn t) (y 1) (y 0) _ _ ?_ ?_)
  · rw [ht.1]; rfl
  · rw [ht.2]
    show (if (if t.val % 14 < 10 then t.val % 14 - 8 else if t.val % 14 < 12 then 1 else t.val % 14 - 10) * 1024 + (y 0).val < 2048 then 8224 + ((if t.val % 14 < 10 then t.val % 14 - 8 else if t.val % 14 < 12 then 1 else t.val % 14 - 10) * 1024 + (y 0).val) else 10272 + ((if t.val % 14 < 10 then t.val % 14 - 8 else if t.val % 14 < 12 then 1 else t.val % 14 - 10) * 1024 + (y 0).val)) = _
    split_ifs <;> omega

/-! ## What the lines after the call keep -/

theorem frames_cut (x : FVec Ideal S8x2048x4096 .f32) (w : FVec Ideal S1x4096x14384 .f32) :
    extractStridedSlice S8x2048x6144 ![0, 0, 0] (shapeCast S8x2048x10240 (Cert.PromptRefIdeal.Columns.main x w) shapeCasts_S16384x10240_S8x2048x10240) slices_S8x2048x10240_S8x2048x6144_0_0_0 = frames x w := by
  funext i
  obtain ⟨b, t, n, rfl⟩ : ∃ b t n, i = (ix3 b t n : S8x2048x6144.Idx) := ⟨i 0, i 1, i 2, eq_ix3 i⟩
  show _ = proj x w ⟨b.val * 2048 + t.val, _⟩ ⟨n.val, _⟩
  pointwise
  refine congrArg₂ (proj x w) (Fin.ext ?_) (Fin.ext ?_)
  · first | rfl | (dsimp only; omega)
  · show (if n.val < 8192 then n.val else n.val + 32) = n.val
    have := n.isLt
    split_ifs <;> omega

theorem rows_cut (X : FVec Ideal S16384x10240 .f32) (x : FVec Ideal S8x2048x4096 .f32) (w : FVec Ideal S1x4096x14384 .f32) (e0 : X = Cert.PromptRefIdeal.Columns.main x w) :
    broadcastInDim S1x8x3x6144 ![1, 2, 3] bcast_S8x3x6144_S1x8x3x6144_1_2_3 (extractStridedSlice S8x3x6144 ![0, 2048, 0] (concatenate S8x2051x6144 1 [⟨S8x3x6144, broadcastInDim S8x3x6144 ![] bcast_S_S8x3x6144 (constant S_ .f32 0x00000000#32)⟩, ⟨S8x2048x6144, extractStridedSlice S8x2048x6144 ![0, 0, 0] (shapeCast S8x2048x10240 X shapeCasts_S16384x10240_S8x2048x10240) slices_S8x2048x10240_S8x2048x6144_0_0_0⟩] concatenates_S8x3x6144_S8x2048x6144_S8x2051x6144_d1) slices_S8x2051x6144_S8x3x6144_0_2048_0)
      = lastRows (frames x w) := by
  subst e0
  rw [frames_cut]
  rfl

theorem kept_keys : Pipeline.afterTail₀ cfgs (dats m) 0 (V0 m) [hostOps1] c main_v18 = byHead (keys (m ((c : Thread nD τ).loc main_arg0)) (m ((c : Thread nD τ).loc main_arg1))) := by
  unfold Pipeline.afterTail₀
  simp only [hostOps1, List.flatten_cons, List.flatten_nil, List.append_nil, List.cons_append, List.nil_append]
  after_results
  exact congrArg byHead ((Pipeline.withArrays_arr spec0 launch0.win.arr_inj c (V0 m c) (fun w => (dats m 0 c).arrAt w cfg0.N) 4).trans (arr_4 m c))

theorem kept_values : Pipeline.afterTail₀ cfgs (dats m) 0 (V0 m) [hostOps1] c main_v19 = byHead (values (m ((c : Thread nD τ).loc main_arg0)) (m ((c : Thread nD τ).loc main_arg1))) := by
  unfold Pipeline.afterTail₀
  simp only [hostOps1, List.flatten_cons, List.flatten_nil, List.append_nil, List.cons_append, List.nil_append]
  after_results
  exact congrArg byHead ((Pipeline.withArrays_arr spec0 launch0.win.arr_inj c (V0 m c) (fun w => (dats m 0 c).arrAt w cfg0.N) 5).trans (arr_5 m c))

theorem kept_rows : Pipeline.afterTail₀ cfgs (dats m) 0 (V0 m) [hostOps1] c main_v20 = lastRows (frames (m ((c : Thread nD τ).loc main_arg0)) (m ((c : Thread nD τ).loc main_arg1))) := by
  unfold Pipeline.afterTail₀
  simp only [hostOps1, List.flatten_cons, List.flatten_nil, List.append_nil, List.cons_append, List.nil_append]
  after_results
  have e0 := (Pipeline.withArrays_arr spec0 launch0.win.arr_inj c (V0 m c) (fun w => (dats m 0 c).arrAt w cfg0.N) 3).trans (arr_3 m c)
  exact rows_cut _ _ _ e0

/-- Every run ends with the projection's columns in the results, and with what is kept of them. -/
theorem run_columns (ρ : Dev nD → PrngReg) :
    θ_run defs (onTc (τ := τ) (Cert.PromptIdeal.main (F := Ideal))) ⟨m, fun _ => 0, ρ⟩ fun r => ∀ c : Dev nD,
      r.2.mem ((c.tc : Thread nD τ).loc main_v12_0) = Cert.PromptRefIdeal.Columns.main (m ((c.tc : Thread nD τ).loc main_arg0)) (m ((c.tc : Thread nD τ).loc main_arg1))
      ∧ r.2.mem ((c.tc : Thread nD τ).loc main_v12_1) = keys (m ((c.tc : Thread nD τ).loc main_arg0)) (m ((c.tc : Thread nD τ).loc main_arg1))
      ∧ r.2.mem ((c.tc : Thread nD τ).loc main_v12_2) = values (m ((c.tc : Thread nD τ).loc main_arg0)) (m ((c.tc : Thread nD τ).loc main_arg1))
      ∧ r.2.mem ((c.tc : Thread nD τ).loc main_v12_3) = small (m ((c.tc : Thread nD τ).loc main_arg0)) (m ((c.tc : Thread nD τ).loc main_arg1))
      ∧ r.2.mem ((c.tc : Thread nD τ).loc main_v12_4) = smallT (m ((c.tc : Thread nD τ).loc main_arg0)) (m ((c.tc : Thread nD τ).loc main_arg1))
      ∧ r.2.mem ((c.tc : Thread nD τ).loc main_v12_5) = turned (m ((c.tc : Thread nD τ).loc main_arg0)) (m ((c.tc : Thread nD τ).loc main_arg1))
      ∧ r.2.mem ((c.tc : Thread nD τ).loc main_v18) = byHead (keys (m ((c.tc : Thread nD τ).loc main_arg0)) (m ((c.tc : Thread nD τ).loc main_arg1)))
      ∧ r.2.mem ((c.tc : Thread nD τ).loc main_v19) = byHead (values (m ((c.tc : Thread nD τ).loc main_arg0)) (m ((c.tc : Thread nD τ).loc main_arg1)))
      ∧ r.2.mem ((c.tc : Thread nD τ).loc main_v20) = lastRows (frames (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1.1 c).1 3).trans (arr_3 m c), ((h.1.1 c).1 4).trans (arr_4 m c), ((h.1.1 c).1 5).trans (arr_5 m c), ((h.1.1 c).1 6).trans (arr_6 m c), ((h.1.1 c).1 7).trans (arr_7 m c), ((h.1.1 c).1 8).trans (arr_8 m c),
      ((h.1.1 c).2 main_v18 (Pipeline.mem_restRefs_of main_v18 (by decide) (by decide))).trans (kept_keys m c),
      ((h.1.1 c).2 main_v19 (Pipeline.mem_restRefs_of main_v19 (by decide) (by decide))).trans (kept_values m c),
      ((h.1.1 c).2 main_v20 (Pipeline.mem_restRefs_of main_v20 (by decide) (by decide))).trans (kept_rows m c), h.2.1 c⟩)
    (θ_run_and (run m ρ) (frame m ρ))

end Cert.PromptIdeal.Hand
-- ==== Proof.MixRun.lean ====
module

public import proofs.«01_k».proof.Proof.Gen.MixIdeal.Launch
public import proofs.«01_k».proof.Proof.Gen.MixIdeal.Skeleton
public import proofs.«01_k».proof.Proof.Gen.MixIdeal.Points
public import proofs.«01_k».proof.Proof.Gen.MixIdeal.Frame
public import Idealize.ShloMosaic.Lib.VecWindow
public import Idealize.ShloMosaic.Lib.Pointwise

@[expose] public section

set_option maxRecDepth 65536

noncomputable section

namespace Cert.MixIdeal.Hand

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the output projection's call: the product of a column block is stored into the rows' block; at the last
    column block the rows are normalised, 32 at a trip, and their transpose is stored piece by piece. -/

/-- A load of a whole operand held at the contents that read `X` reads `X`. -/
theorem load_all {sp : Space} {s : Shape} {e : EltTy} {M : Memref sig Kind.tc sp s e} (h : M.IsWhole) (X : s.Idx → Elt F e)
    {off : Fin s.rank → ℕ} (inb : ∀ a, off a + s.size a ≤ s.size a) :
    View.readAt (Elt F) M.view (Rect.unit off s.size inb).toLoadRect (h.unread X) = X := by
  rw [View.readAt_full, h.read_unread]

/-- A load of a part of such an operand reads that window of `X`. -/
theorem load_part {sp : Space} {s : Shape} {e : EltTy} {M : Memref sig Kind.tc sp s e} (h : M.IsWhole) (X : s.Idx → Elt F e)
    {off size : Fin s.rank → ℕ} (inb : ∀ a, off a + size a ≤ s.size a) :
    View.readAt (Elt F) M.view (Rect.unit off size inb).toLoadRect (h.unread X) = VecWindow.window X off size inb := by
  rw [View.readAt_unit _ _ inb rfl inb, h.read_unread]

theorem pay1_congr {x x' : Vec F S512x512 .f32} {a a' e e' : Vec F S512x2048 .bf16} {wa wa' we we' : Vec F S2048x512 .bf16}
    (hx : x = x') (ha : a = a') (hwa : wa = wa') (he : e = e') (hwe : we = we') : k0_pay1 x a wa e we = k0_pay1 x' a' wa' e' we' := by
  subst hx ha hwa he hwe; rfl

theorem pay5_congr {X X' : Vec F S32x4096 .f32} {g g' b b' : Vec F S1x4096 .f32} (hX : X = X') (hg : g = g') (hb : b = b') :
    k0_pay5 X g b = k0_pay5 X' g' b' := by
  subst hX hg hb; rfl

theorem put_congr {s : Shape} {α : Type} {X X' : s.Idx → α} (off size : Fin s.rank → ℕ) {w w' : ((a : Fin s.rank) → Fin (size a)) → α} (hX : X = X') (hw : w = w') :
    VecWindow.put X off size w = VecWindow.put X' off size w' := by
  subst hX hw; rfl

theorem rows_inb (k : Fin k0_t1_loop.trips) : ∀ a, k0_off2 k a + S32x4096.size a ≤ S512x4096.size a := by
  revert k; decide +kernel

/-- The rows' block after one trip. -/
def trip (g b : Vec F S1x4096 .f32) (k : Fin k0_t1_loop.trips) (X : Vec F S512x4096 .f32) : Vec F S512x4096 .f32 :=
  VecWindow.put X (k0_off2 k) S32x4096.size (k0_pay5 (VecWindow.window X (k0_off2 k) S32x4096.size (rows_inb k)) g b)

/-- The rows' block after `k` trips. -/
def trips (X : Vec F S512x4096 .f32) (g b : Vec F S1x4096 .f32) : ℕ → Vec F S512x4096 .f32
  | 0 => X
  | k + 1 => if h : k < k0_t1_loop.trips then trip g b ⟨k, h⟩ (trips X g b k) else trips X g b k

theorem trips_succ (X : Vec F S512x4096 .f32) (g b : Vec F S1x4096 .f32) (k : Fin k0_t1_loop.trips) :
    trips X g b (k.val + 1) = trip g b k (trips X g b k.val) := by
  show (if h : k.val < k0_t1_loop.trips then trip g b ⟨k.val, h⟩ (trips X g b k.val) else trips X g b k.val) = _
  rw [dif_pos k.isLt]

/-- The rows' block with a column block's products stored. -/
def placed (i : grid0.Coords) (a e : Vec F S512x2048 .bf16) (wa we : Vec F S2048x512 .bf16) (x : Vec F S512x512 .f32) (o : Vec F S512x4096 .f32) : Vec F S512x4096 .f32 :=
  VecWindow.put o (k0_off1 i) S512x512.size (k0_pay1 x a wa e we)

/-- The transposed rows, rounded: each element is the rounding of one element. -/
def turned (X : Vec F S512x4096 .f32) : Vec F S4096x512 .bf16 :=
  fun y => k0_pay12 (fun _ => X (ix2 (y 1) (y 0))) (ix2 0 0)

set_option maxHeartbeats 4000000 in
/-- Not the last column block. -/
theorem stepA (c : Dev nD) (i : grid0.Coords) (Ma : Memref sig .tc .vmem S512x2048 .bf16) (ha : Ma.IsWhole) (Me : Memref sig .tc .vmem S512x2048 .bf16) (he : Me.IsWhole) (Mwa : Memref sig .tc .vmem S2048x512 .bf16) (hwa : Mwa.IsWhole) (Mwe : Memref sig .tc .vmem S2048x512 .bf16) (hwe : Mwe.IsWhole) (Mx : Memref sig .tc .vmem S512x512 .f32) (hx : Mx.IsWhole) (Mg : Memref sig .tc .vmem S1x4096 .f32) (hg : Mg.IsWhole) (Mb : Memref sig .tc .vmem S1x4096 .f32) (hb : Mb.IsWhole) (Mo : Memref sig .tc .vmem S512x4096 .f32) (ho : Mo.IsWhole) (Mt : Memref sig .tc .vmem S4096x512 .bf16) (ht : Mt.IsWhole)
    (hc : ¬ k0_cond1 i = 1#1)
    (a : Vec F S512x2048 .bf16) (e : Vec F S512x2048 .bf16) (wa : Vec F S2048x512 .bf16) (we : Vec F S2048x512 .bf16) (x : Vec F S512x512 .f32) (g : Vec F S1x4096 .f32) (b : Vec F S1x4096 .f32) (o : Vec F S512x4096 .f32) (t : Vec F S4096x512 .bf16) (E : Set ℕ) (K : PUnit → sProp 𝕄) :
    iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (o) ∗ owns (c : Thread nD τ) Mt fullShare (t)
      ∗ (iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (placed i a e wa we x o) ∗ owns (c : Thread nD τ) Mt fullShare (t)) -∗ K ⟨⟩))
    ⊢ wp frame (wpE (defs₀ (F := F)) Variants.none c none) E (cc0_outproj i Ma ha Me he Mwa hwa Mwe hwe Mx hx Mg hg Mb hb Mo ho Mt ht) K := by
  simp only [cc0_outproj_eq_skeleton]; unfold cc0_outproj_skel
  unfold owns
  iintro ⟨⟨%fa, %ea, Ha⟩, ⟨%fe, %ee, He⟩, ⟨%fwa, %ewa, Hwa⟩, ⟨%fwe, %ewe, Hwe⟩, ⟨%fx, %ex, Hx⟩, ⟨%fg, %eg, Hg⟩, ⟨%fb, %eb, Hb⟩, ⟨%fo, %eo, Ho⟩, ⟨%ft, %et, Ht⟩, Hk⟩
  obtain rfl := ha.eq_unread ea; obtain rfl := he.eq_unread ee; obtain rfl := hwa.eq_unread ewa; obtain rfl := hwe.eq_unread ewe; obtain rfl := hx.eq_unread ex; obtain rfl := hg.eq_unread eg; obtain rfl := hb.eq_unread eb; obtain rfl := ho.eq_unread eo; obtain rfl := ht.eq_unread et
  sl_exec (disch := first | sl_exact hc)
  sl_step
  iapply Hk
  isplitl [Ha]
  · iexists _; isplitr; swap; · iexact Ha
    ipureintro; exact ha.read_unread _
  isplitl [He]
  · iexists _; isplitr; swap; · iexact He
    ipureintro; exact he.read_unread _
  isplitl [Hwa]
  · iexists _; isplitr; swap; · iexact Hwa
    ipureintro; exact hwa.read_unread _
  isplitl [Hwe]
  · iexists _; isplitr; swap; · iexact Hwe
    ipureintro; exact hwe.read_unread _
  isplitl [Hx]
  · iexists _; isplitr; swap; · iexact Hx
    ipureintro; exact hx.read_unread _
  isplitl [Hg]
  · iexists _; isplitr; swap; · iexact Hg
    ipureintro; exact hg.read_unread _
  isplitl [Hb]
  · iexists _; isplitr; swap; · iexact Hb
    ipureintro; exact hb.read_unread _
  isplitl [Ho]
  · iexists _; isplitr; swap; · iexact Ho
    ipureintro;
    refine (View.read_writes_cons_put _ _ _ _ _ rfl).trans ?_
    unfold placed
    exact put_congr _ _ (ho.read_unread _)
      (pay1_congr (load_all hx _ _) (load_all ha _ _) (load_all hwa _ _) (load_all he _ _) (load_all hwe _ _))
  iexists _; isplitr; swap; · iexact Ht
  ipureintro; exact ht.read_unread _

theorem turn_one (v : Vec F S128x512 .f32) (x : S512x128.Idx) : k0_pay12 v x = k0_pay12 (fun _ => v (ix2 (x 1) (x 0))) (ix2 0 0) := by
  unfold k0_pay12
  refine congrArg (fun r : F .f32 => (truncf .bf16 (fun _ => r : FVec F S512x128 .f32) bitsLt_bf16_f32) x) ?_
  show v _ = v _
  refine congrArg v (funext fun a => ?_)
  match a with
  | ⟨0, _⟩ => rfl
  | ⟨1, _⟩ => rfl

/-- One transposed piece is its part of the whole transpose. -/
theorem piece {M : Memref sig .tc .vmem S512x4096 .f32} (h : M.IsWhole) (X : Vec F S512x4096 .f32) (p q : ℕ)
    (inb : ∀ a, (![p, q] : Fin 2 → ℕ) a + S128x512.size a ≤ S512x4096.size a) (inb' : ∀ a, (![q, p] : Fin 2 → ℕ) a + S512x128.size a ≤ S4096x512.size a) (x : S512x128.Idx) :
    k0_pay12 (k0_pay11 (View.readAt (Elt F) M.view (Rect.unit (s := S512x4096) ![p, q] S128x512.size inb).toLoadRect (h.unread X))) x
      = turned X ((Rect.unit (s := S4096x512) ![q, p] S512x128.size inb').emb x) := by
  rw [turn_one]
  unfold turned
  refine congrArg (fun r : F .f32 => k0_pay12 (fun _ => r) (ix2 0 0)) ?_
  unfold k0_pay11
  rw [shapeCast_id, load_part]
  refine congrArg X (funext fun a => Fin.ext ?_)
  match a with
  | ⟨0, _⟩ => rfl
  | ⟨1, _⟩ => rfl

set_option maxHeartbeats 1000000 in
/-- One trip. -/
theorem trip_run (c : Dev nD) (i : grid0.Coords) (Ma : Memref sig .tc .vmem S512x2048 .bf16) (ha : Ma.IsWhole) (Me : Memref sig .tc .vmem S512x2048 .bf16) (he : Me.IsWhole) (Mwa : Memref sig .tc .vmem S2048x512 .bf16) (hwa : Mwa.IsWhole) (Mwe : Memref sig .tc .vmem S2048x512 .bf16) (hwe : Mwe.IsWhole) (Mx : Memref sig .tc .vmem S512x512 .f32) (hx : Mx.IsWhole) (Mg : Memref sig .tc .vmem S1x4096 .f32) (hg : Mg.IsWhole) (Mb : Memref sig .tc .vmem S1x4096 .f32) (hb : Mb.IsWhole) (Mo : Memref sig .tc .vmem S512x4096 .f32) (ho : Mo.IsWhole) (Mt : Memref sig .tc .vmem S4096x512 .bf16) (ht : Mt.IsWhole)
    (hc : k0_cond1 i = 1#1) (k : Fin k0_t1_loop.trips) (g b : Vec F S1x4096 .f32) (X : Vec F S512x4096 .f32) (E : Set ℕ) (K : Unit → sProp 𝕄) :
    iprop(owns (c : Thread nD τ) Mg fullShare g ∗ owns (c : Thread nD τ) Mb fullShare b ∗ owns (c : Thread nD τ) Mo fullShare X
      ∗ (iprop(owns (c : Thread nD τ) Mg fullShare g ∗ owns (c : Thread nD τ) Mb fullShare b ∗ owns (c : Thread nD τ) Mo fullShare (trip g b k X)) -∗ K ⟨⟩))
    ⊢ wp frame (wpE (defs₀ (F := F)) Variants.none c none) E (k0_t1_body i Ma ha Me he Mwa hwa Mwe hwe Mx hx Mg hg Mb hb Mo ho Mt ht hc k ⟨⟩) K := by
  unfold k0_t1_body
  unfold owns
  iintro ⟨⟨%fg, %eg, Hg⟩, ⟨%fb, %eb, Hb⟩, ⟨%fo, %eo, Ho⟩, Hk⟩
  obtain rfl := hg.eq_unread eg; obtain rfl := hb.eq_unread eb; obtain rfl := ho.eq_unread eo
  sl_exec
  sl_step
  iapply Hk
  isplitl [Hg]
  · iexists _; isplitr; swap; · iexact Hg
    ipureintro; exact hg.read_unread _
  isplitl [Hb]
  · iexists _; isplitr; swap; · iexact Hb
    ipureintro; exact hb.read_unread _
  iexists _; isplitr; swap; · iexact Ho
  ipureintro;
  refine (View.read_writes_cons_put _ _ _ _ _ rfl).trans ?_
  unfold trip
  exact put_congr _ _ (ho.read_unread _)
    (pay5_congr (load_part ho _ _) (load_all hg _ _) (load_all hb _ _))

set_option maxHeartbeats 4000000 in
/-- The last column block. -/
theorem stepB (c : Dev nD) (i : grid0.Coords) (Ma : Memref sig .tc .vmem S512x2048 .bf16) (ha : Ma.IsWhole) (Me : Memref sig .tc .vmem S512x2048 .bf16) (he : Me.IsWhole) (Mwa : Memref sig .tc .vmem S2048x512 .bf16) (hwa : Mwa.IsWhole) (Mwe : Memref sig .tc .vmem S2048x512 .bf16) (hwe : Mwe.IsWhole) (Mx : Memref sig .tc .vmem S512x512 .f32) (hx : Mx.IsWhole) (Mg : Memref sig .tc .vmem S1x4096 .f32) (hg : Mg.IsWhole) (Mb : Memref sig .tc .vmem S1x4096 .f32) (hb : Mb.IsWhole) (Mo : Memref sig .tc .vmem S512x4096 .f32) (ho : Mo.IsWhole) (Mt : Memref sig .tc .vmem S4096x512 .bf16) (ht : Mt.IsWhole)
    (hc : k0_cond1 i = 1#1)
    (a : Vec F S512x2048 .bf16) (e : Vec F S512x2048 .bf16) (wa : Vec F S2048x512 .bf16) (we : Vec F S2048x512 .bf16) (x : Vec F S512x512 .f32) (g : Vec F S1x4096 .f32) (b : Vec F S1x4096 .f32) (o : Vec F S512x4096 .f32) (t : Vec F S4096x512 .bf16) (E : Set ℕ) (K : PUnit → sProp 𝕄) :
    iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (o) ∗ owns (c : Thread nD τ) Mt fullShare (t)
      ∗ (iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (trips (placed i a e wa we x o) g b 16) ∗ owns (c : Thread nD τ) Mt fullShare (turned (trips (placed i a e wa we x o) g b 16))) -∗ K ⟨⟩))
    ⊢ wp frame (wpE (defs₀ (F := F)) Variants.none c none) E (cc0_outproj i Ma ha Me he Mwa hwa Mwe hwe Mx hx Mg hg Mb hb Mo ho Mt ht) K := by
  simp only [cc0_outproj_eq_skeleton]; unfold cc0_outproj_skel
  unfold owns
  iintro ⟨⟨%fa, %ea, Ha⟩, ⟨%fe, %ee, He⟩, ⟨%fwa, %ewa, Hwa⟩, ⟨%fwe, %ewe, Hwe⟩, ⟨%fx, %ex, Hx⟩, ⟨%fg, %eg, Hg⟩, ⟨%fb, %eb, Hb⟩, ⟨%fo, %eo, Ho⟩, ⟨%ft, %et, Ht⟩, Hk⟩
  obtain rfl := ha.eq_unread ea; obtain rfl := he.eq_unread ee; obtain rfl := hwa.eq_unread ewa; obtain rfl := hwe.eq_unread ewe; obtain rfl := hx.eq_unread ex; obtain rfl := hg.eq_unread eg; obtain rfl := hb.eq_unread eb; obtain rfl := ho.eq_unread eo; obtain rfl := ht.eq_unread et
  sl_exec (disch := first | sl_exact hc)
  iapply (Scf.wp_for_bind (M := 𝕄) _ _ _ _ _ _ _ _ _ (fun k (_ : Unit) => iprop(owns (c : Thread nD τ) Mg fullShare g ∗ owns (c : Thread nD τ) Mb fullShare b ∗ owns (c : Thread nD τ) Mo fullShare (trips (placed i a e wa we x o) g b k))) ?hbody) $$ [Hg Hb Ho]
  case hbody =>
    intro k acc
    obtain rfl : acc = ⟨⟩ := rfl
    iintro ⟨Hg, Hb, Ho⟩
    iapply (trip_run c i Ma ha Me he Mwa hwa Mwe hwe Mx hx Mg hg Mb hb Mo ho Mt ht hc k g b _ E _)
    isplitl [Hg]; · iexact Hg
    isplitl [Hb]; · iexact Hb
    isplitl [Ho]; · iexact Ho
    iintro ⟨Hg, Hb, Ho⟩
    isplitl [Hg]; · iexact Hg
    isplitl [Hb]; · iexact Hb
    rw [trips_succ]; iexact Ho
  · isplitl [Hg]
    · unfold owns; iexists _; isplitr; swap; · iexact Hg
      ipureintro; exact hg.read_unread _
    isplitl [Hb]
    · unfold owns; iexists _; isplitr; swap; · iexact Hb
      ipureintro; exact hb.read_unread _
    unfold owns; iexists _; isplitr; swap; · iexact Ho
    ipureintro
    show _ = placed i a e wa we x o
    refine (View.read_writes_cons_put _ _ _ _ _ rfl).trans ?_
    unfold placed
    exact put_congr _ _ (ho.read_unread _)
      (pay1_congr (load_all hx _ _) (load_all ha _ _) (load_all hwa _ _) (load_all he _ _) (load_all hwe _ _))
  iintro %acc ⟨Hg, Hb, Ho⟩
  rw [show Scf.trips _ _ _ = 16 from by decide +kernel]
  generalize trips (placed i a e wa we x o) g b 16 = X
  unfold owns
  icases Hg with ⟨%fg, %eg, Hg⟩
  icases Hb with ⟨%fb, %eb, Hb⟩
  icases Ho with ⟨%fo, %eo, Ho⟩
  obtain rfl := hg.eq_unread eg; obtain rfl := hb.eq_unread eb; obtain rfl := ho.eq_unread eo
  sl_exec (disch := first | sl_exact hc)
  sl_step
  iapply Hk
  isplitl [Ha]
  · iexists _; isplitr; swap; · iexact Ha
    ipureintro; exact ha.read_unread _
  isplitl [He]
  · iexists _; isplitr; swap; · iexact He
    ipureintro; exact he.read_unread _
  isplitl [Hwa]
  · iexists _; isplitr; swap; · iexact Hwa
    ipureintro; exact hwa.read_unread _
  isplitl [Hwe]
  · iexists _; isplitr; swap; · iexact Hwe
    ipureintro; exact hwe.read_unread _
  isplitl [Hx]
  · iexists _; isplitr; swap; · iexact Hx
    ipureintro; exact hx.read_unread _
  isplitl [Hg]
  · iexists _; isplitr; swap; · iexact Hg
    ipureintro; exact hg.read_unread _
  isplitl [Hb]
  · iexists _; isplitr; swap; · iexact Hb
    ipureintro; exact hb.read_unread _
  isplitl [Ho]
  · iexists _; isplitr; swap; · iexact Ho
    ipureintro; exact ho.read_unread _
  iexists _; isplitr; swap; · iexact Ht
  ipureintro;
  funext y
  refine View.read_writes_apply_of_pieces _ _ _ _ ?_ y (View.cover_of_tiledL _ ![512, 128] rfl y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals exact piece ho X _ _ _ _

end Cert.MixIdeal.Hand

end
-- ==== Proof.MixDat.lean ====
module

public import proofs.«01_k».proof.Proof.MixRun
public import Idealize.ShloMosaic.Lib.Claim
public import Idealize.ShloMosaic.Lib.Pipeline.DatRel
public import Idealize.ShloMosaic.Lib.Pipeline.ArrRel

@[expose] public section

set_option maxRecDepth 16384

noncomputable section

namespace Cert.MixIdeal.Hand

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point

Eight points make one block of rows. Each stores its 512 columns of it; what the others' columns hold before they are
stored is not known, so of the block between two points only a relation is stated. -/

/-- The point of `t`'s row block at which column block `j` is met. -/
def sib (t : Fin cfg0.N) (j : ℕ) (h : j < 8) : Fin cfg0.N := ⟨t.val - t.val % 8 + j, by
  have ht := t.isLt
  have e : cfg0.N = 256 := by decide +kernel
  omega⟩

/-- The columns' products at a point. -/
def Cols (c : Dev nD) (t : Fin cfg0.N) : Vec F S512x512 .f32 :=
  k0_pay1 (iblk m c 4 t) (iblk m c 0 t) (iblk m c 2 t) (iblk m c 1 t) (iblk m c 3 t)

/-- The whole row block before it is normalised. -/
def Full (c : Dev nD) (t : Fin cfg0.N) : Vec F S512x4096 .f32 :=
  fun y => Cols m c (sib t ((y 1).val / 512) (by have h : (y 1).val < 4096 := (y 1).isLt; omega)) (ix2 (y 0) ⟨(y 1).val % 512, by omega⟩)

/-- The row block normalised. -/
def Normed (c : Dev nD) (t : Fin cfg0.N) : Vec F S512x4096 .f32 := trips (Full m c t) (iblk m c 5 t) (iblk m c 6 t) 16

/-- The row block between two points: the columns met so far. -/
def upTo (c : Dev nD) (t : Fin cfg0.N) (n : ℕ) (X : Vec F S512x4096 .f32) : Prop :=
  ∀ y : S512x4096.Idx, (y 1).val < n * 512 → X y = Full m c t y

/-- The proof data, exact where a block is read or written back. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Normed m c t
    | ⟨8, _⟩ => turned (Normed m c t)
  Φ _ := Pipeline.ΦA spec0 c
  q := Pipeline.shareOf cfg0.spec
  owed _ := 0

/-- The two results' blocks are held to a relation. -/
def loose (w : Fin cfg0.W) : Bool := match w with
  | ⟨7, _⟩ => true
  | ⟨8, _⟩ => true
  | _ => false

def Rel (c : Dev nD) (w : Fin cfg0.W) (t : Fin cfg0.N) : ((cfg0.win w).block.Idx → Elt F (cfg0.win w).elt) → Prop := match w with
  | ⟨7, _⟩ => fun X => (t.val % 8 < 7 → upTo m c t (t.val % 8 + 1) X) ∧ (t.val % 8 = 7 → X = Normed m c t)
  | ⟨8, _⟩ => fun X => t.val % 8 = 7 → X = turned (Normed m c t)
  | _ => fun _ => True

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = Normed m c t := by dsimp only [dats]
theorem after_8 (c : Dev nD) (t : Fin cfg0.N) : (dats m 0 c).after 8 t = turned (Normed m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem sib_same (t t' : Fin cfg0.N) (h : t'.val + 1 = t.val) (hj : t.val % 8 ≠ 0) (j : ℕ) (hj' : j < 8) : sib t j hj' = sib t' j hj' := by
  apply Fin.ext; unfold sib; dsimp only; omega

theorem Full_same (c : Dev nD) (t t' : Fin cfg0.N) (h : t'.val + 1 = t.val) (hj : t.val % 8 ≠ 0) : Full m c t = Full m c t' := by
  funext y; unfold Full; rw [sib_same t t' h hj]

theorem last_iff : ∀ t : Fin cfg0.N, k0_cond1 (grid0.coords t) = 1#1 ↔ t.val % 8 = 7 :=
  (by decide +kernel : ∀ t : Fin grid0.N, k0_cond1 (grid0.coords t) = 1#1 ↔ t.val % 8 = 7)
theorem off_0 : ∀ t : Fin cfg0.N, k0_off1 (grid0.coords t) 0 = 0 :=
  (by decide +kernel : ∀ t : Fin grid0.N, k0_off1 (grid0.coords t) 0 = 0)
theorem off_1 : ∀ t : Fin cfg0.N, k0_off1 (grid0.coords t) 1 = t.val % 8 * 512 :=
  (by decide +kernel : ∀ t : Fin grid0.N, k0_off1 (grid0.coords t) 1 = t.val % 8 * 512)

/-- Storing a point's columns adds them to those met. -/
theorem upTo_placed (c : Dev nD) (t : Fin cfg0.N) (o : Vec F S512x4096 .f32) (ho : upTo m c t (t.val % 8) o) :
    upTo m c t (t.val % 8 + 1) (placed (grid0.coords t) (iblk m c 0 t) (iblk m c 1 t) (iblk m c 2 t) (iblk m c 3 t) (iblk m c 4 t) o) := by
  intro y hy
  have h0 := off_0 t
  have h1 := off_1 t
  have hr : (y 0).val < 512 := (y 0).isLt
  by_cases hc : (y 1).val < t.val % 8 * 512
  · rw [← ho y hc]
    unfold placed VecWindow.put
    rw [dif_neg]
    intro h
    have := (h 1).1
    omega
  · have hin : ∀ a, k0_off1 (grid0.coords t) a ≤ (y a).val ∧ (y a).val < k0_off1 (grid0.coords t) a + S512x512.size a := by
      intro a
      match a with
      | ⟨0, _⟩ => exact ⟨by show k0_off1 (grid0.coords t) 0 ≤ _; omega, by show (y 0).val < k0_off1 (grid0.coords t) 0 + 512; omega⟩
      | ⟨1, _⟩ => exact ⟨by show k0_off1 (grid0.coords t) 1 ≤ (y 1).val; omega, by show (y 1).val < k0_off1 (grid0.coords t) 1 + 512; omega⟩
    unfold placed VecWindow.put
    rw [dif_pos hin]
    unfold Full
    have es : sib t ((y 1).val / 512) (by omega) = t := by
      apply Fin.ext; unfold sib; dsimp only; omega
    rw [es]
    show Cols m c t _ = Cols m c t _
    refine congrArg (Cols m c t) (funext fun a => Fin.ext ?_)
    match a with
    | ⟨0, _⟩ => show (y 0).val - k0_off1 (grid0.coords t) 0 = (y 0).val; omega
    | ⟨1, _⟩ => show (y 1).val - k0_off1 (grid0.coords t) 1 = (y 1).val % 512; omega

theorem upTo_zero (c : Dev nD) (t : Fin cfg0.N) (h : t.val % 8 = 0) (o : Vec F S512x4096 .f32) : upTo m c t (t.val % 8) o := by
  intro y hy; omega

theorem upTo_all (c : Dev nD) (t : Fin cfg0.N) (h : t.val % 8 = 7) (X : Vec F S512x4096 .f32) (hX : upTo m c t (t.val % 8 + 1) X) : X = Full m c t := by
  funext y
  have hy : (y 1).val < 4096 := (y 1).isLt
  exact hX y (by omega)

/-- The relational proof data. -/
abbrev rdat (c : Dev nD) : Pipeline.RDat τ (Elt F) Unit ℕ (UR sig nD τ) ℕ cfg0 c := (dats m 0 c).toRRel loose (Rel m c)

/-- What the body finds in the row block. -/
theorem found (c : Dev nD) (t : Fin cfg0.N) (Y : Vec F S512x4096 .f32) (h : (rdat m c).Finds 7 t Y) : upTo m c t (t.val % 8) Y := by
  by_cases h0 : t.val % 8 = 0
  · exact upTo_zero m c t h0 Y
  have hf : (cfg0.win 7).fetch t = false := by unfold Window.fetch; rfl
  have hn : t.val - 1 < cfg0.N := Nat.lt_of_le_of_lt (Nat.sub_le _ _) t.isLt
  rcases ((rdat m c).finds_of_pos hf (by omega) Y).mp h with hfl | hl
  · have := (flush0_7 ⟨t.val - 1, hn⟩).mp hfl
    exfalso
    have e : (t.val - 1) % 8 = 7 := this
    omega
  · have hR : Rel m c 7 ⟨t.val - 1, hn⟩ Y := (dats m 0 c).toRRel_leaves rfl hl
    have hu := hR.1 (by show (t.val - 1) % 8 < 7; omega)
    intro y hy
    rw [Full_same m c t ⟨t.val - 1, hn⟩ (by show t.val - 1 + 1 = t.val; omega) h0]
    exact hu y (by show (y 1).val < ((t.val - 1) % 8 + 1) * 512; omega)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- and what it hands on. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rel m c 7 t X⌝ ∗ owns (c : Thread nD τ) (st0_7 t) fullShare X)
    ∗ (∃ X, ⌜Rel m c 8 t X⌝ ∗ owns (c : Thread nD τ) (st0_8 t) fullShare X))

set_option maxHeartbeats 2000000 in
theorem point (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  simp only [before_0, after_0, before_1, after_1, before_2, after_2, before_3, after_3, before_4, after_4, before_5, after_5, before_6, after_6]
  iintro ⟨Hg, Ho, ⟨%d0, H0⟩, ⟨%d1, H1⟩, ⟨%d2, H2⟩, ⟨%d3, H3⟩, ⟨%d4, H4⟩, ⟨%d5, H5⟩, ⟨%d6, H6⟩, ⟨%Y, %hY, H7⟩, ⟨%Z, %hZ, H8⟩⟩
  by_cases hj : t.val % 8 = 7
  · iapply (stepB c (grid0.coords t) _ _ _ _ _ _ _ _ _ _ _ _ _ _ _ _ _ _ ((last_iff t).mpr hj) (iblk m c 0 t) (iblk m c 1 t) (iblk m c 2 t) (iblk m c 3 t) (iblk m c 4 t) (iblk m c 5 t) (iblk m c 6 t) Y Z Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      refine ⟨fun h => absurd h (by omega), fun _ => ?_⟩
      unfold Normed
      rw [upTo_all m c t hj _ (upTo_placed m c t Y (found m c t Y hY))]
    iexists _; isplitr; swap; · iexact H8
    ipureintro
    intro _
    unfold Normed
    rw [upTo_all m c t hj _ (upTo_placed m c t Y (found m c t Y hY))]
  · iapply (stepA c (grid0.coords t) _ _ _ _ _ _ _ _ _ _ _ _ _ _ _ _ _ _ (fun h => hj ((last_iff t).mp h)) (iblk m c 0 t) (iblk m c 1 t) (iblk m c 2 t) (iblk m c 3 t) (iblk m c 4 t) (iblk m c 5 t) (iblk m c 6 t) Y Z Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      exact ⟨fun _ => upTo_placed m c t Y (found m c t Y hY), fun h => absurd h hj⟩
    iexists _; isplitr; swap; · iexact H8
    ipureintro
    exact fun h => absurd h hj

theorem body_row (t : Fin cfg0.N) : defs₀ (F := F) .tc cfg0.body (cfg0.bodyArgs t (cfg0.slots t)) = bodyAt0 t := by
  unfold defs₀; rw [Defs.onTc_tc]

theorem obligation (c : Dev nD) : Pipeline.BodyObligationRel (dats (F := F) m 0 c) (defs₀ (F := F)) Variants.none () Set.univ loose (Rel m c) := fun t => by
  rw [bigSep_W0, bigSep_W0, body_row]
  exact triple_restated (point m c t) rfl .rfl fun _ => .rfl

/-! ## The launch -/

theorem run_rel : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (obligation m c).toRRel) (hq := fun c w _ => rfl)
    (howed := fun _ _ => rfl) (V := V m) (hmain := hmain m Variants.none) (hA := A_eq m) (hin := fun _ => .rfl) (hout := fun _ => .rfl)

/-- What is written back is exact. -/
theorem arr_exact (c : Dev nD) (w : Fin cfg0.W) (G) (h : (rdat m c).ArrAt w cfg0.N G) : G = (dats m 0 c).arrAt w cfg0.N := by
  obtain ⟨X, hX, hA⟩ := h.exists_exact
  refine (hA (dats m 0 c).after fun u hu hf => ?_).trans rfl
  have hL := hX u hu hf
  match w with
  | ⟨0, _⟩ => exact absurd hf (by rw [Window.flush_in _ rfl]; exact Bool.false_ne_true)
  | ⟨1, _⟩ => exact absurd hf (by rw [Window.flush_in _ rfl]; exact Bool.false_ne_true)
  | ⟨2, _⟩ => exact absurd hf (by rw [Window.flush_in _ rfl]; exact Bool.false_ne_true)
  | ⟨3, _⟩ => exact absurd hf (by rw [Window.flush_in _ rfl]; exact Bool.false_ne_true)
  | ⟨4, _⟩ => exact absurd hf (by rw [Window.flush_in _ rfl]; exact Bool.false_ne_true)
  | ⟨5, _⟩ => exact absurd hf (by rw [Window.flush_in _ rfl]; exact Bool.false_ne_true)
  | ⟨6, _⟩ => exact absurd hf (by rw [Window.flush_in _ rfl]; exact Bool.false_ne_true)
  | ⟨7, _⟩ => exact (((dats m 0 c).toRRel_leaves (w := 7) rfl hL).2 ((flush0_7 u).mp hf)).symm
  | ⟨8, _⟩ => exact (((dats m 0 c).toRRel_leaves (w := 8) rfl hL) ((flush0_8 u).mp hf)).symm

/-- Every run ends, with the results at the write-backs and every counter at zero. -/
theorem run : θ_run defs (onTc (τ := τ) (main (F := F))) (s₀ m ρ)
    (fun r => Pipeline.FramePost cfgs (dats m) 0 (V m) r ∧ r.2.sem = fun _ => 0) :=
  (θ_run defs _ _).mono (fun _ h => ⟨fun c => ⟨fun w => arr_exact m c w _ ((h.1 c).1 w), (h.1 c).2⟩, h.2⟩) (run_rel m ρ)

/-- The arguments end as they were, every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.MixIdeal.Hand

end
-- ==== Proof.MixColumns.lean ====
module

public import proofs.«01_k».proof.Proof.Gen.MixRefIdeal.Run
public import Idealize.ShloMosaic.Lib.Pointwise
public import Idealize.ShloMosaic.Lib.IdealHost

/-! The residual sum at a row and a column, its normalised row, and the reference's results as those. -/

@[expose] public section
set_option maxRecDepth 16384
noncomputable section
namespace Cert.MixRefIdeal.Columns
open Cert.MixRefIdeal Cert.MixRefIdeal.Gen Idealize.ShloMosaic Idealize.ShloMosaic.TcCoe Idealize.SL.Sem Idealize.ShloMosaic.Pointwise

/-- The scaled input plus the two halves of the projection, at row `r` and column `n`. -/
def mixed (a e : FVec Ideal S8x2048x2048 .bf16) (x : FVec Ideal S8x2048x4096 .f32) (w : FVec Ideal S1x4096x4096 .f32) (r : Fin 16384) (n : Fin 4096) : EReal :=
  Ideal.ofBits FTy.f32 0x3F9837F0#32 * x (ix3 ⟨r.val / 2048, by omega⟩ ⟨r.val % 2048, by omega⟩ n)
    + (∑ k : Fin 2048, (a (ix3 ⟨r.val / 2048, by omega⟩ ⟨r.val % 2048, by omega⟩ k) : EReal) * w (ix3 0 ⟨k.val, by omega⟩ n)
      + ∑ k : Fin 2048, (e (ix3 ⟨r.val / 2048, by omega⟩ ⟨r.val % 2048, by omega⟩ k) : EReal) * w (ix3 0 ⟨2048 + k.val, by omega⟩ n))

/-- The mean of a row. -/
def mean (f : Fin 4096 → EReal) : EReal := Ideal.div (∑ k, f k) (Ideal.ofBits FTy.f32 0x45800000#32)

/-- A row less its mean, over the root of its variance, scaled and shifted. -/
def rowNorm (f g b : Fin 4096 → EReal) (n : Fin 4096) : EReal :=
  (f n - mean f) * Ideal.rsqrt (mean (fun k => (f k - mean f) * (f k - mean f)) + Ideal.ofBits FTy.f32 0x3727C5AC#32) * g n + b n

def hid (a e : FVec Ideal S8x2048x2048 .bf16) (x : FVec Ideal S8x2048x4096 .f32) (w : FVec Ideal S1x4096x4096 .f32) (g b : FVec Ideal S1x4096 .f32) : FVec Ideal S16384x4096 .f32 :=
  fun i => rowNorm (mixed a e x w (i 0)) (fun k => g (ix2 0 k)) (fun k => b (ix2 0 k)) (i 1)
def hidT (a e : FVec Ideal S8x2048x2048 .bf16) (x : FVec Ideal S8x2048x4096 .f32) (w : FVec Ideal S1x4096x4096 .f32) (g b : FVec Ideal S1x4096 .f32) : FVec Ideal S4096x16384 .bf16 :=
  fun i => rowNorm (mixed a e x w (i 1)) (fun k => g (ix2 0 k)) (fun k => b (ix2 0 k)) (i 0)

/-- The sum the reference normalises. -/
def pre (a e : FVec Ideal S8x2048x2048 .bf16) (x : FVec Ideal S8x2048x4096 .f32) (w : FVec Ideal S1x4096x4096 .f32) : FVec Ideal S8x2048x4096 .f32 :=
  addf (mulf (broadcastInDim S8x2048x4096 ![] bcast_S_S8x2048x4096 (constant S_ .f32 0x3F9837F0#32)) x) (Host.dotGeneral dot_S8x2048x4096_S4096x4096_S8x2048x4096_2_0_01_1_n_n none (concatenate S8x2048x4096 2 [⟨S8x2048x2048, (extf .f32 a bitsLt_bf16_f32)⟩, ⟨S8x2048x2048, (extf .f32 e bitsLt_bf16_f32)⟩] concatenates_S8x2048x2048_S8x2048x2048_S8x2048x4096_d2) (shapeCast _ w shapeCasts_S1x4096x4096_S4096x4096))

/-- A layer rowNorm, as the reference computes it. -/
def normal (X : FVec Ideal S8x2048x4096 .f32) (g b : FVec Ideal S1x4096 .f32) : FVec Ideal S16384x4096 .f32 :=
  shapeCast _ (addf (mulf (mulf (subf X (broadcastInDim S8x2048x4096 ![0, 1, 2] bcast_S8x2048x1_S8x2048x4096_0_1_2 (Host.divf (broadcastInDim S8x2048x1 ![0, 1] bcast_S8x2048_S8x2048x1_0_1 (Host.reduceAdd X (constant S_ .f32 0x00000000#32) reducesTo_S8x2048x4096_S8x2048_d2 h_S_)) (broadcastInDim S8x2048x1 ![] bcast_S_S8x2048x1 (constant S_ .f32 0x45800000#32))))) (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf (subf X (broadcastInDim S8x2048x4096 ![0, 1, 2] bcast_S8x2048x1_S8x2048x4096_0_1_2 (Host.divf (broadcastInDim S8x2048x1 ![0, 1] bcast_S8x2048_S8x2048x1_0_1 (Host.reduceAdd X (constant S_ .f32 0x00000000#32) reducesTo_S8x2048x4096_S8x2048_d2 h_S_)) (broadcastInDim S8x2048x1 ![] bcast_S_S8x2048x1 (constant S_ .f32 0x45800000#32))))) (subf X (broadcastInDim S8x2048x4096 ![0, 1, 2] bcast_S8x2048x1_S8x2048x4096_0_1_2 (Host.divf (broadcastInDim S8x2048x1 ![0, 1] bcast_S8x2048_S8x2048x1_0_1 (Host.reduceAdd X (constant S_ .f32 0x00000000#32) reducesTo_S8x2048x4096_S8x2048_d2 h_S_)) (broadcastInDim S8x2048x1 ![] bcast_S_S8x2048x1 (constant S_ .f32 0x45800000#32)))))) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x3727C5AC#32)))))) (broadcastInDim S8x2048x4096 ![0, 1, 2] bcast_S1x1x4096_S8x2048x4096_0_1_2 (broadcastInDim S1x1x4096 ![2] bcast_S4096_S1x1x4096_2 (shapeCast _ g shapeCasts_S1x4096_S4096)))) (broadcastInDim S8x2048x4096 ![0, 1, 2] bcast_S1x1x4096_S8x2048x4096_0_1_2 (broadcastInDim S1x1x4096 ![2] bcast_S4096_S1x1x4096_2 (shapeCast _ b shapeCasts_S1x4096_S4096)))) shapeCasts_S8x2048x4096_S16384x4096

theorem pre_apply (a e : FVec Ideal S8x2048x2048 .bf16) (x : FVec Ideal S8x2048x4096 .f32) (w : FVec Ideal S1x4096x4096 .f32) (r : Fin 16384) (n : Fin 4096) :
    pre a e x w (ix3 ⟨r.val / 2048, by omega⟩ ⟨r.val % 2048, by omega⟩ n) = mixed a e x w r n := by
  unfold mixed
  pointwise [pre]

theorem normal_apply (X : FVec Ideal S8x2048x4096 .f32) (g b : FVec Ideal S1x4096 .f32) (r : Fin 16384) (n : Fin 4096) :
    normal X g b (ix2 r n) = rowNorm (fun k => X (ix3 ⟨r.val / 2048, by omega⟩ ⟨r.val % 2048, by omega⟩ k)) (fun k => g (ix2 0 k)) (fun k => b (ix2 0 k)) n := by
  unfold rowNorm mean
  pointwise [normal]

theorem hid_eq (a e : FVec Ideal S8x2048x2048 .bf16) (x : FVec Ideal S8x2048x4096 .f32) (w : FVec Ideal S1x4096x4096 .f32) (g b : FVec Ideal S1x4096 .f32) :
    normal (pre a e x w) g b = hid a e x w g b := by
  funext i
  obtain ⟨r, n, rfl⟩ : ∃ r n, i = (ix2 r n : S16384x4096.Idx) := ⟨i 0, i 1, eq_ix2 i⟩
  rw [normal_apply]
  exact congrArg (rowNorm · _ _ n) (funext fun k => pre_apply a e x w r k)

theorem hidT_eq (a e : FVec Ideal S8x2048x2048 .bf16) (x : FVec Ideal S8x2048x4096 .f32) (w : FVec Ideal S1x4096x4096 .f32) (g b : FVec Ideal S1x4096 .f32) :
    truncf (F := Ideal) .bf16 (transpose S4096x16384 [1, 0] (hid a e x w g b) transposes_S16384x4096_S4096x16384_1_0) bitsLt_bf16_f32 = hidT a e x w g b := by
  funext i
  obtain ⟨r, n, rfl⟩ : ∃ r n, i = (ix2 r n : S4096x16384.Idx) := ⟨i 0, i 1, eq_ix2 i⟩
  show _ = rowNorm (mixed a e x w n) (fun k => g (ix2 0 k)) (fun k => b (ix2 0 k)) r
  pointwise
  rfl

/-- The reference's run ends in the normalised rows. -/
theorem run (m : (ℓ : Loc nD τ sig) → Buf (Elt Ideal) ℓ) (ρ : Dev nD → PrngReg) :
    θ_run defs (onTc (τ := τ) (Cert.MixRefIdeal.main (F := Ideal))) ⟨m, fun _ => 0, ρ⟩ fun r => ∀ c : Dev nD,
      r.2.mem ((c.tc : Thread nD τ).loc main_v34) = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v36) = hidT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, ha⟩ := h c
    have e := hid_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    refine ⟨h0.trans e, h1.trans ((congrArg (fun Y => truncf (F := Ideal) .bf16 (transpose S4096x16384 [1, 0] Y transposes_S16384x4096_S4096x16384_1_0) bitsLt_bf16_f32) e).trans (hidT_eq _ _ _ _ _ _)), ha⟩)
    (Value.run m ρ)

end Cert.MixRefIdeal.Columns
-- ==== Proof.MixValue.lean ====
module

public import proofs.«01_k».proof.Proof.MixDat
public import proofs.«01_k».proof.Proof.MixColumns
public import Idealize.ShloMosaic.Lib.Pointwise
public import Idealize.ShloMosaic.Lib.IdealHost
public import Idealize.ShloMosaic.Lib.Pipeline.ValueKit
public import Idealize.ShloMosaic.PureOps.IdealRules

/-! The output projection's results over the extended reals: the normalised rows of the residual sum. -/

@[expose] public section
set_option maxRecDepth 16384
noncomputable section
namespace Cert.MixIdeal.Hand
open Cert.MixIdeal Cert.MixIdeal.Gen Idealize.ShloMosaic Idealize.ShloMosaic.TcCoe Idealize.SL.Sem Idealize.ShloMosaic.Pointwise Cert.MixRefIdeal.Columns
variable (m : (ℓ : Loc nD τ sig) → Buf (Elt Ideal) ℓ) (c : Dev nD)

/-! ## The arrays the call reads -/

theorem heads_a (r : Fin 16384) (k : Fin 2048) : V m c main_v2 (ix2 r k) = m ((c : Thread nD τ).loc main_arg0) (ix3 ⟨r.val / 2048, by omega⟩ ⟨r.val % 2048, by omega⟩ k) := by
  simp only [V, hostOps0, List.flatten_cons, List.flatten_nil, List.append_nil, List.cons_append, List.nil_append]
  after_results
  pointwise

theorem heads_b (r : Fin 16384) (k : Fin 2048) : V m c main_v3 (ix2 r k) = m ((c : Thread nD τ).loc main_arg1) (ix3 ⟨r.val / 2048, by omega⟩ ⟨r.val % 2048, by omega⟩ k) := by
  simp only [V, hostOps0, List.flatten_cons, List.flatten_nil, List.append_nil, List.cons_append, List.nil_append]
  after_results
  pointwise

theorem rows_at (r : Fin 16384) (k : Fin 4096) : V m c main_v4 (ix2 r k) = m ((c : Thread nD τ).loc main_arg2) (ix3 ⟨r.val / 2048, by omega⟩ ⟨r.val % 2048, by omega⟩ k) := by
  simp only [V, hostOps0, List.flatten_cons, List.flatten_nil, List.append_nil, List.cons_append, List.nil_append]
  after_results
  pointwise

theorem weights_at (k : Fin 4096) (n : Fin 4096) : V m c main_v1 (ix2 k n) = m ((c : Thread nD τ).loc main_arg3) (ix3 0 k n) := by
  simp only [V, hostOps0, List.flatten_cons, List.flatten_nil, List.append_nil, List.cons_append, List.nil_append]
  after_results
  pointwise

theorem gain_at (n : Fin 4096) : V m c main_v6 (ix2 0 n) = m ((c : Thread nD τ).loc main_arg4) (ix2 0 n) := by
  simp only [V, hostOps0, List.flatten_cons, List.flatten_nil, List.append_nil, List.cons_append, List.nil_append]
  after_results
  pointwise

theorem bias_at (n : Fin 4096) : V m c main_v8 (ix2 0 n) = m ((c : Thread nD τ).loc main_arg5) (ix2 0 n) := by
  simp only [V, hostOps0, List.flatten_cons, List.flatten_nil, List.append_nil, List.cons_append, List.nil_append]
  after_results
  pointwise

/-! ## The blocks -/

theorem N_at (t : Fin cfg0.N) : t.val < 256 := t.isLt.trans_eq (by decide +kernel)

theorem idx_0 : ∀ t : Fin cfg0.N, win0_0.index t = ![t.val / 8, 0] :=
  (by decide +kernel : ∀ t : Fin grid0.N, win0_0.index t = ![t.val / 8, 0])
theorem emb_0 (t : Fin cfg0.N) (y : S512x2048.Idx) (r : Fin 16384) (n : Fin 2048) (hr : r.val = (t.val / 8) * 512 + (y 0).val)
    (hn : n.val = (0) * 2048 + (y 1).val) : ((cfg0.win 0).blk t).view.emb y = (ix2 r n : S16384x2048.Idx) := by
  funext a
  apply Fin.ext
  refine (Pipeline.Window.rect_emb_val win0_0 t y a).trans ?_
  rw [idx_0 t]
  fin_cases a
  · exact hr.symm
  · exact hn.symm

theorem read_0 (X : Buf (Elt Ideal) ((c : Thread nD τ).loc main_v2)) (t : Fin cfg0.N) (p : Fin 512) (q : Fin 2048) (r : Fin 16384) (n : Fin 2048)
    (hr : r.val = (t.val / 8) * 512 + p.val) (hn : n.val = (0) * 2048 + q.val) :
    ((cfg0.win 0).blk t).view.read (Elt Ideal) X (ix2 p q) = X (ix2 r n) :=
  congrArg X (emb_0 t (ix2 p q) r n hr hn)
theorem block_0 (t : Fin cfg0.N) (p : Fin 512) (q : Fin 2048) (r : Fin 16384) (n : Fin 2048)
    (hr : r.val = (t.val / 8) * 512 + p.val) (hn : n.val = (0) * 2048 + q.val) :
    iblk m c 0 t (ix2 p q) = V m c main_v2 (ix2 r n) := by
  unfold iblk
  exact read_0 c (V m c main_v2) t p q r n hr hn

theorem idx_1 : ∀ t : Fin cfg0.N, win0_1.index t = ![t.val / 8, 0] :=
  (by decide +kernel : ∀ t : Fin grid0.N, win0_1.index t = ![t.val / 8, 0])
theorem emb_1 (t : Fin cfg0.N) (y : S512x2048.Idx) (r : Fin 16384) (n : Fin 2048) (hr : r.val = (t.val / 8) * 512 + (y 0).val)
    (hn : n.val = (0) * 2048 + (y 1).val) : ((cfg0.win 1).blk t).view.emb y = (ix2 r n : S16384x2048.Idx) := by
  funext a
  apply Fin.ext
  refine (Pipeline.Window.rect_emb_val win0_1 t y a).trans ?_
  rw [idx_1 t]
  fin_cases a
  · exact hr.symm
  · exact hn.symm

theorem read_1 (X : Buf (Elt Ideal) ((c : Thread nD τ).loc main_v3)) (t : Fin cfg0.N) (p : Fin 512) (q : Fin 2048) (r : Fin 16384) (n : Fin 2048)
    (hr : r.val = (t.val / 8) * 512 + p.val) (hn : n.val = (0) * 2048 + q.val) :
    ((cfg0.win 1).blk t).view.read (Elt Ideal) X (ix2 p q) = X (ix2 r n) :=
  congrArg X (emb_1 t (ix2 p q) r n hr hn)
theorem block_1 (t : Fin cfg0.N) (p : Fin 512) (q : Fin 2048) (r : Fin 16384) (n : Fin 2048)
    (hr : r.val = (t.val / 8) * 512 + p.val) (hn : n.val = (0) * 2048 + q.val) :
    iblk m c 1 t (ix2 p q) = V m c main_v3 (ix2 r n) := by
  unfold iblk
  exact read_1 c (V m c main_v3) t p q r n hr hn

theorem idx_2 : ∀ t : Fin cfg0.N, win0_2.index t = ![0, t.val % 8] :=
  (by decide +kernel : ∀ t : Fin grid0.N, win0_2.index t = ![0, t.val % 8])
theorem emb_2 (t : Fin cfg0.N) (y : S2048x512.Idx) (r : Fin 4096) (n : Fin 4096) (hr : r.val = (0) * 2048 + (y 0).val)
    (hn : n.val = (t.val % 8) * 512 + (y 1).val) : ((cfg0.win 2).blk t).view.emb y = (ix2 r n : S4096x4096.Idx) := by
  funext a
  apply Fin.ext
  refine (Pipeline.Window.rect_emb_val win0_2 t y a).trans ?_
  rw [idx_2 t]
  fin_cases a
  · exact hr.symm
  · exact hn.symm

theorem read_2 (X : Buf (Elt Ideal) ((c : Thread nD τ).loc main_v1)) (t : Fin cfg0.N) (p : Fin 2048) (q : Fin 512) (r : Fin 4096) (n : Fin 4096)
    (hr : r.val = (0) * 2048 + p.val) (hn : n.val = (t.val % 8) * 512 + q.val) :
    ((cfg0.win 2).blk t).view.read (Elt Ideal) X (ix2 p q) = X (ix2 r n) :=
  congrArg X (emb_2 t (ix2 p q) r n hr hn)
theorem block_2 (t : Fin cfg0.N) (p : Fin 2048) (q : Fin 512) (r : Fin 4096) (n : Fin 4096)
    (hr : r.val = (0) * 2048 + p.val) (hn : n.val = (t.val % 8) * 512 + q.val) :
    iblk m c 2 t (ix2 p q) = V m c main_v1 (ix2 r n) := by
  unfold iblk
  exact read_2 c (V m c main_v1) t p q r n hr hn

theorem idx_3 : ∀ t : Fin cfg0.N, win0_3.index t = ![1, t.val % 8] :=
  (by decide +kernel : ∀ t : Fin grid0.N, win0_3.index t = ![1, t.val % 8])
theorem emb_3 (t : Fin cfg0.N) (y : S2048x512.Idx) (r : Fin 4096) (n : Fin 4096) (hr : r.val = (1) * 2048 + (y 0).val)
    (hn : n.val = (t.val % 8) * 512 + (y 1).val) : ((cfg0.win 3).blk t).view.emb y = (ix2 r n : S4096x4096.Idx) := by
  funext a
  apply Fin.ext
  refine (Pipeline.Window.rect_emb_val win0_3 t y a).trans ?_
  rw [idx_3 t]
  fin_cases a
  · exact hr.symm
  · exact hn.symm

theorem read_3 (X : Buf (Elt Ideal) ((c : Thread nD τ).loc main_v1)) (t : Fin cfg0.N) (p : Fin 2048) (q : Fin 512) (r : Fin 4096) (n : Fin 4096)
    (hr : r.val = (1) * 2048 + p.val) (hn : n.val = (t.val % 8) * 512 + q.val) :
    ((cfg0.win 3).blk t).view.read (Elt Ideal) X (ix2 p q) = X (ix2 r n) :=
  congrArg X (emb_3 t (ix2 p q) r n hr hn)
theorem block_3 (t : Fin cfg0.N) (p : Fin 2048) (q : Fin 512) (r : Fin 4096) (n : Fin 4096)
    (hr : r.val = (1) * 2048 + p.val) (hn : n.val = (t.val % 8) * 512 + q.val) :
    iblk m c 3 t (ix2 p q) = V m c main_v1 (ix2 r n) := by
  unfold iblk
  exact read_3 c (V m c main_v1) t p q r n hr hn

theorem idx_4 : ∀ t : Fin cfg0.N, win0_4.index t = ![t.val / 8, t.val % 8] :=
  (by decide +kernel : ∀ t : Fin grid0.N, win0_4.index t = ![t.val / 8, t.val % 8])
theorem emb_4 (t : Fin cfg0.N) (y : S512x512.Idx) (r : Fin 16384) (n : Fin 4096) (hr : r.val = (t.val / 8) * 512 + (y 0).val)
    (hn : n.val = (t.val % 8) * 512 + (y 1).val) : ((cfg0.win 4).blk t).view.emb y = (ix2 r n : S16384x4096.Idx) := by
  funext a
  apply Fin.ext
  refine (Pipeline.Window.rect_emb_val win0_4 t y a).trans ?_
  rw [idx_4 t]
  fin_cases a
  · exact hr.symm
  · exact hn.symm

theorem read_4 (X : Buf (Elt Ideal) ((c : Thread nD τ).loc main_v4)) (t : Fin cfg0.N) (p : Fin 512) (q : Fin 512) (r : Fin 16384) (n : Fin 4096)
    (hr : r.val = (t.val / 8) * 512 + p.val) (hn : n.val = (t.val % 8) * 512 + q.val) :
    ((cfg0.win 4).blk t).view.read (Elt Ideal) X (ix2 p q) = X (ix2 r n) :=
  congrArg X (emb_4 t (ix2 p q) r n hr hn)
theorem block_4 (t : Fin cfg0.N) (p : Fin 512) (q : Fin 512) (r : Fin 16384) (n : Fin 4096)
    (hr : r.val = (t.val / 8) * 512 + p.val) (hn : n.val = (t.val % 8) * 512 + q.val) :
    iblk m c 4 t (ix2 p q) = V m c main_v4 (ix2 r n) := by
  unfold iblk
  exact read_4 c (V m c main_v4) t p q r n hr hn

theorem idx_5 : ∀ t : Fin cfg0.N, win0_5.index t = ![0, 0] :=
  (by decide +kernel : ∀ t : Fin grid0.N, win0_5.index t = ![0, 0])
theorem emb_5 (t : Fin cfg0.N) (y : S1x4096.Idx) (r : Fin 1) (n : Fin 4096) (hr : r.val = (0) * 1 + (y 0).val)
    (hn : n.val = (0) * 4096 + (y 1).val) : ((cfg0.win 5).blk t).view.emb y = (ix2 r n : S1x4096.Idx) := by
  funext a
  apply Fin.ext
  refine (Pipeline.Window.rect_emb_val win0_5 t y a).trans ?_
  rw [idx_5 t]
  fin_cases a
  · exact hr.symm
  · exact hn.symm

theorem read_5 (X : Buf (Elt Ideal) ((c : Thread nD τ).loc main_v6)) (t : Fin cfg0.N) (p : Fin 1) (q : Fin 4096) (r : Fin 1) (n : Fin 4096)
    (hr : r.val = (0) * 1 + p.val) (hn : n.val = (0) * 4096 + q.val) :
    ((cfg0.win 5).blk t).view.read (Elt Ideal) X (ix2 p q) = X (ix2 r n) :=
  congrArg X (emb_5 t (ix2 p q) r n hr hn)
theorem block_5 (t : Fin cfg0.N) (p : Fin 1) (q : Fin 4096) (r : Fin 1) (n : Fin 4096)
    (hr : r.val = (0) * 1 + p.val) (hn : n.val = (0) * 4096 + q.val) :
    iblk m c 5 t (ix2 p q) = V m c main_v6 (ix2 r n) := by
  unfold iblk
  exact read_5 c (V m c main_v6) t p q r n hr hn

theorem idx_6 : ∀ t : Fin cfg0.N, win0_6.index t = ![0, 0] :=
  (by decide +kernel : ∀ t : Fin grid0.N, win0_6.index t = ![0, 0])
theorem emb_6 (t : Fin cfg0.N) (y : S1x4096.Idx) (r : Fin 1) (n : Fin 4096) (hr : r.val = (0) * 1 + (y 0).val)
    (hn : n.val = (0) * 4096 + (y 1).val) : ((cfg0.win 6).blk t).view.emb y = (ix2 r n : S1x4096.Idx) := by
  funext a
  apply Fin.ext
  refine (Pipeline.Window.rect_emb_val win0_6 t y a).trans ?_
  rw [idx_6 t]
  fin_cases a
  · exact hr.symm
  · exact hn.symm

theorem read_6 (X : Buf (Elt Ideal) ((c : Thread nD τ).loc main_v8)) (t : Fin cfg0.N) (p : Fin 1) (q : Fin 4096) (r : Fin 1) (n : Fin 4096)
    (hr : r.val = (0) * 1 + p.val) (hn : n.val = (0) * 4096 + q.val) :
    ((cfg0.win 6).blk t).view.read (Elt Ideal) X (ix2 p q) = X (ix2 r n) :=
  congrArg X (emb_6 t (ix2 p q) r n hr hn)
theorem block_6 (t : Fin cfg0.N) (p : Fin 1) (q : Fin 4096) (r : Fin 1) (n : Fin 4096)
    (hr : r.val = (0) * 1 + p.val) (hn : n.val = (0) * 4096 + q.val) :
    iblk m c 6 t (ix2 p q) = V m c main_v8 (ix2 r n) := by
  unfold iblk
  exact read_6 c (V m c main_v8) t p q r n hr hn

theorem idx_7 : ∀ t : Fin cfg0.N, win0_7.index t = ![t.val / 8, 0] :=
  (by decide +kernel : ∀ t : Fin grid0.N, win0_7.index t = ![t.val / 8, 0])
theorem emb_7 (t : Fin cfg0.N) (y : S512x4096.Idx) (r : Fin 16384) (n : Fin 4096) (hr : r.val = (t.val / 8) * 512 + (y 0).val)
    (hn : n.val = (0) * 4096 + (y 1).val) : ((cfg0.win 7).blk t).view.emb y = (ix2 r n : S16384x4096.Idx) := by
  funext a
  apply Fin.ext
  refine (Pipeline.Window.rect_emb_val win0_7 t y a).trans ?_
  rw [idx_7 t]
  fin_cases a
  · exact hr.symm
  · exact hn.symm

theorem idx_8 : ∀ t : Fin cfg0.N, win0_8.index t = ![0, t.val / 8] :=
  (by decide +kernel : ∀ t : Fin grid0.N, win0_8.index t = ![0, t.val / 8])
theorem emb_8 (t : Fin cfg0.N) (y : S4096x512.Idx) (r : Fin 4096) (n : Fin 16384) (hr : r.val = (0) * 4096 + (y 0).val)
    (hn : n.val = (t.val / 8) * 512 + (y 1).val) : ((cfg0.win 8).blk t).view.emb y = (ix2 r n : S4096x16384.Idx) := by
  funext a
  apply Fin.ext
  refine (Pipeline.Window.rect_emb_val win0_8 t y a).trans ?_
  rw [idx_8 t]
  fin_cases a
  · exact hr.symm
  · exact hn.symm

/-! ## The row block -/

theorem pay5_at (X : Vec Ideal S32x4096 .f32) (g b : Vec Ideal S1x4096 .f32) (p : Fin 32) (n : Fin 4096) :
    k0_pay5 (F := Ideal) X g b (ix2 p n) = rowNorm (fun k => X (ix2 p k)) (fun k => g (ix2 0 k)) (fun k => b (ix2 0 k)) n := by
  unfold rowNorm mean
  pointwise [k0_pay5]

theorem pay1_at (x : Vec Ideal S512x512 .f32) (a e : Vec Ideal S512x2048 .bf16) (wa we : Vec Ideal S2048x512 .bf16) (p q : Fin 512) :
    k0_pay1 (F := Ideal) x a wa e we (ix2 p q) = Ideal.ofBits FTy.f32 0x3F9837F0#32 * x (ix2 p q)
      + ((∑ k : Fin 2048, (a (ix2 p k) : EReal) * wa (ix2 k q)) + ∑ k : Fin 2048, (e (ix2 p k) : EReal) * we (ix2 k q)) := by
  rw [← add_assoc]
  pointwise [k0_pay1]

theorem turned_at (X : Vec Ideal S512x4096 .f32) (q : Fin 4096) (p : Fin 512) : turned (F := Ideal) X (ix2 q p) = X (ix2 p q) := by
  pointwise [turned, k0_pay12]

theorem off2_at : ∀ k : Fin k0_t1_loop.trips, k0_off2 k 0 = 32 * k.val ∧ k0_off2 k 1 = 0 := by decide +kernel

theorem trip_in (Y : Vec Ideal S512x4096 .f32) (g b : Vec Ideal S1x4096 .f32) (k : Fin k0_t1_loop.trips) (p : Fin 512) (n : Fin 4096)
    (h0 : 32 * k.val ≤ p.val) (h1 : p.val < 32 * k.val + 32) :
    trip g b k Y (ix2 p n) = rowNorm (fun j => Y (ix2 p j)) (fun j => g (ix2 0 j)) (fun j => b (ix2 0 j)) n := by
  obtain ⟨o0, o1⟩ := off2_at k
  have hin : ∀ a, k0_off2 k a ≤ ((ix2 p n : S512x4096.Idx) a).val ∧ ((ix2 p n : S512x4096.Idx) a).val < k0_off2 k a + S32x4096.size a := by
    intro a
    match a with
    | ⟨0, _⟩ => exact ⟨by show k0_off2 k 0 ≤ p.val; omega, by show p.val < k0_off2 k 0 + 32; omega⟩
    | ⟨1, _⟩ => exact ⟨by show k0_off2 k 1 ≤ n.val; omega, by show n.val < k0_off2 k 1 + 4096; omega⟩
  unfold trip VecWindow.put
  rw [dif_pos hin]
  have ei : (fun a => ⟨((ix2 p n : S512x4096.Idx) a).val - k0_off2 k a, by have := hin a; omega⟩ : S32x4096.Idx) = ix2 ⟨p.val - 32 * k.val, by omega⟩ n := by
    funext a; apply Fin.ext
    match a with
    | ⟨0, _⟩ => show p.val - k0_off2 k 0 = p.val - 32 * k.val; omega
    | ⟨1, _⟩ => show n.val - k0_off2 k 1 = n.val; omega
  refine (congrArg (k0_pay5 _ g b) ei).trans ((pay5_at _ g b _ n).trans ?_)
  refine congrArg (rowNorm · _ _ n) (funext fun j => ?_)
  refine congrArg Y (funext fun a => Fin.ext ?_)
  match a with
  | ⟨0, _⟩ => show k0_off2 k 0 + 1 * (p.val - 32 * k.val) = p.val; omega
  | ⟨1, _⟩ => show k0_off2 k 1 + 1 * j.val = j.val; omega

theorem trip_out (Y : Vec Ideal S512x4096 .f32) (g b : Vec Ideal S1x4096 .f32) (k : Fin k0_t1_loop.trips) (p : Fin 512) (n : Fin 4096)
    (h : p.val < 32 * k.val ∨ 32 * k.val + 32 ≤ p.val) : trip g b k Y (ix2 p n) = Y (ix2 p n) := by
  obtain ⟨o0, _⟩ := off2_at k
  unfold trip VecWindow.put
  rw [dif_neg]
  intro hin
  have h2 : k0_off2 k 0 ≤ p.val := (hin 0).1
  have h3 : p.val < k0_off2 k 0 + 32 := (hin 0).2
  omega

/-- The rows a count of trips has reached are normalised, the others as they were. -/
theorem trips_at (X : Vec Ideal S512x4096 .f32) (g b : Vec Ideal S1x4096 .f32) (k : ℕ) (hk : k ≤ 16) (p : Fin 512) (n : Fin 4096) :
    trips X g b k (ix2 p n) = if p.val < 32 * k then rowNorm (fun j => X (ix2 p j)) (fun j => g (ix2 0 j)) (fun j => b (ix2 0 j)) n else X (ix2 p n) := by
  induction k generalizing n with
  | zero => rw [if_neg (by omega)]; rfl
  | succ k ih =>
    have e16 : k0_t1_loop.trips = 16 := by decide +kernel
    have hs := congrFun (trips_succ X g b ⟨k, by omega⟩) (ix2 p n)
    refine hs.trans ?_
    by_cases h : 32 * k ≤ p.val ∧ p.val < 32 * k + 32
    · rw [trip_in _ g b ⟨k, _⟩ p n h.1 h.2, if_pos (by omega)]
      refine congrArg (rowNorm · _ _ n) (funext fun j => ?_)
      exact (ih (by omega) j).trans (if_neg (by omega))
    · rw [trip_out _ g b ⟨k, _⟩ p n (by show p.val < 32 * k ∨ 32 * k + 32 ≤ p.val; omega)]
      refine (ih (by omega) n).trans ?_
      by_cases h2 : p.val < 32 * k
      · rw [if_pos h2, if_pos (by omega)]
      · rw [if_neg h2, if_neg (by omega)]

/-- A point's products are the residual sum at its rows and columns. -/
theorem cols_at (t : Fin cfg0.N) (p q : Fin 512) (r : Fin 16384) (n : Fin 4096) (hr : r.val = t.val / 8 * 512 + p.val) (hn : n.val = t.val % 8 * 512 + q.val) :
    Cols m c t (ix2 p q) = mixed (m ((c : Thread nD τ).loc main_arg0)) (m ((c : Thread nD τ).loc main_arg1)) (m ((c : Thread nD τ).loc main_arg2)) (m ((c : Thread nD τ).loc main_arg3)) r n := by
  unfold Cols mixed
  refine (pay1_at _ _ _ _ _ p q).trans ?_
  refine congrArg₂ (· + ·) (congrArg _ ((block_4 m c t p q r n hr hn).trans (rows_at m c r n))) (congrArg₂ (· + ·) (Finset.sum_congr rfl fun k _ => ?_) (Finset.sum_congr rfl fun k _ => ?_))
  · exact congrArg₂ (· * ·) ((block_0 m c t p k r k hr (by omega)).trans (heads_a m c r k)) ((block_2 m c t k q ⟨k.val, by omega⟩ n (by dsimp only; omega) hn).trans (weights_at m c _ n))
  · exact congrArg₂ (· * ·) ((block_1 m c t p k r k hr (by omega)).trans (heads_b m c r k)) ((block_3 m c t k q ⟨2048 + k.val, by omega⟩ n (by dsimp only) hn).trans (weights_at m c _ n))

theorem full_at (t : Fin cfg0.N) (p : Fin 512) (n : Fin 4096) (r : Fin 16384) (hr : r.val = t.val / 8 * 512 + p.val) :
    Full m c t (ix2 p n) = mixed (m ((c : Thread nD τ).loc main_arg0)) (m ((c : Thread nD τ).loc main_arg1)) (m ((c : Thread nD τ).loc main_arg2)) (m ((c : Thread nD τ).loc main_arg3)) r n := by
  unfold Full
  refine cols_at m c (sib t (n.val / 512) (by omega)) p ⟨n.val % 512, by omega⟩ r n ?_ ?_
  · rw [hr]; show t.val / 8 * 512 + p.val = (t.val - t.val % 8 + n.val / 512) / 8 * 512 + p.val; omega
  · show n.val = (t.val - t.val % 8 + n.val / 512) % 8 * 512 + n.val % 512; omega

theorem normed_at (t : Fin cfg0.N) (p : Fin 512) (n : Fin 4096) (r : Fin 16384) (hr : r.val = t.val / 8 * 512 + p.val) :
    Normed m c t (ix2 p n) = rowNorm (mixed (m ((c : Thread nD τ).loc main_arg0)) (m ((c : Thread nD τ).loc main_arg1)) (m ((c : Thread nD τ).loc main_arg2)) (m ((c : Thread nD τ).loc main_arg3)) r) (fun k => m ((c : Thread nD τ).loc main_arg4) (ix2 0 k)) (fun k => m ((c : Thread nD τ).loc main_arg5) (ix2 0 k)) n := by
  unfold Normed
  refine (trips_at _ _ _ 16 (le_refl 16) p n).trans ((if_pos (by omega)).trans ?_)
  have h1 : (fun j => Full m c t (ix2 p j)) = mixed (m ((c : Thread nD τ).loc main_arg0)) (m ((c : Thread nD τ).loc main_arg1)) (m ((c : Thread nD τ).loc main_arg2)) (m ((c : Thread nD τ).loc main_arg3)) r := funext fun j => full_at m c t p j r hr
  have h2 : (fun j => iblk m c 5 t (ix2 0 j)) = fun k => m ((c : Thread nD τ).loc main_arg4) (ix2 0 k) := funext fun j => (block_5 m c t 0 j 0 j rfl (by omega)).trans (gain_at m c j)
  have h3 : (fun j => iblk m c 6 t (ix2 0 j)) = fun k => m ((c : Thread nD τ).loc main_arg5) (ix2 0 k) := funext fun j => (block_6 m c t 0 j 0 j rfl (by omega)).trans (bias_at m c j)
  exact (congrArg (rowNorm · _ _ n) h1).trans ((congrArg (rowNorm _ · _ n) h2).trans (congrArg (rowNorm _ _ · n) h3))

/-! ## The results -/

theorem arr_7 : (dats m 0 c).arrAt 7 cfg0.N = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Pipeline.Dat.arrAt_eq_of_covers (dats m 0 c) 7 (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (by decide +kernel) fun t hf => fun y => ?_
  have hN := N_at t
  have y0 : (y 0).val < 512 := (y 0).isLt
  have ey : y = (ix2 (y 0) (y 1) : S512x4096.Idx) := eq_ix2 (y : S512x4096.Idx)
  rw [emb_7 t y ⟨t.val / 8 * 512 + (y 0).val, by omega⟩ (y 1) rfl (by omega), after_7]
  exact (congrArg (Normed m c t) ey).trans (normed_at m c t (y 0) (y 1) _ rfl)

theorem arr_8 : (dats m 0 c).arrAt 8 cfg0.N = hidT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Pipeline.Dat.arrAt_eq_of_covers (dats m 0 c) 8 (hidT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (by decide +kernel) fun t hf => fun y => ?_
  have hN := N_at t
  have y1 : (y 1).val < 512 := (y 1).isLt
  have ey : y = (ix2 (y 0) (y 1) : S4096x512.Idx) := eq_ix2 (y : S4096x512.Idx)
  rw [emb_8 t y (y 0) ⟨t.val / 8 * 512 + (y 1).val, by omega⟩ (by omega) rfl, after_8]
  exact (congrArg (turned (Normed m c t)) ey).trans ((turned_at _ (y 0) (y 1)).trans (normed_at m c t (y 1) (y 0) _ rfl))

/-- Every run ends with the normalised rows in the results. -/
theorem run_rows (ρ : Dev nD → PrngReg) :
    θ_run defs (onTc (τ := τ) (Cert.MixIdeal.main (F := Ideal))) ⟨m, fun _ => 0, ρ⟩ fun r => ∀ c : Dev nD,
      r.2.mem ((c.tc : Thread nD τ).loc main_v9_0) = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v9_1) = hidT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1.1 c).1 7).trans (arr_7 m c), ((h.1.1 c).1 8).trans (arr_8 m c), h.2.1 c⟩)
    (θ_run_and (run m ρ) (frame m ρ))

end Cert.MixIdeal.Hand
-- ==== Proof.MixSRun.lean ====
module

public import proofs.«01_k».proof.Proof.Gen.MixSIdeal.Launch
public import proofs.«01_k».proof.Proof.Gen.MixSIdeal.Skeleton
public import proofs.«01_k».proof.Proof.Gen.MixSIdeal.Points
public import proofs.«01_k».proof.Proof.Gen.MixSIdeal.Frame
public import Idealize.ShloMosaic.Lib.VecWindow
public import Idealize.ShloMosaic.Lib.Pointwise

@[expose] public section

set_option maxRecDepth 65536

noncomputable section

namespace Cert.MixSIdeal.Hand

open Cert.MixSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the output projection's call: the product of a column block is stored into the rows' block; at the last
    column block the rows are normalised, 32 at a trip, and their transpose is stored piece by piece. -/

/-- A load of a whole operand held at the contents that read `X` reads `X`. -/
theorem load_all {sp : Space} {s : Shape} {e : EltTy} {M : Memref sig Kind.tc sp s e} (h : M.IsWhole) (X : s.Idx → Elt F e)
    {off : Fin s.rank → ℕ} (inb : ∀ a, off a + s.size a ≤ s.size a) :
    View.readAt (Elt F) M.view (Rect.unit off s.size inb).toLoadRect (h.unread X) = X := by
  rw [View.readAt_full, h.read_unread]

/-- A load of a part of such an operand reads that window of `X`. -/
theorem load_part {sp : Space} {s : Shape} {e : EltTy} {M : Memref sig Kind.tc sp s e} (h : M.IsWhole) (X : s.Idx → Elt F e)
    {off size : Fin s.rank → ℕ} (inb : ∀ a, off a + size a ≤ s.size a) :
    View.readAt (Elt F) M.view (Rect.unit off size inb).toLoadRect (h.unread X) = VecWindow.window X off size inb := by
  rw [View.readAt_unit _ _ inb rfl inb, h.read_unread]

theorem pay1_congr {x x' : Vec F S512x512 .f32} {a a' e e' : Vec F S512x2048 .bf16} {wa wa' we we' : Vec F S2048x512 .bf16}
    (hx : x = x') (ha : a = a') (hwa : wa = wa') (he : e = e') (hwe : we = we') : k0_pay1 x a wa e we = k0_pay1 x' a' wa' e' we' := by
  subst hx ha hwa he hwe; rfl

theorem pay5_congr {X X' : Vec F S32x4096 .f32} {g g' b b' : Vec F S1x4096 .f32} (hX : X = X') (hg : g = g') (hb : b = b') :
    k0_pay5 X g b = k0_pay5 X' g' b' := by
  subst hX hg hb; rfl

theorem put_congr {s : Shape} {α : Type} {X X' : s.Idx → α} (off size : Fin s.rank → ℕ) {w w' : ((a : Fin s.rank) → Fin (size a)) → α} (hX : X = X') (hw : w = w') :
    VecWindow.put X off size w = VecWindow.put X' off size w' := by
  subst hX hw; rfl

theorem rows_inb (k : Fin k0_t1_loop.trips) : ∀ a, k0_off2 k a + S32x4096.size a ≤ S512x4096.size a := by
  revert k; decide +kernel

/-- The rows' block after one trip. -/
def trip (g b : Vec F S1x4096 .f32) (k : Fin k0_t1_loop.trips) (X : Vec F S512x4096 .f32) : Vec F S512x4096 .f32 :=
  VecWindow.put X (k0_off2 k) S32x4096.size (k0_pay5 (VecWindow.window X (k0_off2 k) S32x4096.size (rows_inb k)) g b)

/-- The rows' block after `k` trips. -/
def trips (X : Vec F S512x4096 .f32) (g b : Vec F S1x4096 .f32) : ℕ → Vec F S512x4096 .f32
  | 0 => X
  | k + 1 => if h : k < k0_t1_loop.trips then trip g b ⟨k, h⟩ (trips X g b k) else trips X g b k

theorem trips_succ (X : Vec F S512x4096 .f32) (g b : Vec F S1x4096 .f32) (k : Fin k0_t1_loop.trips) :
    trips X g b (k.val + 1) = trip g b k (trips X g b k.val) := by
  show (if h : k.val < k0_t1_loop.trips then trip g b ⟨k.val, h⟩ (trips X g b k.val) else trips X g b k.val) = _
  rw [dif_pos k.isLt]

/-- The rows' block with a column block's products stored. -/
def placed (i : grid0.Coords) (a e : Vec F S512x2048 .bf16) (wa we : Vec F S2048x512 .bf16) (x : Vec F S512x512 .f32) (o : Vec F S512x4096 .f32) : Vec F S512x4096 .f32 :=
  VecWindow.put o (k0_off1 i) S512x512.size (k0_pay1 x a wa e we)

/-- The transposed rows, rounded: each element is the rounding of one element. -/
def turned (X : Vec F S512x4096 .f32) : Vec F S4096x512 .bf16 :=
  fun y => k0_pay12 (fun _ => X (ix2 (y 1) (y 0))) (ix2 0 0)

set_option maxHeartbeats 4000000 in
/-- Not the last column block. -/
theorem stepA (c : Dev nD) (i : grid0.Coords) (Ma : Memref sig .tc .vmem S512x2048 .bf16) (ha : Ma.IsWhole) (Me : Memref sig .tc .vmem S512x2048 .bf16) (he : Me.IsWhole) (Mwa : Memref sig .tc .vmem S2048x512 .bf16) (hwa : Mwa.IsWhole) (Mwe : Memref sig .tc .vmem S2048x512 .bf16) (hwe : Mwe.IsWhole) (Mx : Memref sig .tc .vmem S512x512 .f32) (hx : Mx.IsWhole) (Mg : Memref sig .tc .vmem S1x4096 .f32) (hg : Mg.IsWhole) (Mb : Memref sig .tc .vmem S1x4096 .f32) (hb : Mb.IsWhole) (Mo : Memref sig .tc .vmem S512x4096 .f32) (ho : Mo.IsWhole) (Mt : Memref sig .tc .vmem S4096x512 .bf16) (ht : Mt.IsWhole)
    (hc : ¬ k0_cond1 i = 1#1)
    (a : Vec F S512x2048 .bf16) (e : Vec F S512x2048 .bf16) (wa : Vec F S2048x512 .bf16) (we : Vec F S2048x512 .bf16) (x : Vec F S512x512 .f32) (g : Vec F S1x4096 .f32) (b : Vec F S1x4096 .f32) (o : Vec F S512x4096 .f32) (t : Vec F S4096x512 .bf16) (E : Set ℕ) (K : PUnit → sProp 𝕄) :
    iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (o) ∗ owns (c : Thread nD τ) Mt fullShare (t)
      ∗ (iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (placed i a e wa we x o) ∗ owns (c : Thread nD τ) Mt fullShare (t)) -∗ K ⟨⟩))
    ⊢ wp frame (wpE (defs₀ (F := F)) Variants.none c none) E (cc0_outproj i Ma ha Me he Mwa hwa Mwe hwe Mx hx Mg hg Mb hb Mo ho Mt ht) K := by
  simp only [cc0_outproj_eq_skeleton]; unfold cc0_outproj_skel
  unfold owns
  iintro ⟨⟨%fa, %ea, Ha⟩, ⟨%fe, %ee, He⟩, ⟨%fwa, %ewa, Hwa⟩, ⟨%fwe, %ewe, Hwe⟩, ⟨%fx, %ex, Hx⟩, ⟨%fg, %eg, Hg⟩, ⟨%fb, %eb, Hb⟩, ⟨%fo, %eo, Ho⟩, ⟨%ft, %et, Ht⟩, Hk⟩
  obtain rfl := ha.eq_unread ea; obtain rfl := he.eq_unread ee; obtain rfl := hwa.eq_unread ewa; obtain rfl := hwe.eq_unread ewe; obtain rfl := hx.eq_unread ex; obtain rfl := hg.eq_unread eg; obtain rfl := hb.eq_unread eb; obtain rfl := ho.eq_unread eo; obtain rfl := ht.eq_unread et
  sl_exec (disch := first | sl_exact hc)
  sl_step
  iapply Hk
  isplitl [Ha]
  · iexists _; isplitr; swap; · iexact Ha
    ipureintro; exact ha.read_unread _
  isplitl [He]
  · iexists _; isplitr; swap; · iexact He
    ipureintro; exact he.read_unread _
  isplitl [Hwa]
  · iexists _; isplitr; swap; · iexact Hwa
    ipureintro; exact hwa.read_unread _
  isplitl [Hwe]
  · iexists _; isplitr; swap; · iexact Hwe
    ipureintro; exact hwe.read_unread _
  isplitl [Hx]
  · iexists _; isplitr; swap; · iexact Hx
    ipureintro; exact hx.read_unread _
  isplitl [Hg]
  · iexists _; isplitr; swap; · iexact Hg
    ipureintro; exact hg.read_unread _
  isplitl [Hb]
  · iexists _; isplitr; swap; · iexact Hb
    ipureintro; exact hb.read_unread _
  isplitl [Ho]
  · iexists _; isplitr; swap; · iexact Ho
    ipureintro;
    refine (View.read_writes_cons_put _ _ _ _ _ rfl).trans ?_
    unfold placed
    exact put_congr _ _ (ho.read_unread _)
      (pay1_congr (load_all hx _ _) (load_all ha _ _) (load_all hwa _ _) (load_all he _ _) (load_all hwe _ _))
  iexists _; isplitr; swap; · iexact Ht
  ipureintro; exact ht.read_unread _

theorem turn_one (v : Vec F S128x512 .f32) (x : S512x128.Idx) : k0_pay12 v x = k0_pay12 (fun _ => v (ix2 (x 1) (x 0))) (ix2 0 0) := by
  unfold k0_pay12
  refine congrArg (fun r : F .f32 => (truncf .bf16 (fun _ => r : FVec F S512x128 .f32) bitsLt_bf16_f32) x) ?_
  show v _ = v _
  refine congrArg v (funext fun a => ?_)
  match a with
  | ⟨0, _⟩ => rfl
  | ⟨1, _⟩ => rfl

/-- One transposed piece is its part of the whole transpose. -/
theorem piece {M : Memref sig .tc .vmem S512x4096 .f32} (h : M.IsWhole) (X : Vec F S512x4096 .f32) (p q : ℕ)
    (inb : ∀ a, (![p, q] : Fin 2 → ℕ) a + S128x512.size a ≤ S512x4096.size a) (inb' : ∀ a, (![q, p] : Fin 2 → ℕ) a + S512x128.size a ≤ S4096x512.size a) (x : S512x128.Idx) :
    k0_pay12 (k0_pay11 (View.readAt (Elt F) M.view (Rect.unit (s := S512x4096) ![p, q] S128x512.size inb).toLoadRect (h.unread X))) x
      = turned X ((Rect.unit (s := S4096x512) ![q, p] S512x128.size inb').emb x) := by
  rw [turn_one]
  unfold turned
  refine congrArg (fun r : F .f32 => k0_pay12 (fun _ => r) (ix2 0 0)) ?_
  unfold k0_pay11
  rw [shapeCast_id, load_part]
  refine congrArg X (funext fun a => Fin.ext ?_)
  match a with
  | ⟨0, _⟩ => rfl
  | ⟨1, _⟩ => rfl

set_option maxHeartbeats 1000000 in
/-- One trip. -/
theorem trip_run (c : Dev nD) (i : grid0.Coords) (Ma : Memref sig .tc .vmem S512x2048 .bf16) (ha : Ma.IsWhole) (Me : Memref sig .tc .vmem S512x2048 .bf16) (he : Me.IsWhole) (Mwa : Memref sig .tc .vmem S2048x512 .bf16) (hwa : Mwa.IsWhole) (Mwe : Memref sig .tc .vmem S2048x512 .bf16) (hwe : Mwe.IsWhole) (Mx : Memref sig .tc .vmem S512x512 .f32) (hx : Mx.IsWhole) (Mg : Memref sig .tc .vmem S1x4096 .f32) (hg : Mg.IsWhole) (Mb : Memref sig .tc .vmem S1x4096 .f32) (hb : Mb.IsWhole) (Mo : Memref sig .tc .vmem S512x4096 .f32) (ho : Mo.IsWhole) (Mt : Memref sig .tc .vmem S4096x512 .bf16) (ht : Mt.IsWhole)
    (hc : k0_cond1 i = 1#1) (k : Fin k0_t1_loop.trips) (g b : Vec F S1x4096 .f32) (X : Vec F S512x4096 .f32) (E : Set ℕ) (K : Unit → sProp 𝕄) :
    iprop(owns (c : Thread nD τ) Mg fullShare g ∗ owns (c : Thread nD τ) Mb fullShare b ∗ owns (c : Thread nD τ) Mo fullShare X
      ∗ (iprop(owns (c : Thread nD τ) Mg fullShare g ∗ owns (c : Thread nD τ) Mb fullShare b ∗ owns (c : Thread nD τ) Mo fullShare (trip g b k X)) -∗ K ⟨⟩))
    ⊢ wp frame (wpE (defs₀ (F := F)) Variants.none c none) E (k0_t1_body i Ma ha Me he Mwa hwa Mwe hwe Mx hx Mg hg Mb hb Mo ho Mt ht hc k ⟨⟩) K := by
  unfold k0_t1_body
  unfold owns
  iintro ⟨⟨%fg, %eg, Hg⟩, ⟨%fb, %eb, Hb⟩, ⟨%fo, %eo, Ho⟩, Hk⟩
  obtain rfl := hg.eq_unread eg; obtain rfl := hb.eq_unread eb; obtain rfl := ho.eq_unread eo
  sl_exec
  sl_step
  iapply Hk
  isplitl [Hg]
  · iexists _; isplitr; swap; · iexact Hg
    ipureintro; exact hg.read_unread _
  isplitl [Hb]
  · iexists _; isplitr; swap; · iexact Hb
    ipureintro; exact hb.read_unread _
  iexists _; isplitr; swap; · iexact Ho
  ipureintro;
  refine (View.read_writes_cons_put _ _ _ _ _ rfl).trans ?_
  unfold trip
  exact put_congr _ _ (ho.read_unread _)
    (pay5_congr (load_part ho _ _) (load_all hg _ _) (load_all hb _ _))

set_option maxHeartbeats 4000000 in
/-- The last column block. -/
theorem stepB (c : Dev nD) (i : grid0.Coords) (Ma : Memref sig .tc .vmem S512x2048 .bf16) (ha : Ma.IsWhole) (Me : Memref sig .tc .vmem S512x2048 .bf16) (he : Me.IsWhole) (Mwa : Memref sig .tc .vmem S2048x512 .bf16) (hwa : Mwa.IsWhole) (Mwe : Memref sig .tc .vmem S2048x512 .bf16) (hwe : Mwe.IsWhole) (Mx : Memref sig .tc .vmem S512x512 .f32) (hx : Mx.IsWhole) (Mg : Memref sig .tc .vmem S1x4096 .f32) (hg : Mg.IsWhole) (Mb : Memref sig .tc .vmem S1x4096 .f32) (hb : Mb.IsWhole) (Mo : Memref sig .tc .vmem S512x4096 .f32) (ho : Mo.IsWhole) (Mt : Memref sig .tc .vmem S4096x512 .bf16) (ht : Mt.IsWhole)
    (hc : k0_cond1 i = 1#1)
    (a : Vec F S512x2048 .bf16) (e : Vec F S512x2048 .bf16) (wa : Vec F S2048x512 .bf16) (we : Vec F S2048x512 .bf16) (x : Vec F S512x512 .f32) (g : Vec F S1x4096 .f32) (b : Vec F S1x4096 .f32) (o : Vec F S512x4096 .f32) (t : Vec F S4096x512 .bf16) (E : Set ℕ) (K : PUnit → sProp 𝕄) :
    iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (o) ∗ owns (c : Thread nD τ) Mt fullShare (t)
      ∗ (iprop(owns (c : Thread nD τ) Ma fullShare (a) ∗ owns (c : Thread nD τ) Me fullShare (e) ∗ owns (c : Thread nD τ) Mwa fullShare (wa) ∗ owns (c : Thread nD τ) Mwe fullShare (we) ∗ owns (c : Thread nD τ) Mx fullShare (x) ∗ owns (c : Thread nD τ) Mg fullShare (g) ∗ owns (c : Thread nD τ) Mb fullShare (b) ∗ owns (c : Thread nD τ) Mo fullShare (trips (placed i a e wa we x o) g b 16) ∗ owns (c : Thread nD τ) Mt fullShare (turned (trips (placed i a e wa we x o) g b 16))) -∗ K ⟨⟩))
    ⊢ wp frame (wpE (defs₀ (F := F)) Variants.none c none) E (cc0_outproj i Ma ha Me he Mwa hwa Mwe hwe Mx hx Mg hg Mb hb Mo ho Mt ht) K := by
  simp only [cc0_outproj_eq_skeleton]; unfold cc0_outproj_skel
  unfold owns
  iintro ⟨⟨%fa, %ea, Ha⟩, ⟨%fe, %ee, He⟩, ⟨%fwa, %ewa, Hwa⟩, ⟨%fwe, %ewe, Hwe⟩, ⟨%fx, %ex, Hx⟩, ⟨%fg, %eg, Hg⟩, ⟨%fb, %eb, Hb⟩, ⟨%fo, %eo, Ho⟩, ⟨%ft, %et, Ht⟩, Hk⟩
  obtain rfl := ha.eq_unread ea; obtain rfl := he.eq_unread ee; obtain rfl := hwa.eq_unread ewa; obtain rfl := hwe.eq_unread ewe; obtain rfl := hx.eq_unread ex; obtain rfl := hg.eq_unread eg; obtain rfl := hb.eq_unread eb; obtain rfl := ho.eq_unread eo; obtain rfl := ht.eq_unread et
  sl_exec (disch := first | sl_exact hc)
  iapply (Scf.wp_for_bind (M := 𝕄) _ _ _ _ _ _ _ _ _ (fun k (_ : Unit) => iprop(owns (c : Thread nD τ) Mg fullShare g ∗ owns (c : Thread nD τ) Mb fullShare b ∗ owns (c : Thread nD τ) Mo fullShare (trips (placed i a e wa we x o) g b k))) ?hbody) $$ [Hg Hb Ho]
  case hbody =>
    intro k acc
    obtain rfl : acc = ⟨⟩ := rfl
    iintro ⟨Hg, Hb, Ho⟩
    iapply (trip_run c i Ma ha Me he Mwa hwa Mwe hwe Mx hx Mg hg Mb hb Mo ho Mt ht hc k g b _ E _)
    isplitl [Hg]; · iexact Hg
    isplitl [Hb]; · iexact Hb
    isplitl [Ho]; · iexact Ho
    iintro ⟨Hg, Hb, Ho⟩
    isplitl [Hg]; · iexact Hg
    isplitl [Hb]; · iexact Hb
    rw [trips_succ]; iexact Ho
  · isplitl [Hg]
    · unfold owns; iexists _; isplitr; swap; · iexact Hg
      ipureintro; exact hg.read_unread _
    isplitl [Hb]
    · unfold owns; iexists _; isplitr; swap; · iexact Hb
      ipureintro; exact hb.read_unread _
    unfold owns; iexists _; isplitr; swap; · iexact Ho
    ipureintro
    show _ = placed i a e wa we x o
    refine (View.read_writes_cons_put _ _ _ _ _ rfl).trans ?_
    unfold placed
    exact put_congr _ _ (ho.read_unread _)
      (pay1_congr (load_all hx _ _) (load_all ha _ _) (load_all hwa _ _) (load_all he _ _) (load_all hwe _ _))
  iintro %acc ⟨Hg, Hb, Ho⟩
  rw [show Scf.trips _ _ _ = 16 from by decide +kernel]
  generalize trips (placed i a e wa we x o) g b 16 = X
  unfold owns
  icases Hg with ⟨%fg, %eg, Hg⟩
  icases Hb with ⟨%fb, %eb, Hb⟩
  icases Ho with ⟨%fo, %eo, Ho⟩
  obtain rfl := hg.eq_unread eg; obtain rfl := hb.eq_unread eb; obtain rfl := ho.eq_unread eo
  sl_exec (disch := first | sl_exact hc)
  sl_step
  iapply Hk
  isplitl [Ha]
  · iexists _; isplitr; swap; · iexact Ha
    ipureintro; exact ha.read_unread _
  isplitl [He]
  · iexists _; isplitr; swap; · iexact He
    ipureintro; exact he.read_unread _
  isplitl [Hwa]
  · iexists _; isplitr; swap; · iexact Hwa
    ipureintro; exact hwa.read_unread _
  isplitl [Hwe]
  · iexists _; isplitr; swap; · iexact Hwe
    ipureintro; exact hwe.read_unread _
  isplitl [Hx]
  · iexists _; isplitr; swap; · iexact Hx
    ipureintro; exact hx.read_unread _
  isplitl [Hg]
  · iexists _; isplitr; swap; · iexact Hg
    ipureintro; exact hg.read_unread _
  isplitl [Hb]
  · iexists _; isplitr; swap; · iexact Hb
    ipureintro; exact hb.read_unread _
  isplitl [Ho]
  · iexists _; isplitr; swap; · iexact Ho
    ipureintro; exact ho.read_unread _
  iexists _; isplitr; swap; · iexact Ht
  ipureintro;
  funext y
  refine View.read_writes_apply_of_pieces _ _ _ _ ?_ y (View.cover_of_tiledL _ ![512, 128] rfl y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals exact piece ho X _ _ _ _

end Cert.MixSIdeal.Hand

end
-- ==== Proof.MixSDat.lean ====
module

public import proofs.«01_k».proof.Proof.MixSRun
public import Idealize.ShloMosaic.Lib.Claim
public import Idealize.ShloMosaic.Lib.Pipeline.DatRel
public import Idealize.ShloMosaic.Lib.Pipeline.ArrRel

@[expose] public section

set_option maxRecDepth 16384

noncomputable section

namespace Cert.MixSIdeal.Hand

open Cert.MixSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point

Eight points make one block of rows. Each stores its 512 columns of it; what the others' columns hold before they are
stored is not known, so of the block between two points only a relation is stated. -/

/-- The point of `t`'s row block at which column block `j` is met. -/
def sib (t : Fin cfg0.N) (j : ℕ) (h : j < 8) : Fin cfg0.N := ⟨t.val - t.val % 8 + j, by
  have ht := t.isLt
  have e : cfg0.N = 8 := by decide +kernel
  omega⟩

/-- The columns' products at a point. -/
def Cols (c : Dev nD) (t : Fin cfg0.N) : Vec F S512x512 .f32 :=
  k0_pay1 (iblk m c 4 t) (iblk m c 0 t) (iblk m c 2 t) (iblk m c 1 t) (iblk m c 3 t)

/-- The whole row block before it is normalised. -/
def Full (c : Dev nD) (t : Fin cfg0.N) : Vec F S512x4096 .f32 :=
  fun y => Cols m c (sib t ((y 1).val / 512) (by have h : (y 1).val < 4096 := (y 1).isLt; omega)) (ix2 (y 0) ⟨(y 1).val % 512, by omega⟩)

/-- The row block normalised. -/
def Normed (c : Dev nD) (t : Fin cfg0.N) : Vec F S512x4096 .f32 := trips (Full m c t) (iblk m c 5 t) (iblk m c 6 t) 16

/-- The row block between two points: the columns met so far. -/
def upTo (c : Dev nD) (t : Fin cfg0.N) (n : ℕ) (X : Vec F S512x4096 .f32) : Prop :=
  ∀ y : S512x4096.Idx, (y 1).val < n * 512 → X y = Full m c t y

/-- The proof data, exact where a block is read or written back. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Normed m c t
    | ⟨8, _⟩ => turned (Normed m c t)
  Φ _ := Pipeline.ΦA spec0 c
  q := Pipeline.shareOf cfg0.spec
  owed _ := 0

/-- The two results' blocks are held to a relation. -/
def loose (w : Fin cfg0.W) : Bool := match w with
  | ⟨7, _⟩ => true
  | ⟨8, _⟩ => true
  | _ => false

def Rel (c : Dev nD) (w : Fin cfg0.W) (t : Fin cfg0.N) : ((cfg0.win w).block.Idx → Elt F (cfg0.win w).elt) → Prop := match w with
  | ⟨7, _⟩ => fun X => (t.val % 8 < 7 → upTo m c t (t.val % 8 + 1) X) ∧ (t.val % 8 = 7 → X = Normed m c t)
  | ⟨8, _⟩ => fun X => t.val % 8 = 7 → X = turned (Normed m c t)
  | _ => fun _ => True

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = Normed m c t := by dsimp only [dats]
theorem after_8 (c : Dev nD) (t : Fin cfg0.N) : (dats m 0 c).after 8 t = turned (Normed m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem sib_same (t t' : Fin cfg0.N) (h : t'.val + 1 = t.val) (hj : t.val % 8 ≠ 0) (j : ℕ) (hj' : j < 8) : sib t j hj' = sib t' j hj' := by
  apply Fin.ext; unfold sib; dsimp only; omega

theorem Full_same (c : Dev nD) (t t' : Fin cfg0.N) (h : t'.val + 1 = t.val) (hj : t.val % 8 ≠ 0) : Full m c t = Full m c t' := by
  funext y; unfold Full; rw [sib_same t t' h hj]

theorem last_iff : ∀ t : Fin cfg0.N, k0_cond1 (grid0.coords t) = 1#1 ↔ t.val % 8 = 7 :=
  (by decide +kernel : ∀ t : Fin grid0.N, k0_cond1 (grid0.coords t) = 1#1 ↔ t.val % 8 = 7)
theorem off_0 : ∀ t : Fin cfg0.N, k0_off1 (grid0.coords t) 0 = 0 :=
  (by decide +kernel : ∀ t : Fin grid0.N, k0_off1 (grid0.coords t) 0 = 0)
theorem off_1 : ∀ t : Fin cfg0.N, k0_off1 (grid0.coords t) 1 = t.val % 8 * 512 :=
  (by decide +kernel : ∀ t : Fin grid0.N, k0_off1 (grid0.coords t) 1 = t.val % 8 * 512)

/-- Storing a point's columns adds them to those met. -/
theorem upTo_placed (c : Dev nD) (t : Fin cfg0.N) (o : Vec F S512x4096 .f32) (ho : upTo m c t (t.val % 8) o) :
    upTo m c t (t.val % 8 + 1) (placed (grid0.coords t) (iblk m c 0 t) (iblk m c 1 t) (iblk m c 2 t) (iblk m c 3 t) (iblk m c 4 t) o) := by
  intro y hy
  have h0 := off_0 t
  have h1 := off_1 t
  have hr : (y 0).val < 512 := (y 0).isLt
  by_cases hc : (y 1).val < t.val % 8 * 512
  · rw [← ho y hc]
    unfold placed VecWindow.put
    rw [dif_neg]
    intro h
    have := (h 1).1
    omega
  · have hin : ∀ a, k0_off1 (grid0.coords t) a ≤ (y a).val ∧ (y a).val < k0_off1 (grid0.coords t) a + S512x512.size a := by
      intro a
      match a with
      | ⟨0, _⟩ => exact ⟨by show k0_off1 (grid0.coords t) 0 ≤ _; omega, by show (y 0).val < k0_off1 (grid0.coords t) 0 + 512; omega⟩
      | ⟨1, _⟩ => exact ⟨by show k0_off1 (grid0.coords t) 1 ≤ (y 1).val; omega, by show (y 1).val < k0_off1 (grid0.coords t) 1 + 512; omega⟩
    unfold placed VecWindow.put
    rw [dif_pos hin]
    unfold Full
    have es : sib t ((y 1).val / 512) (by omega) = t := by
      apply Fin.ext; unfold sib; dsimp only; omega
    rw [es]
    show Cols m c t _ = Cols m c t _
    refine congrArg (Cols m c t) (funext fun a => Fin.ext ?_)
    match a with
    | ⟨0, _⟩ => show (y 0).val - k0_off1 (grid0.coords t) 0 = (y 0).val; omega
    | ⟨1, _⟩ => show (y 1).val - k0_off1 (grid0.coords t) 1 = (y 1).val % 512; omega

theorem upTo_zero (c : Dev nD) (t : Fin cfg0.N) (h : t.val % 8 = 0) (o : Vec F S512x4096 .f32) : upTo m c t (t.val % 8) o := by
  intro y hy; omega

theorem upTo_all (c : Dev nD) (t : Fin cfg0.N) (h : t.val % 8 = 7) (X : Vec F S512x4096 .f32) (hX : upTo m c t (t.val % 8 + 1) X) : X = Full m c t := by
  funext y
  have hy : (y 1).val < 4096 := (y 1).isLt
  exact hX y (by omega)

/-- The relational proof data. -/
abbrev rdat (c : Dev nD) : Pipeline.RDat τ (Elt F) Unit ℕ (UR sig nD τ) ℕ cfg0 c := (dats m 0 c).toRRel loose (Rel m c)

/-- What the body finds in the row block. -/
theorem found (c : Dev nD) (t : Fin cfg0.N) (Y : Vec F S512x4096 .f32) (h : (rdat m c).Finds 7 t Y) : upTo m c t (t.val % 8) Y := by
  by_cases h0 : t.val % 8 = 0
  · exact upTo_zero m c t h0 Y
  have hf : (cfg0.win 7).fetch t = false := by unfold Window.fetch; rfl
  have hn : t.val - 1 < cfg0.N := Nat.lt_of_le_of_lt (Nat.sub_le _ _) t.isLt
  rcases ((rdat m c).finds_of_pos hf (by omega) Y).mp h with hfl | hl
  · have := (flush0_7 ⟨t.val - 1, hn⟩).mp hfl
    exfalso
    have e : (t.val - 1) % 8 = 7 := this
    omega
  · have hR : Rel m c 7 ⟨t.val - 1, hn⟩ Y := (dats m 0 c).toRRel_leaves rfl hl
    have hu := hR.1 (by show (t.val - 1) % 8 < 7; omega)
    intro y hy
    rw [Full_same m c t ⟨t.val - 1, hn⟩ (by show t.val - 1 + 1 = t.val; omega) h0]
    exact hu y (by show (y 1).val < ((t.val - 1) % 8 + 1) * 512; omega)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- and what it hands on. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rel m c 7 t X⌝ ∗ owns (c : Thread nD τ) (st0_7 t) fullShare X)
    ∗ (∃ X, ⌜Rel m c 8 t X⌝ ∗ owns (c : Thread nD τ) (st0_8 t) fullShare X))

set_option maxHeartbeats 2000000 in
theorem point (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  simp only [before_0, after_0, before_1, after_1, before_2, after_2, before_3, after_3, before_4, after_4, before_5, after_5, before_6, after_6]
  iintro ⟨Hg, Ho, ⟨%d0, H0⟩, ⟨%d1, H1⟩, ⟨%d2, H2⟩, ⟨%d3, H3⟩, ⟨%d4, H4⟩, ⟨%d5, H5⟩, ⟨%d6, H6⟩, ⟨%Y, %hY, H7⟩, ⟨%Z, %hZ, H8⟩⟩
  by_cases hj : t.val % 8 = 7
  · iapply (stepB c (grid0.coords t) _ _ _ _ _ _ _ _ _ _ _ _ _ _ _ _ _ _ ((last_iff t).mpr hj) (iblk m c 0 t) (iblk m c 1 t) (iblk m c 2 t) (iblk m c 3 t) (iblk m c 4 t) (iblk m c 5 t) (iblk m c 6 t) Y Z Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      refine ⟨fun h => absurd h (by omega), fun _ => ?_⟩
      unfold Normed
      rw [upTo_all m c t hj _ (upTo_placed m c t Y (found m c t Y hY))]
    iexists _; isplitr; swap; · iexact H8
    ipureintro
    intro _
    unfold Normed
    rw [upTo_all m c t hj _ (upTo_placed m c t Y (found m c t Y hY))]
  · iapply (stepA c (grid0.coords t) _ _ _ _ _ _ _ _ _ _ _ _ _ _ _ _ _ _ (fun h => hj ((last_iff t).mp h)) (iblk m c 0 t) (iblk m c 1 t) (iblk m c 2 t) (iblk m c 3 t) (iblk m c 4 t) (iblk m c 5 t) (iblk m c 6 t) Y Z Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      exact ⟨fun _ => upTo_placed m c t Y (found m c t Y hY), fun h => absurd h hj⟩
    iexists _; isplitr; swap; · iexact H8
    ipureintro
    exact fun h => absurd h hj

theorem body_row (t : Fin cfg0.N) : defs₀ (F := F) .tc cfg0.body (cfg0.bodyArgs t (cfg0.slots t)) = bodyAt0 t := by
  unfold defs₀; rw [Defs.onTc_tc]

theorem obligation (c : Dev nD) : Pipeline.BodyObligationRel (dats (F := F) m 0 c) (defs₀ (F := F)) Variants.none () Set.univ loose (Rel m c) := fun t => by
  rw [bigSep_W0, bigSep_W0, body_row]
  exact triple_restated (point m c t) rfl .rfl fun _ => .rfl

/-! ## The launch -/

theorem run_rel : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (obligation m c).toRRel) (hq := fun c w _ => rfl)
    (howed := fun _ _ => rfl) (V := V m) (hmain := hmain m Variants.none) (hA := A_eq m) (hin := fun _ => .rfl) (hout := fun _ => .rfl)

/-- What is written back is exact. -/
theorem arr_exact (c : Dev nD) (w : Fin cfg0.W) (G) (h : (rdat m c).ArrAt w cfg0.N G) : G = (dats m 0 c).arrAt w cfg0.N := by
  obtain ⟨X, hX, hA⟩ := h.exists_exact
  refine (hA (dats m 0 c).after fun u hu hf => ?_).trans rfl
  have hL := hX u hu hf
  match w with
  | ⟨0, _⟩ => exact absurd hf (by rw [Window.flush_in _ rfl]; exact Bool.false_ne_true)
  | ⟨1, _⟩ => exact absurd hf (by rw [Window.flush_in _ rfl]; exact Bool.false_ne_true)
  | ⟨2, _⟩ => exact absurd hf (by rw [Window.flush_in _ rfl]; exact Bool.false_ne_true)
  | ⟨3, _⟩ => exact absurd hf (by rw [Window.flush_in _ rfl]; exact Bool.false_ne_true)
  | ⟨4, _⟩ => exact absurd hf (by rw [Window.flush_in _ rfl]; exact Bool.false_ne_true)
  | ⟨5, _⟩ => exact absurd hf (by rw [Window.flush_in _ rfl]; exact Bool.false_ne_true)
  | ⟨6, _⟩ => exact absurd hf (by rw [Window.flush_in _ rfl]; exact Bool.false_ne_true)
  | ⟨7, _⟩ => exact (((dats m 0 c).toRRel_leaves (w := 7) rfl hL).2 ((flush0_7 u).mp hf)).symm
  | ⟨8, _⟩ => exact (((dats m 0 c).toRRel_leaves (w := 8) rfl hL) ((flush0_8 u).mp hf)).symm

/-- Every run ends, with the results at the write-backs and every counter at zero. -/
theorem run : θ_run defs (onTc (τ := τ) (main (F := F))) (s₀ m ρ)
    (fun r => Pipeline.FramePost cfgs (dats m) 0 (V m) r ∧ r.2.sem = fun _ => 0) :=
  (θ_run defs _ _).mono (fun _ h => ⟨fun c => ⟨fun w => arr_exact m c w _ ((h.1 c).1 w), (h.1 c).2⟩, h.2⟩) (run_rel m ρ)

/-- The arguments end as they were, every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.MixSIdeal.Hand

end
-- ==== Proof.MixSColumns.lean ====
module

public import proofs.«01_k».proof.Proof.Gen.MixSRefIdeal.Run
public import Idealize.ShloMosaic.Lib.Pointwise
public import Idealize.ShloMosaic.Lib.IdealHost

/-! The residual sum at a row and a column, its normalised row, and the reference's results as those. -/

@[expose] public section
set_option maxRecDepth 16384
noncomputable section
namespace Cert.MixSRefIdeal.Columns
open Cert.MixSRefIdeal Cert.MixSRefIdeal.Gen Idealize.ShloMosaic Idealize.ShloMosaic.TcCoe Idealize.SL.Sem Idealize.ShloMosaic.Pointwise

/-- The scaled input plus the two halves of the projection, at row `r` and column `n`. -/
def mixed (a e : FVec Ideal S16x32x2048 .bf16) (x : FVec Ideal S16x32x4096 .f32) (w : FVec Ideal S1x4096x4096 .f32) (r : Fin 512) (n : Fin 4096) : EReal :=
  Ideal.ofBits FTy.f32 0x3F9837F0#32 * x (ix3 ⟨r.val / 32, by omega⟩ ⟨r.val % 32, by omega⟩ n)
    + (∑ k : Fin 2048, (a (ix3 ⟨r.val / 32, by omega⟩ ⟨r.val % 32, by omega⟩ k) : EReal) * w (ix3 0 ⟨k.val, by omega⟩ n)
      + ∑ k : Fin 2048, (e (ix3 ⟨r.val / 32, by omega⟩ ⟨r.val % 32, by omega⟩ k) : EReal) * w (ix3 0 ⟨2048 + k.val, by omega⟩ n))

/-- The mean of a row. -/
def mean (f : Fin 4096 → EReal) : EReal := Ideal.div (∑ k, f k) (Ideal.ofBits FTy.f32 0x45800000#32)

/-- A row less its mean, over the root of its variance, scaled and shifted. -/
def rowNorm (f g b : Fin 4096 → EReal) (n : Fin 4096) : EReal :=
  (f n - mean f) * Ideal.rsqrt (mean (fun k => (f k - mean f) * (f k - mean f)) + Ideal.ofBits FTy.f32 0x3727C5AC#32) * g n + b n

def hid (a e : FVec Ideal S16x32x2048 .bf16) (x : FVec Ideal S16x32x4096 .f32) (w : FVec Ideal S1x4096x4096 .f32) (g b : FVec Ideal S1x4096 .f32) : FVec Ideal S512x4096 .f32 :=
  fun i => rowNorm (mixed a e x w (i 0)) (fun k => g (ix2 0 k)) (fun k => b (ix2 0 k)) (i 1)
def hidT (a e : FVec Ideal S16x32x2048 .bf16) (x : FVec Ideal S16x32x4096 .f32) (w : FVec Ideal S1x4096x4096 .f32) (g b : FVec Ideal S1x4096 .f32) : FVec Ideal S4096x512 .bf16 :=
  fun i => rowNorm (mixed a e x w (i 1)) (fun k => g (ix2 0 k)) (fun k => b (ix2 0 k)) (i 0)

/-- The sum the reference normalises. -/
def pre (a e : FVec Ideal S16x32x2048 .bf16) (x : FVec Ideal S16x32x4096 .f32) (w : FVec Ideal S1x4096x4096 .f32) : FVec Ideal S16x32x4096 .f32 :=
  addf (mulf (broadcastInDim S16x32x4096 ![] bcast_S_S16x32x4096 (constant S_ .f32 0x3F9837F0#32)) x) (Host.dotGeneral dot_S16x32x4096_S4096x4096_S16x32x4096_2_0_01_1_n_n none (concatenate S16x32x4096 2 [⟨S16x32x2048, (extf .f32 a bitsLt_bf16_f32)⟩, ⟨S16x32x2048, (extf .f32 e bitsLt_bf16_f32)⟩] concatenates_S16x32x2048_S16x32x2048_S16x32x4096_d2) (shapeCast _ w shapeCasts_S1x4096x4096_S4096x4096))

/-- A layer rowNorm, as the reference computes it. -/
def normal (X : FVec Ideal S16x32x4096 .f32) (g b : FVec Ideal S1x4096 .f32) : FVec Ideal S512x4096 .f32 :=
  shapeCast _ (addf (mulf (mulf (subf X (broadcastInDim S16x32x4096 ![0, 1, 2] bcast_S16x32x1_S16x32x4096_0_1_2 (Host.divf (broadcastInDim S16x32x1 ![0, 1] bcast_S16x32_S16x32x1_0_1 (Host.reduceAdd X (constant S_ .f32 0x00000000#32) reducesTo_S16x32x4096_S16x32_d2 h_S_)) (broadcastInDim S16x32x1 ![] bcast_S_S16x32x1 (constant S_ .f32 0x45800000#32))))) (broadcastInDim S16x32x4096 ![0, 1, 2] bcast_S16x32x1_S16x32x4096_0_1_2 (Host.rsqrt (addf (Host.divf (broadcastInDim S16x32x1 ![0, 1] bcast_S16x32_S16x32x1_0_1 (Host.reduceAdd (mulf (subf X (broadcastInDim S16x32x4096 ![0, 1, 2] bcast_S16x32x1_S16x32x4096_0_1_2 (Host.divf (broadcastInDim S16x32x1 ![0, 1] bcast_S16x32_S16x32x1_0_1 (Host.reduceAdd X (constant S_ .f32 0x00000000#32) reducesTo_S16x32x4096_S16x32_d2 h_S_)) (broadcastInDim S16x32x1 ![] bcast_S_S16x32x1 (constant S_ .f32 0x45800000#32))))) (subf X (broadcastInDim S16x32x4096 ![0, 1, 2] bcast_S16x32x1_S16x32x4096_0_1_2 (Host.divf (broadcastInDim S16x32x1 ![0, 1] bcast_S16x32_S16x32x1_0_1 (Host.reduceAdd X (constant S_ .f32 0x00000000#32) reducesTo_S16x32x4096_S16x32_d2 h_S_)) (broadcastInDim S16x32x1 ![] bcast_S_S16x32x1 (constant S_ .f32 0x45800000#32)))))) (constant S_ .f32 0x00000000#32) reducesTo_S16x32x4096_S16x32_d2 h_S_)) (broadcastInDim S16x32x1 ![] bcast_S_S16x32x1 (constant S_ .f32 0x45800000#32))) (broadcastInDim S16x32x1 ![] bcast_S_S16x32x1 (constant S_ .f32 0x3727C5AC#32)))))) (broadcastInDim S16x32x4096 ![0, 1, 2] bcast_S1x1x4096_S16x32x4096_0_1_2 (broadcastInDim S1x1x4096 ![2] bcast_S4096_S1x1x4096_2 (shapeCast _ g shapeCasts_S1x4096_S4096)))) (broadcastInDim S16x32x4096 ![0, 1, 2] bcast_S1x1x4096_S16x32x4096_0_1_2 (broadcastInDim S1x1x4096 ![2] bcast_S4096_S1x1x4096_2 (shapeCast _ b shapeCasts_S1x4096_S4096)))) shapeCasts_S16x32x4096_S512x4096

theorem pre_apply (a e : FVec Ideal S16x32x2048 .bf16) (x : FVec Ideal S16x32x4096 .f32) (w : FVec Ideal S1x4096x4096 .f32) (r : Fin 512) (n : Fin 4096) :
    pre a e x w (ix3 ⟨r.val / 32, by omega⟩ ⟨r.val % 32, by omega⟩ n) = mixed a e x w r n := by
  unfold mixed
  pointwise [pre]

theorem normal_apply (X : FVec Ideal S16x32x4096 .f32) (g b : FVec Ideal S1x4096 .f32) (r : Fin 512) (n : Fin 4096) :
    normal X g b (ix2 r n) = rowNorm (fun k => X (ix3 ⟨r.val / 32, by omega⟩ ⟨r.val % 32, by omega⟩ k)) (fun k => g (ix2 0 k)) (fun k => b (ix2 0 k)) n := by
  unfold rowNorm mean
  pointwise [normal]

theorem hid_eq (a e : FVec Ideal S16x32x2048 .bf16) (x : FVec Ideal S16x32x4096 .f32) (w : FVec Ideal S1x4096x4096 .f32) (g b : FVec Ideal S1x4096 .f32) :
    normal (pre a e x w) g b = hid a e x w g b := by
  funext i
  obtain ⟨r, n, rfl⟩ : ∃ r n, i = (ix2 r n : S512x4096.Idx) := ⟨i 0, i 1, eq_ix2 i⟩
  rw [normal_apply]
  exact congrArg (rowNorm · _ _ n) (funext fun k => pre_apply a e x w r k)

theorem hidT_eq (a e : FVec Ideal S16x32x2048 .bf16) (x : FVec Ideal S16x32x4096 .f32) (w : FVec Ideal S1x4096x4096 .f32) (g b : FVec Ideal S1x4096 .f32) :
    truncf (F := Ideal) .bf16 (transpose S4096x512 [1, 0] (hid a e x w g b) transposes_S512x4096_S4096x512_1_0) bitsLt_bf16_f32 = hidT a e x w g b := by
  funext i
  obtain ⟨r, n, rfl⟩ : ∃ r n, i = (ix2 r n : S4096x512.Idx) := ⟨i 0, i 1, eq_ix2 i⟩
  show _ = rowNorm (mixed a e x w n) (fun k => g (ix2 0 k)) (fun k => b (ix2 0 k)) r
  pointwise
  rfl

/-- The reference's run ends in the normalised rows. -/
theorem run (m : (ℓ : Loc nD τ sig) → Buf (Elt Ideal) ℓ) (ρ : Dev nD → PrngReg) :
    θ_run defs (onTc (τ := τ) (Cert.MixSRefIdeal.main (F := Ideal))) ⟨m, fun _ => 0, ρ⟩ fun r => ∀ c : Dev nD,
      r.2.mem ((c.tc : Thread nD τ).loc main_v34) = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v36) = hidT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, ha⟩ := h c
    have e := hid_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    refine ⟨h0.trans e, h1.trans ((congrArg (fun Y => truncf (F := Ideal) .bf16 (transpose S4096x512 [1, 0] Y transposes_S512x4096_S4096x512_1_0) bitsLt_bf16_f32) e).trans (hidT_eq _ _ _ _ _ _)), ha⟩)
    (Value.run m ρ)

end Cert.MixSRefIdeal.Columns
-- ==== Proof.MixSValue.lean ====
module

public import proofs.«01_k».proof.Proof.MixSDat
public import proofs.«01_k».proof.Proof.MixSColumns
public import Idealize.ShloMosaic.Lib.Pointwise
public import Idealize.ShloMosaic.Lib.IdealHost
public import Idealize.ShloMosaic.Lib.Pipeline.ValueKit
public import Idealize.ShloMosaic.PureOps.IdealRules

/-! The output projection's results over the extended reals: the normalised rows of the residual sum. -/

@[expose] public section
set_option maxRecDepth 16384
noncomputable section
namespace Cert.MixSIdeal.Hand
open Cert.MixSIdeal Cert.MixSIdeal.Gen Idealize.ShloMosaic Idealize.ShloMosaic.TcCoe Idealize.SL.Sem Idealize.ShloMosaic.Pointwise Cert.MixSRefIdeal.Columns
variable (m : (ℓ : Loc nD τ sig) → Buf (Elt Ideal) ℓ) (c : Dev nD)

/-! ## The arrays the call reads -/

theorem heads_a (r : Fin 512) (k : Fin 2048) : V m c main_v2 (ix2 r k) = m ((c : Thread nD τ).loc main_arg0) (ix3 ⟨r.val / 32, by omega⟩ ⟨r.val % 32, by omega⟩ k) := by
  simp only [V, hostOps0, List.flatten_cons, List.flatten_nil, List.append_nil, List.cons_append, List.nil_append]
  after_results
  pointwise

theorem heads_b (r : Fin 512) (k : Fin 2048) : V m c main_v3 (ix2 r k) = m ((c : Thread nD τ).loc main_arg1) (ix3 ⟨r.val / 32, by omega⟩ ⟨r.val % 32, by omega⟩ k) := by
  simp only [V, hostOps0, List.flatten_cons, List.flatten_nil, List.append_nil, List.cons_append, List.nil_append]
  after_results
  pointwise

theorem rows_at (r : Fin 512) (k : Fin 4096) : V m c main_v4 (ix2 r k) = m ((c : Thread nD τ).loc main_arg2) (ix3 ⟨r.val / 32, by omega⟩ ⟨r.val % 32, by omega⟩ k) := by
  simp only [V, hostOps0, List.flatten_cons, List.flatten_nil, List.append_nil, List.cons_append, List.nil_append]
  after_results
  pointwise

theorem weights_at (k : Fin 4096) (n : Fin 4096) : V m c main_v1 (ix2 k n) = m ((c : Thread nD τ).loc main_arg3) (ix3 0 k n) := by
  simp only [V, hostOps0, List.flatten_cons, List.flatten_nil, List.append_nil, List.cons_append, List.nil_append]
  after_results
  pointwise

theorem gain_at (n : Fin 4096) : V m c main_v6 (ix2 0 n) = m ((c : Thread nD τ).loc main_arg4) (ix2 0 n) := by
  simp only [V, hostOps0, List.flatten_cons, List.flatten_nil, List.append_nil, List.cons_append, List.nil_append]
  after_results
  pointwise

theorem bias_at (n : Fin 4096) : V m c main_v8 (ix2 0 n) = m ((c : Thread nD τ).loc main_arg5) (ix2 0 n) := by
  simp only [V, hostOps0, List.flatten_cons, List.flatten_nil, List.append_nil, List.cons_append, List.nil_append]
  after_results
  pointwise

/-! ## The blocks -/

theorem N_at (t : Fin cfg0.N) : t.val < 8 := t.isLt.trans_eq (by decide +kernel)

theorem idx_0 : ∀ t : Fin cfg0.N, win0_0.index t = ![t.val / 8, 0] :=
  (by decide +kernel : ∀ t : Fin grid0.N, win0_0.index t = ![t.val / 8, 0])
theorem emb_0 (t : Fin cfg0.N) (y : S512x2048.Idx) (r : Fin 512) (n : Fin 2048) (hr : r.val = (t.val / 8) * 512 + (y 0).val)
    (hn : n.val = (0) * 2048 + (y 1).val) : ((cfg0.win 0).blk t).view.emb y = (ix2 r n : S512x2048.Idx) := by
  funext a
  apply Fin.ext
  refine (Pipeline.Window.rect_emb_val win0_0 t y a).trans ?_
  rw [idx_0 t]
  fin_cases a
  · exact hr.symm
  · exact hn.symm

theorem read_0 (X : Buf (Elt Ideal) ((c : Thread nD τ).loc main_v2)) (t : Fin cfg0.N) (p : Fin 512) (q : Fin 2048) (r : Fin 512) (n : Fin 2048)
    (hr : r.val = (t.val / 8) * 512 + p.val) (hn : n.val = (0) * 2048 + q.val) :
    ((cfg0.win 0).blk t).view.read (Elt Ideal) X (ix2 p q) = X (ix2 r n) :=
  congrArg X (emb_0 t (ix2 p q) r n hr hn)
theorem block_0 (t : Fin cfg0.N) (p : Fin 512) (q : Fin 2048) (r : Fin 512) (n : Fin 2048)
    (hr : r.val = (t.val / 8) * 512 + p.val) (hn : n.val = (0) * 2048 + q.val) :
    iblk m c 0 t (ix2 p q) = V m c main_v2 (ix2 r n) := by
  unfold iblk
  exact read_0 c (V m c main_v2) t p q r n hr hn

theorem idx_1 : ∀ t : Fin cfg0.N, win0_1.index t = ![t.val / 8, 0] :=
  (by decide +kernel : ∀ t : Fin grid0.N, win0_1.index t = ![t.val / 8, 0])
theorem emb_1 (t : Fin cfg0.N) (y : S512x2048.Idx) (r : Fin 512) (n : Fin 2048) (hr : r.val = (t.val / 8) * 512 + (y 0).val)
    (hn : n.val = (0) * 2048 + (y 1).val) : ((cfg0.win 1).blk t).view.emb y = (ix2 r n : S512x2048.Idx) := by
  funext a
  apply Fin.ext
  refine (Pipeline.Window.rect_emb_val win0_1 t y a).trans ?_
  rw [idx_1 t]
  fin_cases a
  · exact hr.symm
  · exact hn.symm

theorem read_1 (X : Buf (Elt Ideal) ((c : Thread nD τ).loc main_v3)) (t : Fin cfg0.N) (p : Fin 512) (q : Fin 2048) (r : Fin 512) (n : Fin 2048)
    (hr : r.val = (t.val / 8) * 512 + p.val) (hn : n.val = (0) * 2048 + q.val) :
    ((cfg0.win 1).blk t).view.read (Elt Ideal) X (ix2 p q) = X (ix2 r n) :=
  congrArg X (emb_1 t (ix2 p q) r n hr hn)
theorem block_1 (t : Fin cfg0.N) (p : Fin 512) (q : Fin 2048) (r : Fin 512) (n : Fin 2048)
    (hr : r.val = (t.val / 8) * 512 + p.val) (hn : n.val = (0) * 2048 + q.val) :
    iblk m c 1 t (ix2 p q) = V m c main_v3 (ix2 r n) := by
  unfold iblk
  exact read_1 c (V m c main_v3) t p q r n hr hn

theorem idx_2 : ∀ t : Fin cfg0.N, win0_2.index t = ![0, t.val % 8] :=
  (by decide +kernel : ∀ t : Fin grid0.N, win0_2.index t = ![0, t.val % 8])
theorem emb_2 (t : Fin cfg0.N) (y : S2048x512.Idx) (r : Fin 4096) (n : Fin 4096) (hr : r.val = (0) * 2048 + (y 0).val)
    (hn : n.val = (t.val % 8) * 512 + (y 1).val) : ((cfg0.win 2).blk t).view.emb y = (ix2 r n : S4096x4096.Idx) := by
  funext a
  apply Fin.ext
  refine (Pipeline.Window.rect_emb_val win0_2 t y a).trans ?_
  rw [idx_2 t]
  fin_cases a
  · exact hr.symm
  · exact hn.symm

theorem read_2 (X : Buf (Elt Ideal) ((c : Thread nD τ).loc main_v1)) (t : Fin cfg0.N) (p : Fin 2048) (q : Fin 512) (r : Fin 4096) (n : Fin 4096)
    (hr : r.val = (0) * 2048 + p.val) (hn : n.val = (t.val % 8) * 512 + q.val) :
    ((cfg0.win 2).blk t).view.read (Elt Ideal) X (ix2 p q) = X (ix2 r n) :=
  congrArg X (emb_2 t (ix2 p q) r n hr hn)
theorem block_2 (t : Fin cfg0.N) (p : Fin 2048) (q : Fin 512) (r : Fin 4096) (n : Fin 4096)
    (hr : r.val = (0) * 2048 + p.val) (hn : n.val = (t.val % 8) * 512 + q.val) :
    iblk m c 2 t (ix2 p q) = V m c main_v1 (ix2 r n) := by
  unfold iblk
  exact read_2 c (V m c main_v1) t p q r n hr hn

theorem idx_3 : ∀ t : Fin cfg0.N, win0_3.index t = ![1, t.val % 8] :=
  (by decide +kernel : ∀ t : Fin grid0.N, win0_3.index t = ![1, t.val % 8])
theorem emb_3 (t : Fin cfg0.N) (y : S2048x512.Idx) (r : Fin 4096) (n : Fin 4096) (hr : r.val = (1) * 2048 + (y 0).val)
    (hn : n.val = (t.val % 8) * 512 + (y 1).val) : ((cfg0.win 3).blk t).view.emb y = (ix2 r n : S4096x4096.Idx) := by
  funext a
  apply Fin.ext
  refine (Pipeline.Window.rect_emb_val win0_3 t y a).trans ?_
  rw [idx_3 t]
  fin_cases a
  · exact hr.symm
  · exact hn.symm

theorem read_3 (X : Buf (Elt Ideal) ((c : Thread nD τ).loc main_v1)) (t : Fin cfg0.N) (p : Fin 2048) (q : Fin 512) (r : Fin 4096) (n : Fin 4096)
    (hr : r.val = (1) * 2048 + p.val) (hn : n.val = (t.val % 8) * 512 + q.val) :
    ((cfg0.win 3).blk t).view.read (Elt Ideal) X (ix2 p q) = X (ix2 r n) :=
  congrArg X (emb_3 t (ix2 p q) r n hr hn)
theorem block_3 (t : Fin cfg0.N) (p : Fin 2048) (q : Fin 512) (r : Fin 4096) (n : Fin 4096)
    (hr : r.val = (1) * 2048 + p.val) (hn : n.val = (t.val % 8) * 512 + q.val) :
    iblk m c 3 t (ix2 p q) = V m c main_v1 (ix2 r n) := by
  unfold iblk
  exact read_3 c (V m c main_v1) t p q r n hr hn

theorem idx_4 : ∀ t : Fin cfg0.N, win0_4.index t = ![t.val / 8, t.val % 8] :=
  (by decide +kernel : ∀ t : Fin grid0.N, win0_4.index t = ![t.val / 8, t.val % 8])
theorem emb_4 (t : Fin cfg0.N) (y : S512x512.Idx) (r : Fin 512) (n : Fin 4096) (hr : r.val = (t.val / 8) * 512 + (y 0).val)
    (hn : n.val = (t.val % 8) * 512 + (y 1).val) : ((cfg0.win 4).blk t).view.emb y = (ix2 r n : S512x4096.Idx) := by
  funext a
  apply Fin.ext
  refine (Pipeline.Window.rect_emb_val win0_4 t y a).trans ?_
  rw [idx_4 t]
  fin_cases a
  · exact hr.symm
  · exact hn.symm

theorem read_4 (X : Buf (Elt Ideal) ((c : Thread nD τ).loc main_v4)) (t : Fin cfg0.N) (p : Fin 512) (q : Fin 512) (r : Fin 512) (n : Fin 4096)
    (hr : r.val = (t.val / 8) * 512 + p.val) (hn : n.val = (t.val % 8) * 512 + q.val) :
    ((cfg0.win 4).blk t).view.read (Elt Ideal) X (ix2 p q) = X (ix2 r n) :=
  congrArg X (emb_4 t (ix2 p q) r n hr hn)
theorem block_4 (t : Fin cfg0.N) (p : Fin 512) (q : Fin 512) (r : Fin 512) (n : Fin 4096)
    (hr : r.val = (t.val / 8) * 512 + p.val) (hn : n.val = (t.val % 8) * 512 + q.val) :
    iblk m c 4 t (ix2 p q) = V m c main_v4 (ix2 r n) := by
  unfold iblk
  exact read_4 c (V m c main_v4) t p q r n hr hn

theorem idx_5 : ∀ t : Fin cfg0.N, win0_5.index t = ![0, 0] :=
  (by decide +kernel : ∀ t : Fin grid0.N, win0_5.index t = ![0, 0])
theorem emb_5 (t : Fin cfg0.N) (y : S1x4096.Idx) (r : Fin 1) (n : Fin 4096) (hr : r.val = (0) * 1 + (y 0).val)
    (hn : n.val = (0) * 4096 + (y 1).val) : ((cfg0.win 5).blk t).view.emb y = (ix2 r n : S1x4096.Idx) := by
  funext a
  apply Fin.ext
  refine (Pipeline.Window.rect_emb_val win0_5 t y a).trans ?_
  rw [idx_5 t]
  fin_cases a
  · exact hr.symm
  · exact hn.symm

theorem read_5 (X : Buf (Elt Ideal) ((c : Thread nD τ).loc main_v6)) (t : Fin cfg0.N) (p : Fin 1) (q : Fin 4096) (r : Fin 1) (n : Fin 4096)
    (hr : r.val = (0) * 1 + p.val) (hn : n.val = (0) * 4096 + q.val) :
    ((cfg0.win 5).blk t).view.read (Elt Ideal) X (ix2 p q) = X (ix2 r n) :=
  congrArg X (emb_5 t (ix2 p q) r n hr hn)
theorem block_5 (t : Fin cfg0.N) (p : Fin 1) (q : Fin 4096) (r : Fin 1) (n : Fin 4096)
    (hr : r.val = (0) * 1 + p.val) (hn : n.val = (0) * 4096 + q.val) :
    iblk m c 5 t (ix2 p q) = V m c main_v6 (ix2 r n) := by
  unfold iblk
  exact read_5 c (V m c main_v6) t p q r n hr hn

theorem idx_6 : ∀ t : Fin cfg0.N, win0_6.index t = ![0, 0] :=
  (by decide +kernel : ∀ t : Fin grid0.N, win0_6.index t = ![0, 0])
theorem emb_6 (t : Fin cfg0.N) (y : S1x4096.Idx) (r : Fin 1) (n : Fin 4096) (hr : r.val = (0) * 1 + (y 0).val)
    (hn : n.val = (0) * 4096 + (y 1).val) : ((cfg0.win 6).blk t).view.emb y = (ix2 r n : S1x4096.Idx) := by
  funext a
  apply Fin.ext
  refine (Pipeline.Window.rect_emb_val win0_6 t y a).trans ?_
  rw [idx_6 t]
  fin_cases a
  · exact hr.symm
  · exact hn.symm

theorem read_6 (X : Buf (Elt Ideal) ((c : Thread nD τ).loc main_v8)) (t : Fin cfg0.N) (p : Fin 1) (q : Fin 4096) (r : Fin 1) (n : Fin 4096)
    (hr : r.val = (0) * 1 + p.val) (hn : n.val = (0) * 4096 + q.val) :
    ((cfg0.win 6).blk t).view.read (Elt Ideal) X (ix2 p q) = X (ix2 r n) :=
  congrArg X (emb_6 t (ix2 p q) r n hr hn)
theorem block_6 (t : Fin cfg0.N) (p : Fin 1) (q : Fin 4096) (r : Fin 1) (n : Fin 4096)
    (hr : r.val = (0) * 1 + p.val) (hn : n.val = (0) * 4096 + q.val) :
    iblk m c 6 t (ix2 p q) = V m c main_v8 (ix2 r n) := by
  unfold iblk
  exact read_6 c (V m c main_v8) t p q r n hr hn

theorem idx_7 : ∀ t : Fin cfg0.N, win0_7.index t = ![t.val / 8, 0] :=
  (by decide +kernel : ∀ t : Fin grid0.N, win0_7.index t = ![t.val / 8, 0])
theorem emb_7 (t : Fin cfg0.N) (y : S512x4096.Idx) (r : Fin 512) (n : Fin 4096) (hr : r.val = (t.val / 8) * 512 + (y 0).val)
    (hn : n.val = (0) * 4096 + (y 1).val) : ((cfg0.win 7).blk t).view.emb y = (ix2 r n : S512x4096.Idx) := by
  funext a
  apply Fin.ext
  refine (Pipeline.Window.rect_emb_val win0_7 t y a).trans ?_
  rw [idx_7 t]
  fin_cases a
  · exact hr.symm
  · exact hn.symm

theorem idx_8 : ∀ t : Fin cfg0.N, win0_8.index t = ![0, t.val / 8] :=
  (by decide +kernel : ∀ t : Fin grid0.N, win0_8.index t = ![0, t.val / 8])
theorem emb_8 (t : Fin cfg0.N) (y : S4096x512.Idx) (r : Fin 4096) (n : Fin 512) (hr : r.val = (0) * 4096 + (y 0).val)
    (hn : n.val = (t.val / 8) * 512 + (y 1).val) : ((cfg0.win 8).blk t).view.emb y = (ix2 r n : S4096x512.Idx) := by
  funext a
  apply Fin.ext
  refine (Pipeline.Window.rect_emb_val win0_8 t y a).trans ?_
  rw [idx_8 t]
  fin_cases a
  · exact hr.symm
  · exact hn.symm

/-! ## The row block -/

theorem pay5_at (X : Vec Ideal S32x4096 .f32) (g b : Vec Ideal S1x4096 .f32) (p : Fin 32) (n : Fin 4096) :
    k0_pay5 (F := Ideal) X g b (ix2 p n) = rowNorm (fun k => X (ix2 p k)) (fun k => g (ix2 0 k)) (fun k => b (ix2 0 k)) n := by
  unfold rowNorm mean
  pointwise [k0_pay5]

theorem pay1_at (x : Vec Ideal S512x512 .f32) (a e : Vec Ideal S512x2048 .bf16) (wa we : Vec Ideal S2048x512 .bf16) (p q : Fin 512) :
    k0_pay1 (F := Ideal) x a wa e we (ix2 p q) = Ideal.ofBits FTy.f32 0x3F9837F0#32 * x (ix2 p q)
      + ((∑ k : Fin 2048, (a (ix2 p k) : EReal) * wa (ix2 k q)) + ∑ k : Fin 2048, (e (ix2 p k) : EReal) * we (ix2 k q)) := by
  rw [← add_assoc]
  pointwise [k0_pay1]

theorem turned_at (X : Vec Ideal S512x4096 .f32) (q : Fin 4096) (p : Fin 512) : turned (F := Ideal) X (ix2 q p) = X (ix2 p q) := by
  pointwise [turned, k0_pay12]

theorem off2_at : ∀ k : Fin k0_t1_loop.trips, k0_off2 k 0 = 32 * k.val ∧ k0_off2 k 1 = 0 := by decide +kernel

theorem trip_in (Y : Vec Ideal S512x4096 .f32) (g b : Vec Ideal S1x4096 .f32) (k : Fin k0_t1_loop.trips) (p : Fin 512) (n : Fin 4096)
    (h0 : 32 * k.val ≤ p.val) (h1 : p.val < 32 * k.val + 32) :
    trip g b k Y (ix2 p n) = rowNorm (fun j => Y (ix2 p j)) (fun j => g (ix2 0 j)) (fun j => b (ix2 0 j)) n := by
  obtain ⟨o0, o1⟩ := off2_at k
  have hin : ∀ a, k0_off2 k a ≤ ((ix2 p n : S512x4096.Idx) a).val ∧ ((ix2 p n : S512x4096.Idx) a).val < k0_off2 k a + S32x4096.size a := by
    intro a
    match a with
    | ⟨0, _⟩ => exact ⟨by show k0_off2 k 0 ≤ p.val; omega, by show p.val < k0_off2 k 0 + 32; omega⟩
    | ⟨1, _⟩ => exact ⟨by show k0_off2 k 1 ≤ n.val; omega, by show n.val < k0_off2 k 1 + 4096; omega⟩
  unfold trip VecWindow.put
  rw [dif_pos hin]
  have ei : (fun a => ⟨((ix2 p n : S512x4096.Idx) a).val - k0_off2 k a, by have := hin a; omega⟩ : S32x4096.Idx) = ix2 ⟨p.val - 32 * k.val, by omega⟩ n := by
    funext a; apply Fin.ext
    match a with
    | ⟨0, _⟩ => show p.val - k0_off2 k 0 = p.val - 32 * k.val; omega
    | ⟨1, _⟩ => show n.val - k0_off2 k 1 = n.val; omega
  refine (congrArg (k0_pay5 _ g b) ei).trans ((pay5_at _ g b _ n).trans ?_)
  refine congrArg (rowNorm · _ _ n) (funext fun j => ?_)
  refine congrArg Y (funext fun a => Fin.ext ?_)
  match a with
  | ⟨0, _⟩ => show k0_off2 k 0 + 1 * (p.val - 32 * k.val) = p.val; omega
  | ⟨1, _⟩ => show k0_off2 k 1 + 1 * j.val = j.val; omega

theorem trip_out (Y : Vec Ideal S512x4096 .f32) (g b : Vec Ideal S1x4096 .f32) (k : Fin k0_t1_loop.trips) (p : Fin 512) (n : Fin 4096)
    (h : p.val < 32 * k.val ∨ 32 * k.val + 32 ≤ p.val) : trip g b k Y (ix2 p n) = Y (ix2 p n) := by
  obtain ⟨o0, _⟩ := off2_at k
  unfold trip VecWindow.put
  rw [dif_neg]
  intro hin
  have h2 : k0_off2 k 0 ≤ p.val := (hin 0).1
  have h3 : p.val < k0_off2 k 0 + 32 := (hin 0).2
  omega

/-- The rows a count of trips has reached are normalised, the others as they were. -/
theorem trips_at (X : Vec Ideal S512x4096 .f32) (g b : Vec Ideal S1x4096 .f32) (k : ℕ) (hk : k ≤ 16) (p : Fin 512) (n : Fin 4096) :
    trips X g b k (ix2 p n) = if p.val < 32 * k then rowNorm (fun j => X (ix2 p j)) (fun j => g (ix2 0 j)) (fun j => b (ix2 0 j)) n else X (ix2 p n) := by
  induction k generalizing n with
  | zero => rw [if_neg (by omega)]; rfl
  | succ k ih =>
    have e16 : k0_t1_loop.trips = 16 := by decide +kernel
    have hs := congrFun (trips_succ X g b ⟨k, by omega⟩) (ix2 p n)
    refine hs.trans ?_
    by_cases h : 32 * k ≤ p.val ∧ p.val < 32 * k + 32
    · rw [trip_in _ g b ⟨k, _⟩ p n h.1 h.2, if_pos (by omega)]
      refine congrArg (rowNorm · _ _ n) (funext fun j => ?_)
      exact (ih (by omega) j).trans (if_neg (by omega))
    · rw [trip_out _ g b ⟨k, _⟩ p n (by show p.val < 32 * k ∨ 32 * k + 32 ≤ p.val; omega)]
      refine (ih (by omega) n).trans ?_
      by_cases h2 : p.val < 32 * k
      · rw [if_pos h2, if_pos (by omega)]
      · rw [if_neg h2, if_neg (by omega)]

/-- A point's products are the residual sum at its rows and columns. -/
theorem cols_at (t : Fin cfg0.N) (p q : Fin 512) (r : Fin 512) (n : Fin 4096) (hr : r.val = t.val / 8 * 512 + p.val) (hn : n.val = t.val % 8 * 512 + q.val) :
    Cols m c t (ix2 p q) = mixed (m ((c : Thread nD τ).loc main_arg0)) (m ((c : Thread nD τ).loc main_arg1)) (m ((c : Thread nD τ).loc main_arg2)) (m ((c : Thread nD τ).loc main_arg3)) r n := by
  unfold Cols mixed
  refine (pay1_at _ _ _ _ _ p q).trans ?_
  refine congrArg₂ (· + ·) (congrArg _ ((block_4 m c t p q r n hr hn).trans (rows_at m c r n))) (congrArg₂ (· + ·) (Finset.sum_congr rfl fun k _ => ?_) (Finset.sum_congr rfl fun k _ => ?_))
  · exact congrArg₂ (· * ·) ((block_0 m c t p k r k hr (by omega)).trans (heads_a m c r k)) ((block_2 m c t k q ⟨k.val, by omega⟩ n (by dsimp only; omega) hn).trans (weights_at m c _ n))
  · exact congrArg₂ (· * ·) ((block_1 m c t p k r k hr (by omega)).trans (heads_b m c r k)) ((block_3 m c t k q ⟨2048 + k.val, by omega⟩ n (by dsimp only) hn).trans (weights_at m c _ n))

theorem full_at (t : Fin cfg0.N) (p : Fin 512) (n : Fin 4096) (r : Fin 512) (hr : r.val = t.val / 8 * 512 + p.val) :
    Full m c t (ix2 p n) = mixed (m ((c : Thread nD τ).loc main_arg0)) (m ((c : Thread nD τ).loc main_arg1)) (m ((c : Thread nD τ).loc main_arg2)) (m ((c : Thread nD τ).loc main_arg3)) r n := by
  unfold Full
  refine cols_at m c (sib t (n.val / 512) (by omega)) p ⟨n.val % 512, by omega⟩ r n ?_ ?_
  · rw [hr]; show t.val / 8 * 512 + p.val = (t.val - t.val % 8 + n.val / 512) / 8 * 512 + p.val; omega
  · show n.val = (t.val - t.val % 8 + n.val / 512) % 8 * 512 + n.val % 512; omega

theorem normed_at (t : Fin cfg0.N) (p : Fin 512) (n : Fin 4096) (r : Fin 512) (hr : r.val = t.val / 8 * 512 + p.val) :
    Normed m c t (ix2 p n) = rowNorm (mixed (m ((c : Thread nD τ).loc main_arg0)) (m ((c : Thread nD τ).loc main_arg1)) (m ((c : Thread nD τ).loc main_arg2)) (m ((c : Thread nD τ).loc main_arg3)) r) (fun k => m ((c : Thread nD τ).loc main_arg4) (ix2 0 k)) (fun k => m ((c : Thread nD τ).loc main_arg5) (ix2 0 k)) n := by
  unfold Normed
  refine (trips_at _ _ _ 16 (le_refl 16) p n).trans ((if_pos (by omega)).trans ?_)
  have h1 : (fun j => Full m c t (ix2 p j)) = mixed (m ((c : Thread nD τ).loc main_arg0)) (m ((c : Thread nD τ).loc main_arg1)) (m ((c : Thread nD τ).loc main_arg2)) (m ((c : Thread nD τ).loc main_arg3)) r := funext fun j => full_at m c t p j r hr
  have h2 : (fun j => iblk m c 5 t (ix2 0 j)) = fun k => m ((c : Thread nD τ).loc main_arg4) (ix2 0 k) := funext fun j => (block_5 m c t 0 j 0 j rfl (by omega)).trans (gain_at m c j)
  have h3 : (fun j => iblk m c 6 t (ix2 0 j)) = fun k => m ((c : Thread nD τ).loc main_arg5) (ix2 0 k) := funext fun j => (block_6 m c t 0 j 0 j rfl (by omega)).trans (bias_at m c j)
  exact (congrArg (rowNorm · _ _ n) h1).trans ((congrArg (rowNorm _ · _ n) h2).trans (congrArg (rowNorm _ _ · n) h3))

/-! ## The results -/

theorem arr_7 : (dats m 0 c).arrAt 7 cfg0.N = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Pipeline.Dat.arrAt_eq_of_covers (dats m 0 c) 7 (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (by decide +kernel) fun t hf => fun y => ?_
  have hN := N_at t
  have y0 : (y 0).val < 512 := (y 0).isLt
  have ey : y = (ix2 (y 0) (y 1) : S512x4096.Idx) := eq_ix2 (y : S512x4096.Idx)
  rw [emb_7 t y ⟨t.val / 8 * 512 + (y 0).val, by omega⟩ (y 1) rfl (by omega), after_7]
  exact (congrArg (Normed m c t) ey).trans (normed_at m c t (y 0) (y 1) _ rfl)

theorem arr_8 : (dats m 0 c).arrAt 8 cfg0.N = hidT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Pipeline.Dat.arrAt_eq_of_covers (dats m 0 c) 8 (hidT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (by decide +kernel) fun t hf => fun y => ?_
  have hN := N_at t
  have y1 : (y 1).val < 512 := (y 1).isLt
  have ey : y = (ix2 (y 0) (y 1) : S4096x512.Idx) := eq_ix2 (y : S4096x512.Idx)
  rw [emb_8 t y (y 0) ⟨t.val / 8 * 512 + (y 1).val, by omega⟩ (by omega) rfl, after_8]
  exact (congrArg (turned (Normed m c t)) ey).trans ((turned_at _ (y 0) (y 1)).trans (normed_at m c t (y 1) (y 0) _ rfl))

/-- Every run ends with the normalised rows in the results. -/
theorem run_rows (ρ : Dev nD → PrngReg) :
    θ_run defs (onTc (τ := τ) (Cert.MixSIdeal.main (F := Ideal))) ⟨m, fun _ => 0, ρ⟩ fun r => ∀ c : Dev nD,
      r.2.mem ((c.tc : Thread nD τ).loc main_v9_0) = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v9_1) = hidT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1.1 c).1 7).trans (arr_7 m c), ((h.1.1 c).1 8).trans (arr_8 m c), h.2.1 c⟩)
    (θ_run_and (run m ρ) (frame m ρ))

end Cert.MixSIdeal.Hand
-- ==== Proof.EndRun.lean ====
module

public import proofs.«01_k».proof.Proof.Gen.EndIdeal.Launch
public import proofs.«01_k».proof.Proof.Gen.EndIdeal.Skeleton
public import proofs.«01_k».proof.Proof.Gen.EndIdeal.Points
public import Idealize.ShloMosaic.Lib.VecWindow
public import Idealize.ShloMosaic.Lib.Pointwise
public import Idealize.ShloMosaic.Lib.Exec
public import Idealize.ShloMosaic.Lib.Tactic
public import Idealize.ShloMosaic.Lib.Ring
public import Idealize.ShloMosaic.Lib.Pipeline.Kit

@[expose] public section

set_option maxRecDepth 65536

noncomputable section

namespace Cert.EndIdeal.Hand

open Cert.EndIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the layer's last call: the rows' block is filled with the residual sum, 512 columns at a store, and then
    normalised in place, 32 rows at a trip. -/

/-- A load of a whole operand held at the contents that read `X` reads `X`. -/
theorem load_all {sp : Space} {s : Shape} {e : EltTy} {M : Memref sig Kind.tc sp s e} (h : M.IsWhole) (X : s.Idx → Elt F e)
    {off : Fin s.rank → ℕ} (inb : ∀ a, off a + s.size a ≤ s.size a) :
    View.readAt (Elt F) M.view (Rect.unit off s.size inb).toLoadRect (h.unread X) = X := by
  rw [View.readAt_full, h.read_unread]

/-- A load of a part of such an operand reads that window of `X`. -/
theorem load_part {sp : Space} {s : Shape} {e : EltTy} {M : Memref sig Kind.tc sp s e} (h : M.IsWhole) (X : s.Idx → Elt F e)
    {off size : Fin s.rank → ℕ} (inb : ∀ a, off a + size a ≤ s.size a) :
    View.readAt (Elt F) M.view (Rect.unit off size inb).toLoadRect (h.unread X) = VecWindow.window X off size inb := by
  rw [View.readAt_unit _ _ inb rfl inb, h.read_unread]

theorem norm_congr {X X' : Vec F S32x4096 .f32} {g g' b b' : Vec F S1x4096 .f32} (hX : X = X') (hg : g = g') (hb : b = b') :
    k0_pay1 X g b = k0_pay1 X' g' b' := by
  subst hX hg hb; rfl

theorem put_congr {s : Shape} {α : Type} {X X' : s.Idx → α} (off size : Fin s.rank → ℕ) {w w' : ((a : Fin s.rank) → Fin (size a)) → α} (hX : X = X') (hw : w = w') :
    VecWindow.put X off size w = VecWindow.put X' off size w' := by
  subst hX hw; rfl

theorem rows_inb (k : Fin k0_t1_loop.trips) : ∀ a, k0_off1 k a + S32x4096.size a ≤ S256x4096.size a := by
  revert k; decide +kernel

/-- The rows' block after one trip. -/
def trip (g b : Vec F S1x4096 .f32) (k : Fin k0_t1_loop.trips) (X : Vec F S256x4096 .f32) : Vec F S256x4096 .f32 :=
  VecWindow.put X (k0_off1 k) S32x4096.size (k0_pay1 (VecWindow.window X (k0_off1 k) S32x4096.size (rows_inb k)) g b)

/-- The rows' block after `k` trips. -/
def trips (X : Vec F S256x4096 .f32) (g b : Vec F S1x4096 .f32) : ℕ → Vec F S256x4096 .f32
  | 0 => X
  | k + 1 => if h : k < k0_t1_loop.trips then trip g b ⟨k, h⟩ (trips X g b k) else trips X g b k

theorem trips_succ (X : Vec F S256x4096 .f32) (g b : Vec F S1x4096 .f32) (k : Fin k0_t1_loop.trips) :
    trips X g b (k.val + 1) = trip g b k (trips X g b k.val) := by
  show (if h : k.val < k0_t1_loop.trips then trip g b ⟨k.val, h⟩ (trips X g b k.val) else trips X g b k.val) = _
  rw [dif_pos k.isLt]

/-- The residual sum: each element is the scaled element of the rows plus one of the transposed addend. -/
def summed (H : Vec F S256x4096 .f32) (P : Vec F S4096x256 .f32) : Vec F S256x4096 .f32 :=
  fun y => k0_pay2 (fun _ => H y) (fun _ => P (ix2 (y 1) (y 0))) (ix2 0 0)

theorem sum_one (u : Vec F S256x512 .f32) (v : Vec F S512x256 .f32) (x : S256x512.Idx) :
    k0_pay2 u v x = k0_pay2 (fun _ => u x) (fun _ => v (ix2 (x 1) (x 0))) (ix2 0 0) := by
  unfold k0_pay2
  refine congrArg (fun r : F .f32 => (addf (mulf (broadcast S256x512 (Scalar.ofBits .f32 0x3F9837F0#32)) (fun _ => u x)) (fun _ => r : FVec F S256x512 .f32)) (ix2 0 0)) ?_
  show v _ = v _
  refine congrArg v (funext fun a => ?_)
  match a with
  | ⟨0, _⟩ => rfl
  | ⟨1, _⟩ => rfl

/-- One stored piece is its part of the residual sum. -/
theorem piece {M : Memref sig .tc .vmem S256x4096 .f32} (h : M.IsWhole) {M' : Memref sig .tc .vmem S4096x256 .f32} (h' : M'.IsWhole)
    (H : Vec F S256x4096 .f32) (P : Vec F S4096x256 .f32) (q : ℕ)
    (inb : ∀ a, (![0, q] : Fin 2 → ℕ) a + S256x512.size a ≤ S256x4096.size a) (inb' : ∀ a, (![q, 0] : Fin 2 → ℕ) a + S512x256.size a ≤ S4096x256.size a) (x : S256x512.Idx) :
    k0_pay2 (View.readAt (Elt F) M.view (Rect.unit (s := S256x4096) ![0, q] S256x512.size inb).toLoadRect (h.unread H))
        (View.readAt (Elt F) M'.view (Rect.unit (s := S4096x256) ![q, 0] S512x256.size inb').toLoadRect (h'.unread P)) x
      = summed H P ((Rect.unit (s := S256x4096) ![0, q] S256x512.size inb).emb x) := by
  rw [sum_one, load_part, load_part]
  unfold summed
  have e1 : VecWindow.window H ![0, q] S256x512.size inb x = H ((Rect.unit (s := S256x4096) ![0, q] S256x512.size inb).emb x) := by
    refine congrArg H (funext fun a => Fin.ext ?_)
    match a with
    | ⟨0, _⟩ => rfl
    | ⟨1, _⟩ => rfl
  have e2 : VecWindow.window P ![q, 0] S512x256.size inb' (ix2 (x 1) (x 0)) = P (ix2 (((Rect.unit (s := S256x4096) ![0, q] S256x512.size inb).emb x) 1) (((Rect.unit (s := S256x4096) ![0, q] S256x512.size inb).emb x) 0)) := by
    refine congrArg P (funext fun a => Fin.ext ?_)
    match a with
    | ⟨0, _⟩ => rfl
    | ⟨1, _⟩ => rfl
  exact congrArg₂ (fun r s : F .f32 => k0_pay2 (fun _ => r) (fun _ => s) (ix2 0 0)) e1 e2

set_option maxHeartbeats 1000000 in
/-- One trip. -/
theorem trip_run (c : Dev nD) (i : grid0.Coords) (Mh : Memref sig .tc .vmem S256x4096 .f32) (hh : Mh.IsWhole) (Mp : Memref sig .tc .vmem S4096x256 .f32) (hp : Mp.IsWhole) (Mg : Memref sig .tc .vmem S1x4096 .f32) (hg : Mg.IsWhole) (Mb : Memref sig .tc .vmem S1x4096 .f32) (hb : Mb.IsWhole) (Mo : Memref sig .tc .vmem S256x4096 .f32) (ho : Mo.IsWhole)
    (k : Fin k0_t1_loop.trips) (g b : Vec F S1x4096 .f32) (X : Vec F S256x4096 .f32) (E : Set ℕ) (K : Unit → sProp 𝕄) :
    iprop(owns (c : Thread nD τ) Mg fullShare g ∗ owns (c : Thread nD τ) Mb fullShare b ∗ owns (c : Thread nD τ) Mo fullShare X
      ∗ (iprop(owns (c : Thread nD τ) Mg fullShare g ∗ owns (c : Thread nD τ) Mb fullShare b ∗ owns (c : Thread nD τ) Mo fullShare (trip g b k X)) -∗ K ⟨⟩))
    ⊢ wp frame (wpE (defs₀ (F := F)) Variants.none c none) E (k0_t1_body i Mh hh Mp hp Mg hg Mb hb Mo ho k ⟨⟩) K := by
  unfold k0_t1_body
  unfold owns
  iintro ⟨⟨%fg, %eg, Hg⟩, ⟨%fb, %eb, Hb⟩, ⟨%fo, %eo, Ho⟩, Hk⟩
  obtain rfl := hg.eq_unread eg; obtain rfl := hb.eq_unread eb; obtain rfl := ho.eq_unread eo
  sl_exec
  sl_step
  iapply Hk
  isplitl [Hg]
  · iexists _; isplitr; swap; · iexact Hg
    ipureintro; exact hg.read_unread _
  isplitl [Hb]
  · iexists _; isplitr; swap; · iexact Hb
    ipureintro; exact hb.read_unread _
  iexists _; isplitr; swap; · iexact Ho
  ipureintro
  refine (View.read_writes_cons_put _ _ _ _ _ rfl).trans ?_
  unfold trip
  exact put_congr _ _ (ho.read_unread _)
    (norm_congr (load_part ho _ _) (load_all hg _ _) (load_all hb _ _))

set_option maxHeartbeats 4000000 in
/-- The body at a point. -/
theorem step (c : Dev nD) (i : grid0.Coords) (Mh : Memref sig .tc .vmem S256x4096 .f32) (hh : Mh.IsWhole) (Mp : Memref sig .tc .vmem S4096x256 .f32) (hp : Mp.IsWhole) (Mg : Memref sig .tc .vmem S1x4096 .f32) (hg : Mg.IsWhole) (Mb : Memref sig .tc .vmem S1x4096 .f32) (hb : Mb.IsWhole) (Mo : Memref sig .tc .vmem S256x4096 .f32) (ho : Mo.IsWhole)
    (H : Vec F S256x4096 .f32) (P : Vec F S4096x256 .f32) (g : Vec F S1x4096 .f32) (b : Vec F S1x4096 .f32) (o : Vec F S256x4096 .f32) (E : Set ℕ) (K : PUnit → sProp 𝕄) :
    iprop(owns (c : Thread nD τ) Mh fullShare H ∗ owns (c : Thread nD τ) Mp fullShare P ∗ owns (c : Thread nD τ) Mg fullShare g ∗ owns (c : Thread nD τ) Mb fullShare b ∗ owns (c : Thread nD τ) Mo fullShare o
      ∗ (iprop(owns (c : Thread nD τ) Mh fullShare H ∗ owns (c : Thread nD τ) Mp fullShare P ∗ owns (c : Thread nD τ) Mg fullShare g ∗ owns (c : Thread nD τ) Mb fullShare b ∗ owns (c : Thread nD τ) Mo fullShare (trips (summed H P) g b 8)) -∗ K ⟨⟩))
    ⊢ wp frame (wpE (defs₀ (F := F)) Variants.none c none) E (cc0_final_ln i Mh hh Mp hp Mg hg Mb hb Mo ho) K := by
  simp only [cc0_final_ln_eq_skeleton]; unfold cc0_final_ln_skel
  simp only [k0_part1_eq_skeleton, k0_part2_eq_skeleton]
  unfold owns
  iintro ⟨⟨%fh, %eh, Hh⟩, ⟨%fp, %ep, Hp⟩, ⟨%fg, %eg, Hg⟩, ⟨%fb, %eb, Hb⟩, ⟨%fo, %eo, Ho⟩, Hk⟩
  obtain rfl := hh.eq_unread eh; obtain rfl := hp.eq_unread ep; obtain rfl := hg.eq_unread eg; obtain rfl := hb.eq_unread eb; obtain rfl := ho.eq_unread eo
  sl_exec
  iapply (Scf.wp_for_bind (M := 𝕄) _ _ _ _ _ _ _ _ _ (fun k (_ : Unit) => iprop(owns (c : Thread nD τ) Mg fullShare g ∗ owns (c : Thread nD τ) Mb fullShare b ∗ owns (c : Thread nD τ) Mo fullShare (trips (summed H P) g b k))) ?hbody) $$ [Hg Hb Ho]
  case hbody =>
    intro k acc
    obtain rfl : acc = ⟨⟩ := rfl
    iintro ⟨Hg, Hb, Ho⟩
    iapply (trip_run c i Mh hh Mp hp Mg hg Mb hb Mo ho k g b _ E _)
    isplitl [Hg]; · iexact Hg
    isplitl [Hb]; · iexact Hb
    isplitl [Ho]; · iexact Ho
    iintro ⟨Hg, Hb, Ho⟩
    isplitl [Hg]; · iexact Hg
    isplitl [Hb]; · iexact Hb
    rw [trips_succ]; iexact Ho
  · isplitl [Hg]
    · unfold owns; iexists _; isplitr; swap; · iexact Hg
      ipureintro; exact hg.read_unread _
    isplitl [Hb]
    · unfold owns; iexists _; isplitr; swap; · iexact Hb
      ipureintro; exact hb.read_unread _
    unfold owns; iexists _; isplitr; swap; · iexact Ho
    ipureintro
    show _ = summed H P
    funext y
    refine View.read_writes_apply_of_pieces _ _ _ _ ?_ y (View.cover_of_tiledL _ ![256, 512] rfl y)
    iterate 8
      refine List.forall_mem_cons.mpr ⟨fun x => piece hh hp H P _ _ _ x, ?_⟩
    exact fun _ h => absurd h List.not_mem_nil
  iintro %acc ⟨Hg, Hb, Ho⟩
  rw [show Scf.trips _ _ _ = 8 from by decide +kernel]
  generalize trips (summed H P) g b 8 = X
  unfold owns
  icases Hg with ⟨%fg, %eg, Hg⟩
  icases Hb with ⟨%fb, %eb, Hb⟩
  icases Ho with ⟨%fo, %eo, Ho⟩
  obtain rfl := hg.eq_unread eg; obtain rfl := hb.eq_unread eb; obtain rfl := ho.eq_unread eo
  sl_step
  iapply Hk
  isplitl [Hh]
  · iexists _; isplitr; swap; · iexact Hh
    ipureintro; exact hh.read_unread _
  isplitl [Hp]
  · iexists _; isplitr; swap; · iexact Hp
    ipureintro; exact hp.read_unread _
  isplitl [Hg]
  · iexists _; isplitr; swap; · iexact Hg
    ipureintro; exact hg.read_unread _
  isplitl [Hb]
  · iexists _; isplitr; swap; · iexact Hb
    ipureintro; exact hb.read_unread _
  iexists _; isplitr; swap; · iexact Ho
  ipureintro; exact ho.read_unread _

end Cert.EndIdeal.Hand

end
-- ==== Proof.EndDat.lean ====
module

public import proofs.«01_k».proof.Proof.EndRun
public import proofs.«01_k».proof.Proof.Gen.EndIdeal.Frame
public import Idealize.ShloMosaic.Lib.Claim

@[expose] public section

set_option maxRecDepth 16384

noncomputable section

namespace Cert.EndIdeal.Hand

open Cert.EndIdeal.Gen (V V0 iblk bigSep_W0 hmain sfx_sub sfx_fresh sfx_keeps frame_of launch0 hostOps1 st0_0 st0_1 st0_2 st0_3 st0_4 bodyAt0 before0_0_of before0_1_of before0_2_of before0_3_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point: the point's rows, summed and normalised -/

/-- The normalised rows of a point. -/
def Normed (c : Dev nD) (t : Fin cfg0.N) : Vec F S256x4096 .f32 :=
  trips (summed (iblk m c 0 t) (iblk m c 1 t)) (iblk m c 2 t) (iblk m c 3 t) 8

def rowDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Normed m c t
  Φ _ := Pipeline.ΦA spec0 c
  q _ := fullShare
  owed _ := 0

theorem A_eq (c : Dev nD) (w : Fin cfg0.W) : (rowDats m 0 c).A w = V m c (Pipeline.arrRef spec0 w) := by
  dsimp only [rowDats]
theorem after_0 (c : Dev nD) (t : Fin cfg0.N) : (rowDats m 0 c).after 0 t = iblk m c 0 t := by dsimp only [rowDats]
theorem after_1 (c : Dev nD) (t : Fin cfg0.N) : (rowDats m 0 c).after 1 t = iblk m c 1 t := by dsimp only [rowDats]
theorem after_2 (c : Dev nD) (t : Fin cfg0.N) : (rowDats m 0 c).after 2 t = iblk m c 2 t := by dsimp only [rowDats]
theorem after_3 (c : Dev nD) (t : Fin cfg0.N) : (rowDats m 0 c).after 3 t = iblk m c 3 t := by dsimp only [rowDats]
theorem after_4 (c : Dev nD) (t : Fin cfg0.N) : (rowDats m 0 c).after 4 t = Normed m c t := by dsimp only [rowDats]
theorem before_0 (c : Dev nD) (t : Fin cfg0.N) (d) : (rowDats m 0 c).before 0 t d = iblk m c 0 t :=
  before0_0_of m (rowDats m 0 c) (A_eq m c 0) (after_0 m c) t d
theorem before_1 (c : Dev nD) (t : Fin cfg0.N) (d) : (rowDats m 0 c).before 1 t d = iblk m c 1 t :=
  before0_1_of m (rowDats m 0 c) (A_eq m c 1) (after_1 m c) t d
theorem before_2 (c : Dev nD) (t : Fin cfg0.N) (d) : (rowDats m 0 c).before 2 t d = iblk m c 2 t :=
  before0_2_of m (rowDats m 0 c) (A_eq m c 2) (after_2 m c) t d
theorem before_3 (c : Dev nD) (t : Fin cfg0.N) (d) : (rowDats m 0 c).before 3 t d = iblk m c 3 t :=
  before0_3_of m (rowDats m 0 c) (A_eq m c 3) (after_3 m c) t d

/-- What the body is called with at a point, -/
def pointPre (c : Dev nD) (t : Fin cfg0.N) : sProp 𝕄 :=
  iprop((rowDats m 0 c).Φ t.castSucc ∗ (rowDats m 0 c).owesAt () t.castSucc
    ∗ (∃ d, owns (c : Thread nD τ) (st0_0 t) fullShare ((rowDats m 0 c).before 0 t d))
    ∗ (∃ d, owns (c : Thread nD τ) (st0_1 t) fullShare ((rowDats m 0 c).before 1 t d))
    ∗ (∃ d, owns (c : Thread nD τ) (st0_2 t) fullShare ((rowDats m 0 c).before 2 t d))
    ∗ (∃ d, owns (c : Thread nD τ) (st0_3 t) fullShare ((rowDats m 0 c).before 3 t d))
    ∗ (∃ d, owns (c : Thread nD τ) (st0_4 t) fullShare ((rowDats m 0 c).before 4 t d)))

/-- and what it hands on. -/
def pointPost (c : Dev nD) (t : Fin cfg0.N) : sProp 𝕄 :=
  iprop((rowDats m 0 c).Φ t.succ ∗ (rowDats m 0 c).owesAt () t.succ
    ∗ owns (c : Thread nD τ) (st0_0 t) fullShare ((rowDats m 0 c).after 0 t)
    ∗ owns (c : Thread nD τ) (st0_1 t) fullShare ((rowDats m 0 c).after 1 t)
    ∗ owns (c : Thread nD τ) (st0_2 t) fullShare ((rowDats m 0 c).after 2 t)
    ∗ owns (c : Thread nD τ) (st0_3 t) fullShare ((rowDats m 0 c).after 3 t)
    ∗ owns (c : Thread nD τ) (st0_4 t) fullShare ((rowDats m 0 c).after 4 t))

theorem point (c : Dev nD) (t : Fin cfg0.N) :
    pointPre m c t ⊢ wp frame (wpE (defs₀ (F := F)) Variants.none c none) Set.univ (bodyAt0 t) (fun _ => pointPost m c t) := by
  unfold pointPre pointPost bodyAt0
  rw [show (rowDats m 0 c).owesAt () t.succ = (rowDats m 0 c).owesAt () t.castSucc from rfl, show (rowDats m 0 c).Φ t.succ = (rowDats m 0 c).Φ t.castSucc from rfl]
  simp only [before_0, after_0, before_1, after_1, before_2, after_2, before_3, after_3, after_4]
  iintro ⟨Hs, Hw, ⟨%d0, H0⟩, ⟨%d1, H1⟩, ⟨%d2, H2⟩, ⟨%d3, H3⟩, ⟨%d4, H4⟩⟩
  iapply (step c (grid0.coords t) _ _ _ _ _ _ _ _ _ _ (iblk m c 0 t) (iblk m c 1 t) (iblk m c 2 t) (iblk m c 3 t) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [Hs]; · iexact Hs
  isplitl [Hw]; · iexact Hw
  isplitl [H0]; · iexact H0
  isplitl [H1]; · iexact H1
  isplitl [H2]; · iexact H2
  isplitl [H3]; · iexact H3
  iexact H4

theorem point_row (t : Fin cfg0.N) : defs₀ (F := F) .tc cfg0.body (cfg0.bodyArgs t (cfg0.slots t)) = bodyAt0 t := by
  unfold defs₀; rw [Defs.onTc_tc]

theorem obligation (c : Dev nD) : BodyObligation (rowDats (F := F) m 0 c) (defs₀ (F := F)) Variants.none () Set.univ := fun t => by
  rw [bigSep_W0, bigSep_W0, point_row]
  exact triple_restated (point m c t) rfl .rfl fun _ => .rfl

/-! ## The launch -/

set_option backward.isDefEq.respectTransparency.types false in
set_option maxHeartbeats 800000 in
/-- Every run ends, with the result at the write-backs of the points' rows, reshaped by the line after the call, and every
counter at zero. -/
theorem run : θ_run defs (onTc (τ := τ) (main (F := F))) (s₀ m ρ)
    (fun r => Pipeline.FramePost cfgs (rowDats m) 0 (Pipeline.afterTail₀ cfgs (rowDats m) 0 (V0 m) [hostOps1]) r ∧ r.2.sem = fun _ => 0) :=
  Pipeline.θ_run_frame_around (Q' := _) cfgs (rowDats m) (0 : Fin 1) launch0 defs₀ Variants.none m ρ main
    (hbody := fun c => (obligation m c).loose) (hshare := fun c => (rowDats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (rowDats m) (A_eq m) ((θ_run defs _ _).mono (fun _ h => h.1) (run m ρ)))
    ((θ_run defs _ _).mono (fun _ h => h.2) (run m ρ))

end Cert.EndIdeal.Hand

end
-- ==== Proof.EndColumns.lean ====
module

public import proofs.«01_k».proof.Proof.Gen.EndRefIdeal.Run
public import Idealize.ShloMosaic.Lib.Pointwise
public import Idealize.ShloMosaic.Lib.IdealHost

/-! The layer's last residual sum at a row and a column, its normalised row, and the reference's result as that. -/

@[expose] public section
set_option maxRecDepth 16384
noncomputable section
namespace Cert.EndRefIdeal.Columns
open Cert.EndRefIdeal Cert.EndRefIdeal.Gen Idealize.ShloMosaic Idealize.ShloMosaic.TcCoe Idealize.SL.Sem Idealize.ShloMosaic.Pointwise

/-- The scaled rows plus the transposed addend, at row `r` and column `n`. -/
def lastSum (H : FVec Ideal S16384x4096 .f32) (P : FVec Ideal S4096x16384 .f32) (r : Fin 16384) (n : Fin 4096) : EReal :=
  Ideal.ofBits FTy.f32 0x3F9837F0#32 * H (ix2 r n) + P (ix2 n r)

/-- The mean of a row. -/
def mean (f : Fin 4096 → EReal) : EReal := Ideal.div (∑ k, f k) (Ideal.ofBits FTy.f32 0x45800000#32)

/-- A row less its mean, over the root of its variance, scaled and shifted. -/
def rowNorm (f g b : Fin 4096 → EReal) (n : Fin 4096) : EReal :=
  (f n - mean f) * Ideal.rsqrt (mean (fun k => (f k - mean f) * (f k - mean f)) + Ideal.ofBits FTy.f32 0x3727C5AC#32) * g n + b n

/-- The normalised rows. -/
def rows (H : FVec Ideal S16384x4096 .f32) (P : FVec Ideal S4096x16384 .f32) (g b : FVec Ideal S1x4096 .f32) : FVec Ideal S16384x4096 .f32 :=
  fun i => rowNorm (lastSum H P (i 0)) (fun k => g (ix2 0 k)) (fun k => b (ix2 0 k)) (i 1)

/-- The layer's result: the rows by stream and frame. -/
def out (H : FVec Ideal S16384x4096 .f32) (P : FVec Ideal S4096x16384 .f32) (g b : FVec Ideal S1x4096 .f32) : FVec Ideal S8x2048x4096 .f32 :=
  shapeCast _ (rows H P g b) shapeCasts_S16384x4096_S8x2048x4096

/-- The sum the reference normalises. -/
def pre (H : FVec Ideal S16384x4096 .f32) (P : FVec Ideal S4096x16384 .f32) : FVec Ideal S16384x4096 .f32 :=
  addf (mulf (broadcastInDim S16384x4096 ![] bcast_S_S16384x4096 (constant S_ .f32 0x3F9837F0#32)) H) (transpose S16384x4096 [1, 0] P transposes_S4096x16384_S16384x4096_1_0)

/-- A layer norm of rows, as the reference computes it. -/
def normal (X : FVec Ideal S16384x4096 .f32) (g b : FVec Ideal S1x4096 .f32) : FVec Ideal S16384x4096 .f32 :=
  addf (mulf (mulf (subf X (broadcastInDim S16384x4096 ![0, 1] bcast_S16384x1_S16384x4096_0_1 (Host.divf (broadcastInDim S16384x1 ![0] bcast_S16384_S16384x1_0 (Host.reduceAdd X (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf X (broadcastInDim S16384x4096 ![0, 1] bcast_S16384x1_S16384x4096_0_1 (Host.divf (broadcastInDim S16384x1 ![0] bcast_S16384_S16384x1_0 (Host.reduceAdd X (constant S_ .f32 0x00000000#32) reducesTo_S16384x4096_S16384_d1 h_S_)) (broadcastInDim S16384x1 ![] bcast_S_S16384x1 (constant S_ .f32 0x45800000#32))))) (subf X (broadcastInDim S16384x4096 ![0, 1] bcast_S16384x1_S16384x4096_0_1 (Host.divf (broadcastInDim S16384x1 ![0] bcast_S16384_S16384x1_0 (Host.reduceAdd X (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ g shapeCasts_S1x4096_S4096)))) (broadcastInDim S16384x4096 ![0, 1] bcast_S1x4096_S16384x4096_0_1 (broadcastInDim S1x4096 ![1] bcast_S4096_S1x4096_1 (shapeCast _ b shapeCasts_S1x4096_S4096)))

theorem pre_apply (H : FVec Ideal S16384x4096 .f32) (P : FVec Ideal S4096x16384 .f32) (r : Fin 16384) (n : Fin 4096) : pre H P (ix2 r n) = lastSum H P r n := by
  unfold lastSum
  pointwise [pre]

theorem normal_apply (X : FVec Ideal S16384x4096 .f32) (g b : FVec Ideal S1x4096 .f32) (r : Fin 16384) (n : Fin 4096) :
    normal X g b (ix2 r n) = rowNorm (fun k => X (ix2 r k)) (fun k => g (ix2 0 k)) (fun k => b (ix2 0 k)) n := by
  unfold rowNorm mean
  pointwise [normal]

theorem rows_eq (H : FVec Ideal S16384x4096 .f32) (P : FVec Ideal S4096x16384 .f32) (g b : FVec Ideal S1x4096 .f32) : normal (pre H P) g b = rows H P g b := by
  funext i
  obtain ⟨r, n, rfl⟩ : ∃ r n, i = (ix2 r n : S16384x4096.Idx) := ⟨i 0, i 1, eq_ix2 i⟩
  rw [normal_apply]
  exact congrArg (rowNorm · _ _ n) (funext fun k => pre_apply H P r k)

/-- The reference's run ends in the normalised rows. -/
theorem run (m : (ℓ : Loc nD τ sig) → Buf (Elt Ideal) ℓ) (ρ : Dev nD → PrngReg) :
    θ_run defs (onTc (τ := τ) (Cert.EndRefIdeal.main (F := Ideal))) ⟨m, fun _ => 0, ρ⟩ fun r => ∀ c : Dev nD,
      r.2.mem ((c.tc : Thread nD τ).loc main_v30) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (congrArg (fun Y => shapeCast S8x2048x4096 Y shapeCasts_S16384x4096_S8x2048x4096) (rows_eq (m ((c.tc : Thread nD τ).loc main_arg0)) (m ((c.tc : Thread nD τ).loc main_arg1)) (m ((c.tc : Thread nD τ).loc main_arg2)) (m ((c.tc : Thread nD τ).loc main_arg3)))), (h c).2⟩)
    (Value.run m ρ)

end Cert.EndRefIdeal.Columns
-- ==== Proof.EndValue.lean ====
module

public import proofs.«01_k».proof.Proof.EndDat
public import proofs.«01_k».proof.Proof.EndColumns
public import Idealize.ShloMosaic.Lib.Pointwise
public import Idealize.ShloMosaic.Lib.IdealHost
public import Idealize.ShloMosaic.Lib.Pipeline.ValueKit
public import Idealize.ShloMosaic.PureOps.IdealRules

/-! The layer's last call over the extended reals: the normalised rows of the residual sum. -/

@[expose] public section
set_option maxRecDepth 16384
noncomputable section
namespace Cert.EndIdeal.Hand
open Cert.EndIdeal
open Cert.EndIdeal.Gen
open Idealize.ShloMosaic Idealize.ShloMosaic.TcCoe Idealize.SL.Sem Idealize.ShloMosaic.Pointwise Cert.EndRefIdeal.Columns
variable (m : (ℓ : Loc nD τ sig) → Buf (Elt Ideal) ℓ) (c : Dev nD)

/-! ## The arrays the call reads -/

theorem gain_at (n : Fin 4096) : V m c main_v1 (ix2 0 n) = m ((c : Thread nD τ).loc main_arg2) (ix2 0 n) := by
  simp only [V, V0, hostOps0, List.flatten_cons, List.flatten_nil, List.append_nil, List.cons_append, List.nil_append]
  after_results
  pointwise

theorem bias_at (n : Fin 4096) : V m c main_v3 (ix2 0 n) = m ((c : Thread nD τ).loc main_arg3) (ix2 0 n) := by
  simp only [V, V0, hostOps0, List.flatten_cons, List.flatten_nil, List.append_nil, List.cons_append, List.nil_append]
  after_results
  pointwise

/-! ## The blocks -/

theorem N_at (t : Fin cfg0.N) : t.val < 64 := t.isLt.trans_eq (by decide +kernel)

theorem idx_0 : ∀ t : Fin cfg0.N, win0_0.index t = ![t.val, 0] :=
  (by decide +kernel : ∀ t : Fin grid0.N, win0_0.index t = ![t.val, 0])
theorem emb_0 (t : Fin cfg0.N) (y : S256x4096.Idx) (r : Fin 16384) (n : Fin 4096) (hr : r.val = (t.val) * 256 + (y 0).val) (hn : n.val = (0) * 4096 + (y 1).val) :
    ((cfg0.win 0).blk t).view.emb y = (ix2 r n : S16384x4096.Idx) := by
  funext a
  apply Fin.ext
  refine (Pipeline.Window.rect_emb_val win0_0 t y a).trans ?_
  rw [idx_0 t]
  fin_cases a
  · exact hr.symm
  · exact hn.symm
theorem read_0 (X : Buf (Elt Ideal) ((c : Thread nD τ).loc main_arg0)) (t : Fin cfg0.N) (p : Fin 256) (q : Fin 4096) (r : Fin 16384) (n : Fin 4096)
    (hr : r.val = (t.val) * 256 + p.val) (hn : n.val = (0) * 4096 + q.val) : ((cfg0.win 0).blk t).view.read (Elt Ideal) X (ix2 p q) = X (ix2 r n) :=
  congrArg X (emb_0 t (ix2 p q) r n hr hn)
theorem block_0 (t : Fin cfg0.N) (p : Fin 256) (q : Fin 4096) (r : Fin 16384) (n : Fin 4096)
    (hr : r.val = (t.val) * 256 + p.val) (hn : n.val = (0) * 4096 + q.val) : Gen.iblk m c 0 t (ix2 p q) = Gen.V m c main_arg0 (ix2 r n) := by
  unfold Gen.iblk
  exact read_0 c (Gen.V m c main_arg0) t p q r n hr hn

theorem idx_1 : ∀ t : Fin cfg0.N, win0_1.index t = ![0, t.val] :=
  (by decide +kernel : ∀ t : Fin grid0.N, win0_1.index t = ![0, t.val])
theorem emb_1 (t : Fin cfg0.N) (y : S4096x256.Idx) (r : Fin 4096) (n : Fin 16384) (hr : r.val = (0) * 4096 + (y 0).val) (hn : n.val = (t.val) * 256 + (y 1).val) :
    ((cfg0.win 1).blk t).view.emb y = (ix2 r n : S4096x16384.Idx) := by
  funext a
  apply Fin.ext
  refine (Pipeline.Window.rect_emb_val win0_1 t y a).trans ?_
  rw [idx_1 t]
  fin_cases a
  · exact hr.symm
  · exact hn.symm
theorem read_1 (X : Buf (Elt Ideal) ((c : Thread nD τ).loc main_arg1)) (t : Fin cfg0.N) (p : Fin 4096) (q : Fin 256) (r : Fin 4096) (n : Fin 16384)
    (hr : r.val = (0) * 4096 + p.val) (hn : n.val = (t.val) * 256 + q.val) : ((cfg0.win 1).blk t).view.read (Elt Ideal) X (ix2 p q) = X (ix2 r n) :=
  congrArg X (emb_1 t (ix2 p q) r n hr hn)
theorem block_1 (t : Fin cfg0.N) (p : Fin 4096) (q : Fin 256) (r : Fin 4096) (n : Fin 16384)
    (hr : r.val = (0) * 4096 + p.val) (hn : n.val = (t.val) * 256 + q.val) : Gen.iblk m c 1 t (ix2 p q) = Gen.V m c main_arg1 (ix2 r n) := by
  unfold Gen.iblk
  exact read_1 c (Gen.V m c main_arg1) t p q r n hr hn

theorem idx_2 : ∀ t : Fin cfg0.N, win0_2.index t = ![0, 0] :=
  (by decide +kernel : ∀ t : Fin grid0.N, win0_2.index t = ![0, 0])
theorem emb_2 (t : Fin cfg0.N) (y : S1x4096.Idx) (r : Fin 1) (n : Fin 4096) (hr : r.val = (0) * 1 + (y 0).val) (hn : n.val = (0) * 4096 + (y 1).val) :
    ((cfg0.win 2).blk t).view.emb y = (ix2 r n : S1x4096.Idx) := by
  funext a
  apply Fin.ext
  refine (Pipeline.Window.rect_emb_val win0_2 t y a).trans ?_
  rw [idx_2 t]
  fin_cases a
  · exact hr.symm
  · exact hn.symm
theorem read_2 (X : Buf (Elt Ideal) ((c : Thread nD τ).loc main_v1)) (t : Fin cfg0.N) (p : Fin 1) (q : Fin 4096) (r : Fin 1) (n : Fin 4096)
    (hr : r.val = (0) * 1 + p.val) (hn : n.val = (0) * 4096 + q.val) : ((cfg0.win 2).blk t).view.read (Elt Ideal) X (ix2 p q) = X (ix2 r n) :=
  congrArg X (emb_2 t (ix2 p q) r n hr hn)
theorem block_2 (t : Fin cfg0.N) (p : Fin 1) (q : Fin 4096) (r : Fin 1) (n : Fin 4096)
    (hr : r.val = (0) * 1 + p.val) (hn : n.val = (0) * 4096 + q.val) : Gen.iblk m c 2 t (ix2 p q) = Gen.V m c main_v1 (ix2 r n) := by
  unfold Gen.iblk
  exact read_2 c (Gen.V m c main_v1) t p q r n hr hn

theorem idx_3 : ∀ t : Fin cfg0.N, win0_3.index t = ![0, 0] :=
  (by decide +kernel : ∀ t : Fin grid0.N, win0_3.index t = ![0, 0])
theorem emb_3 (t : Fin cfg0.N) (y : S1x4096.Idx) (r : Fin 1) (n : Fin 4096) (hr : r.val = (0) * 1 + (y 0).val) (hn : n.val = (0) * 4096 + (y 1).val) :
    ((cfg0.win 3).blk t).view.emb y = (ix2 r n : S1x4096.Idx) := by
  funext a
  apply Fin.ext
  refine (Pipeline.Window.rect_emb_val win0_3 t y a).trans ?_
  rw [idx_3 t]
  fin_cases a
  · exact hr.symm
  · exact hn.symm
theorem read_3 (X : Buf (Elt Ideal) ((c : Thread nD τ).loc main_v3)) (t : Fin cfg0.N) (p : Fin 1) (q : Fin 4096) (r : Fin 1) (n : Fin 4096)
    (hr : r.val = (0) * 1 + p.val) (hn : n.val = (0) * 4096 + q.val) : ((cfg0.win 3).blk t).view.read (Elt Ideal) X (ix2 p q) = X (ix2 r n) :=
  congrArg X (emb_3 t (ix2 p q) r n hr hn)
theorem block_3 (t : Fin cfg0.N) (p : Fin 1) (q : Fin 4096) (r : Fin 1) (n : Fin 4096)
    (hr : r.val = (0) * 1 + p.val) (hn : n.val = (0) * 4096 + q.val) : Gen.iblk m c 3 t (ix2 p q) = Gen.V m c main_v3 (ix2 r n) := by
  unfold Gen.iblk
  exact read_3 c (Gen.V m c main_v3) t p q r n hr hn

theorem idx_4 : ∀ t : Fin cfg0.N, win0_4.index t = ![t.val, 0] :=
  (by decide +kernel : ∀ t : Fin grid0.N, win0_4.index t = ![t.val, 0])
theorem emb_4 (t : Fin cfg0.N) (y : S256x4096.Idx) (r : Fin 16384) (n : Fin 4096) (hr : r.val = (t.val) * 256 + (y 0).val) (hn : n.val = (0) * 4096 + (y 1).val) :
    ((cfg0.win 4).blk t).view.emb y = (ix2 r n : S16384x4096.Idx) := by
  funext a
  apply Fin.ext
  refine (Pipeline.Window.rect_emb_val win0_4 t y a).trans ?_
  rw [idx_4 t]
  fin_cases a
  · exact hr.symm
  · exact hn.symm

/-! ## The row block -/

theorem norm_at (X : Vec Ideal S32x4096 .f32) (g b : Vec Ideal S1x4096 .f32) (p : Fin 32) (n : Fin 4096) :
    k0_pay1 (F := Ideal) X g b (ix2 p n) = rowNorm (fun k => X (ix2 p k)) (fun k => g (ix2 0 k)) (fun k => b (ix2 0 k)) n := by
  unfold rowNorm mean
  pointwise [k0_pay1]

theorem summed_at (H : Vec Ideal S256x4096 .f32) (P : Vec Ideal S4096x256 .f32) (p : Fin 256) (n : Fin 4096) :
    summed (F := Ideal) H P (ix2 p n) = Ideal.ofBits FTy.f32 0x3F9837F0#32 * H (ix2 p n) + P (ix2 n p) := by
  pointwise [summed, k0_pay2]

theorem off_at : ∀ k : Fin k0_t1_loop.trips, k0_off1 k 0 = 32 * k.val ∧ k0_off1 k 1 = 0 := by decide +kernel

theorem trip_in (Y : Vec Ideal S256x4096 .f32) (g b : Vec Ideal S1x4096 .f32) (k : Fin k0_t1_loop.trips) (p : Fin 256) (n : Fin 4096)
    (h0 : 32 * k.val ≤ p.val) (h1 : p.val < 32 * k.val + 32) :
    trip g b k Y (ix2 p n) = rowNorm (fun j => Y (ix2 p j)) (fun j => g (ix2 0 j)) (fun j => b (ix2 0 j)) n := by
  obtain ⟨o0, o1⟩ := off_at k
  have hin : ∀ a, k0_off1 k a ≤ ((ix2 p n : S256x4096.Idx) a).val ∧ ((ix2 p n : S256x4096.Idx) a).val < k0_off1 k a + S32x4096.size a := by
    intro a
    match a with
    | ⟨0, _⟩ => exact ⟨by show k0_off1 k 0 ≤ p.val; omega, by show p.val < k0_off1 k 0 + 32; omega⟩
    | ⟨1, _⟩ => exact ⟨by show k0_off1 k 1 ≤ n.val; omega, by show n.val < k0_off1 k 1 + 4096; omega⟩
  unfold trip VecWindow.put
  rw [dif_pos hin]
  have ei : (fun a => ⟨((ix2 p n : S256x4096.Idx) a).val - k0_off1 k a, by have := hin a; omega⟩ : S32x4096.Idx) = ix2 ⟨p.val - 32 * k.val, by omega⟩ n := by
    funext a; apply Fin.ext
    match a with
    | ⟨0, _⟩ => show p.val - k0_off1 k 0 = p.val - 32 * k.val; omega
    | ⟨1, _⟩ => show n.val - k0_off1 k 1 = n.val; omega
  refine (congrArg (k0_pay1 _ g b) ei).trans ((norm_at _ g b _ n).trans ?_)
  refine congrArg (rowNorm · _ _ n) (funext fun j => ?_)
  refine congrArg Y (funext fun a => Fin.ext ?_)
  match a with
  | ⟨0, _⟩ => show k0_off1 k 0 + 1 * (p.val - 32 * k.val) = p.val; omega
  | ⟨1, _⟩ => show k0_off1 k 1 + 1 * j.val = j.val; omega

theorem trip_out (Y : Vec Ideal S256x4096 .f32) (g b : Vec Ideal S1x4096 .f32) (k : Fin k0_t1_loop.trips) (p : Fin 256) (n : Fin 4096)
    (h : p.val < 32 * k.val ∨ 32 * k.val + 32 ≤ p.val) : trip g b k Y (ix2 p n) = Y (ix2 p n) := by
  obtain ⟨o0, _⟩ := off_at k
  unfold trip VecWindow.put
  rw [dif_neg]
  intro hin
  have h2 : k0_off1 k 0 ≤ p.val := (hin 0).1
  have h3 : p.val < k0_off1 k 0 + 32 := (hin 0).2
  omega

/-- The rows a count of trips has reached are normalised, the others as they were. -/
theorem trips_at (X : Vec Ideal S256x4096 .f32) (g b : Vec Ideal S1x4096 .f32) (k : ℕ) (hk : k ≤ 8) (p : Fin 256) (n : Fin 4096) :
    trips X g b k (ix2 p n) = if p.val < 32 * k then rowNorm (fun j => X (ix2 p j)) (fun j => g (ix2 0 j)) (fun j => b (ix2 0 j)) n else X (ix2 p n) := by
  induction k generalizing n with
  | zero => rw [if_neg (by omega)]; rfl
  | succ k ih =>
    have e8 : k0_t1_loop.trips = 8 := by decide +kernel
    have hs := congrFun (trips_succ X g b ⟨k, by omega⟩) (ix2 p n)
    refine hs.trans ?_
    by_cases h : 32 * k ≤ p.val ∧ p.val < 32 * k + 32
    · rw [trip_in _ g b ⟨k, _⟩ p n h.1 h.2, if_pos (by omega)]
      refine congrArg (rowNorm · _ _ n) (funext fun j => ?_)
      exact (ih (by omega) j).trans (if_neg (by omega))
    · rw [trip_out _ g b ⟨k, _⟩ p n (by show p.val < 32 * k ∨ 32 * k + 32 ≤ p.val; omega)]
      refine (ih (by omega) n).trans ?_
      by_cases h2 : p.val < 32 * k
      · rw [if_pos h2, if_pos (by omega)]
      · rw [if_neg h2, if_neg (by omega)]

/-- A point's sum is the residual sum at its rows. -/
theorem sum_at (t : Fin cfg0.N) (p : Fin 256) (n : Fin 4096) (r : Fin 16384) (hr : r.val = t.val * 256 + p.val) :
    summed (F := Ideal) (iblk m c 0 t) (iblk m c 1 t) (ix2 p n) = lastSum (m ((c : Thread nD τ).loc main_arg0)) (m ((c : Thread nD τ).loc main_arg1)) r n := by
  refine (summed_at _ _ p n).trans ?_
  unfold lastSum
  exact congrArg₂ (· + ·)
    (congrArg _ ((block_0 m c t p n r n hr (by omega)).trans (congrFun (V_main_arg0 m c) (ix2 r n))))
    ((block_1 m c t n p n r (by omega) hr).trans (congrFun (V_main_arg1 m c) (ix2 n r)))

theorem normed_at (t : Fin cfg0.N) (p : Fin 256) (n : Fin 4096) (r : Fin 16384) (hr : r.val = t.val * 256 + p.val) :
    Normed m c t (ix2 p n) = rowNorm (lastSum (m ((c : Thread nD τ).loc main_arg0)) (m ((c : Thread nD τ).loc main_arg1)) r) (fun k => m ((c : Thread nD τ).loc main_arg2) (ix2 0 k)) (fun k => m ((c : Thread nD τ).loc main_arg3) (ix2 0 k)) n := by
  unfold Normed
  refine (trips_at _ _ _ 8 (le_refl 8) p n).trans ((if_pos (by omega)).trans ?_)
  have h1 : (fun j => summed (F := Ideal) (iblk m c 0 t) (iblk m c 1 t) (ix2 p j)) = lastSum (m ((c : Thread nD τ).loc main_arg0)) (m ((c : Thread nD τ).loc main_arg1)) r := funext fun j => sum_at m c t p j r hr
  have h2 : (fun j => iblk m c 2 t (ix2 0 j)) = fun k => m ((c : Thread nD τ).loc main_arg2) (ix2 0 k) := funext fun j => (block_2 m c t 0 j 0 j rfl (by omega)).trans (gain_at m c j)
  have h3 : (fun j => iblk m c 3 t (ix2 0 j)) = fun k => m ((c : Thread nD τ).loc main_arg3) (ix2 0 k) := funext fun j => (block_3 m c t 0 j 0 j rfl (by omega)).trans (bias_at m c j)
  exact (congrArg (rowNorm · _ _ n) h1).trans ((congrArg (rowNorm _ · _ n) h2).trans (congrArg (rowNorm _ _ · n) h3))

/-! ## The result -/

theorem arr_4 : (rowDats m 0 c).arrAt 4 cfg0.N = rows (m ((c.tc : Thread nD τ).loc main_arg0)) (m ((c.tc : Thread nD τ).loc main_arg1)) (m ((c.tc : Thread nD τ).loc main_arg2)) (m ((c.tc : Thread nD τ).loc main_arg3)) := by
  refine Pipeline.Dat.arrAt_eq_of_covers (rowDats m 0 c) 4 (rows (m ((c.tc : Thread nD τ).loc main_arg0)) (m ((c.tc : Thread nD τ).loc main_arg1)) (m ((c.tc : Thread nD τ).loc main_arg2)) (m ((c.tc : Thread nD τ).loc main_arg3))) (by decide +kernel) fun t hf => fun y => ?_
  have hN := N_at t
  have y0 : (y 0).val < 256 := (y 0).isLt
  have ey : y = (ix2 (y 0) (y 1) : S256x4096.Idx) := eq_ix2 (y : S256x4096.Idx)
  rw [emb_4 t y ⟨t.val * 256 + (y 0).val, by omega⟩ (y 1) rfl (by omega), after_4]
  exact (congrArg (Normed m c t) ey).trans (normed_at m c t (y 0) (y 1) _ rfl)

/-- The rows by stream and frame. -/
def byStream (X : FVec Ideal S16384x4096 .f32) : FVec Ideal S8x2048x4096 .f32 := shapeCast _ X shapeCasts_S16384x4096_S8x2048x4096

theorem shaped : Pipeline.afterTail₀ cfgs (rowDats m) 0 (V0 m) [hostOps1] c main_v5 = out (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  simp only [hostOps1, List.flatten_cons, List.flatten_nil, List.append_nil, List.cons_append, List.nil_append]
  after_results
  exact congrArg byStream ((Pipeline.withArrays_arr spec0 launch0.win.arr_inj c (V0 m c) (fun w => (rowDats m 0 c).arrAt w cfg0.N) 4).trans (arr_4 m c))

/-- Every run ends with the normalised rows in the result. -/
theorem run_rows (ρ : Dev nD → PrngReg) :
    θ_run defs (onTc (τ := τ) (Cert.EndIdeal.main (F := Ideal))) ⟨m, fun _ => 0, ρ⟩ fun r => ∀ c : Dev nD,
      r.2.mem ((c.tc : Thread nD τ).loc main_v5) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1.1 c).2 main_v5 (Pipeline.mem_restRefs_of main_v5 (by decide) (by decide))).trans (shaped m c), h.2.1 c⟩)
    (θ_run_and (run m ρ) (frame m ρ))

end Cert.EndIdeal.Hand
-- ==== Proof.EndSRun.lean ====
module

public import proofs.«01_k».proof.Proof.Gen.EndSIdeal.Launch
public import proofs.«01_k».proof.Proof.Gen.EndSIdeal.Skeleton
public import proofs.«01_k».proof.Proof.Gen.EndSIdeal.Points
public import Idealize.ShloMosaic.Lib.VecWindow
public import Idealize.ShloMosaic.Lib.Pointwise
public import Idealize.ShloMosaic.Lib.Exec
public import Idealize.ShloMosaic.Lib.Tactic
public import Idealize.ShloMosaic.Lib.Ring
public import Idealize.ShloMosaic.Lib.Pipeline.Kit

@[expose] public section

set_option maxRecDepth 65536

noncomputable section

namespace Cert.EndSIdeal.Hand

open Cert.EndSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the layer's last call: the rows' block is filled with the residual sum, 512 columns at a store, and then
    normalised in place, 32 rows at a trip. -/

/-- A load of a whole operand held at the contents that read `X` reads `X`. -/
theorem load_all {sp : Space} {s : Shape} {e : EltTy} {M : Memref sig Kind.tc sp s e} (h : M.IsWhole) (X : s.Idx → Elt F e)
    {off : Fin s.rank → ℕ} (inb : ∀ a, off a + s.size a ≤ s.size a) :
    View.readAt (Elt F) M.view (Rect.unit off s.size inb).toLoadRect (h.unread X) = X := by
  rw [View.readAt_full, h.read_unread]

/-- A load of a part of such an operand reads that window of `X`. -/
theorem load_part {sp : Space} {s : Shape} {e : EltTy} {M : Memref sig Kind.tc sp s e} (h : M.IsWhole) (X : s.Idx → Elt F e)
    {off size : Fin s.rank → ℕ} (inb : ∀ a, off a + size a ≤ s.size a) :
    View.readAt (Elt F) M.view (Rect.unit off size inb).toLoadRect (h.unread X) = VecWindow.window X off size inb := by
  rw [View.readAt_unit _ _ inb rfl inb, h.read_unread]

theorem norm_congr {X X' : Vec F S32x4096 .f32} {g g' b b' : Vec F S1x4096 .f32} (hX : X = X') (hg : g = g') (hb : b = b') :
    k0_pay1 X g b = k0_pay1 X' g' b' := by
  subst hX hg hb; rfl

theorem put_congr {s : Shape} {α : Type} {X X' : s.Idx → α} (off size : Fin s.rank → ℕ) {w w' : ((a : Fin s.rank) → Fin (size a)) → α} (hX : X = X') (hw : w = w') :
    VecWindow.put X off size w = VecWindow.put X' off size w' := by
  subst hX hw; rfl

theorem rows_inb (k : Fin k0_t1_loop.trips) : ∀ a, k0_off1 k a + S32x4096.size a ≤ S256x4096.size a := by
  revert k; decide +kernel

/-- The rows' block after one trip. -/
def trip (g b : Vec F S1x4096 .f32) (k : Fin k0_t1_loop.trips) (X : Vec F S256x4096 .f32) : Vec F S256x4096 .f32 :=
  VecWindow.put X (k0_off1 k) S32x4096.size (k0_pay1 (VecWindow.window X (k0_off1 k) S32x4096.size (rows_inb k)) g b)

/-- The rows' block after `k` trips. -/
def trips (X : Vec F S256x4096 .f32) (g b : Vec F S1x4096 .f32) : ℕ → Vec F S256x4096 .f32
  | 0 => X
  | k + 1 => if h : k < k0_t1_loop.trips then trip g b ⟨k, h⟩ (trips X g b k) else trips X g b k

theorem trips_succ (X : Vec F S256x4096 .f32) (g b : Vec F S1x4096 .f32) (k : Fin k0_t1_loop.trips) :
    trips X g b (k.val + 1) = trip g b k (trips X g b k.val) := by
  show (if h : k.val < k0_t1_loop.trips then trip g b ⟨k.val, h⟩ (trips X g b k.val) else trips X g b k.val) = _
  rw [dif_pos k.isLt]

/-- The residual sum: each element is the scaled element of the rows plus one of the transposed addend. -/
def summed (H : Vec F S256x4096 .f32) (P : Vec F S4096x256 .f32) : Vec F S256x4096 .f32 :=
  fun y => k0_pay2 (fun _ => H y) (fun _ => P (ix2 (y 1) (y 0))) (ix2 0 0)

theorem sum_one (u : Vec F S256x512 .f32) (v : Vec F S512x256 .f32) (x : S256x512.Idx) :
    k0_pay2 u v x = k0_pay2 (fun _ => u x) (fun _ => v (ix2 (x 1) (x 0))) (ix2 0 0) := by
  unfold k0_pay2
  refine congrArg (fun r : F .f32 => (addf (mulf (broadcast S256x512 (Scalar.ofBits .f32 0x3F9837F0#32)) (fun _ => u x)) (fun _ => r : FVec F S256x512 .f32)) (ix2 0 0)) ?_
  show v _ = v _
  refine congrArg v (funext fun a => ?_)
  match a with
  | ⟨0, _⟩ => rfl
  | ⟨1, _⟩ => rfl

/-- One stored piece is its part of the residual sum. -/
theorem piece {M : Memref sig .tc .vmem S256x4096 .f32} (h : M.IsWhole) {M' : Memref sig .tc .vmem S4096x256 .f32} (h' : M'.IsWhole)
    (H : Vec F S256x4096 .f32) (P : Vec F S4096x256 .f32) (q : ℕ)
    (inb : ∀ a, (![0, q] : Fin 2 → ℕ) a + S256x512.size a ≤ S256x4096.size a) (inb' : ∀ a, (![q, 0] : Fin 2 → ℕ) a + S512x256.size a ≤ S4096x256.size a) (x : S256x512.Idx) :
    k0_pay2 (View.readAt (Elt F) M.view (Rect.unit (s := S256x4096) ![0, q] S256x512.size inb).toLoadRect (h.unread H))
        (View.readAt (Elt F) M'.view (Rect.unit (s := S4096x256) ![q, 0] S512x256.size inb').toLoadRect (h'.unread P)) x
      = summed H P ((Rect.unit (s := S256x4096) ![0, q] S256x512.size inb).emb x) := by
  rw [sum_one, load_part, load_part]
  unfold summed
  have e1 : VecWindow.window H ![0, q] S256x512.size inb x = H ((Rect.unit (s := S256x4096) ![0, q] S256x512.size inb).emb x) := by
    refine congrArg H (funext fun a => Fin.ext ?_)
    match a with
    | ⟨0, _⟩ => rfl
    | ⟨1, _⟩ => rfl
  have e2 : VecWindow.window P ![q, 0] S512x256.size inb' (ix2 (x 1) (x 0)) = P (ix2 (((Rect.unit (s := S256x4096) ![0, q] S256x512.size inb).emb x) 1) (((Rect.unit (s := S256x4096) ![0, q] S256x512.size inb).emb x) 0)) := by
    refine congrArg P (funext fun a => Fin.ext ?_)
    match a with
    | ⟨0, _⟩ => rfl
    | ⟨1, _⟩ => rfl
  exact congrArg₂ (fun r s : F .f32 => k0_pay2 (fun _ => r) (fun _ => s) (ix2 0 0)) e1 e2

set_option maxHeartbeats 1000000 in
/-- One trip. -/
theorem trip_run (c : Dev nD) (i : grid0.Coords) (Mh : Memref sig .tc .vmem S256x4096 .f32) (hh : Mh.IsWhole) (Mp : Memref sig .tc .vmem S4096x256 .f32) (hp : Mp.IsWhole) (Mg : Memref sig .tc .vmem S1x4096 .f32) (hg : Mg.IsWhole) (Mb : Memref sig .tc .vmem S1x4096 .f32) (hb : Mb.IsWhole) (Mo : Memref sig .tc .vmem S256x4096 .f32) (ho : Mo.IsWhole)
    (k : Fin k0_t1_loop.trips) (g b : Vec F S1x4096 .f32) (X : Vec F S256x4096 .f32) (E : Set ℕ) (K : Unit → sProp 𝕄) :
    iprop(owns (c : Thread nD τ) Mg fullShare g ∗ owns (c : Thread nD τ) Mb fullShare b ∗ owns (c : Thread nD τ) Mo fullShare X
      ∗ (iprop(owns (c : Thread nD τ) Mg fullShare g ∗ owns (c : Thread nD τ) Mb fullShare b ∗ owns (c : Thread nD τ) Mo fullShare (trip g b k X)) -∗ K ⟨⟩))
    ⊢ wp frame (wpE (defs₀ (F := F)) Variants.none c none) E (k0_t1_body i Mh hh Mp hp Mg hg Mb hb Mo ho k ⟨⟩) K := by
  unfold k0_t1_body
  unfold owns
  iintro ⟨⟨%fg, %eg, Hg⟩, ⟨%fb, %eb, Hb⟩, ⟨%fo, %eo, Ho⟩, Hk⟩
  obtain rfl := hg.eq_unread eg; obtain rfl := hb.eq_unread eb; obtain rfl := ho.eq_unread eo
  sl_exec
  sl_step
  iapply Hk
  isplitl [Hg]
  · iexists _; isplitr; swap; · iexact Hg
    ipureintro; exact hg.read_unread _
  isplitl [Hb]
  · iexists _; isplitr; swap; · iexact Hb
    ipureintro; exact hb.read_unread _
  iexists _; isplitr; swap; · iexact Ho
  ipureintro
  refine (View.read_writes_cons_put _ _ _ _ _ rfl).trans ?_
  unfold trip
  exact put_congr _ _ (ho.read_unread _)
    (norm_congr (load_part ho _ _) (load_all hg _ _) (load_all hb _ _))

set_option maxHeartbeats 4000000 in
/-- The body at a point. -/
theorem step (c : Dev nD) (i : grid0.Coords) (Mh : Memref sig .tc .vmem S256x4096 .f32) (hh : Mh.IsWhole) (Mp : Memref sig .tc .vmem S4096x256 .f32) (hp : Mp.IsWhole) (Mg : Memref sig .tc .vmem S1x4096 .f32) (hg : Mg.IsWhole) (Mb : Memref sig .tc .vmem S1x4096 .f32) (hb : Mb.IsWhole) (Mo : Memref sig .tc .vmem S256x4096 .f32) (ho : Mo.IsWhole)
    (H : Vec F S256x4096 .f32) (P : Vec F S4096x256 .f32) (g : Vec F S1x4096 .f32) (b : Vec F S1x4096 .f32) (o : Vec F S256x4096 .f32) (E : Set ℕ) (K : PUnit → sProp 𝕄) :
    iprop(owns (c : Thread nD τ) Mh fullShare H ∗ owns (c : Thread nD τ) Mp fullShare P ∗ owns (c : Thread nD τ) Mg fullShare g ∗ owns (c : Thread nD τ) Mb fullShare b ∗ owns (c : Thread nD τ) Mo fullShare o
      ∗ (iprop(owns (c : Thread nD τ) Mh fullShare H ∗ owns (c : Thread nD τ) Mp fullShare P ∗ owns (c : Thread nD τ) Mg fullShare g ∗ owns (c : Thread nD τ) Mb fullShare b ∗ owns (c : Thread nD τ) Mo fullShare (trips (summed H P) g b 8)) -∗ K ⟨⟩))
    ⊢ wp frame (wpE (defs₀ (F := F)) Variants.none c none) E (cc0_final_ln i Mh hh Mp hp Mg hg Mb hb Mo ho) K := by
  simp only [cc0_final_ln_eq_skeleton]; unfold cc0_final_ln_skel
  simp only [k0_part1_eq_skeleton, k0_part2_eq_skeleton]
  unfold owns
  iintro ⟨⟨%fh, %eh, Hh⟩, ⟨%fp, %ep, Hp⟩, ⟨%fg, %eg, Hg⟩, ⟨%fb, %eb, Hb⟩, ⟨%fo, %eo, Ho⟩, Hk⟩
  obtain rfl := hh.eq_unread eh; obtain rfl := hp.eq_unread ep; obtain rfl := hg.eq_unread eg; obtain rfl := hb.eq_unread eb; obtain rfl := ho.eq_unread eo
  sl_exec
  iapply (Scf.wp_for_bind (M := 𝕄) _ _ _ _ _ _ _ _ _ (fun k (_ : Unit) => iprop(owns (c : Thread nD τ) Mg fullShare g ∗ owns (c : Thread nD τ) Mb fullShare b ∗ owns (c : Thread nD τ) Mo fullShare (trips (summed H P) g b k))) ?hbody) $$ [Hg Hb Ho]
  case hbody =>
    intro k acc
    obtain rfl : acc = ⟨⟩ := rfl
    iintro ⟨Hg, Hb, Ho⟩
    iapply (trip_run c i Mh hh Mp hp Mg hg Mb hb Mo ho k g b _ E _)
    isplitl [Hg]; · iexact Hg
    isplitl [Hb]; · iexact Hb
    isplitl [Ho]; · iexact Ho
    iintro ⟨Hg, Hb, Ho⟩
    isplitl [Hg]; · iexact Hg
    isplitl [Hb]; · iexact Hb
    rw [trips_succ]; iexact Ho
  · isplitl [Hg]
    · unfold owns; iexists _; isplitr; swap; · iexact Hg
      ipureintro; exact hg.read_unread _
    isplitl [Hb]
    · unfold owns; iexists _; isplitr; swap; · iexact Hb
      ipureintro; exact hb.read_unread _
    unfold owns; iexists _; isplitr; swap; · iexact Ho
    ipureintro
    show _ = summed H P
    funext y
    refine View.read_writes_apply_of_pieces _ _ _ _ ?_ y (View.cover_of_tiledL _ ![256, 512] rfl y)
    iterate 8
      refine List.forall_mem_cons.mpr ⟨fun x => piece hh hp H P _ _ _ x, ?_⟩
    exact fun _ h => absurd h List.not_mem_nil
  iintro %acc ⟨Hg, Hb, Ho⟩
  rw [show Scf.trips _ _ _ = 8 from by decide +kernel]
  generalize trips (summed H P) g b 8 = X
  unfold owns
  icases Hg with ⟨%fg, %eg, Hg⟩
  icases Hb with ⟨%fb, %eb, Hb⟩
  icases Ho with ⟨%fo, %eo, Ho⟩
  obtain rfl := hg.eq_unread eg; obtain rfl := hb.eq_unread eb; obtain rfl := ho.eq_unread eo
  sl_step
  iapply Hk
  isplitl [Hh]
  · iexists _; isplitr; swap; · iexact Hh
    ipureintro; exact hh.read_unread _
  isplitl [Hp]
  · iexists _; isplitr; swap; · iexact Hp
    ipureintro; exact hp.read_unread _
  isplitl [Hg]
  · iexists _; isplitr; swap; · iexact Hg
    ipureintro; exact hg.read_unread _
  isplitl [Hb]
  · iexists _; isplitr; swap; · iexact Hb
    ipureintro; exact hb.read_unread _
  iexists _; isplitr; swap; · iexact Ho
  ipureintro; exact ho.read_unread _

end Cert.EndSIdeal.Hand

end
-- ==== Proof.EndSDat.lean ====
module

public import proofs.«01_k».proof.Proof.EndSRun
public import proofs.«01_k».proof.Proof.Gen.EndSIdeal.Frame
public import Idealize.ShloMosaic.Lib.Claim

@[expose] public section

set_option maxRecDepth 16384

noncomputable section

namespace Cert.EndSIdeal.Hand

open Cert.EndSIdeal.Gen (V V0 iblk bigSep_W0 hmain sfx_sub sfx_fresh sfx_keeps frame_of launch0 hostOps1 st0_0 st0_1 st0_2 st0_3 st0_4 bodyAt0 before0_0_of before0_1_of before0_2_of before0_3_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point: the point's rows, summed and normalised -/

/-- The normalised rows of a point. -/
def Normed (c : Dev nD) (t : Fin cfg0.N) : Vec F S256x4096 .f32 :=
  trips (summed (iblk m c 0 t) (iblk m c 1 t)) (iblk m c 2 t) (iblk m c 3 t) 8

def rowDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Normed m c t
  Φ _ := Pipeline.ΦA spec0 c
  q _ := fullShare
  owed _ := 0

theorem A_eq (c : Dev nD) (w : Fin cfg0.W) : (rowDats m 0 c).A w = V m c (Pipeline.arrRef spec0 w) := by
  dsimp only [rowDats]
theorem after_0 (c : Dev nD) (t : Fin cfg0.N) : (rowDats m 0 c).after 0 t = iblk m c 0 t := by dsimp only [rowDats]
theorem after_1 (c : Dev nD) (t : Fin cfg0.N) : (rowDats m 0 c).after 1 t = iblk m c 1 t := by dsimp only [rowDats]
theorem after_2 (c : Dev nD) (t : Fin cfg0.N) : (rowDats m 0 c).after 2 t = iblk m c 2 t := by dsimp only [rowDats]
theorem after_3 (c : Dev nD) (t : Fin cfg0.N) : (rowDats m 0 c).after 3 t = iblk m c 3 t := by dsimp only [rowDats]
theorem after_4 (c : Dev nD) (t : Fin cfg0.N) : (rowDats m 0 c).after 4 t = Normed m c t := by dsimp only [rowDats]
theorem before_0 (c : Dev nD) (t : Fin cfg0.N) (d) : (rowDats m 0 c).before 0 t d = iblk m c 0 t :=
  before0_0_of m (rowDats m 0 c) (A_eq m c 0) (after_0 m c) t d
theorem before_1 (c : Dev nD) (t : Fin cfg0.N) (d) : (rowDats m 0 c).before 1 t d = iblk m c 1 t :=
  before0_1_of m (rowDats m 0 c) (A_eq m c 1) (after_1 m c) t d
theorem before_2 (c : Dev nD) (t : Fin cfg0.N) (d) : (rowDats m 0 c).before 2 t d = iblk m c 2 t :=
  before0_2_of m (rowDats m 0 c) (A_eq m c 2) (after_2 m c) t d
theorem before_3 (c : Dev nD) (t : Fin cfg0.N) (d) : (rowDats m 0 c).before 3 t d = iblk m c 3 t :=
  before0_3_of m (rowDats m 0 c) (A_eq m c 3) (after_3 m c) t d

/-- What the body is called with at a point, -/
def pointPre (c : Dev nD) (t : Fin cfg0.N) : sProp 𝕄 :=
  iprop((rowDats m 0 c).Φ t.castSucc ∗ (rowDats m 0 c).owesAt () t.castSucc
    ∗ (∃ d, owns (c : Thread nD τ) (st0_0 t) fullShare ((rowDats m 0 c).before 0 t d))
    ∗ (∃ d, owns (c : Thread nD τ) (st0_1 t) fullShare ((rowDats m 0 c).before 1 t d))
    ∗ (∃ d, owns (c : Thread nD τ) (st0_2 t) fullShare ((rowDats m 0 c).before 2 t d))
    ∗ (∃ d, owns (c : Thread nD τ) (st0_3 t) fullShare ((rowDats m 0 c).before 3 t d))
    ∗ (∃ d, owns (c : Thread nD τ) (st0_4 t) fullShare ((rowDats m 0 c).before 4 t d)))

/-- and what it hands on. -/
def pointPost (c : Dev nD) (t : Fin cfg0.N) : sProp 𝕄 :=
  iprop((rowDats m 0 c).Φ t.succ ∗ (rowDats m 0 c).owesAt () t.succ
    ∗ owns (c : Thread nD τ) (st0_0 t) fullShare ((rowDats m 0 c).after 0 t)
    ∗ owns (c : Thread nD τ) (st0_1 t) fullShare ((rowDats m 0 c).after 1 t)
    ∗ owns (c : Thread nD τ) (st0_2 t) fullShare ((rowDats m 0 c).after 2 t)
    ∗ owns (c : Thread nD τ) (st0_3 t) fullShare ((rowDats m 0 c).after 3 t)
    ∗ owns (c : Thread nD τ) (st0_4 t) fullShare ((rowDats m 0 c).after 4 t))

theorem point (c : Dev nD) (t : Fin cfg0.N) :
    pointPre m c t ⊢ wp frame (wpE (defs₀ (F := F)) Variants.none c none) Set.univ (bodyAt0 t) (fun _ => pointPost m c t) := by
  unfold pointPre pointPost bodyAt0
  rw [show (rowDats m 0 c).owesAt () t.succ = (rowDats m 0 c).owesAt () t.castSucc from rfl, show (rowDats m 0 c).Φ t.succ = (rowDats m 0 c).Φ t.castSucc from rfl]
  simp only [before_0, after_0, before_1, after_1, before_2, after_2, before_3, after_3, after_4]
  iintro ⟨Hs, Hw, ⟨%d0, H0⟩, ⟨%d1, H1⟩, ⟨%d2, H2⟩, ⟨%d3, H3⟩, ⟨%d4, H4⟩⟩
  iapply (step c (grid0.coords t) _ _ _ _ _ _ _ _ _ _ (iblk m c 0 t) (iblk m c 1 t) (iblk m c 2 t) (iblk m c 3 t) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [Hs]; · iexact Hs
  isplitl [Hw]; · iexact Hw
  isplitl [H0]; · iexact H0
  isplitl [H1]; · iexact H1
  isplitl [H2]; · iexact H2
  isplitl [H3]; · iexact H3
  iexact H4

theorem point_row (t : Fin cfg0.N) : defs₀ (F := F) .tc cfg0.body (cfg0.bodyArgs t (cfg0.slots t)) = bodyAt0 t := by
  unfold defs₀; rw [Defs.onTc_tc]

theorem obligation (c : Dev nD) : BodyObligation (rowDats (F := F) m 0 c) (defs₀ (F := F)) Variants.none () Set.univ := fun t => by
  rw [bigSep_W0, bigSep_W0, point_row]
  exact triple_restated (point m c t) rfl .rfl fun _ => .rfl

/-! ## The launch -/

set_option backward.isDefEq.respectTransparency.types false in
set_option maxHeartbeats 800000 in
/-- Every run ends, with the result at the write-backs of the points' rows, reshaped by the line after the call, and every
counter at zero. -/
theorem run : θ_run defs (onTc (τ := τ) (main (F := F))) (s₀ m ρ)
    (fun r => Pipeline.FramePost cfgs (rowDats m) 0 (Pipeline.afterTail₀ cfgs (rowDats m) 0 (V0 m) [hostOps1]) r ∧ r.2.sem = fun _ => 0) :=
  Pipeline.θ_run_frame_around (Q' := _) cfgs (rowDats m) (0 : Fin 1) launch0 defs₀ Variants.none m ρ main
    (hbody := fun c => (obligation m c).loose) (hshare := fun c => (rowDats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (rowDats m) (A_eq m) ((θ_run defs _ _).mono (fun _ h => h.1) (run m ρ)))
    ((θ_run defs _ _).mono (fun _ h => h.2) (run m ρ))

end Cert.EndSIdeal.Hand

end
-- ==== Proof.EndSColumns.lean ====
module

public import proofs.«01_k».proof.Proof.Gen.EndSRefIdeal.Run
public import Idealize.ShloMosaic.Lib.Pointwise
public import Idealize.ShloMosaic.Lib.IdealHost

/-! The layer's last residual sum at a row and a column, its normalised row, and the reference's result as that. -/

@[expose] public section
set_option maxRecDepth 16384
noncomputable section
namespace Cert.EndSRefIdeal.Columns
open Cert.EndSRefIdeal Cert.EndSRefIdeal.Gen Idealize.ShloMosaic Idealize.ShloMosaic.TcCoe Idealize.SL.Sem Idealize.ShloMosaic.Pointwise

/-- The scaled rows plus the transposed addend, at row `r` and column `n`. -/
def lastSum (H : FVec Ideal S512x4096 .f32) (P : FVec Ideal S4096x512 .f32) (r : Fin 512) (n : Fin 4096) : EReal :=
  Ideal.ofBits FTy.f32 0x3F9837F0#32 * H (ix2 r n) + P (ix2 n r)

/-- The mean of a row. -/
def mean (f : Fin 4096 → EReal) : EReal := Ideal.div (∑ k, f k) (Ideal.ofBits FTy.f32 0x45800000#32)

/-- A row less its mean, over the root of its variance, scaled and shifted. -/
def rowNorm (f g b : Fin 4096 → EReal) (n : Fin 4096) : EReal :=
  (f n - mean f) * Ideal.rsqrt (mean (fun k => (f k - mean f) * (f k - mean f)) + Ideal.ofBits FTy.f32 0x3727C5AC#32) * g n + b n

/-- The normalised rows. -/
def rows (H : FVec Ideal S512x4096 .f32) (P : FVec Ideal S4096x512 .f32) (g b : FVec Ideal S1x4096 .f32) : FVec Ideal S512x4096 .f32 :=
  fun i => rowNorm (lastSum H P (i 0)) (fun k => g (ix2 0 k)) (fun k => b (ix2 0 k)) (i 1)

/-- The layer's result: the rows by stream and frame. -/
def out (H : FVec Ideal S512x4096 .f32) (P : FVec Ideal S4096x512 .f32) (g b : FVec Ideal S1x4096 .f32) : FVec Ideal S16x32x4096 .f32 :=
  shapeCast _ (rows H P g b) shapeCasts_S512x4096_S16x32x4096

/-- The sum the reference normalises. -/
def pre (H : FVec Ideal S512x4096 .f32) (P : FVec Ideal S4096x512 .f32) : FVec Ideal S512x4096 .f32 :=
  addf (mulf (broadcastInDim S512x4096 ![] bcast_S_S512x4096 (constant S_ .f32 0x3F9837F0#32)) H) (transpose S512x4096 [1, 0] P transposes_S4096x512_S512x4096_1_0)

/-- A layer norm of rows, as the reference computes it. -/
def normal (X : FVec Ideal S512x4096 .f32) (g b : FVec Ideal S1x4096 .f32) : FVec Ideal S512x4096 .f32 :=
  addf (mulf (mulf (subf X (broadcastInDim S512x4096 ![0, 1] bcast_S512x1_S512x4096_0_1 (Host.divf (broadcastInDim S512x1 ![0] bcast_S512_S512x1_0 (Host.reduceAdd X (constant S_ .f32 0x00000000#32) reducesTo_S512x4096_S512_d1 h_S_)) (broadcastInDim S512x1 ![] bcast_S_S512x1 (constant S_ .f32 0x45800000#32))))) (broadcastInDim S512x4096 ![0, 1] bcast_S512x1_S512x4096_0_1 (Host.rsqrt (addf (Host.divf (broadcastInDim S512x1 ![0] bcast_S512_S512x1_0 (Host.reduceAdd (mulf (subf X (broadcastInDim S512x4096 ![0, 1] bcast_S512x1_S512x4096_0_1 (Host.divf (broadcastInDim S512x1 ![0] bcast_S512_S512x1_0 (Host.reduceAdd X (constant S_ .f32 0x00000000#32) reducesTo_S512x4096_S512_d1 h_S_)) (broadcastInDim S512x1 ![] bcast_S_S512x1 (constant S_ .f32 0x45800000#32))))) (subf X (broadcastInDim S512x4096 ![0, 1] bcast_S512x1_S512x4096_0_1 (Host.divf (broadcastInDim S512x1 ![0] bcast_S512_S512x1_0 (Host.reduceAdd X (constant S_ .f32 0x00000000#32) reducesTo_S512x4096_S512_d1 h_S_)) (broadcastInDim S512x1 ![] bcast_S_S512x1 (constant S_ .f32 0x45800000#32)))))) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x3727C5AC#32)))))) (broadcastInDim S512x4096 ![0, 1] bcast_S1x4096_S512x4096_0_1 (broadcastInDim S1x4096 ![1] bcast_S4096_S1x4096_1 (shapeCast _ g shapeCasts_S1x4096_S4096)))) (broadcastInDim S512x4096 ![0, 1] bcast_S1x4096_S512x4096_0_1 (broadcastInDim S1x4096 ![1] bcast_S4096_S1x4096_1 (shapeCast _ b shapeCasts_S1x4096_S4096)))

theorem pre_apply (H : FVec Ideal S512x4096 .f32) (P : FVec Ideal S4096x512 .f32) (r : Fin 512) (n : Fin 4096) : pre H P (ix2 r n) = lastSum H P r n := by
  unfold lastSum
  pointwise [pre]

theorem normal_apply (X : FVec Ideal S512x4096 .f32) (g b : FVec Ideal S1x4096 .f32) (r : Fin 512) (n : Fin 4096) :
    normal X g b (ix2 r n) = rowNorm (fun k => X (ix2 r k)) (fun k => g (ix2 0 k)) (fun k => b (ix2 0 k)) n := by
  unfold rowNorm mean
  pointwise [normal]

theorem rows_eq (H : FVec Ideal S512x4096 .f32) (P : FVec Ideal S4096x512 .f32) (g b : FVec Ideal S1x4096 .f32) : normal (pre H P) g b = rows H P g b := by
  funext i
  obtain ⟨r, n, rfl⟩ : ∃ r n, i = (ix2 r n : S512x4096.Idx) := ⟨i 0, i 1, eq_ix2 i⟩
  rw [normal_apply]
  exact congrArg (rowNorm · _ _ n) (funext fun k => pre_apply H P r k)

/-- The reference's run ends in the normalised rows. -/
theorem run (m : (ℓ : Loc nD τ sig) → Buf (Elt Ideal) ℓ) (ρ : Dev nD → PrngReg) :
    θ_run defs (onTc (τ := τ) (Cert.EndSRefIdeal.main (F := Ideal))) ⟨m, fun _ => 0, ρ⟩ fun r => ∀ c : Dev nD,
      r.2.mem ((c.tc : Thread nD τ).loc main_v30) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (congrArg (fun Y => shapeCast S16x32x4096 Y shapeCasts_S512x4096_S16x32x4096) (rows_eq (m ((c.tc : Thread nD τ).loc main_arg0)) (m ((c.tc : Thread nD τ).loc main_arg1)) (m ((c.tc : Thread nD τ).loc main_arg2)) (m ((c.tc : Thread nD τ).loc main_arg3)))), (h c).2⟩)
    (Value.run m ρ)

end Cert.EndSRefIdeal.Columns
-- ==== Proof.EndSValue.lean ====
module

public import proofs.«01_k».proof.Proof.EndSDat
public import proofs.«01_k».proof.Proof.EndSColumns
public import Idealize.ShloMosaic.Lib.Pointwise
public import Idealize.ShloMosaic.Lib.IdealHost
public import Idealize.ShloMosaic.Lib.Pipeline.ValueKit
public import Idealize.ShloMosaic.PureOps.IdealRules

/-! The layer's last call over the extended reals: the normalised rows of the residual sum. -/

@[expose] public section
set_option maxRecDepth 16384
noncomputable section
namespace Cert.EndSIdeal.Hand
open Cert.EndSIdeal
open Cert.EndSIdeal.Gen
open Idealize.ShloMosaic Idealize.ShloMosaic.TcCoe Idealize.SL.Sem Idealize.ShloMosaic.Pointwise Cert.EndSRefIdeal.Columns
variable (m : (ℓ : Loc nD τ sig) → Buf (Elt Ideal) ℓ) (c : Dev nD)

/-! ## The arrays the call reads -/

theorem gain_at (n : Fin 4096) : V m c main_v1 (ix2 0 n) = m ((c : Thread nD τ).loc main_arg2) (ix2 0 n) := by
  simp only [V, V0, hostOps0, List.flatten_cons, List.flatten_nil, List.append_nil, List.cons_append, List.nil_append]
  after_results
  pointwise

theorem bias_at (n : Fin 4096) : V m c main_v3 (ix2 0 n) = m ((c : Thread nD τ).loc main_arg3) (ix2 0 n) := by
  simp only [V, V0, hostOps0, List.flatten_cons, List.flatten_nil, List.append_nil, List.cons_append, List.nil_append]
  after_results
  pointwise

/-! ## The blocks -/

theorem N_at (t : Fin cfg0.N) : t.val < 2 := t.isLt.trans_eq (by decide +kernel)

theorem idx_0 : ∀ t : Fin cfg0.N, win0_0.index t = ![t.val, 0] :=
  (by decide +kernel : ∀ t : Fin grid0.N, win0_0.index t = ![t.val, 0])
theorem emb_0 (t : Fin cfg0.N) (y : S256x4096.Idx) (r : Fin 512) (n : Fin 4096) (hr : r.val = (t.val) * 256 + (y 0).val) (hn : n.val = (0) * 4096 + (y 1).val) :
    ((cfg0.win 0).blk t).view.emb y = (ix2 r n : S512x4096.Idx) := by
  funext a
  apply Fin.ext
  refine (Pipeline.Window.rect_emb_val win0_0 t y a).trans ?_
  rw [idx_0 t]
  fin_cases a
  · exact hr.symm
  · exact hn.symm
theorem read_0 (X : Buf (Elt Ideal) ((c : Thread nD τ).loc main_arg0)) (t : Fin cfg0.N) (p : Fin 256) (q : Fin 4096) (r : Fin 512) (n : Fin 4096)
    (hr : r.val = (t.val) * 256 + p.val) (hn : n.val = (0) * 4096 + q.val) : ((cfg0.win 0).blk t).view.read (Elt Ideal) X (ix2 p q) = X (ix2 r n) :=
  congrArg X (emb_0 t (ix2 p q) r n hr hn)
theorem block_0 (t : Fin cfg0.N) (p : Fin 256) (q : Fin 4096) (r : Fin 512) (n : Fin 4096)
    (hr : r.val = (t.val) * 256 + p.val) (hn : n.val = (0) * 4096 + q.val) : Gen.iblk m c 0 t (ix2 p q) = Gen.V m c main_arg0 (ix2 r n) := by
  unfold Gen.iblk
  exact read_0 c (Gen.V m c main_arg0) t p q r n hr hn

theorem idx_1 : ∀ t : Fin cfg0.N, win0_1.index t = ![0, t.val] :=
  (by decide +kernel : ∀ t : Fin grid0.N, win0_1.index t = ![0, t.val])
theorem emb_1 (t : Fin cfg0.N) (y : S4096x256.Idx) (r : Fin 4096) (n : Fin 512) (hr : r.val = (0) * 4096 + (y 0).val) (hn : n.val = (t.val) * 256 + (y 1).val) :
    ((cfg0.win 1).blk t).view.emb y = (ix2 r n : S4096x512.Idx) := by
  funext a
  apply Fin.ext
  refine (Pipeline.Window.rect_emb_val win0_1 t y a).trans ?_
  rw [idx_1 t]
  fin_cases a
  · exact hr.symm
  · exact hn.symm
theorem read_1 (X : Buf (Elt Ideal) ((c : Thread nD τ).loc main_arg1)) (t : Fin cfg0.N) (p : Fin 4096) (q : Fin 256) (r : Fin 4096) (n : Fin 512)
    (hr : r.val = (0) * 4096 + p.val) (hn : n.val = (t.val) * 256 + q.val) : ((cfg0.win 1).blk t).view.read (Elt Ideal) X (ix2 p q) = X (ix2 r n) :=
  congrArg X (emb_1 t (ix2 p q) r n hr hn)
theorem block_1 (t : Fin cfg0.N) (p : Fin 4096) (q : Fin 256) (r : Fin 4096) (n : Fin 512)
    (hr : r.val = (0) * 4096 + p.val) (hn : n.val = (t.val) * 256 + q.val) : Gen.iblk m c 1 t (ix2 p q) = Gen.V m c main_arg1 (ix2 r n) := by
  unfold Gen.iblk
  exact read_1 c (Gen.V m c main_arg1) t p q r n hr hn

theorem idx_2 : ∀ t : Fin cfg0.N, win0_2.index t = ![0, 0] :=
  (by decide +kernel : ∀ t : Fin grid0.N, win0_2.index t = ![0, 0])
theorem emb_2 (t : Fin cfg0.N) (y : S1x4096.Idx) (r : Fin 1) (n : Fin 4096) (hr : r.val = (0) * 1 + (y 0).val) (hn : n.val = (0) * 4096 + (y 1).val) :
    ((cfg0.win 2).blk t).view.emb y = (ix2 r n : S1x4096.Idx) := by
  funext a
  apply Fin.ext
  refine (Pipeline.Window.rect_emb_val win0_2 t y a).trans ?_
  rw [idx_2 t]
  fin_cases a
  · exact hr.symm
  · exact hn.symm
theorem read_2 (X : Buf (Elt Ideal) ((c : Thread nD τ).loc main_v1)) (t : Fin cfg0.N) (p : Fin 1) (q : Fin 4096) (r : Fin 1) (n : Fin 4096)
    (hr : r.val = (0) * 1 + p.val) (hn : n.val = (0) * 4096 + q.val) : ((cfg0.win 2).blk t).view.read (Elt Ideal) X (ix2 p q) = X (ix2 r n) :=
  congrArg X (emb_2 t (ix2 p q) r n hr hn)
theorem block_2 (t : Fin cfg0.N) (p : Fin 1) (q : Fin 4096) (r : Fin 1) (n : Fin 4096)
    (hr : r.val = (0) * 1 + p.val) (hn : n.val = (0) * 4096 + q.val) : Gen.iblk m c 2 t (ix2 p q) = Gen.V m c main_v1 (ix2 r n) := by
  unfold Gen.iblk
  exact read_2 c (Gen.V m c main_v1) t p q r n hr hn

theorem idx_3 : ∀ t : Fin cfg0.N, win0_3.index t = ![0, 0] :=
  (by decide +kernel : ∀ t : Fin grid0.N, win0_3.index t = ![0, 0])
theorem emb_3 (t : Fin cfg0.N) (y : S1x4096.Idx) (r : Fin 1) (n : Fin 4096) (hr : r.val = (0) * 1 + (y 0).val) (hn : n.val = (0) * 4096 + (y 1).val) :
    ((cfg0.win 3).blk t).view.emb y = (ix2 r n : S1x4096.Idx) := by
  funext a
  apply Fin.ext
  refine (Pipeline.Window.rect_emb_val win0_3 t y a).trans ?_
  rw [idx_3 t]
  fin_cases a
  · exact hr.symm
  · exact hn.symm
theorem read_3 (X : Buf (Elt Ideal) ((c : Thread nD τ).loc main_v3)) (t : Fin cfg0.N) (p : Fin 1) (q : Fin 4096) (r : Fin 1) (n : Fin 4096)
    (hr : r.val = (0) * 1 + p.val) (hn : n.val = (0) * 4096 + q.val) : ((cfg0.win 3).blk t).view.read (Elt Ideal) X (ix2 p q) = X (ix2 r n) :=
  congrArg X (emb_3 t (ix2 p q) r n hr hn)
theorem block_3 (t : Fin cfg0.N) (p : Fin 1) (q : Fin 4096) (r : Fin 1) (n : Fin 4096)
    (hr : r.val = (0) * 1 + p.val) (hn : n.val = (0) * 4096 + q.val) : Gen.iblk m c 3 t (ix2 p q) = Gen.V m c main_v3 (ix2 r n) := by
  unfold Gen.iblk
  exact read_3 c (Gen.V m c main_v3) t p q r n hr hn

theorem idx_4 : ∀ t : Fin cfg0.N, win0_4.index t = ![t.val, 0] :=
  (by decide +kernel : ∀ t : Fin grid0.N, win0_4.index t = ![t.val, 0])
theorem emb_4 (t : Fin cfg0.N) (y : S256x4096.Idx) (r : Fin 512) (n : Fin 4096) (hr : r.val = (t.val) * 256 + (y 0).val) (hn : n.val = (0) * 4096 + (y 1).val) :
    ((cfg0.win 4).blk t).view.emb y = (ix2 r n : S512x4096.Idx) := by
  funext a
  apply Fin.ext
  refine (Pipeline.Window.rect_emb_val win0_4 t y a).trans ?_
  rw [idx_4 t]
  fin_cases a
  · exact hr.symm
  · exact hn.symm

/-! ## The row block -/

theorem norm_at (X : Vec Ideal S32x4096 .f32) (g b : Vec Ideal S1x4096 .f32) (p : Fin 32) (n : Fin 4096) :
    k0_pay1 (F := Ideal) X g b (ix2 p n) = rowNorm (fun k => X (ix2 p k)) (fun k => g (ix2 0 k)) (fun k => b (ix2 0 k)) n := by
  unfold rowNorm mean
  pointwise [k0_pay1]

theorem summed_at (H : Vec Ideal S256x4096 .f32) (P : Vec Ideal S4096x256 .f32) (p : Fin 256) (n : Fin 4096) :
    summed (F := Ideal) H P (ix2 p n) = Ideal.ofBits FTy.f32 0x3F9837F0#32 * H (ix2 p n) + P (ix2 n p) := by
  pointwise [summed, k0_pay2]

theorem off_at : ∀ k : Fin k0_t1_loop.trips, k0_off1 k 0 = 32 * k.val ∧ k0_off1 k 1 = 0 := by decide +kernel

theorem trip_in (Y : Vec Ideal S256x4096 .f32) (g b : Vec Ideal S1x4096 .f32) (k : Fin k0_t1_loop.trips) (p : Fin 256) (n : Fin 4096)
    (h0 : 32 * k.val ≤ p.val) (h1 : p.val < 32 * k.val + 32) :
    trip g b k Y (ix2 p n) = rowNorm (fun j => Y (ix2 p j)) (fun j => g (ix2 0 j)) (fun j => b (ix2 0 j)) n := by
  obtain ⟨o0, o1⟩ := off_at k
  have hin : ∀ a, k0_off1 k a ≤ ((ix2 p n : S256x4096.Idx) a).val ∧ ((ix2 p n : S256x4096.Idx) a).val < k0_off1 k a + S32x4096.size a := by
    intro a
    match a with
    | ⟨0, _⟩ => exact ⟨by show k0_off1 k 0 ≤ p.val; omega, by show p.val < k0_off1 k 0 + 32; omega⟩
    | ⟨1, _⟩ => exact ⟨by show k0_off1 k 1 ≤ n.val; omega, by show n.val < k0_off1 k 1 + 4096; omega⟩
  unfold trip VecWindow.put
  rw [dif_pos hin]
  have ei : (fun a => ⟨((ix2 p n : S256x4096.Idx) a).val - k0_off1 k a, by have := hin a; omega⟩ : S32x4096.Idx) = ix2 ⟨p.val - 32 * k.val, by omega⟩ n := by
    funext a; apply Fin.ext
    match a with
    | ⟨0, _⟩ => show p.val - k0_off1 k 0 = p.val - 32 * k.val; omega
    | ⟨1, _⟩ => show n.val - k0_off1 k 1 = n.val; omega
  refine (congrArg (k0_pay1 _ g b) ei).trans ((norm_at _ g b _ n).trans ?_)
  refine congrArg (rowNorm · _ _ n) (funext fun j => ?_)
  refine congrArg Y (funext fun a => Fin.ext ?_)
  match a with
  | ⟨0, _⟩ => show k0_off1 k 0 + 1 * (p.val - 32 * k.val) = p.val; omega
  | ⟨1, _⟩ => show k0_off1 k 1 + 1 * j.val = j.val; omega

theorem trip_out (Y : Vec Ideal S256x4096 .f32) (g b : Vec Ideal S1x4096 .f32) (k : Fin k0_t1_loop.trips) (p : Fin 256) (n : Fin 4096)
    (h : p.val < 32 * k.val ∨ 32 * k.val + 32 ≤ p.val) : trip g b k Y (ix2 p n) = Y (ix2 p n) := by
  obtain ⟨o0, _⟩ := off_at k
  unfold trip VecWindow.put
  rw [dif_neg]
  intro hin
  have h2 : k0_off1 k 0 ≤ p.val := (hin 0).1
  have h3 : p.val < k0_off1 k 0 + 32 := (hin 0).2
  omega

/-- The rows a count of trips has reached are normalised, the others as they were. -/
theorem trips_at (X : Vec Ideal S256x4096 .f32) (g b : Vec Ideal S1x4096 .f32) (k : ℕ) (hk : k ≤ 8) (p : Fin 256) (n : Fin 4096) :
    trips X g b k (ix2 p n) = if p.val < 32 * k then rowNorm (fun j => X (ix2 p j)) (fun j => g (ix2 0 j)) (fun j => b (ix2 0 j)) n else X (ix2 p n) := by
  induction k generalizing n with
  | zero => rw [if_neg (by omega)]; rfl
  | succ k ih =>
    have e8 : k0_t1_loop.trips = 8 := by decide +kernel
    have hs := congrFun (trips_succ X g b ⟨k, by omega⟩) (ix2 p n)
    refine hs.trans ?_
    by_cases h : 32 * k ≤ p.val ∧ p.val < 32 * k + 32
    · rw [trip_in _ g b ⟨k, _⟩ p n h.1 h.2, if_pos (by omega)]
      refine congrArg (rowNorm · _ _ n) (funext fun j => ?_)
      exact (ih (by omega) j).trans (if_neg (by omega))
    · rw [trip_out _ g b ⟨k, _⟩ p n (by show p.val < 32 * k ∨ 32 * k + 32 ≤ p.val; omega)]
      refine (ih (by omega) n).trans ?_
      by_cases h2 : p.val < 32 * k
      · rw [if_pos h2, if_pos (by omega)]
      · rw [if_neg h2, if_neg (by omega)]

/-- A point's sum is the residual sum at its rows. -/
theorem sum_at (t : Fin cfg0.N) (p : Fin 256) (n : Fin 4096) (r : Fin 512) (hr : r.val = t.val * 256 + p.val) :
    summed (F := Ideal) (iblk m c 0 t) (iblk m c 1 t) (ix2 p n) = lastSum (m ((c : Thread nD τ).loc main_arg0)) (m ((c : Thread nD τ).loc main_arg1)) r n := by
  refine (summed_at _ _ p n).trans ?_
  unfold lastSum
  exact congrArg₂ (· + ·)
    (congrArg _ ((block_0 m c t p n r n hr (by omega)).trans (congrFun (V_main_arg0 m c) (ix2 r n))))
    ((block_1 m c t n p n r (by omega) hr).trans (congrFun (V_main_arg1 m c) (ix2 n r)))

theorem normed_at (t : Fin cfg0.N) (p : Fin 256) (n : Fin 4096) (r : Fin 512) (hr : r.val = t.val * 256 + p.val) :
    Normed m c t (ix2 p n) = rowNorm (lastSum (m ((c : Thread nD τ).loc main_arg0)) (m ((c : Thread nD τ).loc main_arg1)) r) (fun k => m ((c : Thread nD τ).loc main_arg2) (ix2 0 k)) (fun k => m ((c : Thread nD τ).loc main_arg3) (ix2 0 k)) n := by
  unfold Normed
  refine (trips_at _ _ _ 8 (le_refl 8) p n).trans ((if_pos (by omega)).trans ?_)
  have h1 : (fun j => summed (F := Ideal) (iblk m c 0 t) (iblk m c 1 t) (ix2 p j)) = lastSum (m ((c : Thread nD τ).loc main_arg0)) (m ((c : Thread nD τ).loc main_arg1)) r := funext fun j => sum_at m c t p j r hr
  have h2 : (fun j => iblk m c 2 t (ix2 0 j)) = fun k => m ((c : Thread nD τ).loc main_arg2) (ix2 0 k) := funext fun j => (block_2 m c t 0 j 0 j rfl (by omega)).trans (gain_at m c j)
  have h3 : (fun j => iblk m c 3 t (ix2 0 j)) = fun k => m ((c : Thread nD τ).loc main_arg3) (ix2 0 k) := funext fun j => (block_3 m c t 0 j 0 j rfl (by omega)).trans (bias_at m c j)
  exact (congrArg (rowNorm · _ _ n) h1).trans ((congrArg (rowNorm _ · _ n) h2).trans (congrArg (rowNorm _ _ · n) h3))

/-! ## The result -/

theorem arr_4 : (rowDats m 0 c).arrAt 4 cfg0.N = rows (m ((c.tc : Thread nD τ).loc main_arg0)) (m ((c.tc : Thread nD τ).loc main_arg1)) (m ((c.tc : Thread nD τ).loc main_arg2)) (m ((c.tc : Thread nD τ).loc main_arg3)) := by
  refine Pipeline.Dat.arrAt_eq_of_covers (rowDats m 0 c) 4 (rows (m ((c.tc : Thread nD τ).loc main_arg0)) (m ((c.tc : Thread nD τ).loc main_arg1)) (m ((c.tc : Thread nD τ).loc main_arg2)) (m ((c.tc : Thread nD τ).loc main_arg3))) (by decide +kernel) fun t hf => fun y => ?_
  have hN := N_at t
  have y0 : (y 0).val < 256 := (y 0).isLt
  have ey : y = (ix2 (y 0) (y 1) : S256x4096.Idx) := eq_ix2 (y : S256x4096.Idx)
  rw [emb_4 t y ⟨t.val * 256 + (y 0).val, by omega⟩ (y 1) rfl (by omega), after_4]
  exact (congrArg (Normed m c t) ey).trans (normed_at m c t (y 0) (y 1) _ rfl)

/-- The rows by stream and frame. -/
def byStream (X : FVec Ideal S512x4096 .f32) : FVec Ideal S16x32x4096 .f32 := shapeCast _ X shapeCasts_S512x4096_S16x32x4096

theorem shaped : Pipeline.afterTail₀ cfgs (rowDats m) 0 (V0 m) [hostOps1] c main_v5 = out (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  simp only [hostOps1, List.flatten_cons, List.flatten_nil, List.append_nil, List.cons_append, List.nil_append]
  after_results
  exact congrArg byStream ((Pipeline.withArrays_arr spec0 launch0.win.arr_inj c (V0 m c) (fun w => (rowDats m 0 c).arrAt w cfg0.N) 4).trans (arr_4 m c))

/-- Every run ends with the normalised rows in the result. -/
theorem run_rows (ρ : Dev nD → PrngReg) :
    θ_run defs (onTc (τ := τ) (Cert.EndSIdeal.main (F := Ideal))) ⟨m, fun _ => 0, ρ⟩ fun r => ∀ c : Dev nD,
      r.2.mem ((c.tc : Thread nD τ).loc main_v5) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1.1 c).2 main_v5 (Pipeline.mem_restRefs_of main_v5 (by decide) (by decide))).trans (shaped m c), h.2.1 c⟩)
    (θ_run_and (run m ρ) (frame m ρ))

end Cert.EndSIdeal.Hand
-- ==== Proof.GateSColumns.lean ====
module

public import proofs.«01_k».proof.Proof.Gen.GateSRefIdeal.Run
public import Idealize.ShloMosaic.Lib.Pointwise
public import Idealize.ShloMosaic.Lib.IdealHost

/-! A log forget gate from its logit, and the reference's log forget gates as those of the sample's logits. -/

@[expose] public section
set_option maxRecDepth 16384
noncomputable section
namespace Cert.GateSRefIdeal.Columns
open Cert.GateSRefIdeal Cert.GateSRefIdeal.Gen Idealize.ShloMosaic Idealize.ShloMosaic.TcCoe Idealize.SL.Sem Idealize.ShloMosaic.Pointwise

/-- The sum whose log sigmoid the reference takes. -/
def logits (S : FVec Ideal S512x128 .f32) (B : FVec Ideal S1x16 .f32) : FVec Ideal S16x32x16 .f32 :=
  addf (extractStridedSlice S16x32x16 ![0, 0, 48] (shapeCast _ S shapeCasts_S512x128_S16x32x128) slices_S16x32x128_S16x32x16_0_0_48)
    (broadcastInDim S16x32x16 ![0, 1, 2] bcast_S1x1x16_S16x32x16_0_1_2 (broadcastInDim S1x1x16 ![2] bcast_S16_S1x1x16_2 (shapeCast _ B shapeCasts_S1x16_S16)))

/-- The log sigmoid as the reference computes it. -/
def logSig (X : FVec Ideal S16x32x16 .f32) : FVec Ideal S16x32x16 .f32 :=
  Host.negf (select (cmpf .une (subf (Host.negf X) (broadcastInDim S16x32x16 ![] bcast_S_S16x32x16 (constant S_ .f32 0x00000000#32))) (subf (Host.negf X) (broadcastInDim S16x32x16 ![] bcast_S_S16x32x16 (constant S_ .f32 0x00000000#32))))
    (addf (Host.negf X) (broadcastInDim S16x32x16 ![] bcast_S_S16x32x16 (constant S_ .f32 0x00000000#32)))
    (addf (maximumf (Host.negf X) (broadcastInDim S16x32x16 ![] bcast_S_S16x32x16 (constant S_ .f32 0x00000000#32)))
      (Host.log1p (Host.exp (Host.negf (Host.absf (subf (Host.negf X) (broadcastInDim S16x32x16 ![] bcast_S_S16x32x16 (constant S_ .f32 0x00000000#32)))))))))

/-- A log forget gate: the log sigmoid of `z`. -/
def gateLog (z : EReal) : EReal :=
  -(max (-z) 0 + Ideal.log1p (Ideal.exp (-(FloatOps.absf (F := Ideal) (φ := .f32) (-z)))))

/-- The log forget gates by stream, frame and head. -/
def gates (S : FVec Ideal S512x128 .f32) (B : FVec Ideal S1x16 .f32) : FVec Ideal S16x32x16 .f32 :=
  fun i => gateLog (S (ix2 ⟨(i 0).val * 32 + (i 1).val, by have h0 : (i 0).val < 16 := (i 0).isLt; have h1 : (i 1).val < 32 := (i 1).isLt; omega⟩
    ⟨48 + (i 2).val, by have h2 : (i 2).val < 16 := (i 2).isLt; omega⟩) + B (ix2 0 (i 2)))

/-- The result: the log forget gates under the layer's axis. -/
def out (S : FVec Ideal S512x128 .f32) (B : FVec Ideal S1x16 .f32) : FVec Ideal S1x16x32x16 .f32 :=
  broadcastInDim S1x16x32x16 ![1, 2, 3] bcast_S16x32x16_S1x16x32x16_1_2_3 (gates S B)

theorem logits_apply (S : FVec Ideal S512x128 .f32) (B : FVec Ideal S1x16 .f32) (b : Fin 16) (t : Fin 32) (h : Fin 16) :
    logits S B (ix3 b t h) = S (ix2 ⟨b.val * 32 + t.val, by omega⟩ ⟨48 + h.val, by omega⟩) + B (ix2 0 h) := by
  pointwise [logits]

theorem logSig_apply (X : FVec Ideal S16x32x16 .f32) (b : Fin 16) (t : Fin 32) (h : Fin 16) :
    logSig X (ix3 b t h) = gateLog (X (ix3 b t h)) := by
  unfold gateLog
  pointwise [logSig]
  exact congrArg Neg.neg (if_neg fun h => h rfl)

theorem gates_eq (S : FVec Ideal S512x128 .f32) (B : FVec Ideal S1x16 .f32) : logSig (logits S B) = gates S B := by
  funext i
  obtain ⟨b, t, h, rfl⟩ : ∃ b t h, i = (ix3 b t h : S16x32x16.Idx) := ⟨i 0, i 1, i 2, eq_ix3 i⟩
  rw [logSig_apply]
  exact congrArg gateLog (logits_apply S B b t h)

/-- The reference's run ends in the log forget gates. -/
theorem run (m : (ℓ : Loc nD τ sig) → Buf (Elt Ideal) ℓ) (ρ : Dev nD → PrngReg) :
    θ_run defs (onTc (τ := τ) (Cert.GateSRefIdeal.main (F := Ideal))) ⟨m, fun _ => 0, ρ⟩ fun r => ∀ c : Dev nD,
      r.2.mem ((c.tc : Thread nD τ).loc main_v7) = out (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    refine ⟨(h c).1.trans ?_, (h c).2⟩
    unfold out
    rw [← gates_eq]
    unfold logSig logits
    rfl)
    (Value.run m ρ)

end Cert.GateSRefIdeal.Columns
-- ==== Proof.GateSValue.lean ====
module

public import proofs.«01_k».proof.Proof.Gen.GateSIdeal.Frame
public import proofs.«01_k».proof.Proof.GateSColumns
public import Idealize.ShloMosaic.Lib.Pointwise
public import Idealize.ShloMosaic.Lib.IdealHost
public import Idealize.ShloMosaic.Lib.Pipeline.ValueKit
public import Idealize.ShloMosaic.PureOps.IdealRules

/-! The gates' call over the extended reals: the log forget gates of the sample's logits. -/

@[expose] public section
set_option maxRecDepth 16384
noncomputable section
namespace Cert.GateSIdeal.Hand
open Cert.GateSIdeal
open Cert.GateSIdeal.Gen
open Idealize.ShloMosaic Idealize.ShloMosaic.TcCoe Idealize.SL.Sem Idealize.ShloMosaic.Pointwise Cert.GateSRefIdeal.Columns
variable (m : (ℓ : Loc nD τ sig) → Buf (Elt Ideal) ℓ) (c : Dev nD)

/-! ## The arrays the call reads -/

theorem logits_at (b : Fin 16) (t : Fin 32) (l : Fin 128) : V m c main_v14 (ix3 b t l) = m ((c : Thread nD τ).loc main_arg0) (ix2 ⟨b.val * 32 + t.val, by omega⟩ l) := by
  simp only [V, V0, hostOps0, hostOps0_1, hostOps0_2, hostOps0_3, hostOps0_4, List.flatten_cons, List.flatten_nil, List.append_nil, List.cons_append, List.nil_append]
  after_results
  pointwise

/-- Four runs of sixteen weights end to end. -/
def joined (x y z w : FVec Ideal S16 .f32) : FVec Ideal S64 .f32 :=
  concatenate S64 0 [⟨S16, x⟩, ⟨S16, y⟩, ⟨S16, z⟩, ⟨S16, w⟩] concatenates_S16_S16_S16_S16_S64_d0

theorem joined_at (x y z w : FVec Ideal S16 .f32) (h : Fin 16) : joined x y z w (ix1 ⟨48 + h.val, by omega⟩) = w (ix1 h) := by
  pointwise [joined]
  rw [dif_neg (by omega), dif_neg (by omega), dif_neg (by omega)]
  exact congrArg (fun k => w (ix1 k)) (Fin.ext (by show 48 + h.val - 16 - 16 - 16 = h.val; omega))

theorem padded_at (x : FVec Ideal S64 .f32) (v : FVec Ideal S_ .f32) (h : Fin 16) :
    pad S128 ![0] ![64] ![0] x v pads_S64_S128_0640 h_S_ (ix1 ⟨48 + h.val, by omega⟩) = x (ix1 ⟨48 + h.val, by omega⟩) := by
  pointwise
  exact dif_pos (by omega)

theorem bias_at (h : Fin 16) : V m c main_v10 (ix2 1 ⟨48 + h.val, by omega⟩) = m ((c : Thread nD τ).loc main_arg6) (ix2 0 h) := by
  simp only [V, V0, hostOps0, hostOps0_1, hostOps0_2, hostOps0_3, hostOps0_4, List.flatten_cons, List.flatten_nil, List.append_nil, List.cons_append, List.nil_append]
  after_results
  pointwise
  refine Eq.trans (padded_at _ _ h) ?_
  refine Eq.trans (joined_at _ _ _ _ h) ?_
  after_results_steps
  pointwise

/-! ## The blocks -/

theorem N_at : cfg0.N = 16 := by decide +kernel

theorem idx_0 : ∀ t : Fin cfg0.N, win0_0.index t = ![t.val, 0, 0] :=
  (by decide +kernel : ∀ t : Fin grid0.N, win0_0.index t = ![t.val, 0, 0])
theorem emb_0 (t : Fin cfg0.N) (y : S1x32x128.Idx) (b : Fin 16) (hb : b.val = t.val) :
    ((cfg0.win 0).blk t).view.emb y = (ix3 b (y 1) (y 2) : S16x32x128.Idx) := by
  have y0 : (y 0).val < 1 := (y 0).isLt
  funext a
  apply Fin.ext
  refine (Pipeline.Window.rect_emb_val win0_0 t y a).trans ?_
  rw [idx_0 t]
  fin_cases a
  · show t.val * 1 + (y 0).val = b.val; omega
  · show 0 * 32 + (y 1).val = (y 1).val; omega
  · show 0 * 128 + (y 2).val = (y 2).val; omega
theorem block_0 (t : Fin cfg0.N) (p : Fin 32) (q : Fin 128) (b : Fin 16) (hb : b.val = t.val) :
    iblk m c 0 t (ix3 0 p q) = V m c main_v14 (ix3 b p q) := by
  unfold iblk
  exact congrArg (V m c main_v14) (emb_0 t (ix3 0 p q) b hb)

theorem idx_4 : ∀ t : Fin cfg0.N, win0_4.index t = ![0, 0] :=
  (by decide +kernel : ∀ t : Fin grid0.N, win0_4.index t = ![0, 0])
theorem emb_4 (t : Fin cfg0.N) (y : S2x128.Idx) : ((cfg0.win 4).blk t).view.emb y = y := by
  funext a
  apply Fin.ext
  refine (Pipeline.Window.rect_emb_val win0_4 t y a).trans ?_
  rw [idx_4 t]
  fin_cases a
  · show 0 * 2 + (y 0).val = (y 0).val; omega
  · show 0 * 128 + (y 1).val = (y 1).val; omega
theorem block_4 (t : Fin cfg0.N) (y : S2x128.Idx) : iblk m c 4 t y = V m c main_v10 y := by
  unfold iblk
  exact congrArg (V m c main_v10) (emb_4 t y)

theorem idx_6 : ∀ t : Fin cfg0.N, win0_6.index t = ![t.val, 0, 0] :=
  (by decide +kernel : ∀ t : Fin grid0.N, win0_6.index t = ![t.val, 0, 0])
theorem emb_6 (t : Fin cfg0.N) (y : S1x32x128.Idx) (b : Fin 16) (hb : b.val = t.val) :
    ((cfg0.win 6).blk t).view.emb y = (ix3 b (y 1) (y 2) : S16x32x128.Idx) := by
  have y0 : (y 0).val < 1 := (y 0).isLt
  funext a
  apply Fin.ext
  refine (Pipeline.Window.rect_emb_val win0_6 t y a).trans ?_
  rw [idx_6 t]
  fin_cases a
  · show t.val * 1 + (y 0).val = b.val; omega
  · show 0 * 32 + (y 1).val = (y 1).val; omega
  · show 0 * 128 + (y 2).val = (y 2).val; omega

/-! ## The lanes of the log forget gates -/

theorem lane_16 : ∀ h : Fin 16, IntOp.cmpi .slt (BitVec.ofNat 32 (48 + h.val)) 16#32 = 0#1 := by decide +kernel
theorem lane_32 : ∀ h : Fin 16, IntOp.cmpi .slt (BitVec.ofNat 32 (48 + h.val)) 32#32 = 0#1 := by decide +kernel
theorem lane_48 : ∀ h : Fin 16, IntOp.cmpi .slt (BitVec.ofNat 32 (48 + h.val)) 48#32 = 0#1 := by decide +kernel
theorem lane_64 : ∀ h : Fin 16, IntOp.cmpi .slt (BitVec.ofNat 32 (48 + h.val)) 64#32 = 1#1 := by decide +kernel

theorem lanes_at (T : FVec Ideal S32x32 .f32) (Z : FVec Ideal S32x128 .f32) (C : FVec Ideal S1x128 .f32) (D E : FVec Ideal S32x128 .f32) (o : EReal) (t : Fin 32) (h : Fin 16) :
    k0_pay11 (F := Ideal) T (iota .tc S32x128 32 [1] iota_S32x128_d1_w32) C Z D E o (ix3 0 t ⟨48 + h.val, by omega⟩) = gateLog (Z (ix2 t ⟨48 + h.val, by omega⟩)) := by
  unfold gateLog
  pointwise [k0_pay11]
  simp only [lane_16, lane_32, lane_48, lane_64]
  pointwise
  simp only [zero_sub]

theorem sum_at (X : Vec Ideal S1x32x128 .f32) (b : Vec Ideal S1x128 .f32) (t : Fin 32) (l : Fin 128) :
    k0_pay8 (F := Ideal) X b (ix2 t l) = X (ix3 0 t l) + b (ix2 0 l) := by
  pointwise [k0_pay8]

/-- The block a grid point stores. -/
def Stored (t : Fin cfg0.N) : Vec Ideal S1x32x128 .f32 :=
  out0_6 (F := Ideal) (iblk m c 0 t) (iblk m c 1 t) (iblk m c 2 t) (iblk m c 3 t) (iblk m c 4 t) (iblk m c 5 t)

theorem row_at (X : Vec Ideal S2x128 .f32) (l : Fin 128) : View.ld X r0_4 (ix2 0 l) = X (ix2 1 l) := by
  rw [View.ld_unit]
  pointwise

theorem stored_at (t : Fin cfg0.N) (p : Fin 32) (h : Fin 16) (b : Fin 16) (hb : b.val = t.val) :
    Stored m c t (ix3 0 p ⟨48 + h.val, by omega⟩) = gates (m ((c : Thread nD τ).loc main_arg0)) (m ((c : Thread nD τ).loc main_arg6)) (ix3 b p h) := by
  have z3 : (![0, 0, 0] : Fin 3 → Nat) = fun _ => 0 := by funext a; fin_cases a <;> rfl
  unfold Stored out0_6
  rw [View.canon_unit_zero z3]
  refine (lanes_at _ _ _ _ _ _ p h).trans (congrArg gateLog ?_)
  rw [sum_at, View.ld_unit_zero z3]
  exact congrArg₂ (· + ·) ((block_0 m c t p _ b hb).trans (logits_at m c b p _)) ((row_at _ _).trans ((block_4 m c t _).trans (bias_at m c h)))

/-! ## The result -/

/-- The array the call leaves, by its blocks. -/
def left : FVec Ideal S16x32x128 .f32 :=
  fun i => Stored m c ⟨(i 0).val, (i 0).isLt.trans_eq N_at.symm⟩ (ix3 0 (i 1) (i 2))

theorem left_at (t : Fin cfg0.N) (ht : t.val < 16) (p : Fin 32) (q : Fin 128) : left m c (ix3 ⟨t.val, ht⟩ p q) = Stored m c t (ix3 0 p q) := rfl

theorem after_6 (t : Fin cfg0.N) : (dats m 0 c).after 6 t = Stored m c t := after0_6 m c t

theorem wrote_6 (t : Fin cfg0.N) (y : S1x32x128.Idx) : (dats m 0 c).after 6 t y = left m c (((cfg0.win 6).blk t).view.emb y) := by
  have y0 : (y 0).val < 1 := (y 0).isLt
  have ht : t.val < 16 := t.isLt.trans_eq N_at
  have ey : y = (ix3 0 (y 1) (y 2) : S1x32x128.Idx) :=
    (eq_ix3 y).trans (congrArg (fun k => (ix3 k (y 1) (y 2) : S1x32x128.Idx)) (Fin.ext (by show (y 0).val = 0; omega)))
  rw [emb_6 t y ⟨t.val, ht⟩ rfl, after_6]
  exact (congrArg (Stored m c t) ey).trans (left_at m c t ht (y 1) (y 2)).symm

theorem arr_6 : (dats m 0 c).arrAt 6 cfg0.N = left m c :=
  Pipeline.Dat.arrAt_eq_of_covers (dats m 0 c) 6 (left m c)  (by decide +kernel) fun t _ => fun y => wrote_6 m c t y

/-- The lanes of the log forget gates, under the layer's axis. -/
def lanes (X : FVec Ideal S16x32x128 .f32) : FVec Ideal S1x16x32x16 .f32 :=
  broadcastInDim S1x16x32x16 ![1, 2, 3] bcast_S16x32x16_S1x16x32x16_1_2_3 (extractStridedSlice S16x32x16 ![0, 0, 48] X slices_S16x32x128_S16x32x16_0_0_48)

theorem lanes_left : lanes (left m c) = out (m ((c.tc : Thread nD τ).loc main_arg0)) (m ((c.tc : Thread nD τ).loc main_arg6)) := by
  refine congrArg (fun Y : FVec Ideal S16x32x16 .f32 => broadcastInDim S1x16x32x16 ![1, 2, 3] bcast_S16x32x16_S1x16x32x16_1_2_3 Y) (funext fun i => ?_)
  obtain ⟨b, t, h, rfl⟩ : ∃ b t h, i = (ix3 b t h : S16x32x16.Idx) := ⟨i 0, i 1, i 2, eq_ix3 i⟩
  refine Eq.trans ?_ (stored_at m c ⟨b.val, b.isLt.trans_eq N_at.symm⟩ t h b rfl)
  have e : extractStridedSlice S16x32x16 ![0, 0, 48] (left m c) slices_S16x32x128_S16x32x16_0_0_48 (ix3 b t h) = left m c (ix3 b t ⟨48 + h.val, by omega⟩) := by
    pointwise
  exact e

theorem shaped : Pipeline.afterTail₀ cfgs (dats m) 0 (V0 m) [hostOps1] c main_v17 = out (m ((c.tc : Thread nD τ).loc main_arg0)) (m ((c.tc : Thread nD τ).loc main_arg6)) := by
  unfold Pipeline.afterTail₀
  simp only [hostOps1, List.flatten_cons, List.flatten_nil, List.append_nil, List.cons_append, List.nil_append]
  after_results
  exact (congrArg lanes ((Pipeline.withArrays_arr spec0 launch0.win.arr_inj c (V0 m c) (fun w => (dats m 0 c).arrAt w cfg0.N) 6).trans (arr_6 m c))).trans (lanes_left m c)

/-- Every run ends with the log forget gates in the result. -/
theorem run_gates (ρ : Dev nD → PrngReg) :
    θ_run defs (onTc (τ := τ) (Cert.GateSIdeal.main (F := Ideal))) ⟨m, fun _ => 0, ρ⟩ fun r => ∀ c : Dev nD,
      r.2.mem ((c.tc : Thread nD τ).loc main_v17) = out (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).2 main_v17 (Pipeline.mem_restRefs_of main_v17 (by decide) (by decide))).trans (shaped m c), h.2 c⟩)
    (θ_run_and (run_main m ρ) (unchanged m ρ))

end Cert.GateSIdeal.Hand
-- ==== Proof.lean ====
/- The claims of the forgetting attention of the sample streams, of the input projection of both batches, of the
   output projection of both batches with its layer norm, of the last layer norm of both and of the sample's log forget
   gates: the frames, the named constants, and the values over the extended reals.
   The attention's result array is the reference's function of the arguments (Proof/AttnValue.lean, `arr_eq`), and the
   reference's run ends in that function (Proof/RefValue.lean, `res_eq`). The projection's arrays are columns of one product
   (Proof/PromptValue.lean, Proof/SampleValue.lean, `run_columns`), and so are the reference's (Proof/PromptColumns.lean,
   Proof/SampleColumns.lean, `run`); what the lines after the call keep of them is read there too. The output projection's arrays are normalised rows (Proof/MixValue.lean and
   Proof/MixSValue.lean, `run_rows`; the reference's: Proof/MixColumns.lean and Proof/MixSColumns.lean, `run`). So is
   the last call's array (Proof/EndValue.lean, Proof/EndSValue.lean, Proof/EndColumns.lean, Proof/EndSColumns.lean).
   The gates' call: Proof/GateSValue.lean, `run_gates`; the reference's: Proof/GateSColumns.lean, `run`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_scores_finite
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptRefIdeal
public import proofs.«01_k».proof.Proof.Gen.PromptRefIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSRefIdeal
public import proofs.«01_k».proof.Proof.Gen.MixSRefIdeal.Run
public import proofs.«01_k».proof.Proof.Gen.End
public import proofs.«01_k».proof.Proof.Gen.End.Skeleton
public import proofs.«01_k».proof.Proof.Gen.End.Launch
public import proofs.«01_k».proof.Proof.Gen.End.Points
public import proofs.«01_k».proof.Proof.Gen.End.Frame
public import proofs.«01_k».proof.Proof.Gen.EndIdeal
public import proofs.«01_k».proof.Proof.Gen.EndIdeal.Skeleton
public import proofs.«01_k».proof.Proof.Gen.EndIdeal.Launch
public import proofs.«01_k».proof.Proof.Gen.EndIdeal.Points
public import proofs.«01_k».proof.Proof.Gen.EndIdeal.Frame
public import proofs.«01_k».proof.Proof.Gen.EndRefIdeal
public import proofs.«01_k».proof.Proof.Gen.EndRefIdeal.Run
public import proofs.«01_k».proof.Proof.Gen.EndS
public import proofs.«01_k».proof.Proof.Gen.EndS.Skeleton
public import proofs.«01_k».proof.Proof.Gen.EndS.Launch
public import proofs.«01_k».proof.Proof.Gen.EndS.Points
public import proofs.«01_k».proof.Proof.Gen.EndS.Frame
public import proofs.«01_k».proof.Proof.Gen.EndSIdeal
public import proofs.«01_k».proof.Proof.Gen.EndSIdeal.Skeleton
public import proofs.«01_k».proof.Proof.Gen.EndSIdeal.Launch
public import proofs.«01_k».proof.Proof.Gen.EndSIdeal.Points
public import proofs.«01_k».proof.Proof.Gen.EndSIdeal.Frame
public import proofs.«01_k».proof.Proof.Gen.EndSRefIdeal
public import proofs.«01_k».proof.Proof.Gen.EndSRefIdeal.Run
public import proofs.«01_k».proof.Proof.Gen.GateS
public import proofs.«01_k».proof.Proof.Gen.GateS.Skeleton
public import proofs.«01_k».proof.Proof.Gen.GateS.Launch
public import proofs.«01_k».proof.Proof.Gen.GateS.Points
public import proofs.«01_k».proof.Proof.Gen.GateS.Frame
public import proofs.«01_k».proof.Proof.Gen.GateSIdeal
public import proofs.«01_k».proof.Proof.Gen.GateSIdeal.Skeleton
public import proofs.«01_k».proof.Proof.Gen.GateSIdeal.Launch
public import proofs.«01_k».proof.Proof.Gen.GateSIdeal.Points
public import proofs.«01_k».proof.Proof.Gen.GateSIdeal.Frame
public import proofs.«01_k».proof.Proof.Gen.GateSRefIdeal
public import proofs.«01_k».proof.Proof.Gen.GateSRefIdeal.Run
public import proofs.«01_k».proof.Proof.AttnValue
public import proofs.«01_k».proof.Proof.SampleValue
public import proofs.«01_k».proof.Proof.PromptValue
public import proofs.«01_k».proof.Proof.MixValue
public import proofs.«01_k».proof.Proof.MixSValue
public import proofs.«01_k».proof.Proof.EndValue
public import proofs.«01_k».proof.Proof.EndSValue
public import proofs.«01_k».proof.Proof.GateSValue
public import Idealize.ShloMosaic.Adequacy
public import Idealize.ShloMosaic.Init

@[expose] public section

set_option maxRecDepth 16384

noncomputable section

namespace Cert.Proof

open Idealize.ShloMosaic Idealize.SL.Sem

/-- The reference's run leaves its arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem preserves : Cert.preserves_Kernel_KernelIdeal :=
  ⟨IdealRules.named_const.statement Cert.KernelIdeal.κ "log2e" .f32 0x3FB8AA3B#32 _ rfl,
    IdealRules.named_const.statement Cert.KernelIdeal.κ "q_scale" .f32 0x3E0293EE#32 _ rfl⟩

/-- Of the same arguments, the reference's function is the one the kernel's result is. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v44 m' c = Cert.KernelIdeal.Heads.G m c := by
  refine (Cert.ReferenceIdeal.Attn.res_eq m' c).trans ?_
  unfold Cert.KernelIdeal.Heads.G
  rw [h0, h1, h2, h3, h4, h5, h6]

theorem algebraic : Cert.algebraic_KernelIdeal_ReferenceIdeal_pre_scores_finite := fun m ρ m' ρ' hpre hag =>
  ⟨fun c => Cert.KernelIdeal.Heads.G m c,
    (θ_run Cert.KernelIdeal.defs _ _).mono (fun _ h c => ⟨(h c).1.trans (Cert.KernelIdeal.Heads.arr_eq m c hpre), (h c).2⟩)
      (Cert.KernelIdeal.Value.run_blocks m ρ),
    (θ_run Cert.ReferenceIdeal.defs _ _).mono
      (fun _ h c => ⟨(h c).1.trans (reference_value m m' c (hag c).1 (hag c).2.1 (hag c).2.2.1 (hag c).2.2.2.1 (hag c).2.2.2.2.1
        (hag c).2.2.2.2.2.1 (hag c).2.2.2.2.2.2), (h c).2⟩)
      (Cert.ReferenceIdeal.Value.run m' ρ')⟩

/-- The kernel body at the float words is one text in both modules. -/
theorem body_prompt : ∀ a0 a1 a2 a3 a4 a5 a6 a7 a8 a9 a10 a11 a12 a13 a14 a15 a16 a17 a18 a19 a20, Cert.Prompt.cc0_inproj (F := Bits) a0 a1 a2 a3 a4 a5 a6 a7 a8 a9 a10 a11 a12 a13 a14 a15 a16 a17 a18 a19 a20 = Cert.PromptIdeal.cc0_inproj (F := Bits) a0 a1 a2 a3 a4 a5 a6 a7 a8 a9 a10 a11 a12 a13 a14 a15 a16 a17 a18 a19 a20 := by
  intro a0 a1 a2 a3 a4 a5 a6 a7 a8 a9 a10 a11 a12 a13 a14 a15 a16 a17 a18 a19 a20
  unfold Cert.Prompt.cc0_inproj Cert.PromptIdeal.cc0_inproj
  rfl

theorem defs₀_prompt : Cert.Prompt.defs₀ (F := Bits) = Cert.PromptIdeal.defs₀ (F := Bits) := by
  unfold Cert.Prompt.defs₀ Cert.PromptIdeal.defs₀
  refine congrArg Defs.onTc (funext fun l => funext fun a => ?_)
  match l, a with
  | 0, (t, s) => exact body_prompt _ _ _ _ _ _ _ _ _ _ _ _ _ _ _ _ _ _ _ _ _

theorem defs_prompt : Cert.Prompt.defs (F := Bits) = Cert.PromptIdeal.defs (F := Bits) := by
  unfold Cert.Prompt.defs Cert.PromptIdeal.defs
  exact congrArg _ defs₀_prompt

theorem frame_prompt_of (d) (hd : d = Cert.PromptIdeal.defs (F := Bits)) (m : (ℓ : Loc Cert.PromptIdeal.nD Cert.PromptIdeal.τ Cert.PromptIdeal.sig) → Buf (Elt Bits) ℓ)
    (ρ : Dev Cert.PromptIdeal.nD → PrngReg) :
    θ_run d (onTc (τ := Cert.PromptIdeal.τ) (Cert.PromptIdeal.main (F := Bits))) ⟨m, fun _ => 0, ρ⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ r.2.sem = fun _ => 0) := by
  subst hd
  exact Cert.PromptIdeal.Hand.frame (F := Bits) m ρ

/-- The prompt's projection: one run for both float types. -/
theorem frame_prompt : Cert.quiescent_Prompt := fun m ρ _ => frame_prompt_of Cert.Prompt.defs defs_prompt m ρ

theorem frame_prompt_ideal : Cert.quiescent_PromptIdeal := fun m ρ _ => Cert.PromptIdeal.Hand.frame (F := Ideal) m ρ

theorem frame_prompt_reference : Cert.quiescent_PromptRefIdeal := fun m ρ _ =>
  (θ_run Cert.PromptRefIdeal.defs _ _).mono (fun r h => ⟨fun c => (h c).2.2.2.2.2.2.2.2.2, sem_eq_zero_of_no_sems (by decide) r.2⟩)
    (Cert.PromptRefIdeal.Columns.run m ρ)

theorem algebraic_prompt : Cert.algebraic_PromptIdeal_PromptRefIdeal := fun m ρ m' ρ' _ hag =>
  ⟨fun c => Cert.PromptRefIdeal.Columns.main (m ((c.tc : Thread Cert.PromptIdeal.nD Cert.PromptIdeal.τ).loc Cert.PromptIdeal.main_arg0)) (m ((c.tc : Thread Cert.PromptIdeal.nD Cert.PromptIdeal.τ).loc Cert.PromptIdeal.main_arg1)),
    fun c => Cert.PromptRefIdeal.Columns.keys (m ((c.tc : Thread Cert.PromptIdeal.nD Cert.PromptIdeal.τ).loc Cert.PromptIdeal.main_arg0)) (m ((c.tc : Thread Cert.PromptIdeal.nD Cert.PromptIdeal.τ).loc Cert.PromptIdeal.main_arg1)),
    fun c => Cert.PromptRefIdeal.Columns.values (m ((c.tc : Thread Cert.PromptIdeal.nD Cert.PromptIdeal.τ).loc Cert.PromptIdeal.main_arg0)) (m ((c.tc : Thread Cert.PromptIdeal.nD Cert.PromptIdeal.τ).loc Cert.PromptIdeal.main_arg1)),
    fun c => Cert.PromptRefIdeal.Columns.small (m ((c.tc : Thread Cert.PromptIdeal.nD Cert.PromptIdeal.τ).loc Cert.PromptIdeal.main_arg0)) (m ((c.tc : Thread Cert.PromptIdeal.nD Cert.PromptIdeal.τ).loc Cert.PromptIdeal.main_arg1)),
    fun c => Cert.PromptRefIdeal.Columns.smallT (m ((c.tc : Thread Cert.PromptIdeal.nD Cert.PromptIdeal.τ).loc Cert.PromptIdeal.main_arg0)) (m ((c.tc : Thread Cert.PromptIdeal.nD Cert.PromptIdeal.τ).loc Cert.PromptIdeal.main_arg1)),
    fun c => Cert.PromptRefIdeal.Columns.turned (m ((c.tc : Thread Cert.PromptIdeal.nD Cert.PromptIdeal.τ).loc Cert.PromptIdeal.main_arg0)) (m ((c.tc : Thread Cert.PromptIdeal.nD Cert.PromptIdeal.τ).loc Cert.PromptIdeal.main_arg1)),
    fun c => Cert.PromptRefIdeal.Columns.byHead (Cert.PromptRefIdeal.Columns.keys (m ((c.tc : Thread Cert.PromptIdeal.nD Cert.PromptIdeal.τ).loc Cert.PromptIdeal.main_arg0)) (m ((c.tc : Thread Cert.PromptIdeal.nD Cert.PromptIdeal.τ).loc Cert.PromptIdeal.main_arg1))),
    fun c => Cert.PromptRefIdeal.Columns.byHead (Cert.PromptRefIdeal.Columns.values (m ((c.tc : Thread Cert.PromptIdeal.nD Cert.PromptIdeal.τ).loc Cert.PromptIdeal.main_arg0)) (m ((c.tc : Thread Cert.PromptIdeal.nD Cert.PromptIdeal.τ).loc Cert.PromptIdeal.main_arg1))),
    fun c => Cert.PromptRefIdeal.Columns.lastRows (Cert.PromptRefIdeal.Columns.frames (m ((c.tc : Thread Cert.PromptIdeal.nD Cert.PromptIdeal.τ).loc Cert.PromptIdeal.main_arg0)) (m ((c.tc : Thread Cert.PromptIdeal.nD Cert.PromptIdeal.τ).loc Cert.PromptIdeal.main_arg1))),
    Cert.PromptIdeal.Hand.run_columns m ρ,
    (θ_run Cert.PromptRefIdeal.defs _ _).mono
      (fun _ h c => by
        obtain ⟨h0, h1, h2, h3, h4, h5, hk, hv, hc, ha⟩ := h c
        rw [(hag c).1, (hag c).2] at h0 h1 h2 h3 h4 h5 hk hv hc
        exact ⟨h0, h1, h2, h3, h4, h5, hk, hv, hc, ha⟩)
      (Cert.PromptRefIdeal.Columns.run m' ρ')⟩

/-- The kernel body at the float words is one text in both modules. -/
theorem body_sample : ∀ a0 a1 a2 a3 a4 a5 a6 a7 a8 a9 a10 a11 a12 a13 a14 a15 a16 a17 a18, Cert.Sample.cc0_inproj (F := Bits) a0 a1 a2 a3 a4 a5 a6 a7 a8 a9 a10 a11 a12 a13 a14 a15 a16 a17 a18 = Cert.SampleIdeal.cc0_inproj (F := Bits) a0 a1 a2 a3 a4 a5 a6 a7 a8 a9 a10 a11 a12 a13 a14 a15 a16 a17 a18 := by
  intro a0 a1 a2 a3 a4 a5 a6 a7 a8 a9 a10 a11 a12 a13 a14 a15 a16 a17 a18
  unfold Cert.Sample.cc0_inproj Cert.SampleIdeal.cc0_inproj
  rfl

theorem defs₀_sample : Cert.Sample.defs₀ (F := Bits) = Cert.SampleIdeal.defs₀ (F := Bits) := by
  unfold Cert.Sample.defs₀ Cert.SampleIdeal.defs₀
  refine congrArg Defs.onTc (funext fun l => funext fun a => ?_)
  match l, a with
  | 0, (t, s) => exact body_sample _ _ _ _ _ _ _ _ _ _ _ _ _ _ _ _ _ _ _

theorem defs_sample : Cert.Sample.defs (F := Bits) = Cert.SampleIdeal.defs (F := Bits) := by
  unfold Cert.Sample.defs Cert.SampleIdeal.defs
  exact congrArg _ defs₀_sample

theorem frame_sample_of (d) (hd : d = Cert.SampleIdeal.defs (F := Bits)) (m : (ℓ : Loc Cert.SampleIdeal.nD Cert.SampleIdeal.τ Cert.SampleIdeal.sig) → Buf (Elt Bits) ℓ)
    (ρ : Dev Cert.SampleIdeal.nD → PrngReg) :
    θ_run d (onTc (τ := Cert.SampleIdeal.τ) (Cert.SampleIdeal.main (F := Bits))) ⟨m, fun _ => 0, ρ⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ r.2.sem = fun _ => 0) := by
  subst hd
  exact Cert.SampleIdeal.Hand.frame (F := Bits) m ρ

/-- The sample's projection: one run for both float types. -/
theorem frame_sample : Cert.quiescent_Sample := fun m ρ _ => frame_sample_of Cert.Sample.defs defs_sample m ρ

theorem frame_sample_ideal : Cert.quiescent_SampleIdeal := fun m ρ _ => Cert.SampleIdeal.Hand.frame (F := Ideal) m ρ

theorem frame_sample_reference : Cert.quiescent_SampleRefIdeal := fun m ρ _ =>
  (θ_run Cert.SampleRefIdeal.defs _ _).mono (fun r h => ⟨fun c => (h c).2.2.2.2.2.2.2.2, sem_eq_zero_of_no_sems (by decide) r.2⟩)
    (Cert.SampleRefIdeal.Columns.run m ρ)

theorem algebraic_sample : Cert.algebraic_SampleIdeal_SampleRefIdeal := fun m ρ m' ρ' _ hag =>
  ⟨fun c => Cert.SampleRefIdeal.Columns.main (m ((c.tc : Thread Cert.SampleIdeal.nD Cert.SampleIdeal.τ).loc Cert.SampleIdeal.main_arg0)) (m ((c.tc : Thread Cert.SampleIdeal.nD Cert.SampleIdeal.τ).loc Cert.SampleIdeal.main_arg1)),
    fun c => Cert.SampleRefIdeal.Columns.keys (m ((c.tc : Thread Cert.SampleIdeal.nD Cert.SampleIdeal.τ).loc Cert.SampleIdeal.main_arg0)) (m ((c.tc : Thread Cert.SampleIdeal.nD Cert.SampleIdeal.τ).loc Cert.SampleIdeal.main_arg1)),
    fun c => Cert.SampleRefIdeal.Columns.values (m ((c.tc : Thread Cert.SampleIdeal.nD Cert.SampleIdeal.τ).loc Cert.SampleIdeal.main_arg0)) (m ((c.tc : Thread Cert.SampleIdeal.nD Cert.SampleIdeal.τ).loc Cert.SampleIdeal.main_arg1)),
    fun c => Cert.SampleRefIdeal.Columns.small (m ((c.tc : Thread Cert.SampleIdeal.nD Cert.SampleIdeal.τ).loc Cert.SampleIdeal.main_arg0)) (m ((c.tc : Thread Cert.SampleIdeal.nD Cert.SampleIdeal.τ).loc Cert.SampleIdeal.main_arg1)),
    fun c => Cert.SampleRefIdeal.Columns.smallT (m ((c.tc : Thread Cert.SampleIdeal.nD Cert.SampleIdeal.τ).loc Cert.SampleIdeal.main_arg0)) (m ((c.tc : Thread Cert.SampleIdeal.nD Cert.SampleIdeal.τ).loc Cert.SampleIdeal.main_arg1)),
    fun c => Cert.SampleRefIdeal.Columns.byHead (Cert.SampleRefIdeal.Columns.keys (m ((c.tc : Thread Cert.SampleIdeal.nD Cert.SampleIdeal.τ).loc Cert.SampleIdeal.main_arg0)) (m ((c.tc : Thread Cert.SampleIdeal.nD Cert.SampleIdeal.τ).loc Cert.SampleIdeal.main_arg1))),
    fun c => Cert.SampleRefIdeal.Columns.byHead (Cert.SampleRefIdeal.Columns.values (m ((c.tc : Thread Cert.SampleIdeal.nD Cert.SampleIdeal.τ).loc Cert.SampleIdeal.main_arg0)) (m ((c.tc : Thread Cert.SampleIdeal.nD Cert.SampleIdeal.τ).loc Cert.SampleIdeal.main_arg1))),
    fun c => Cert.SampleRefIdeal.Columns.lastRows (m ((c.tc : Thread Cert.SampleIdeal.nD Cert.SampleIdeal.τ).loc Cert.SampleIdeal.main_arg2)) (Cert.SampleRefIdeal.Columns.frames (m ((c.tc : Thread Cert.SampleIdeal.nD Cert.SampleIdeal.τ).loc Cert.SampleIdeal.main_arg0)) (m ((c.tc : Thread Cert.SampleIdeal.nD Cert.SampleIdeal.τ).loc Cert.SampleIdeal.main_arg1))),
    Cert.SampleIdeal.Hand.run_columns m ρ,
    (θ_run Cert.SampleRefIdeal.defs _ _).mono
      (fun _ h c => by
        obtain ⟨h0, h1, h2, h3, h4, hk, hv, hc, ha⟩ := h c
        rw [(hag c).1, (hag c).2.1] at h0 h1 h2 h3 h4 hk hv hc
        rw [(hag c).2.2] at hc
        exact ⟨h0, h1, h2, h3, h4, hk, hv, hc, ha⟩)
      (Cert.SampleRefIdeal.Columns.run m' ρ')⟩

/-- The kernel body at the float words is one text in both modules. -/
theorem body_mix : ∀ a0 a1 a2 a3 a4 a5 a6 a7 a8 a9 a10 a11 a12 a13 a14 a15 a16 a17 a18, Cert.Mix.cc0_outproj (F := Bits) a0 a1 a2 a3 a4 a5 a6 a7 a8 a9 a10 a11 a12 a13 a14 a15 a16 a17 a18 = Cert.MixIdeal.cc0_outproj (F := Bits) a0 a1 a2 a3 a4 a5 a6 a7 a8 a9 a10 a11 a12 a13 a14 a15 a16 a17 a18 := by
  intro a0 a1 a2 a3 a4 a5 a6 a7 a8 a9 a10 a11 a12 a13 a14 a15 a16 a17 a18
  unfold Cert.Mix.cc0_outproj Cert.MixIdeal.cc0_outproj
  rfl

theorem defs₀_mix : Cert.Mix.defs₀ (F := Bits) = Cert.MixIdeal.defs₀ (F := Bits) := by
  unfold Cert.Mix.defs₀ Cert.MixIdeal.defs₀
  refine congrArg Defs.onTc (funext fun l => funext fun a => ?_)
  match l, a with
  | 0, (t, s) => exact body_mix _ _ _ _ _ _ _ _ _ _ _ _ _ _ _ _ _ _ _

theorem defs_mix : Cert.Mix.defs (F := Bits) = Cert.MixIdeal.defs (F := Bits) := by
  unfold Cert.Mix.defs Cert.MixIdeal.defs
  exact congrArg _ defs₀_mix

theorem frame_mix_of (d) (hd : d = Cert.MixIdeal.defs (F := Bits)) (m : (ℓ : Loc Cert.MixIdeal.nD Cert.MixIdeal.τ Cert.MixIdeal.sig) → Buf (Elt Bits) ℓ)
    (ρ : Dev Cert.MixIdeal.nD → PrngReg) :
    θ_run d (onTc (τ := Cert.MixIdeal.τ) (Cert.MixIdeal.main (F := Bits))) ⟨m, fun _ => 0, ρ⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0) := by
  subst hd
  exact Cert.MixIdeal.Hand.frame (F := Bits) m ρ

/-- The prompt's output projection: one run for both float types. -/
theorem frame_mix : Cert.quiescent_Mix := fun m ρ _ => frame_mix_of Cert.Mix.defs defs_mix m ρ

theorem frame_mix_ideal : Cert.quiescent_MixIdeal := fun m ρ _ => Cert.MixIdeal.Hand.frame (F := Ideal) m ρ

theorem frame_mix_reference : Cert.quiescent_MixRefIdeal := fun m ρ _ =>
  (θ_run Cert.MixRefIdeal.defs _ _).mono (fun r h => ⟨fun c => (h c).2.2, sem_eq_zero_of_no_sems (by decide) r.2⟩)
    (Cert.MixRefIdeal.Columns.run m ρ)

theorem algebraic_mix : Cert.algebraic_MixIdeal_MixRefIdeal := fun m ρ m' ρ' _ hag =>
  ⟨fun c => Cert.MixRefIdeal.Columns.hid (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)),
    fun c => Cert.MixRefIdeal.Columns.hidT (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)),
    Cert.MixIdeal.Hand.run_rows m ρ,
    (θ_run Cert.MixRefIdeal.defs _ _).mono
      (fun _ h c => by
        obtain ⟨h0, h1, ha⟩ := h c
        obtain ⟨g0, g1, g2, g3, g4, g5⟩ := hag c
        rw [g0, g1, g2, g3, g4, g5] at h0 h1
        exact ⟨h0, h1, ha⟩)
      (Cert.MixRefIdeal.Columns.run m' ρ')⟩

/-- The kernel body at the float words is one text in both modules. -/
theorem body_mixs : ∀ a0 a1 a2 a3 a4 a5 a6 a7 a8 a9 a10 a11 a12 a13 a14 a15 a16 a17 a18, Cert.MixS.cc0_outproj (F := Bits) a0 a1 a2 a3 a4 a5 a6 a7 a8 a9 a10 a11 a12 a13 a14 a15 a16 a17 a18 = Cert.MixSIdeal.cc0_outproj (F := Bits) a0 a1 a2 a3 a4 a5 a6 a7 a8 a9 a10 a11 a12 a13 a14 a15 a16 a17 a18 := by
  intro a0 a1 a2 a3 a4 a5 a6 a7 a8 a9 a10 a11 a12 a13 a14 a15 a16 a17 a18
  unfold Cert.MixS.cc0_outproj Cert.MixSIdeal.cc0_outproj
  rfl

theorem defs₀_mixs : Cert.MixS.defs₀ (F := Bits) = Cert.MixSIdeal.defs₀ (F := Bits) := by
  unfold Cert.MixS.defs₀ Cert.MixSIdeal.defs₀
  refine congrArg Defs.onTc (funext fun l => funext fun a => ?_)
  match l, a with
  | 0, (t, s) => exact body_mixs _ _ _ _ _ _ _ _ _ _ _ _ _ _ _ _ _ _ _

theorem defs_mixs : Cert.MixS.defs (F := Bits) = Cert.MixSIdeal.defs (F := Bits) := by
  unfold Cert.MixS.defs Cert.MixSIdeal.defs
  exact congrArg _ defs₀_mixs

theorem frame_mixs_of (d) (hd : d = Cert.MixSIdeal.defs (F := Bits)) (m : (ℓ : Loc Cert.MixSIdeal.nD Cert.MixSIdeal.τ Cert.MixSIdeal.sig) → Buf (Elt Bits) ℓ)
    (ρ : Dev Cert.MixSIdeal.nD → PrngReg) :
    θ_run d (onTc (τ := Cert.MixSIdeal.τ) (Cert.MixSIdeal.main (F := Bits))) ⟨m, fun _ => 0, ρ⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ r.2.sem = fun _ => 0) := by
  subst hd
  exact Cert.MixSIdeal.Hand.frame (F := Bits) m ρ

/-- The sample's output projection: one run for both float types. -/
theorem frame_mixs : Cert.quiescent_MixS := fun m ρ _ => frame_mixs_of Cert.MixS.defs defs_mixs m ρ

theorem frame_mixs_ideal : Cert.quiescent_MixSIdeal := fun m ρ _ => Cert.MixSIdeal.Hand.frame (F := Ideal) m ρ

theorem frame_mixs_reference : Cert.quiescent_MixSRefIdeal := fun m ρ _ =>
  (θ_run Cert.MixSRefIdeal.defs _ _).mono (fun r h => ⟨fun c => (h c).2.2, sem_eq_zero_of_no_sems (by decide) r.2⟩)
    (Cert.MixSRefIdeal.Columns.run m ρ)

theorem algebraic_mixs : Cert.algebraic_MixSIdeal_MixSRefIdeal := fun m ρ m' ρ' _ hag =>
  ⟨fun c => Cert.MixSRefIdeal.Columns.hid (m ((c.tc : Thread Cert.MixSIdeal.nD Cert.MixSIdeal.τ).loc Cert.MixSIdeal.main_arg0)) (m ((c.tc : Thread Cert.MixSIdeal.nD Cert.MixSIdeal.τ).loc Cert.MixSIdeal.main_arg1)) (m ((c.tc : Thread Cert.MixSIdeal.nD Cert.MixSIdeal.τ).loc Cert.MixSIdeal.main_arg2)) (m ((c.tc : Thread Cert.MixSIdeal.nD Cert.MixSIdeal.τ).loc Cert.MixSIdeal.main_arg3)) (m ((c.tc : Thread Cert.MixSIdeal.nD Cert.MixSIdeal.τ).loc Cert.MixSIdeal.main_arg4)) (m ((c.tc : Thread Cert.MixSIdeal.nD Cert.MixSIdeal.τ).loc Cert.MixSIdeal.main_arg5)),
    fun c => Cert.MixSRefIdeal.Columns.hidT (m ((c.tc : Thread Cert.MixSIdeal.nD Cert.MixSIdeal.τ).loc Cert.MixSIdeal.main_arg0)) (m ((c.tc : Thread Cert.MixSIdeal.nD Cert.MixSIdeal.τ).loc Cert.MixSIdeal.main_arg1)) (m ((c.tc : Thread Cert.MixSIdeal.nD Cert.MixSIdeal.τ).loc Cert.MixSIdeal.main_arg2)) (m ((c.tc : Thread Cert.MixSIdeal.nD Cert.MixSIdeal.τ).loc Cert.MixSIdeal.main_arg3)) (m ((c.tc : Thread Cert.MixSIdeal.nD Cert.MixSIdeal.τ).loc Cert.MixSIdeal.main_arg4)) (m ((c.tc : Thread Cert.MixSIdeal.nD Cert.MixSIdeal.τ).loc Cert.MixSIdeal.main_arg5)),
    Cert.MixSIdeal.Hand.run_rows m ρ,
    (θ_run Cert.MixSRefIdeal.defs _ _).mono
      (fun _ h c => by
        obtain ⟨h0, h1, ha⟩ := h c
        obtain ⟨g0, g1, g2, g3, g4, g5⟩ := hag c
        rw [g0, g1, g2, g3, g4, g5] at h0 h1
        exact ⟨h0, h1, ha⟩)
      (Cert.MixSRefIdeal.Columns.run m' ρ')⟩

theorem frame_end : Cert.quiescent_End := fun m ρ _ => Cert.End.Gen.frame m ρ

theorem frame_end_ideal : Cert.quiescent_EndIdeal := fun m ρ _ => Cert.EndIdeal.Hand.frame (F := Ideal) m ρ

theorem frame_end_reference : Cert.quiescent_EndRefIdeal := fun m ρ _ =>
  (θ_run Cert.EndRefIdeal.defs _ _).mono (fun r h => ⟨fun c => (h c).2, sem_eq_zero_of_no_sems (by decide) r.2⟩)
    (Cert.EndRefIdeal.Columns.run m ρ)

theorem algebraic_end : Cert.algebraic_EndIdeal_EndRefIdeal := fun m ρ m' ρ' _ hag =>
  ⟨fun c => Cert.EndRefIdeal.Columns.out (m ((c.tc : Thread Cert.EndIdeal.nD Cert.EndIdeal.τ).loc Cert.EndIdeal.main_arg0)) (m ((c.tc : Thread Cert.EndIdeal.nD Cert.EndIdeal.τ).loc Cert.EndIdeal.main_arg1)) (m ((c.tc : Thread Cert.EndIdeal.nD Cert.EndIdeal.τ).loc Cert.EndIdeal.main_arg2)) (m ((c.tc : Thread Cert.EndIdeal.nD Cert.EndIdeal.τ).loc Cert.EndIdeal.main_arg3)),
    Cert.EndIdeal.Hand.run_rows m ρ,
    (θ_run Cert.EndRefIdeal.defs _ _).mono
      (fun _ h c => by
        obtain ⟨h0, ha⟩ := h c
        obtain ⟨g0, g1, g2, g3⟩ := hag c
        rw [g0, g1, g2, g3] at h0
        exact ⟨h0, ha⟩)
      (Cert.EndRefIdeal.Columns.run m' ρ')⟩

theorem frame_ends : Cert.quiescent_EndS := fun m ρ _ => Cert.EndS.Gen.frame m ρ

theorem frame_ends_ideal : Cert.quiescent_EndSIdeal := fun m ρ _ => Cert.EndSIdeal.Hand.frame (F := Ideal) m ρ

theorem frame_ends_reference : Cert.quiescent_EndSRefIdeal := fun m ρ _ =>
  (θ_run Cert.EndSRefIdeal.defs _ _).mono (fun r h => ⟨fun c => (h c).2, sem_eq_zero_of_no_sems (by decide) r.2⟩)
    (Cert.EndSRefIdeal.Columns.run m ρ)

theorem algebraic_ends : Cert.algebraic_EndSIdeal_EndSRefIdeal := fun m ρ m' ρ' _ hag =>
  ⟨fun c => Cert.EndSRefIdeal.Columns.out (m ((c.tc : Thread Cert.EndSIdeal.nD Cert.EndSIdeal.τ).loc Cert.EndSIdeal.main_arg0)) (m ((c.tc : Thread Cert.EndSIdeal.nD Cert.EndSIdeal.τ).loc Cert.EndSIdeal.main_arg1)) (m ((c.tc : Thread Cert.EndSIdeal.nD Cert.EndSIdeal.τ).loc Cert.EndSIdeal.main_arg2)) (m ((c.tc : Thread Cert.EndSIdeal.nD Cert.EndSIdeal.τ).loc Cert.EndSIdeal.main_arg3)),
    Cert.EndSIdeal.Hand.run_rows m ρ,
    (θ_run Cert.EndSRefIdeal.defs _ _).mono
      (fun _ h c => by
        obtain ⟨h0, ha⟩ := h c
        obtain ⟨g0, g1, g2, g3⟩ := hag c
        rw [g0, g1, g2, g3] at h0
        exact ⟨h0, ha⟩)
      (Cert.EndSRefIdeal.Columns.run m' ρ')⟩

theorem frame_gates : Cert.quiescent_GateS := fun m ρ _ => Cert.GateS.Gen.frame m ρ

theorem frame_gates_ideal : Cert.quiescent_GateSIdeal := fun m ρ _ => Cert.GateSIdeal.Gen.frame m ρ

theorem frame_gates_reference : Cert.quiescent_GateSRefIdeal := fun m ρ _ =>
  (θ_run Cert.GateSRefIdeal.defs _ _).mono (fun r h => ⟨fun c => (h c).2, sem_eq_zero_of_no_sems (by decide) r.2⟩)
    (Cert.GateSRefIdeal.Columns.run m ρ)

theorem algebraic_gates : Cert.algebraic_GateSIdeal_GateSRefIdeal := fun m ρ m' ρ' _ hag =>
  ⟨fun c => Cert.GateSRefIdeal.Columns.out (m ((c.tc : Thread Cert.GateSIdeal.nD Cert.GateSIdeal.τ).loc Cert.GateSIdeal.main_arg0)) (m ((c.tc : Thread Cert.GateSIdeal.nD Cert.GateSIdeal.τ).loc Cert.GateSIdeal.main_arg6)),
    Cert.GateSIdeal.Hand.run_gates m ρ,
    (θ_run Cert.GateSRefIdeal.defs _ _).mono
      (fun _ h c => by
        obtain ⟨h0, ha⟩ := h c
        obtain ⟨g0, g1, g2, g3, g4, g5, g6⟩ := hag c
        rw [g0, g6] at h0
        exact ⟨h0, ha⟩)
      (Cert.GateSRefIdeal.Columns.run m' ρ')⟩

theorem claim : Cert.Claim :=
  ⟨Cert.Kernel.Gen.facts, Cert.KernelIdeal.Gen.facts, Cert.ReferenceIdeal.Gen.facts, Cert.Prompt.Gen.facts, Cert.PromptIdeal.Gen.facts,
    Cert.PromptRefIdeal.Gen.facts, Cert.Sample.Gen.facts, Cert.SampleIdeal.Gen.facts, Cert.SampleRefIdeal.Gen.facts,
    Cert.Mix.Gen.facts, Cert.MixIdeal.Gen.facts, Cert.MixRefIdeal.Gen.facts,
    Cert.MixS.Gen.facts, Cert.MixSIdeal.Gen.facts, Cert.MixSRefIdeal.Gen.facts,
    Cert.End.Gen.facts, Cert.EndIdeal.Gen.facts, Cert.EndRefIdeal.Gen.facts,
    Cert.EndS.Gen.facts, Cert.EndSIdeal.Gen.facts, Cert.EndSRefIdeal.Gen.facts,
    Cert.GateS.Gen.facts, Cert.GateSIdeal.Gen.facts, Cert.GateSRefIdeal.Gen.facts, Cert.Pre_scores_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, frame_prompt, frame_prompt_ideal, frame_prompt_reference,
    frame_sample, frame_sample_ideal, frame_sample_reference, frame_mix, frame_mix_ideal, frame_mix_reference,
    frame_mixs, frame_mixs_ideal, frame_mixs_reference,
    frame_end, frame_end_ideal, frame_end_reference, frame_ends, frame_ends_ideal, frame_ends_reference,
    frame_gates, frame_gates_ideal, frame_gates_reference, preserves, algebraic,
    trivial, algebraic_prompt, trivial, algebraic_sample, trivial, algebraic_mix, trivial, algebraic_mixs,
    trivial, algebraic_end, trivial, algebraic_ends, trivial, algebraic_gates⟩

end Cert.Proof

end
